-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_v42) = v5 c
          ∧ r.2.mem ((c.tc : Thread Cert.ReferenceIdeal.nD Cert.ReferenceIdeal.τ).loc Cert.ReferenceIdeal.main_v53) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "masked" .f32 0xF1C9F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v95)) (v1 : (c : Dev Cert.Kernel2Ideal.nD) → Buf (Elt Ideal) ((c.tc : Thread Cert.Kernel2Ideal.nD Cert.Kernel2Ideal.τ).loc Cert.Kernel2Ideal.main_v96)) (v2 : (c : Dev Cert.Kernel2Ideal.nD) → Buf (Elt Ideal) ((c.tc : Thread Cert.Kernel2Ideal.nD Cert.Kernel2Ideal.τ).loc Cert.Kernel2Ideal.main_v97)) (v3 : (c : Dev Cert.Kernel2Ideal.nD) → Buf (Elt Ideal) ((c.tc : Thread Cert.Kernel2Ideal.nD Cert.Kernel2Ideal.τ).loc Cert.Kernel2Ideal.main_v102)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v95) = v0 c
          ∧ r.2.mem ((c.tc : Thread Cert.Kernel2Ideal.nD Cert.Kernel2Ideal.τ).loc Cert.Kernel2Ideal.main_v96) = v1 c
          ∧ r.2.mem ((c.tc : Thread Cert.Kernel2Ideal.nD Cert.Kernel2Ideal.τ).loc Cert.Kernel2Ideal.main_v97) = v2 c
          ∧ r.2.mem ((c.tc : Thread Cert.Kernel2Ideal.nD Cert.Kernel2Ideal.τ).loc Cert.Kernel2Ideal.main_v102) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_v78) = v2 c
          ∧ r.2.mem ((c.tc : Thread Cert.Reference2Ideal.nD Cert.Reference2Ideal.τ).loc Cert.Reference2Ideal.main_v77) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v63_0)) (v1 : (c : Dev Cert.Kernel3Ideal.nD) → Buf (Elt Ideal) ((c.tc : Thread Cert.Kernel3Ideal.nD Cert.Kernel3Ideal.τ).loc Cert.Kernel3Ideal.main_v63_1)) (v2 : (c : Dev Cert.Kernel3Ideal.nD) → Buf (Elt Ideal) ((c.tc : Thread Cert.Kernel3Ideal.nD Cert.Kernel3Ideal.τ).loc Cert.Kernel3Ideal.main_v63_2)) (v3 : (c : Dev Cert.Kernel3Ideal.nD) → Buf (Elt Ideal) ((c.tc : Thread Cert.Kernel3Ideal.nD Cert.Kernel3Ideal.τ).loc Cert.Kernel3Ideal.main_v65)) (v4 : (c : Dev Cert.Kernel3Ideal.nD) → Buf (Elt Ideal) ((c.tc : Thread Cert.Kernel3Ideal.nD Cert.Kernel3Ideal.τ).loc Cert.Kernel3Ideal.main_v66)) (v5 : (c : Dev Cert.Kernel3Ideal.nD) → Buf (Elt Ideal) ((c.tc : Thread Cert.Kernel3Ideal.nD Cert.Kernel3Ideal.τ).loc Cert.Kernel3Ideal.main_v63_5)) (v6 : (c : Dev Cert.Kernel3Ideal.nD) → Buf (Elt Ideal) ((c.tc : Thread Cert.Kernel3Ideal.nD Cert.Kernel3Ideal.τ).loc Cert.Kernel3Ideal.main_v63_6)) (v7 : (c : Dev Cert.Kernel3Ideal.nD) → Buf (Elt Ideal) ((c.tc : Thread Cert.Kernel3Ideal.nD Cert.Kernel3Ideal.τ).loc Cert.Kernel3Ideal.main_v63_7)) (v8 : (c : Dev Cert.Kernel3Ideal.nD) → Buf (Elt Ideal) ((c.tc : Thread Cert.Kernel3Ideal.nD Cert.Kernel3Ideal.τ).loc Cert.Kernel3Ideal.main_v63_8)) (v9 : (c : Dev Cert.Kernel3Ideal.nD) → Buf (Elt Ideal) ((c.tc : Thread Cert.Kernel3Ideal.nD Cert.Kernel3Ideal.τ).loc Cert.Kernel3Ideal.main_v63_9)) (v10 : (c : Dev Cert.Kernel3Ideal.nD) → Buf (Elt Ideal) ((c.tc : Thread Cert.Kernel3Ideal.nD Cert.Kernel3Ideal.τ).loc Cert.Kernel3Ideal.main_v63_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v63_0) = v0 c
          ∧ r.2.mem ((c.tc : Thread Cert.Kernel3Ideal.nD Cert.Kernel3Ideal.τ).loc Cert.Kernel3Ideal.main_v63_1) = v1 c
          ∧ r.2.mem ((c.tc : Thread Cert.Kernel3Ideal.nD Cert.Kernel3Ideal.τ).loc Cert.Kernel3Ideal.main_v63_2) = v2 c
          ∧ r.2.mem ((c.tc : Thread Cert.Kernel3Ideal.nD Cert.Kernel3Ideal.τ).loc Cert.Kernel3Ideal.main_v65) = v3 c
          ∧ r.2.mem ((c.tc : Thread Cert.Kernel3Ideal.nD Cert.Kernel3Ideal.τ).loc Cert.Kernel3Ideal.main_v66) = v4 c
          ∧ r.2.mem ((c.tc : Thread Cert.Kernel3Ideal.nD Cert.Kernel3Ideal.τ).loc Cert.Kernel3Ideal.main_v63_5) = v5 c
          ∧ r.2.mem ((c.tc : Thread Cert.Kernel3Ideal.nD Cert.Kernel3Ideal.τ).loc Cert.Kernel3Ideal.main_v63_6) = v6 c
          ∧ r.2.mem ((c.tc : Thread Cert.Kernel3Ideal.nD Cert.Kernel3Ideal.τ).loc Cert.Kernel3Ideal.main_v63_7) = v7 c
          ∧ r.2.mem ((c.tc : Thread Cert.Kernel3Ideal.nD Cert.Kernel3Ideal.τ).loc Cert.Kernel3Ideal.main_v63_8) = v8 c
          ∧ r.2.mem ((c.tc : Thread Cert.Kernel3Ideal.nD Cert.Kernel3Ideal.τ).loc Cert.Kernel3Ideal.main_v63_9) = v9 c
          ∧ r.2.mem ((c.tc : Thread Cert.Kernel3Ideal.nD Cert.Kernel3Ideal.τ).loc Cert.Kernel3Ideal.main_v63_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v168) = v0 c
          ∧ r.2.mem ((c.tc : Thread Cert.Reference3Ideal.nD Cert.Reference3Ideal.τ).loc Cert.Reference3Ideal.main_v169) = v1 c
          ∧ r.2.mem ((c.tc : Thread Cert.Reference3Ideal.nD Cert.Reference3Ideal.τ).loc Cert.Reference3Ideal.main_v170) = v2 c
          ∧ r.2.mem ((c.tc : Thread Cert.Reference3Ideal.nD Cert.Reference3Ideal.τ).loc Cert.Reference3Ideal.main_v172) = v3 c
          ∧ r.2.mem ((c.tc : Thread Cert.Reference3Ideal.nD Cert.Reference3Ideal.τ).loc Cert.Reference3Ideal.main_v167) = v4 c
          ∧ r.2.mem ((c.tc : Thread Cert.Reference3Ideal.nD Cert.Reference3Ideal.τ).loc Cert.Reference3Ideal.main_v145) = v5 c
          ∧ r.2.mem ((c.tc : Thread Cert.Reference3Ideal.nD Cert.Reference3Ideal.τ).loc Cert.Reference3Ideal.main_v123) = v6 c
          ∧ r.2.mem ((c.tc : Thread Cert.Reference3Ideal.nD Cert.Reference3Ideal.τ).loc Cert.Reference3Ideal.main_v82) = v7 c
          ∧ r.2.mem ((c.tc : Thread Cert.Reference3Ideal.nD Cert.Reference3Ideal.τ).loc Cert.Reference3Ideal.main_v106) = v8 c
          ∧ r.2.mem ((c.tc : Thread Cert.Reference3Ideal.nD Cert.Reference3Ideal.τ).loc Cert.Reference3Ideal.main_v126) = v9 c
          ∧ r.2.mem ((c.tc : Thread Cert.Reference3Ideal.nD Cert.Reference3Ideal.τ).loc Cert.Reference3Ideal.main_v148) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_v45) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Pre_finite.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : FVec F S8192x8x64 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  main_v23

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x64 .f32 := Host.absf main_arg1
  let main_cst_0 : FVec F S_ .f32 := constant S_ .f32 0x7F800000#32
  let main_v5 : FVec F S8192x8x64 .f32 := broadcastInDim S8192x8x64 ![] bcast_S_S8192x8x64 main_cst_0
  let main_v6 : IVec S8192x8x64 1 := cmpf .olt main_v4 main_v5
  let main_c_1 : IVec S_ 1 := constantI S_ 1 1#1
  let main_v7 : IVec S_ 1 := (fun x v => Host.reduce IntOp.andi x v reducesTo_S8192x8x64_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_v13 main_v16
-- ==== Pre_finite3.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part3 {F : FTy → Type} [FloatOps F] (main_v48 : IVec S_ 1) (main_v49 : FVec F S8192x1024 .f32) (main_v50 : FVec F S8192x1024 .f32) : IVec S_ 1 :=
  let main_v51 : IVec S8192x1024 1 := cmpf .olt main_v49 main_v50
  let main_c_19 : IVec S_ 1 := constantI S_ 1 1#1
  let main_v52 : IVec S_ 1 := (fun x v => Host.reduce IntOp.andi x v reducesTo_S8192x1024_S_d0_1 h_S_) main_v51 main_c_19
  let main_v53 : IVec S_ 1 := andi main_v48 main_v52
  main_v53

def fn_part2 {F : FTy → Type} [FloatOps F] (main_arg7 : FVec F S1024x4096 .f32) (main_arg8 : FVec F S4096x1024 .f32) (main_arg9 : FVec F S1x1024 .f32) (main_arg10 : FVec F S8192x1024 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S8192x1024 .f32 := Host.absf main_arg10
  let main_cst_18 : FVec F S_ .f32 := constant S_ .f32 0x7F800000#32
  let main_v50 : FVec F S8192x1024 .f32 := broadcastInDim S8192x1024 ![] bcast_S_S8192x1024 main_cst_18
  fn_part3 (F := F) main_v48 main_v49 main_v50

def fn_part1 {F : FTy → Type} [FloatOps F] (main_arg4 : FVec F S1024x1024 .f32) (main_arg5 : FVec F S1x1024 .f32) (main_arg6 : FVec F S1x1024 .f32) (main_arg7 : FVec F S1024x4096 .f32) (main_arg8 : FVec F S4096x1024 .f32) (main_arg9 : FVec F S1x1024 .f32) (main_arg10 : FVec F S8192x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x512 .f32) (main_arg2 : FVec F S8192x512 .f32) (main_arg3 : FVec F S1x512 .f32) (main_arg4 : FVec F S1024x1024 .f32) (main_arg5 : FVec F S1x1024 .f32) (main_arg6 : FVec F S1x1024 .f32) (main_arg7 : FVec F S1024x4096 .f32) (main_arg8 : FVec F S4096x1024 .f32) (main_arg9 : FVec F S1x1024 .f32) (main_arg10 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_arg7 main_arg8 main_arg9 main_arg10 main_v13 main_v16
-- ==== Kernel.lean ====
abbrev S8192x4096 : Shape := ⟨2, ![8192, 4096]⟩
abbrev S8192x1024 : Shape := ⟨2, ![8192, 1024]⟩
abbrev S8192x256 : Shape := ⟨2, ![8192, 256]⟩
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S256x4x256 : Shape := ⟨3, ![256, 4, 256]⟩
abbrev S4x256x256 : Shape := ⟨3, ![4, 256, 256]⟩
abbrev S256x4096 : Shape := ⟨2, ![256, 4096]⟩
abbrev S256x256 : Shape := ⟨2, ![256, 256]⟩
abbrev S_ : Shape := ⟨0, ![]⟩
abbrev S256 : Shape := ⟨1, ![256]⟩
abbrev S256x1 : Shape := ⟨2, ![256, 1]⟩
abbrev S1x256x256 : Shape := ⟨3, ![1, 256, 256]⟩
abbrev S1024 : Shape := ⟨1, ![1024]⟩

abbrev nBuf : Space → Nat
  | .hbm => 22
  | .vmem => 25
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x256, .f32⟩
  | .hbm, ⟨3, _⟩ => ⟨S8192x1024, .f32⟩
  | .hbm, ⟨4, _⟩ => ⟨S4096x1024, .f32⟩
  | .hbm, ⟨5, _⟩ => ⟨S1x1024, .f32⟩
  | .hbm, ⟨6, _⟩ => ⟨S1024x1024, .f32⟩
  | .hbm, ⟨7, _⟩ => ⟨S1x1024, .f32⟩
  | .hbm, ⟨8, _⟩ => ⟨S256x1024, .f32⟩
  | .hbm, ⟨9, _⟩ => ⟨S256x1024, .bf16⟩
  | .hbm, ⟨10, _⟩ => ⟨S256x4x256, .bf16⟩
  | .hbm, ⟨11, _⟩ => ⟨S4x256x256, .bf16⟩
  | .hbm, ⟨12, _⟩ => ⟨S8192x4096, .bf16⟩
  | .hbm, ⟨13, _⟩ => ⟨S4096x1024, .bf16⟩
  | .hbm, ⟨14, _⟩ => ⟨S1024x1024, .bf16⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .f32⟩
  | .hbm, ⟨20, _⟩ => ⟨S1x1024, .f32⟩
  | .hbm, ⟨21, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S4096x1024, .bf16⟩
  | .local _ .vmem, ⟨21, _⟩ => ⟨S1x1024, .f32⟩
  | .local _ .vmem, ⟨22, _⟩ => ⟨S1024x1024, .bf16⟩
  | .local _ .vmem, ⟨23, _⟩ => ⟨S1x1024, .f32⟩
  | .local _ .vmem, ⟨24, _⟩ => ⟨S4x256x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x4096 : Shape := ⟨2, ![8192, 4096]⟩
abbrev S8192x1024 : Shape := ⟨2, ![8192, 1024]⟩
abbrev S8192x256 : Shape := ⟨2, ![8192, 256]⟩
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x256, .f32⟩
  | .hbm, ⟨3, _⟩ => ⟨S8192x1024, .f32⟩
  | .hbm, ⟨4, _⟩ => ⟨S4096x1024, .f32⟩
  | .hbm, ⟨5, _⟩ => ⟨S1x1024, .f32⟩
  | .hbm, ⟨6, _⟩ => ⟨S1024x1024, .f32⟩
  | .hbm, ⟨7, _⟩ => ⟨S1x1024, .f32⟩
  | .hbm, ⟨8, _⟩ => ⟨S256x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S8192x1024, .bf16⟩
  | .hbm, ⟨83, _⟩ => ⟨S8192x1024, .bf16⟩
  | .hbm, ⟨84, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_cst_13 : Ref sig .tc := ⟨.hbm, 66, rfl⟩
abbrev main_v43 : Ref sig .tc := ⟨.hbm, 67, rfl⟩
abbrev main_v44 : Ref sig .tc := ⟨.hbm, 68, rfl⟩
abbrev main_cst_14 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Kernel2.lean ====
abbrev S8192x8x64 : Shape := ⟨3, ![8192, 8, 64]⟩
abbrev S8192x8 : Shape := ⟨2, ![8192, 8]⟩
abbrev S8x8192x64 : Shape := ⟨3, ![8, 8192, 64]⟩
abbrev S_ : Shape := ⟨0, ![]⟩
abbrev S8x8192 : Shape := ⟨2, ![8, 8192]⟩
abbrev S8192 : Shape := ⟨1, ![8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8192x8x1 : Shape := ⟨3, ![8192, 8, 1]⟩
abbrev S8192x8x61 : Shape := ⟨3, ![8192, 8, 61]⟩
abbrev S8192x8x128 : Shape := ⟨3, ![8192, 8, 128]⟩
abbrev S8192x1024 : Shape := ⟨2, ![8192, 1024]⟩
abbrev S8192x8x60 : Shape := ⟨3, ![8192, 8, 60]⟩
abbrev S8192x8x63 : Shape := ⟨3, ![8192, 8, 63]⟩
abbrev S32x256x1024 : Shape := ⟨3, ![32, 256, 1024]⟩
abbrev S32x1024x256 : Shape := ⟨3, ![32, 1024, 256]⟩
abbrev S4x2x8192 : Shape := ⟨3, ![4, 2, 8192]⟩
abbrev S4x8x8192 : Shape := ⟨3, ![4, 8, 8192]⟩
abbrev S8192x256 : Shape := ⟨2, ![8192, 256]⟩
abbrev S32x256x256 : Shape := ⟨3, ![32, 256, 256]⟩
abbrev S256x256 : Shape := ⟨2, ![256, 256]⟩
abbrev S1x8x8192 : Shape := ⟨3, ![1, 8, 8192]⟩
abbrev S2x2x256x256 : Shape := ⟨4, ![2, 2, 256, 256]⟩
abbrev S2x256x256 : Shape := ⟨3, ![2, 256, 256]⟩
abbrev S1x2x256x256 : Shape := ⟨4, ![1, 2, 256, 256]⟩
abbrev S256x128 : Shape := ⟨2, ![256, 128]⟩
abbrev S1x128x256 : Shape := ⟨3, ![1, 128, 256]⟩
abbrev S128x256 : Shape := ⟨2, ![128, 256]⟩
abbrev S1x1x256x256 : Shape := ⟨4, ![1, 1, 256, 256]⟩
abbrev S1x1x256 : Shape := ⟨3, ![1, 1, 256]⟩
abbrev S1x256 : Shape := ⟨2, ![1, 256]⟩

abbrev nBuf : Space → Nat
  | .hbm => 132
  | .vmem => 26
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8, .f32⟩
  | 4 => ⟨S8192x8x64, .f32⟩
  | 5 => ⟨S8x8192x64, .f32⟩
  | 6 => ⟨S_, .f32⟩
  | 7 => ⟨S8x8192x64, .f32⟩
  | 8 => ⟨S8x8192x64, .f32⟩
  | 9 => ⟨S8x8192x64, .f32⟩
  | 10 => ⟨S8x8192x64, .f32⟩
  | 11 => ⟨S8x8192, .f32⟩
  | 12 => ⟨S8192, .i32⟩
  | 13 => ⟨S8x8192x8192, .f32⟩
  | 14 => ⟨S8x8192x1, .f32⟩
  | 15 => ⟨S8x8192x8192, .f32⟩
  | 16 => ⟨S8x8192x8192, .f32⟩
  | 17 => ⟨S8x1x8192, .f32⟩
  | 18 => ⟨S8x8192x8192, .f32⟩
  | 19 => ⟨S8x8192x8192, .f32⟩
  | 20 => ⟨S1x8192, .i32⟩
  | 21 => ⟨S8192x1, .i32⟩
  | 22 => ⟨S8192x8192, .i32⟩
  | 23 => ⟨S8192x8192, .i32⟩
  | 24 => ⟨S8192x8192, .i1⟩
  | 25 => ⟨S_, .f32⟩
  | 26 => ⟨S_, .f32⟩
  | 27 => ⟨S8x8192x8192, .i1⟩
  | 28 => ⟨S8x8192x8192, .f32⟩
  | 29 => ⟨S8x8192x8192, .f32⟩
  | 30 => ⟨S_, .f32⟩
  | 31 => ⟨S8x8192, .f32⟩
  | 32 => ⟨S_, .f32⟩
  | 33 => ⟨S8x8192, .f32⟩
  | 34 => ⟨S8x8192, .f32⟩
  | 35 => ⟨S8x8192x1, .f32⟩
  | 36 => ⟨S8x8192x8192, .f32⟩
  | 37 => ⟨S8x8192x8192, .f32⟩
  | 38 => ⟨S8x8192x8192, .f32⟩
  | 39 => ⟨S_, .f32⟩
  | 40 => ⟨S8x8192, .f32⟩
  | 41 => ⟨S8x8192x1, .f32⟩
  | 42 => ⟨S8x8192x8192, .f32⟩
  | 43 => ⟨S8x8192x8192, .f32⟩
  | 44 => ⟨S8x8192x64, .f32⟩
  | 45 => ⟨S8192x8x64, .f32⟩
  | 46 => ⟨S_, .f32⟩
  | 47 => ⟨S8x8192, .f32⟩
  | 48 => ⟨S8x8192x1, .f32⟩
  | 49 => ⟨S8x8192x8192, .f32⟩
  | 50 => ⟨S8x8192x8192, .f32⟩
  | 51 => ⟨S8x8192x8192, .f32⟩
  | 52 => ⟨S_, .f32⟩
  | 53 => ⟨S8x8192, .f32⟩
  | 54 => ⟨S8x8192x1, .f32⟩
  | 55 => ⟨S8x8192x1, .f32⟩
  | 56 => ⟨S8x8192x1, .f32⟩
  | 57 => ⟨S8x8192, .f32⟩
  | 58 => ⟨S8x8192, .f32⟩
  | 59 => ⟨S8x8192, .f32⟩
  | 60 => ⟨S8192x8x64, .f32⟩
  | 61 => ⟨S_, .f32⟩
  | 62 => ⟨S8192x8, .f32⟩
  | 63 => ⟨S8x8192, .f32⟩
  | 64 => ⟨S8192x8x1, .f32⟩
  | 65 => ⟨S8192x8x1, .bf16⟩
  | 66 => ⟨S8192x8x1, .f32⟩
  | 67 => ⟨S8192x8x1, .f32⟩
  | 68 => ⟨S8192x8x1, .bf16⟩
  | 69 => ⟨S8192x8x1, .f32⟩
  | 70 => ⟨S8192x8x1, .f32⟩
  | 71 => ⟨S8192x8x1, .f32⟩
  | 72 => ⟨S8192x8x1, .f32⟩
  | 73 => ⟨S8192x8x1, .bf16⟩
  | 74 => ⟨S_, .bf16⟩
  | 75 => ⟨S8192x8x1, .bf16⟩
  | 76 => ⟨S_, .f32⟩
  | 77 => ⟨S8192x8x64, .f32⟩
  | 78 => ⟨S8192x8x64, .f32⟩
  | 79 => ⟨S8192x8x64, .bf16⟩
  | 80 => ⟨S8192x8x1, .bf16⟩
  | 81 => ⟨S8192x8x1, .bf16⟩
  | 82 => ⟨S8192x8x1, .bf16⟩
  | 83 => ⟨S_, .bf16⟩
  | 84 => ⟨S8192x8x61, .bf16⟩
  | 85 => ⟨S8192x8x128, .bf16⟩
  | 86 => ⟨S8192x1024, .bf16⟩
  | 87 => ⟨S8192x8x64, .bf16⟩
  | 88 => ⟨S_, .bf16⟩
  | 89 => ⟨S8192x8x60, .bf16⟩
  | 90 => ⟨S8192x8x128, .bf16⟩
  | 91 => ⟨S8192x1024, .bf16⟩
  | 92 => ⟨S8192x8x64, .bf16⟩
  | 93 => ⟨S_, .bf16⟩
  | 94 => ⟨S8192x8x63, .bf16⟩
  | 95 => ⟨S8192x8x128, .bf16⟩
  | 96 => ⟨S8192x1024, .bf16⟩
  | 97 => ⟨S8192x8x64, .bf16⟩
  | 98 => ⟨S_, .bf16⟩
  | 99 => ⟨S8192x8x64, .bf16⟩
  | 100 => ⟨S8192x8x128, .bf16⟩
  | 101 => ⟨S8192x1024, .bf16⟩
  | 102 => ⟨S32x256x1024, .bf16⟩
  | 103 => ⟨S32x1024x256, .bf16⟩
  | 104 => ⟨S32x256x1024, .bf16⟩
  | 105 => ⟨S32x1024x256, .bf16⟩
  | 106 => ⟨S4x2x8192, .f32⟩
  | 107 => ⟨S_, .i32⟩
  | 108 => ⟨S_, .f32⟩
  | 109 => ⟨S4x8x8192, .f32⟩
  | 110 => ⟨S4x2x8192, .f32⟩
  | 111 => ⟨S_, .i32⟩
  | 112 => ⟨S_, .f32⟩
  | 113 => ⟨S4x8x8192, .f32⟩
  | 114 => ⟨S32x1024x256, .f32⟩
  | 115 => ⟨S8192x1024, .f32⟩
  | 116 => ⟨S8192x1024, .f32⟩
  | 117 => ⟨S32x256x1024, .f32⟩
  | 118 => ⟨S8192x8x128, .f32⟩
  | 119 => ⟨S8192x8x128, .f32⟩
  | 120 => ⟨S8192x8x128, .f32⟩
  | 121 => ⟨S8192x8x64, .f32⟩
  | 122 => ⟨S_, .f32⟩
  | 123 => ⟨S8192x8x64, .f32⟩
  | 124 => ⟨S8192x8x64, .f32⟩
  | 125 => ⟨S8192x8x64, .f32⟩
  | 126 => ⟨S8192x8x64, .f32⟩
  | 127 => ⟨S8192x8x1, .f32⟩
  | _ => ⟨S8192x8x64, .f32⟩

abbrev hbmTy0_1 (i : Nat) : BufTy := match i % 128 with
  | 0 => ⟨S8192x8, .f32⟩
  | 1 => ⟨S8192x8x1, .f32⟩
  | 2 => ⟨S8192x8, .f32⟩
  | 3 => ⟨S8192x8, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S32x256x256, .bf16⟩
  | .local _ .vmem, ⟨3, _⟩ => ⟨S32x256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S8192x256, .bf16⟩
  | .local _ .vmem, ⟨9, _⟩ => ⟨S8192x256, .bf16⟩
  | .local _ .vmem, ⟨10, _⟩ => ⟨S32x256x256, .bf16⟩
  | .local _ .vmem, ⟨11, _⟩ => ⟨S32x256x256, .bf16⟩
  | .local _ .vmem, ⟨12, _⟩ => ⟨S1x8x8192, .f32⟩
  | .local _ .vmem, ⟨13, _⟩ => ⟨S1x8x8192, .f32⟩
  | .local _ .vmem, ⟨14, _⟩ => ⟨S1x8x8192, .f32⟩
  | .local _ .vmem, ⟨15, _⟩ => ⟨S1x8x8192, .f32⟩
  | .local _ .vmem, ⟨16, _⟩ => ⟨S32x256x256, .f32⟩
  | .local _ .vmem, ⟨17, _⟩ => ⟨S32x256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S2x2x256x256, .f32⟩
  | .local _ .vmem, ⟨23, _⟩ => ⟨S2x2x256x256, .f32⟩
  | .local _ .vmem, ⟨24, _⟩ => ⟨S2x2x256x256, .bf16⟩
  | .local _ .vmem, ⟨25, _⟩ => ⟨S2x2x256x256, .bf16⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c : Ref sig .tc := ⟨.hbm, 107, rfl⟩
abbrev main_call1_v0 : Ref sig .tc := ⟨.hbm, 108, rfl⟩
abbrev main_v85 : Ref sig .tc := ⟨.hbm, 109, rfl⟩
abbrev main_v86 : Ref sig .tc := ⟨.hbm, 110, rfl⟩
abbrev main_c_13 : Ref sig .tc := ⟨.hbm, 111, rfl⟩
abbrev main_call2_v0 : Ref sig .tc := ⟨.hbm, 112, rfl⟩
abbrev main_v87 : Ref sig .tc := ⟨.hbm, 113, rfl⟩
abbrev main_v88_0 : Ref sig .tc := ⟨.hbm, 114, rfl⟩
abbrev main_v88_1 : Ref sig .tc := ⟨.hbm, 115, rfl⟩
abbrev main_v88_2 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_14 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_38 : BitVec 32 := 0#32
  let c32_i32 : BitVec 32 := 32#32
  let arg1 : BitVec 32 := BitVec.ofNat 32 (i 1).val
  let v0 : BitVec 32 := Scalar.subi c32_i32 arg1
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_40 : BitVec 32 := 1#32
  ⟨c0_i32_38, v57, c1_i32_40⟩
def k0_mult1 (i : grid0.Coords) (k0_t1 : Fin (k0_t1_loop i).trips) : BitVec 32 :=
  let arg1 : BitVec 32 := BitVec.ofNat 32 (i 1).val
  let c32_i32 : BitVec 32 := 32#32
  let v0 : BitVec 32 := Scalar.subi c32_i32 arg1
  let c1_i32_56 : BitVec 32 := 1#32
  let v81 : BitVec 32 := Scalar.subi v0 c1_i32_56
  let c0_i32_57 : BitVec 32 := 0#32
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c1_i32_55 : BitVec 32 := 1#32
  let v80 : BitVec 32 := Scalar.subi v71 c1_i32_55
  let v82 : BitVec 32 := Scalar.maxsi c0_i32_57 v80
  let v83 : BitVec 32 := Scalar.minsi v81 v82
  let v84 : BitVec 32 := Scalar.addi arg1 v83
  let c256_i32 : BitVec 32 := 256#32
  let v85 : BitVec 32 := Scalar.muli v84 c256_i32
  v85
def k0_mult2 (i : grid0.Coords) (k0_t1 : Fin (k0_t1_loop i).trips) : BitVec 32 :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let c256_i32_58 : BitVec 32 := 256#32
  let v87 : BitVec 32 := Scalar.muli v79 c256_i32_58
  v87
def k0_off1 (i : grid0.Coords) (k0_t1 : Fin (k0_t1_loop i).trips) : Fin 3 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let v92 : Index := Scalar.indexCast v79
  let c0_60 : Index := 0#32
  let c0_61 : Index := 0#32
  ![v92.toNat, 0, 0]
def k0_off2 (i : grid0.Coords) (k0_t1 : Fin (k0_t1_loop i).trips) : Fin 2 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let c256_i32_58 : BitVec 32 := 256#32
  let v87 : BitVec 32 := Scalar.muli v79 c256_i32_58
  let v88 : BitVec 32 := v87
  let v107 : Index := Scalar.indexCast v88
  let c0_75 : Index := 0#32
  ![v107.toNat, 0]
def k0_off3 (i : grid0.Coords) (k0_t1 : Fin (k0_t1_loop i).trips) : Fin 3 → Nat :=
  let c0_93 : Index := 0#32
  let c0_94 : Index := 0#32
  let arg1 : BitVec 32 := BitVec.ofNat 32 (i 1).val
  let c32_i32 : BitVec 32 := 32#32
  let v0 : BitVec 32 := Scalar.subi c32_i32 arg1
  let c1_i32_56 : BitVec 32 := 1#32
  let v81 : BitVec 32 := Scalar.subi v0 c1_i32_56
  let c0_i32_57 : BitVec 32 := 0#32
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c1_i32_55 : BitVec 32 := 1#32
  let v80 : BitVec 32 := Scalar.subi v71 c1_i32_55
  let v82 : BitVec 32 := Scalar.maxsi c0_i32_57 v80
  let v83 : BitVec 32 := Scalar.minsi v81 v82
  let v84 : BitVec 32 := Scalar.addi arg1 v83
  let c256_i32 : BitVec 32 := 256#32
  let v85 : BitVec 32 := Scalar.muli v84 c256_i32
  let v86 : BitVec 32 := v85
  let v125 : Index := Scalar.indexCast v86
  ![0, 0, v125.toNat]
def k0_off4 (i : grid0.Coords) (k0_t1 : Fin (k0_t1_loop i).trips) : Fin 3 → Nat :=
  let arg1 : BitVec 32 := BitVec.ofNat 32 (i 1).val
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c32_i32 : BitVec 32 := 32#32
  let v0 : BitVec 32 := Scalar.subi c32_i32 arg1
  let c1_i32_51 : BitVec 32 := 1#32
  let v72 : BitVec 32 := Scalar.subi v0 c1_i32_51
  let v73 : BitVec 32 := Scalar.minsi v71 v72
  let v74 : BitVec 32 := Scalar.addi arg1 v73
  let v149 : Index := Scalar.indexCast v74
  let c0_109 : Index := 0#32
  let c0_110 : Index := 0#32
  ![v149.toNat, 0, 0]
def k0_off5 (i : grid0.Coords) (k0_t1 : Fin (k0_t1_loop i).trips) : Fin 3 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let v165 : Index := Scalar.indexCast v79
  let c128_124 : Index := 128#32
  let c0_125 : Index := 0#32
  ![v165.toNat, 128, 0]
def k0_off6 (i : grid0.Coords) (k0_t1 : Fin (k0_t1_loop i).trips) : Fin 2 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let c256_i32_58 : BitVec 32 := 256#32
  let v87 : BitVec 32 := Scalar.muli v79 c256_i32_58
  let v88 : BitVec 32 := v87
  let v180 : Index := Scalar.indexCast v88
  let c128_139 : Index := 128#32
  ![v180.toNat, 128]
def k0_off7 (i : grid0.Coords) (k0_t1 : Fin (k0_t1_loop i).trips) : Fin 3 → Nat :=
  let c0_157 : Index := 0#32
  let c1_158 : Index := 1#32
  let arg1 : BitVec 32 := BitVec.ofNat 32 (i 1).val
  let c32_i32 : BitVec 32 := 32#32
  let v0 : BitVec 32 := Scalar.subi c32_i32 arg1
  let c1_i32_56 : BitVec 32 := 1#32
  let v81 : BitVec 32 := Scalar.subi v0 c1_i32_56
  let c0_i32_57 : BitVec 32 := 0#32
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c1_i32_55 : BitVec 32 := 1#32
  let v80 : BitVec 32 := Scalar.subi v71 c1_i32_55
  let v82 : BitVec 32 := Scalar.maxsi c0_i32_57 v80
  let v83 : BitVec 32 := Scalar.minsi v81 v82
  let v84 : BitVec 32 := Scalar.addi arg1 v83
  let c256_i32 : BitVec 32 := 256#32
  let v85 : BitVec 32 := Scalar.muli v84 c256_i32
  let v86 : BitVec 32 := v85
  let v198 : Index := Scalar.indexCast v86
  ![0, 1, v198.toNat]
def k0_off8 (i : grid0.Coords) (k0_t1 : Fin (k0_t1_loop i).trips) : Fin 3 → Nat :=
  let arg1 : BitVec 32 := BitVec.ofNat 32 (i 1).val
  let c2_i32_50 : BitVec 32 := 2#32
  let c0_i32_38 : BitVec 32 := 0#32
  let c1_i32_40 : BitVec 32 := 1#32
  let arg17 : BitVec 32 := Scf.iv c0_i32_38 c1_i32_40 k0_t1
  let v71 : BitVec 32 := Scalar.muli c2_i32_50 arg17
  let c32_i32 : BitVec 32 := 32#32
  let v0 : BitVec 32 := Scalar.subi c32_i32 arg1
  let c1_i32_51 : BitVec 32 := 1#32
  let v72 : BitVec 32 := Scalar.subi v0 c1_i32_51
  let v73 : BitVec 32 := Scalar.minsi v71 v72
  let v74 : BitVec 32 := Scalar.addi arg1 v73
  let v222 : Index := Scalar.indexCast v74
  let c128_173 : Index := 128#32
  let c0_174 : Index := 0#32
  ![v222.toNat, 128, 0]
def k0_mult3 (i : grid0.Coords) (k0_t1 : Fin (k0_t1_loop i).trips) : BitVec 32 :=
  let arg1 : BitVec 32 := BitVec.ofNat 32 (i 1).val
  let c32_i32 : BitVec 32 := 32#32
  let v0 : BitVec 32 := Scalar.subi c32_i32 arg1
  let c1_i32_195 : BitVec 32 := 1#32
  let v249 : BitVec 32 := Scalar.subi v0 c1_i32_195
  let c0_i32_196 : BitVec 32 := 0#32
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c1_i32_194 : BitVec 32 := 1#32
  let v248 : BitVec 32 := Scalar.subi v239 c1_i32_194
  let v250 : BitVec 32 := Scalar.maxsi c0_i32_196 v248
  let v251 : BitVec 32 := Scalar.minsi v249 v250
  let v252 : BitVec 32 := Scalar.addi arg1 v251
  let c256_i32_197 : BitVec 32 := 256#32
  let v253 : BitVec 32 := Scalar.muli v252 c256_i32_197
  v253
def k0_mult4 (i : grid0.Coords) (k0_t1 : Fin (k0_t1_loop i).trips) : BitVec 32 :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let c256_i32_198 : BitVec 32 := 256#32
  let v255 : BitVec 32 := Scalar.muli v247 c256_i32_198
  v255
def k0_off9 (i : grid0.Coords) (k0_t1 : Fin (k0_t1_loop i).trips) : Fin 3 → Nat :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let v260 : Index := Scalar.indexCast v247
  let c0_201 : Index := 0#32
  let c0_202 : Index := 0#32
  ![v260.toNat, 0, 0]
def k0_off10 (i : grid0.Coords) (k0_t1 : Fin (k0_t1_loop i).trips) : Fin 2 → Nat :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let c256_i32_198 : BitVec 32 := 256#32
  let v255 : BitVec 32 := Scalar.muli v247 c256_i32_198
  let v256 : BitVec 32 := v255
  let v275 : Index := Scalar.indexCast v256
  let c0_216 : Index := 0#32
  ![v275.toNat, 0]
def k0_off11 (i : grid0.Coords) (k0_t1 : Fin (k0_t1_loop i).trips) : Fin 3 → Nat :=
  let c0_234 : Index := 0#32
  let c0_235 : Index := 0#32
  let arg1 : BitVec 32 := BitVec.ofNat 32 (i 1).val
  let c32_i32 : BitVec 32 := 32#32
  let v0 : BitVec 32 := Scalar.subi c32_i32 arg1
  let c1_i32_195 : BitVec 32 := 1#32
  let v249 : BitVec 32 := Scalar.subi v0 c1_i32_195
  let c0_i32_196 : BitVec 32 := 0#32
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c1_i32_194 : BitVec 32 := 1#32
  let v248 : BitVec 32 := Scalar.subi v239 c1_i32_194
  let v250 : BitVec 32 := Scalar.maxsi c0_i32_196 v248
  let v251 : BitVec 32 := Scalar.minsi v249 v250
  let v252 : BitVec 32 := Scalar.addi arg1 v251
  let c256_i32_197 : BitVec 32 := 256#32
  let v253 : BitVec 32 := Scalar.muli v252 c256_i32_197
  let v254 : BitVec 32 := v253
  let v293 : Index := Scalar.indexCast v254
  ![0, 0, v293.toNat]
def k0_off12 (i : grid0.Coords) (k0_t1 : Fin (k0_t1_loop i).trips) : Fin 3 → Nat :=
  let arg1 : BitVec 32 := BitVec.ofNat 32 (i 1).val
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c32_i32 : BitVec 32 := 32#32
  let v0 : BitVec 32 := Scalar.subi c32_i32 arg1
  let c1_i32_190 : BitVec 32 := 1#32
  let v240 : BitVec 32 := Scalar.subi v0 c1_i32_190
  let v241 : BitVec 32 := Scalar.minsi v239 v240
  let v242 : BitVec 32 := Scalar.addi arg1 v241
  let v317 : Index := Scalar.indexCast v242
  let c0_250 : Index := 0#32
  let c0_251 : Index := 0#32
  ![v317.toNat, 0, 0]
def k0_off13 (i : grid0.Coords) (k0_t1 : Fin (k0_t1_loop i).trips) : Fin 3 → Nat :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let v333 : Index := Scalar.indexCast v247
  let c128_265 : Index := 128#32
  let c0_266 : Index := 0#32
  ![v333.toNat, 128, 0]
def k0_off14 (i : grid0.Coords) (k0_t1 : Fin (k0_t1_loop i).trips) : Fin 2 → Nat :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let c256_i32_198 : BitVec 32 := 256#32
  let v255 : BitVec 32 := Scalar.muli v247 c256_i32_198
  let v256 : BitVec 32 := v255
  let v348 : Index := Scalar.indexCast v256
  let c128_280 : Index := 128#32
  ![v348.toNat, 128]
def k0_off15 (i : grid0.Coords) (k0_t1 : Fin (k0_t1_loop i).trips) : Fin 3 → Nat :=
  let c0_298 : Index := 0#32
  let c1_299 : Index := 1#32
  let arg1 : BitVec 32 := BitVec.ofNat 32 (i 1).val
  let c32_i32 : BitVec 32 := 32#32
  let v0 : BitVec 32 := Scalar.subi c32_i32 arg1
  let c1_i32_195 : BitVec 32 := 1#32
  let v249 : BitVec 32 := Scalar.subi v0 c1_i32_195
  let c0_i32_196 : BitVec 32 := 0#32
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c1_i32_194 : BitVec 32 := 1#32
  let v248 : BitVec 32 := Scalar.subi v239 c1_i32_194
  let v250 : BitVec 32 := Scalar.maxsi c0_i32_196 v248
  let v251 : BitVec 32 := Scalar.minsi v249 v250
  let v252 : BitVec 32 := Scalar.addi arg1 v251
  let c256_i32_197 : BitVec 32 := 256#32
  let v253 : BitVec 32 := Scalar.muli v252 c256_i32_197
  let v254 : BitVec 32 := v253
  let v366 : Index := Scalar.indexCast v254
  ![0, 1, v366.toNat]
def k0_off16 (i : grid0.Coords) (k0_t1 : Fin (k0_t1_loop i).trips) : Fin 3 → Nat :=
  let arg1 : BitVec 32 := BitVec.ofNat 32 (i 1).val
  let c2_i32_188 : BitVec 32 := 2#32
  let c0_i32_38 : BitVec 32 := 0#32
  let c1_i32_40 : BitVec 32 := 1#32
  let arg17 : BitVec 32 := Scf.iv c0_i32_38 c1_i32_40 k0_t1
  let v238 : BitVec 32 := Scalar.muli c2_i32_188 arg17
  let c1_i32_189 : BitVec 32 := 1#32
  let v239 : BitVec 32 := Scalar.addi v238 c1_i32_189
  let c32_i32 : BitVec 32 := 32#32
  let v0 : BitVec 32 := Scalar.subi c32_i32 arg1
  let c1_i32_190 : BitVec 32 := 1#32
  let v240 : BitVec 32 := Scalar.subi v0 c1_i32_190
  let v241 : BitVec 32 := Scalar.minsi v239 v240
  let v242 : BitVec 32 := Scalar.addi arg1 v241
  let v390 : Index := Scalar.indexCast v242
  let c128_314 : Index := 128#32
  let c0_315 : Index := 0#32
  ![v390.toNat, 128, 0]
@[reducible] def k0_t2_loop (i : grid0.Coords) : Scf.Loop 32 :=
  let c0_i32_38 : BitVec 32 := 0#32
  let c32_i32 : BitVec 32 := 32#32
  let arg1 : BitVec 32 := BitVec.ofNat 32 (i 1).val
  let v0 : BitVec 32 := Scalar.subi c32_i32 arg1
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let v54 : BitVec 32 := Scalar.addi c0_i32_38 v53
  let c1_i32_41 : BitVec 32 := 1#32
  ⟨v57, v54, c1_i32_41⟩
def k0_mult5 (i : grid0.Coords) (k0_t2 : Fin (k0_t2_loop i).trips) : BitVec 32 :=
  let arg1 : BitVec 32 := BitVec.ofNat 32 (i 1).val
  let c32_i32 : BitVec 32 := 32#32
  let v0 : BitVec 32 := Scalar.subi c32_i32 arg1
  let c1_i32_56 : BitVec 32 := 1#32
  let v81 : BitVec 32 := Scalar.subi v0 c1_i32_56
  let c0_i32_57 : BitVec 32 := 0#32
  let c2_i32_50 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c1_i32_55 : BitVec 32 := 1#32
  let v80 : BitVec 32 := Scalar.subi v71 c1_i32_55
  let v82 : BitVec 32 := Scalar.maxsi c0_i32_57 v80
  let v83 : BitVec 32 := Scalar.minsi v81 v82
  let v84 : BitVec 32 := Scalar.addi arg1 v83
  let c256_i32 : BitVec 32 := 256#32
  let v85 : BitVec 32 := Scalar.muli v84 c256_i32
  v85
def k0_mult6 (i : grid0.Coords) (k0_t2 : Fin (k0_t2_loop i).trips) : BitVec 32 :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let c256_i32_58 : BitVec 32 := 256#32
  let v87 : BitVec 32 := Scalar.muli v79 c256_i32_58
  v87
def k0_off17 (i : grid0.Coords) (k0_t2 : Fin (k0_t2_loop i).trips) : Fin 3 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let v92 : Index := Scalar.indexCast v79
  let c0_60 : Index := 0#32
  let c0_61 : Index := 0#32
  ![v92.toNat, 0, 0]
def k0_off18 (i : grid0.Coords) (k0_t2 : Fin (k0_t2_loop i).trips) : Fin 2 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let c256_i32_58 : BitVec 32 := 256#32
  let v87 : BitVec 32 := Scalar.muli v79 c256_i32_58
  let v88 : BitVec 32 := v87
  let v107 : Index := Scalar.indexCast v88
  let c0_75 : Index := 0#32
  ![v107.toNat, 0]
def k0_off19 (i : grid0.Coords) (k0_t2 : Fin (k0_t2_loop i).trips) : Fin 3 → Nat :=
  let c0_93 : Index := 0#32
  let c0_94 : Index := 0#32
  let arg1 : BitVec 32 := BitVec.ofNat 32 (i 1).val
  let c32_i32 : BitVec 32 := 32#32
  let v0 : BitVec 32 := Scalar.subi c32_i32 arg1
  let c1_i32_56 : BitVec 32 := 1#32
  let v81 : BitVec 32 := Scalar.subi v0 c1_i32_56
  let c0_i32_57 : BitVec 32 := 0#32
  let c2_i32_50 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c1_i32_55 : BitVec 32 := 1#32
  let v80 : BitVec 32 := Scalar.subi v71 c1_i32_55
  let v82 : BitVec 32 := Scalar.maxsi c0_i32_57 v80
  let v83 : BitVec 32 := Scalar.minsi v81 v82
  let v84 : BitVec 32 := Scalar.addi arg1 v83
  let c256_i32 : BitVec 32 := 256#32
  let v85 : BitVec 32 := Scalar.muli v84 c256_i32
  let v86 : BitVec 32 := v85
  let v125 : Index := Scalar.indexCast v86
  ![0, 0, v125.toNat]
def k0_off20 (i : grid0.Coords) (k0_t2 : Fin (k0_t2_loop i).trips) : Fin 3 → Nat :=
  let arg1 : BitVec 32 := BitVec.ofNat 32 (i 1).val
  let c2_i32_50 : BitVec 32 := 2#32
  let c0_i32_38 : BitVec 32 := 0#32
  let c32_i32 : BitVec 32 := 32#32
  let v0 : BitVec 32 := Scalar.subi c32_i32 arg1
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c1_i32_51 : BitVec 32 := 1#32
  let v72 : BitVec 32 := Scalar.subi v0 c1_i32_51
  let v73 : BitVec 32 := Scalar.minsi v71 v72
  let v74 : BitVec 32 := Scalar.addi arg1 v73
  let v149 : Index := Scalar.indexCast v74
  let c0_109 : Index := 0#32
  let c0_110 : Index := 0#32
  ![v149.toNat, 0, 0]
def k0_off21 (i : grid0.Coords) (k0_t2 : Fin (k0_t2_loop i).trips) : Fin 3 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let v165 : Index := Scalar.indexCast v79
  let c128_124 : Index := 128#32
  let c0_125 : Index := 0#32
  ![v165.toNat, 128, 0]
def k0_off22 (i : grid0.Coords) (k0_t2 : Fin (k0_t2_loop i).trips) : Fin 2 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c2_i32_50 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let c256_i32_58 : BitVec 32 := 256#32
  let v87 : BitVec 32 := Scalar.muli v79 c256_i32_58
  let v88 : BitVec 32 := v87
  let v180 : Index := Scalar.indexCast v88
  let c128_139 : Index := 128#32
  ![v180.toNat, 128]
def k0_off23 (i : grid0.Coords) (k0_t2 : Fin (k0_t2_loop i).trips) : Fin 3 → Nat :=
  let c0_157 : Index := 0#32
  let c1_158 : Index := 1#32
  let arg1 : BitVec 32 := BitVec.ofNat 32 (i 1).val
  let c32_i32 : BitVec 32 := 32#32
  let v0 : BitVec 32 := Scalar.subi c32_i32 arg1
  let c1_i32_56 : BitVec 32 := 1#32
  let v81 : BitVec 32 := Scalar.subi v0 c1_i32_56
  let c0_i32_57 : BitVec 32 := 0#32
  let c2_i32_50 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c1_i32_55 : BitVec 32 := 1#32
  let v80 : BitVec 32 := Scalar.subi v71 c1_i32_55
  let v82 : BitVec 32 := Scalar.maxsi c0_i32_57 v80
  let v83 : BitVec 32 := Scalar.minsi v81 v82
  let v84 : BitVec 32 := Scalar.addi arg1 v83
  let c256_i32 : BitVec 32 := 256#32
  let v85 : BitVec 32 := Scalar.muli v84 c256_i32
  let v86 : BitVec 32 := v85
  let v198 : Index := Scalar.indexCast v86
  ![0, 1, v198.toNat]
def k0_off24 (i : grid0.Coords) (k0_t2 : Fin (k0_t2_loop i).trips) : Fin 3 → Nat :=
  let arg1 : BitVec 32 := BitVec.ofNat 32 (i 1).val
  let c2_i32_50 : BitVec 32 := 2#32
  let c0_i32_38 : BitVec 32 := 0#32
  let c32_i32 : BitVec 32 := 32#32
  let v0 : BitVec 32 := Scalar.subi c32_i32 arg1
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v71 : BitVec 32 := Scalar.muli c2_i32_50 arg17
  let c1_i32_51 : BitVec 32 := 1#32
  let v72 : BitVec 32 := Scalar.subi v0 c1_i32_51
  let v73 : BitVec 32 := Scalar.minsi v71 v72
  let v74 : BitVec 32 := Scalar.addi arg1 v73
  let v222 : Index := Scalar.indexCast v74
  let c128_173 : Index := 128#32
  let c0_174 : Index := 0#32
  ![v222.toNat, 128, 0]
def k0_mult7 (i : grid0.Coords) (k0_t2 : Fin (k0_t2_loop i).trips) : BitVec 32 :=
  let arg1 : BitVec 32 := BitVec.ofNat 32 (i 1).val
  let c32_i32 : BitVec 32 := 32#32
  let v0 : BitVec 32 := Scalar.subi c32_i32 arg1
  let c1_i32_195 : BitVec 32 := 1#32
  let v249 : BitVec 32 := Scalar.subi v0 c1_i32_195
  let c0_i32_196 : BitVec 32 := 0#32
  let c2_i32_188 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c1_i32_194 : BitVec 32 := 1#32
  let v248 : BitVec 32 := Scalar.subi v239 c1_i32_194
  let v250 : BitVec 32 := Scalar.maxsi c0_i32_196 v248
  let v251 : BitVec 32 := Scalar.minsi v249 v250
  let v252 : BitVec 32 := Scalar.addi arg1 v251
  let c256_i32_197 : BitVec 32 := 256#32
  let v253 : BitVec 32 := Scalar.muli v252 c256_i32_197
  v253
def k0_mult8 (i : grid0.Coords) (k0_t2 : Fin (k0_t2_loop i).trips) : BitVec 32 :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let c256_i32_198 : BitVec 32 := 256#32
  let v255 : BitVec 32 := Scalar.muli v247 c256_i32_198
  v255
def k0_off25 (i : grid0.Coords) (k0_t2 : Fin (k0_t2_loop i).trips) : Fin 3 → Nat :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let v260 : Index := Scalar.indexCast v247
  let c0_201 : Index := 0#32
  let c0_202 : Index := 0#32
  ![v260.toNat, 0, 0]
def k0_off26 (i : grid0.Coords) (k0_t2 : Fin (k0_t2_loop i).trips) : Fin 2 → Nat :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let c256_i32_198 : BitVec 32 := 256#32
  let v255 : BitVec 32 := Scalar.muli v247 c256_i32_198
  let v256 : BitVec 32 := v255
  let v275 : Index := Scalar.indexCast v256
  let c0_216 : Index := 0#32
  ![v275.toNat, 0]
def k0_off27 (i : grid0.Coords) (k0_t2 : Fin (k0_t2_loop i).trips) : Fin 3 → Nat :=
  let c0_234 : Index := 0#32
  let c0_235 : Index := 0#32
  let arg1 : BitVec 32 := BitVec.ofNat 32 (i 1).val
  let c32_i32 : BitVec 32 := 32#32
  let v0 : BitVec 32 := Scalar.subi c32_i32 arg1
  let c1_i32_195 : BitVec 32 := 1#32
  let v249 : BitVec 32 := Scalar.subi v0 c1_i32_195
  let c0_i32_196 : BitVec 32 := 0#32
  let c2_i32_188 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c1_i32_194 : BitVec 32 := 1#32
  let v248 : BitVec 32 := Scalar.subi v239 c1_i32_194
  let v250 : BitVec 32 := Scalar.maxsi c0_i32_196 v248
  let v251 : BitVec 32 := Scalar.minsi v249 v250
  let v252 : BitVec 32 := Scalar.addi arg1 v251
  let c256_i32_197 : BitVec 32 := 256#32
  let v253 : BitVec 32 := Scalar.muli v252 c256_i32_197
  let v254 : BitVec 32 := v253
  let v293 : Index := Scalar.indexCast v254
  ![0, 0, v293.toNat]
def k0_off28 (i : grid0.Coords) (k0_t2 : Fin (k0_t2_loop i).trips) : Fin 3 → Nat :=
  let arg1 : BitVec 32 := BitVec.ofNat 32 (i 1).val
  let c2_i32_188 : BitVec 32 := 2#32
  let c0_i32_38 : BitVec 32 := 0#32
  let c32_i32 : BitVec 32 := 32#32
  let v0 : BitVec 32 := Scalar.subi c32_i32 arg1
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c1_i32_190 : BitVec 32 := 1#32
  let v240 : BitVec 32 := Scalar.subi v0 c1_i32_190
  let v241 : BitVec 32 := Scalar.minsi v239 v240
  let v242 : BitVec 32 := Scalar.addi arg1 v241
  let v317 : Index := Scalar.indexCast v242
  let c0_250 : Index := 0#32
  let c0_251 : Index := 0#32
  ![v317.toNat, 0, 0]
def k0_off29 (i : grid0.Coords) (k0_t2 : Fin (k0_t2_loop i).trips) : Fin 3 → Nat :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let v333 : Index := Scalar.indexCast v247
  let c128_265 : Index := 128#32
  let c0_266 : Index := 0#32
  ![v333.toNat, 128, 0]
def k0_off30 (i : grid0.Coords) (k0_t2 : Fin (k0_t2_loop i).trips) : Fin 2 → Nat :=
  let arg1 : BitVec 32 := BitVec.ofNat 32 (i 1).val
  let c32_i32 : BitVec 32 := 32#32
  let v0 : BitVec 32 := Scalar.subi c32_i32 arg1
  let c1_i32_192 : BitVec 32 := 1#32
  let v244 : BitVec 32 := Scalar.subi v0 c1_i32_192
  let c0_i32_193 : BitVec 32 := 0#32
  let c2_i32_188 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c2_i32_191 : BitVec 32 := 2#32
  let v243 : BitVec 32 := Scalar.subi v239 c2_i32_191
  let v245 : BitVec 32 := Scalar.maxsi c0_i32_193 v243
  let v246 : BitVec 32 := Scalar.minsi v244 v245
  let v247 : BitVec 32 := Scalar.addi arg1 v246
  let c256_i32_198 : BitVec 32 := 256#32
  let v255 : BitVec 32 := Scalar.muli v247 c256_i32_198
  let v256 : BitVec 32 := v255
  let v348 : Index := Scalar.indexCast v256
  let c128_280 : Index := 128#32
  ![v348.toNat, 128]
def k0_off31 (i : grid0.Coords) (k0_t2 : Fin (k0_t2_loop i).trips) : Fin 3 → Nat :=
  let c0_298 : Index := 0#32
  let c1_299 : Index := 1#32
  let arg1 : BitVec 32 := BitVec.ofNat 32 (i 1).val
  let c32_i32 : BitVec 32 := 32#32
  let v0 : BitVec 32 := Scalar.subi c32_i32 arg1
  let c1_i32_195 : BitVec 32 := 1#32
  let v249 : BitVec 32 := Scalar.subi v0 c1_i32_195
  let c0_i32_196 : BitVec 32 := 0#32
  let c2_i32_188 : BitVec 32 := 2#32
  let c0_i32_38 : BitVec 32 := 0#32
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c1_i32_194 : BitVec 32 := 1#32
  let v248 : BitVec 32 := Scalar.subi v239 c1_i32_194
  let v250 : BitVec 32 := Scalar.maxsi c0_i32_196 v248
  let v251 : BitVec 32 := Scalar.minsi v249 v250
  let v252 : BitVec 32 := Scalar.addi arg1 v251
  let c256_i32_197 : BitVec 32 := 256#32
  let v253 : BitVec 32 := Scalar.muli v252 c256_i32_197
  let v254 : BitVec 32 := v253
  let v366 : Index := Scalar.indexCast v254
  ![0, 1, v366.toNat]
def k0_off32 (i : grid0.Coords) (k0_t2 : Fin (k0_t2_loop i).trips) : Fin 3 → Nat :=
  let arg1 : BitVec 32 := BitVec.ofNat 32 (i 1).val
  let c2_i32_188 : BitVec 32 := 2#32
  let c0_i32_38 : BitVec 32 := 0#32
  let c32_i32 : BitVec 32 := 32#32
  let v0 : BitVec 32 := Scalar.subi c32_i32 arg1
  let c0_i32_31 : BitVec 32 := 0#32
  let v36 : BitVec 1 := Scalar.cmpi .sgt v0 c0_i32_31
  let v37 : BitVec 32 := Scalar.extui v36
  let c0_i32_32 : BitVec 32 := 0#32
  let v38 : BitVec 1 := Scalar.cmpi .slt v0 c0_i32_32
  let v39 : BitVec 32 := Scalar.extui v38
  let v40 : BitVec 32 := Scalar.subi v37 v39
  let c2_i32 : BitVec 32 := 2#32
  let c0_i32_33 : BitVec 32 := 0#32
  let v41 : BitVec 1 := Scalar.cmpi .sgt c2_i32 c0_i32_33
  let v42 : BitVec 32 := Scalar.extui v41
  let c0_i32_34 : BitVec 32 := 0#32
  let v43 : BitVec 1 := Scalar.cmpi .slt c2_i32 c0_i32_34
  let v44 : BitVec 32 := Scalar.extui v43
  let v45 : BitVec 32 := Scalar.subi v42 v44
  let v46 : BitVec 1 := Scalar.cmpi .ne v40 v45
  let v47 : BitVec 32 := Scalar.remsi v0 c2_i32
  let c0_i32_35 : BitVec 32 := 0#32
  let v48 : BitVec 1 := Scalar.cmpi .ne v47 c0_i32_35
  let v49 : BitVec 1 := Scalar.andi v46 v48
  let v35 : BitVec 32 := Scalar.divsi v0 c2_i32
  let c1_i32 : BitVec 32 := 1#32
  let v50 : BitVec 32 := Scalar.subi v35 c1_i32
  let v51 : BitVec 32 := Scalar.select v49 v50 v35
  let c1_i32_36 : BitVec 32 := 1#32
  let v52 : BitVec 32 := Scalar.addi v51 c1_i32_36
  let v53 : BitVec 32 := Scalar.subi v52 c0_i32_38
  let c1_i32_39 : BitVec 32 := 1#32
  let v55 : BitVec 32 := Scalar.divsi v53 c1_i32_39
  let v56 : BitVec 32 := Scalar.muli v55 c1_i32_39
  let v57 : BitVec 32 := Scalar.addi c0_i32_38 v56
  let c1_i32_41 : BitVec 32 := 1#32
  let arg17 : BitVec 32 := Scf.iv v57 c1_i32_41 k0_t2
  let v238 : BitVec 32 := Scalar.muli c2_i32_188 arg17
  let c1_i32_189 : BitVec 32 := 1#32
  let v239 : BitVec 32 := Scalar.addi v238 c1_i32_189
  let c1_i32_190 : BitVec 32 := 1#32
  let v240 : BitVec 32 := Scalar.subi v0 c1_i32_190
  let v241 : BitVec 32 := Scalar.minsi v239 v240
  let v242 : BitVec 32 := Scalar.addi arg1 v241
  let v390 : Index := Scalar.indexCast v242
  let c128_314 : Index := 128#32
  let c0_315 : Index := 0#32
  ![v390.toNat, 128, 0]
def k0_cond2 (i : grid0.Coords) : BitVec 1 :=
  let c32_i32 : BitVec 32 := 32#32
  let arg1 : BitVec 32 := BitVec.ofNat 32 (i 1).val
  let v0 : BitVec 32 := Scalar.subi c32_i32 arg1
  let c2_i32_42 : BitVec 32 := 2#32
  let c0_i32_43 : BitVec 32 := 0#32
  let v58 : BitVec 1 := Scalar.cmpi .eq c2_i32_42 c0_i32_43
  let c1_i32_44 : BitVec 32 := 1#32
  let v59 : BitVec 32 := Scalar.select v58 c1_i32_44 c2_i32_42
  let v60 : BitVec 32 := Scalar.remsi v0 v59
  let c0_i32_46 : BitVec 32 := 0#32
  let v62 : BitVec 1 := Scalar.cmpi .slt v60 c0_i32_46
  let c0_i32_47 : BitVec 32 := 0#32
  let v63 : BitVec 1 := Scalar.cmpi .slt v59 c0_i32_47
  let v64 : BitVec 1 := Scalar.xori v62 v63
  let c0_i32_45 : BitVec 32 := 0#32
  let v61 : BitVec 1 := Scalar.cmpi .ne v60 c0_i32_45
  let v65 : BitVec 1 := Scalar.andi v64 v61
  let v66 : BitVec 32 := Scalar.addi v60 v59
  let v67 : BitVec 32 := Scalar.select v65 v66 v60
  let c1_i32_48 : BitVec 32 := 1#32
  let v68 : BitVec 1 := Scalar.cmpi .eq v67 c1_i32_48
  let v69 : BitVec 32 := Scalar.extui v68
  let c0_i32_49 : BitVec 32 := 0#32
  let v70 : BitVec 1 := Scalar.cmpi .ne v69 c0_i32_49
  v70

def k0_mult9 (i : grid0.Coords) : BitVec 32 :=
  let arg1 : BitVec 32 := BitVec.ofNat 32 (i 1).val
  let c32_i32 : BitVec 32 := 32#32
  let v0 : BitVec 32 := Scalar.subi c32_i32 arg1
  let c1_i32_56 : BitVec 32 := 1#32
  let v81 : BitVec 32 := Scalar.subi v0 c1_i32_56
  let c0_i32_57 : BitVec 32 := 0#32
  let c1_i32_50 : BitVec 32 := 1#32
  let v71 : BitVec 32 := Scalar.addi v0 c1_i32_50
  let c1_i32_55 : BitVec 32 := 1#32
  let v80 : BitVec 32 := Scalar.subi v71 c1_i32_55
  let v82 : BitVec 32 := Scalar.maxsi c0_i32_57 v80
  let v83 : BitVec 32 := Scalar.minsi v81 v82
  let v84 : BitVec 32 := Scalar.addi arg1 v83
  let c256_i32 : BitVec 32 := 256#32
  let v85 : BitVec 32 := Scalar.muli v84 c256_i32
  v85
def k0_mult10 (i : grid0.Coords) : BitVec 32 :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c1_i32_50 : BitVec 32 := 1#32
  let v71 : BitVec 32 := Scalar.addi v0 c1_i32_50
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let c256_i32_58 : BitVec 32 := 256#32
  let v87 : BitVec 32 := Scalar.muli v79 c256_i32_58
  v87
def k0_off33 (i : grid0.Coords) : Fin 3 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c1_i32_50 : BitVec 32 := 1#32
  let v71 : BitVec 32 := Scalar.addi v0 c1_i32_50
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let v92 : Index := Scalar.indexCast v79
  let c0_60 : Index := 0#32
  let c0_61 : Index := 0#32
  ![v92.toNat, 0, 0]
def k0_off34 (i : grid0.Coords) : Fin 2 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c1_i32_50 : BitVec 32 := 1#32
  let v71 : BitVec 32 := Scalar.addi v0 c1_i32_50
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let c256_i32_58 : BitVec 32 := 256#32
  let v87 : BitVec 32 := Scalar.muli v79 c256_i32_58
  let v88 : BitVec 32 := v87
  let v107 : Index := Scalar.indexCast v88
  let c0_75 : Index := 0#32
  ![v107.toNat, 0]
def k0_off35 (i : grid0.Coords) : Fin 3 → Nat :=
  let c0_93 : Index := 0#32
  let c0_94 : Index := 0#32
  let arg1 : BitVec 32 := BitVec.ofNat 32 (i 1).val
  let c32_i32 : BitVec 32 := 32#32
  let v0 : BitVec 32 := Scalar.subi c32_i32 arg1
  let c1_i32_56 : BitVec 32 := 1#32
  let v81 : BitVec 32 := Scalar.subi v0 c1_i32_56
  let c0_i32_57 : BitVec 32 := 0#32
  let c1_i32_50 : BitVec 32 := 1#32
  let v71 : BitVec 32 := Scalar.addi v0 c1_i32_50
  let c1_i32_55 : BitVec 32 := 1#32
  let v80 : BitVec 32 := Scalar.subi v71 c1_i32_55
  let v82 : BitVec 32 := Scalar.maxsi c0_i32_57 v80
  let v83 : BitVec 32 := Scalar.minsi v81 v82
  let v84 : BitVec 32 := Scalar.addi arg1 v83
  let c256_i32 : BitVec 32 := 256#32
  let v85 : BitVec 32 := Scalar.muli v84 c256_i32
  let v86 : BitVec 32 := v85
  let v125 : Index := Scalar.indexCast v86
  ![0, 0, v125.toNat]
def k0_off36 (i : grid0.Coords) : Fin 3 → Nat :=
  let arg1 : BitVec 32 := BitVec.ofNat 32 (i 1).val
  let c32_i32 : BitVec 32 := 32#32
  let v0 : BitVec 32 := Scalar.subi c32_i32 arg1
  let c1_i32_50 : BitVec 32 := 1#32
  let v71 : BitVec 32 := Scalar.addi v0 c1_i32_50
  let c1_i32_51 : BitVec 32 := 1#32
  let v72 : BitVec 32 := Scalar.subi v0 c1_i32_51
  let v73 : BitVec 32 := Scalar.minsi v71 v72
  let v74 : BitVec 32 := Scalar.addi arg1 v73
  let v149 : Index := Scalar.indexCast v74
  let c0_109 : Index := 0#32
  let c0_110 : Index := 0#32
  ![v149.toNat, 0, 0]
def k0_off37 (i : grid0.Coords) : Fin 3 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c1_i32_50 : BitVec 32 := 1#32
  let v71 : BitVec 32 := Scalar.addi v0 c1_i32_50
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let v165 : Index := Scalar.indexCast v79
  let c128_124 : Index := 128#32
  let c0_125 : Index := 0#32
  ![v165.toNat, 128, 0]
def k0_off38 (i : grid0.Coords) : Fin 2 → Nat :=
  let arg1 : BitVec 32 := BitVec.ofNat 32 (i 1).val
  let c32_i32 : BitVec 32 := 32#32
  let v0 : BitVec 32 := Scalar.subi c32_i32 arg1
  let c1_i32_53 : BitVec 32 := 1#32
  let v76 : BitVec 32 := Scalar.subi v0 c1_i32_53
  let c0_i32_54 : BitVec 32 := 0#32
  let c1_i32_50 : BitVec 32 := 1#32
  let v71 : BitVec 32 := Scalar.addi v0 c1_i32_50
  let c2_i32_52 : BitVec 32 := 2#32
  let v75 : BitVec 32 := Scalar.subi v71 c2_i32_52
  let v77 : BitVec 32 := Scalar.maxsi c0_i32_54 v75
  let v78 : BitVec 32 := Scalar.minsi v76 v77
  let v79 : BitVec 32 := Scalar.addi arg1 v78
  let c256_i32_58 : BitVec 32 := 256#32
  let v87 : BitVec 32 := Scalar.muli v79 c256_i32_58
  let v88 : BitVec 32 := v87
  let v180 : Index := Scalar.indexCast v88
  let c128_139 : Index := 128#32
  ![v180.toNat, 128]
def k0_off39 (i : grid0.Coords) : Fin 3 → Nat :=
  let c0_157 : Index := 0#32
  let c1_158 : Index := 1#32
  let arg1 : BitVec 32 := BitVec.ofNat 32 (i 1).val
  let c32_i32 : BitVec 32 := 32#32
  let v0 : BitVec 32 := Scalar.subi c32_i32 arg1
  let c1_i32_56 : BitVec 32 := 1#32
  let v81 : BitVec 32 := Scalar.subi v0 c1_i32_56
  let c0_i32_57 : BitVec 32 := 0#32
  let c1_i32_50 : BitVec 32 := 1#32
  let v71 : BitVec 32 := Scalar.addi v0 c1_i32_50
  let c1_i32_55 : BitVec 32 := 1#32
  let v80 : BitVec 32 := Scalar.subi v71 c1_i32_55
  let v82 : BitVec 32 := Scalar.maxsi c0_i32_57 v80
  let v83 : BitVec 32 := Scalar.minsi v81 v82
  let v84 : BitVec 32 := Scalar.addi arg1 v83
  let c256_i32 : BitVec 32 := 256#32
  let v85 : BitVec 32 := Scalar.muli v84 c256_i32
  let v86 : BitVec 32 := v85
  let v198 : Index := Scalar.indexCast v86
  ![0, 1, v198.toNat]
def k0_off40 (i : grid0.Coords) : Fin 3 → Nat :=
  let arg1 : BitVec 32 := BitVec.ofNat 32 (i 1).val
  let c32_i32 : BitVec 32 := 32#32
  let v0 : BitVec 32 := Scalar.subi c32_i32 arg1
  let c1_i32_50 : BitVec 32 := 1#32
  let v71 : BitVec 32 := Scalar.addi v0 c1_i32_50
  let c1_i32_51 : BitVec 32 := 1#32
  let v72 : BitVec 32 := Scalar.subi v0 c1_i32_51
  let v73 : BitVec 32 := Scalar.minsi v71 v72
  let v74 : BitVec 32 := Scalar.addi arg1 v73
  let v222 : Index := Scalar.indexCast v74
  let c128_173 : Index := 128#32
  let c0_174 : Index := 0#32
  ![v222.toNat, 128, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2Ideal.lean ====
variable {F : FTy → Type} [FloatOps F] [Named F]
def κ : String → Option EReal := fun
  | "masked" => some ⊥
  | _ => none
-- ==== Reference2Ideal.lean ====
abbrev S8192x8x64 : Shape := ⟨3, ![8192, 8, 64]⟩
abbrev S8192x8 : Shape := ⟨2, ![8192, 8]⟩
abbrev S8x8192x64 : Shape := ⟨3, ![8, 8192, 64]⟩
abbrev S_ : Shape := ⟨0, ![]⟩
abbrev S8x8192 : Shape := ⟨2, ![8, 8192]⟩
abbrev S8192 : Shape := ⟨1, ![8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 114
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S8x8192x64, .f32⟩
  | .hbm, ⟨6, _⟩ => ⟨S_, .f32⟩
  | .hbm, ⟨7, _⟩ => ⟨S8x8192x64, .f32⟩
  | .hbm, ⟨8, _⟩ => ⟨S8x8192x64, .f32⟩
  | .hbm, ⟨9, _⟩ => ⟨S8x8192x64, .f32⟩
  | .hbm, ⟨10, _⟩ => ⟨S8x8192x64, .f32⟩
  | .hbm, ⟨11, _⟩ => ⟨S8x8192, .f32⟩
  | .hbm, ⟨12, _⟩ => ⟨S8192, .i32⟩
  | .hbm, ⟨13, _⟩ => ⟨S8x8192x8192, .f32⟩
  | .hbm, ⟨14, _⟩ => ⟨S8x8192x1, .f32⟩
  | .hbm, ⟨15, _⟩ => ⟨S8x8192x8192, .f32⟩
  | .hbm, ⟨16, _⟩ => ⟨S8x8192x8192, .f32⟩
  | .hbm, ⟨17, _⟩ => ⟨S8x1x8192, .f32⟩
  | .hbm, ⟨18, _⟩ => ⟨S8x8192x8192, .f32⟩
  | .hbm, ⟨19, _⟩ => ⟨S8x8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .i1⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .i1⟩
  | .hbm, ⟨46, _⟩ => ⟨S_, .f32⟩
  | .hbm, ⟨47, _⟩ => ⟨S8x8192, .f32⟩
  | .hbm, ⟨48, _⟩ => ⟨S8x8192, .i1⟩
  | .hbm, ⟨49, _⟩ => ⟨S_, .f32⟩
  | .hbm, ⟨50, _⟩ => ⟨S8x8192, .f32⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S8x8192, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S8x8192x64, .f32⟩
  | .hbm, ⟨71, _⟩ => ⟨S8192x8x64, .f32⟩
  | .hbm, ⟨72, _⟩ => ⟨S8x8192x64, .f32⟩
  | .hbm, ⟨73, _⟩ => ⟨S8x64x8192, .f32⟩
  | .hbm, ⟨74, _⟩ => ⟨S8x8192x64, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x1, .f32⟩
  | .hbm, ⟨82, _⟩ => ⟨S8x8192x1, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x8192, .f32⟩
  | .hbm, ⟨88, _⟩ => ⟨S8x8192x8192, .f32⟩
  | .hbm, ⟨89, _⟩ => ⟨S8x8192x8192, .f32⟩
  | .hbm, ⟨90, _⟩ => ⟨S_, .f32⟩
  | .hbm, ⟨91, _⟩ => ⟨S8x8192x8192, .f32⟩
  | .hbm, ⟨92, _⟩ => ⟨S8x8192x8192, .f32⟩
  | .hbm, ⟨93, _⟩ => ⟨S8x8192x8192, .f32⟩
  | .hbm, ⟨94, _⟩ => ⟨S_, .f32⟩
  | .hbm, ⟨95, _⟩ => ⟨S8x8192, .f32⟩
  | .hbm, ⟨96, _⟩ => ⟨S8x1x8192, .f32⟩
  | .hbm, ⟨97, _⟩ => ⟨S_, .f32⟩
  | .hbm, ⟨98, _⟩ => ⟨S8x8192, .f32⟩
  | .hbm, ⟨99, _⟩ => ⟨S_, .f32⟩
  | .hbm, ⟨100, _⟩ => ⟨S8x8192, .f32⟩
  | .hbm, ⟨101, _⟩ => ⟨S8x8192x1, .f32⟩
  | .hbm, ⟨102, _⟩ => ⟨S_, .f32⟩
  | .hbm, ⟨103, _⟩ => ⟨S8x8192, .f32⟩
  | .hbm, ⟨104, _⟩ => ⟨S8x8192, .f32⟩
  | .hbm, ⟨105, _⟩ => ⟨S8x8192x64, .f32⟩
  | .hbm, ⟨106, _⟩ => ⟨S8x8192x64, .f32⟩
  | .hbm, ⟨107, _⟩ => ⟨S8192x8, .f32⟩
  | .hbm, ⟨108, _⟩ => ⟨S8192x8x64, .f32⟩
  | .hbm, ⟨109, _⟩ => ⟨S8192x8x64, .f32⟩
  | .hbm, ⟨110, _⟩ => ⟨S_, .f32⟩
  | .hbm, ⟨111, _⟩ => ⟨S8x8192x64, .f32⟩
  | .hbm, ⟨112, _⟩ => ⟨S8x8192x64, .f32⟩
  | .hbm, ⟨113, _⟩ => ⟨S8192x8x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call1_cst : Ref sig .tc := ⟨.hbm, 90, rfl⟩
abbrev main_call1_v0 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Kernel3.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x128 : Shape := ⟨2, ![512, 128]⟩
abbrev S512x1024 : Shape := ⟨2, ![512, 1024]⟩
abbrev S1024x4x1024 : Shape := ⟨3, ![1024, 4, 1024]⟩
abbrev S4x1024x1024 : Shape := ⟨3, ![4, 1024, 1024]⟩
abbrev S8192x128 : Shape := ⟨2, ![8192, 128]⟩
abbrev S256x1024 : Shape := ⟨2, ![256, 1024]⟩
abbrev S256x4096 : Shape := ⟨2, ![256, 4096]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S1x1024x1024 : Shape := ⟨3, ![1, 1024, 1024]⟩
abbrev S512 : Shape := ⟨1, ![512]⟩
abbrev S8192x8x128 : Shape := ⟨3, ![8192, 8, 128]⟩
abbrev S8192x8x64 : Shape := ⟨3, ![8192, 8, 64]⟩
abbrev S8192x8 : Shape := ⟨2, ![8192, 8]⟩

abbrev nBuf : Space → Nat
  | .hbm => 155
  | .vmem => 39
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S1x512, .f32⟩
  | 4 => ⟨S1024x1024, .f32⟩
  | 5 => ⟨S1x1024, .f32⟩
  | 6 => ⟨S1x1024, .f32⟩
  | 7 => ⟨S1024x4096, .f32⟩
  | 8 => ⟨S4096x1024, .f32⟩
  | 9 => ⟨S1x1024, .f32⟩
  | 10 => ⟨S8192x1024, .f32⟩
  | 11 => ⟨S8192x512, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x512, .f32⟩
  | 23 => ⟨S8192x512, .f32⟩
  | 24 => ⟨S8192x512, .f32⟩
  | 25 => ⟨S8192x512, .f32⟩
  | 26 => ⟨S8192x1024, .f32⟩
  | 27 => ⟨S8192x1024, .f32⟩
  | 28 => ⟨S8192x1024, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1024, .f32⟩
  | 56 => ⟨S8192x1024, .f32⟩
  | 57 => ⟨S8192x1024, .f32⟩
  | 58 => ⟨S8192x1024, .f32⟩
  | 59 => ⟨S8192x4096, .f32⟩
  | 60 => ⟨S_, .f32⟩
  | 61 => ⟨S8192x4096, .f32⟩
  | 62 => ⟨S8192x4096, .f32⟩
  | 63 => ⟨S8192x4096, .f32⟩
  | 64 => ⟨S8192x1024, .f32⟩
  | 65 => ⟨S512x128, .i32⟩
  | 66 => ⟨S_, .i32⟩
  | 67 => ⟨S_, .i32⟩
  | 68 => ⟨S512x128, .i32⟩
  | 69 => ⟨S512x128, .i32⟩
  | 70 => ⟨S512x128, .i32⟩
  | 71 => ⟨S_, .i32⟩
  | 72 => ⟨S512x128, .i32⟩
  | 73 => ⟨S512x128, .i1⟩
  | 74 => ⟨S512x128, .i32⟩
  | 75 => ⟨S512x128, .i32⟩
  | 76 => ⟨S_, .i32⟩
  | 77 => ⟨S512x128, .i32⟩
  | 78 => ⟨S512x128, .i1⟩
  | 79 => ⟨S512x128, .i1⟩
  | 80 => ⟨S_, .i32⟩
  | 81 => ⟨S512x128, .i32⟩
  | 82 => ⟨S512x128, .i32⟩
  | 83 => ⟨S512x128, .i32⟩
  | 84 => ⟨S512x128, .i32⟩
  | 85 => ⟨S512x128, .i1⟩
  | 86 => ⟨S512x128, .bf16⟩
  | 87 => ⟨S512x1024, .i32⟩
  | 88 => ⟨S_, .i32⟩
  | 89 => ⟨S_, .i32⟩
  | 90 => ⟨S512x1024, .i32⟩
  | 91 => ⟨S512x1024, .i32⟩
  | 92 => ⟨S512x1024, .i32⟩
  | 93 => ⟨S_, .i32⟩
  | 94 => ⟨S512x1024, .i32⟩
  | 95 => ⟨S512x1024, .i1⟩
  | 96 => ⟨S512x1024, .i32⟩
  | 97 => ⟨S512x1024, .i32⟩
  | 98 => ⟨S_, .i32⟩
  | 99 => ⟨S512x1024, .i32⟩
  | 100 => ⟨S512x1024, .i1⟩
  | 101 => ⟨S512x1024, .i1⟩
  | 102 => ⟨S_, .i32⟩
  | 103 => ⟨S512x1024, .i32⟩
  | 104 => ⟨S512x1024, .i32⟩
  | 105 => ⟨S512x1024, .i32⟩
  | 106 => ⟨S_, .i32⟩
  | 107 => ⟨S512x1024, .i32⟩
  | 108 => ⟨S512x1024, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S512x1024, .i32⟩
  | 116 => ⟨S512x1024, .i32⟩
  | 117 => ⟨S_, .i32⟩
  | 118 => ⟨S512x1024, .i32⟩
  | 119 => ⟨S512x1024, .i1⟩
  | 120 => ⟨S_, .i32⟩
  | 121 => ⟨S512x1024, .i32⟩
  | 122 => ⟨S512x1024, .i1⟩
  | 123 => ⟨S_, .i32⟩
  | 124 => ⟨S_, .i1⟩
  | 125 => ⟨S512x1024, .i1⟩
  | 126 => ⟨S512x1024, .i1⟩
  | 127 => ⟨S512x1024, .i1⟩
  | _ => ⟨S8192x1024, .f32⟩

abbrev hbmTy0_1 (i : Nat) : BufTy := match i % 128 with
  | 0 => ⟨S512x1024, .i32⟩
  | 1 => ⟨S512x1024, .i32⟩
  | 2 => ⟨S512x1024, .i32⟩
  | 3 => ⟨S512x1024, .i32⟩
  | 4 => ⟨S512x1024, .i32⟩
  | 5 => ⟨S512x1024, .i1⟩
  | 6 => ⟨S512x1024, .bf16⟩
  | 7 => ⟨S1024x4096, .bf16⟩
  | 8 => ⟨S1024x4x1024, .bf16⟩
  | 9 => ⟨S4x1024x1024, .bf16⟩
  | 10 => ⟨S8192x4096, .bf16⟩
  | 11 => ⟨S4096x1024, .bf16⟩
  | 12 => ⟨S1024x1024, .bf16⟩
  | 13 => ⟨S8192x1024, .bf16⟩
  | 14 => ⟨S8192x4096, .bf16⟩
  | 15 => ⟨S8192x1024, .bf16⟩
  | 16 => ⟨S8192x1024, .bf16⟩
  | 17 => ⟨S8192x128, .f32⟩
  | 18 => ⟨S8192x512, .f32⟩
  | 19 => ⟨S8192x1024, .f32⟩
  | 20 => ⟨S1x1024, .f32⟩
  | 21 => ⟨S1x1024, .f32⟩
  | 22 => ⟨S1x1024, .f32⟩
  | 23 => ⟨S1x512, .f32⟩
  | 24 => ⟨S8192x8x128, .bf16⟩
  | 25 => ⟨S8192x8x64, .bf16⟩
  | 26 => ⟨S8192x8, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .bf16⟩
  | .local _ .vmem, ⟨5, _⟩ => ⟨S256x4096, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x1024, .bf16⟩
  | .local _ .vmem, ⟨13, _⟩ => ⟨S256x1024, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x128, .f32⟩
  | .local _ .vmem, ⟨21, _⟩ => ⟨S256x128, .f32⟩
  | .local _ .vmem, ⟨22, _⟩ => ⟨S256x512, .f32⟩
  | .local _ .vmem, ⟨23, _⟩ => ⟨S256x512, .f32⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x512, .f32⟩
  | .local _ .vmem, ⟨30, _⟩ => ⟨S4096x1024, .bf16⟩
  | .local _ .vmem, ⟨31, _⟩ => ⟨S4x1024x1024, .bf16⟩
  | .local _ .vmem, ⟨32, _⟩ => ⟨S1024x1024, .bf16⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x512, .f32⟩
  | .local _ .vmem, ⟨37, _⟩ => ⟨S512x128, .bf16⟩
  | .local _ .vmem, ⟨38, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_cst : Ref sig .tc := ⟨.hbm, 60, rfl⟩
abbrev main_call0_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_c : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_0 : Ref sig .tc := ⟨.hbm, 80, rfl⟩
abbrev main_call1_v12 : Ref sig .tc := ⟨.hbm, 81, rfl⟩
abbrev main_call1_v13 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_c_8 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_c : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_0 : Ref sig .tc := ⟨.hbm, 102, rfl⟩
abbrev main_call2_v12 : Ref sig .tc := ⟨.hbm, 103, rfl⟩
abbrev main_call2_v13 : Ref sig .tc := ⟨.hbm, 104, rfl⟩
abbrev main_v49 : Ref sig .tc := ⟨.hbm, 105, rfl⟩
abbrev main_c_9 : Ref sig .tc := ⟨.hbm, 106, rfl⟩
abbrev main_v50 : Ref sig .tc := ⟨.hbm, 107, rfl⟩
abbrev main_v51 : Ref sig .tc := ⟨.hbm, 108, rfl⟩
abbrev main_c_10 : Ref sig .tc := ⟨.hbm, 109, rfl⟩
abbrev main_call3_v0 : Ref sig .tc := ⟨.hbm, 110, rfl⟩
abbrev main_call3_c : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_1 : Ref sig .tc := ⟨.hbm, 117, rfl⟩
abbrev main_call3_v5 : Ref sig .tc := ⟨.hbm, 118, rfl⟩
abbrev main_call3_v6 : Ref sig .tc := ⟨.hbm, 119, rfl⟩
abbrev main_call3_c_2 : Ref sig .tc := ⟨.hbm, 120, rfl⟩
abbrev main_call3_v7 : Ref sig .tc := ⟨.hbm, 121, rfl⟩
abbrev main_call3_v8 : Ref sig .tc := ⟨.hbm, 122, rfl⟩
abbrev main_call3_c_3 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63_0 : Ref sig .tc := ⟨.hbm, 141, rfl⟩
abbrev main_v63_1 : Ref sig .tc := ⟨.hbm, 142, rfl⟩
abbrev main_v63_2 : Ref sig .tc := ⟨.hbm, 143, rfl⟩
abbrev main_v63_3 : Ref sig .tc := ⟨.hbm, 144, rfl⟩
abbrev main_v63_4 : Ref sig .tc := ⟨.hbm, 145, rfl⟩
abbrev main_v63_5 : Ref sig .tc := ⟨.hbm, 146, rfl⟩
abbrev main_v63_6 : Ref sig .tc := ⟨.hbm, 147, rfl⟩
abbrev main_v63_7 : Ref sig .tc := ⟨.hbm, 148, rfl⟩
abbrev main_v63_8 : Ref sig .tc := ⟨.hbm, 149, rfl⟩
abbrev main_v63_9 : Ref sig .tc := ⟨.hbm, 150, rfl⟩
abbrev main_v63_10 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference3Ideal.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S512 : Shape := ⟨1, ![512]⟩
abbrev S8192x8x64 : Shape := ⟨3, ![8192, 8, 64]⟩
abbrev S8192x8 : Shape := ⟨2, ![8192, 8]⟩

abbrev nBuf : Space → Nat
  | .hbm => 225
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S1x512, .f32⟩
  | 4 => ⟨S1024x1024, .f32⟩
  | 5 => ⟨S1x1024, .f32⟩
  | 6 => ⟨S1x1024, .f32⟩
  | 7 => ⟨S1024x4096, .f32⟩
  | 8 => ⟨S4096x1024, .f32⟩
  | 9 => ⟨S1x1024, .f32⟩
  | 10 => ⟨S8192x1024, .f32⟩
  | 11 => ⟨S_, .f32⟩
  | 12 => ⟨S8192x1024, .f32⟩
  | 13 => ⟨S_, .f32⟩
  | 14 => ⟨S8192x4096, .f32⟩
  | 15 => ⟨S8192x512, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x512, .f32⟩
  | 31 => ⟨S8192x512, .f32⟩
  | 32 => ⟨S8192x512, .f32⟩
  | 33 => ⟨S8192x512, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S8192x1024, .f32⟩
  | 75 => ⟨S8192x1024, .f32⟩
  | 76 => ⟨S8192x4096, .f32⟩
  | 77 => ⟨S8192x4096, .f32⟩
  | 78 => ⟨S_, .f32⟩
  | 79 => ⟨S8192x4096, .f32⟩
  | 80 => ⟨S8192x4096, .f32⟩
  | 81 => ⟨S_, .f32⟩
  | 82 => ⟨S8192x4096, .f32⟩
  | 83 => ⟨S8192x4096, .i1⟩
  | 84 => ⟨S_, .f32⟩
  | 85 => ⟨S8192x4096, .f32⟩
  | 86 => ⟨S8192x4096, .f32⟩
  | 87 => ⟨S_, .f32⟩
  | 88 => ⟨S8192x4096, .f32⟩
  | 89 => ⟨S8192x4096, .f32⟩
  | 90 => ⟨S8192x1024, .f32⟩
  | 91 => ⟨S8192x1024, .f32⟩
  | 92 => ⟨S8192x1024, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192x1, .f32⟩
  | 101 => ⟨S8192x1, .f32⟩
  | 102 => ⟨S8192x1, .f32⟩
  | 103 => ⟨S8192x1, .f32⟩
  | 104 => ⟨S_, .f32⟩
  | 105 => ⟨S8192x1, .f32⟩
  | 106 => ⟨S8192x1, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S8192x1024, .f32⟩
  | 121 => ⟨S_, .f32⟩
  | 122 => ⟨S8192, .f32⟩
  | 123 => ⟨S8192x1, .f32⟩
  | 124 => ⟨S8192x1024, .f32⟩
  | 125 => ⟨S8192x1024, .f32⟩
  | 126 => ⟨S8192x1, .f32⟩
  | 127 => ⟨S_, .f32⟩
  | _ => ⟨S8192x1024, .f32⟩

abbrev hbmTy0_1 (i : Nat) : BufTy := match i % 128 with
  | 0 => ⟨S8192x1, .f32⟩
  | 1 => ⟨S8192x1, .f32⟩
  | 2 => ⟨S_, .f32⟩
  | 3 => ⟨S8192, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x4096, .f32⟩
  | 10 => ⟨S8192x4096, .f32⟩
  | 11 => ⟨S_, .f32⟩
  | 12 => ⟨S8192x4096, .f32⟩
  | 13 => ⟨S8192x4096, .f32⟩
  | 14 => ⟨S8192x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S8192x1024, .f32⟩
  | 26 => ⟨S8192x1024, .f32⟩
  | 27 => ⟨S8192x1024, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S1024, .f32⟩
  | 42 => ⟨S1x1024, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S8192x1024, .f32⟩
  | 50 => ⟨S8192x1024, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x512, .f32⟩
  | 64 => ⟨S8192x512, .f32⟩
  | 65 => ⟨S8192x512, .f32⟩
  | 66 => ⟨S_, .f32⟩
  | 67 => ⟨S512, .f32⟩
  | 68 => ⟨S1x512, .f32⟩
  | 69 => ⟨S8192x512, .f32⟩
  | 70 => ⟨S8192x512, .f32⟩
  | 71 => ⟨S8192x512, .f32⟩
  | 72 => ⟨S_, .f32⟩
  | 73 => ⟨S8192, .f32⟩
  | 74 => ⟨S8192x1, .f32⟩
  | 75 => ⟨S8192x512, .f32⟩
  | 76 => ⟨S8192x512, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S8192x8x64, .f32⟩
  | 90 => ⟨S_, .f32⟩
  | 91 => ⟨S8192x8, .f32⟩
  | 92 => ⟨S8192x1024, .bf16⟩
  | 93 => ⟨S8192x4096, .bf16⟩
  | 94 => ⟨S8192x1024, .bf16⟩
  | 95 => ⟨S8192x8x64, .f32⟩
  | 96 => ⟨S8192x8x64, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call0_cst : Ref sig .tc := ⟨.hbm, 78, rfl⟩
abbrev main_call0_v0 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_16 : Ref sig .tc := ⟨.hbm, 93, rfl⟩
abbrev main_v63 : Ref sig .tc := ⟨.hbm, 94, rfl⟩
abbrev main_v64 : Ref sig .tc := ⟨.hbm, 95, rfl⟩
abbrev main_cst_17 : Ref sig .tc := ⟨.hbm, 96, rfl⟩
abbrev main_v65 : Ref sig .tc := ⟨.hbm, 97, rfl⟩
abbrev main_v66 : Ref sig .tc := ⟨.hbm, 98, rfl⟩
abbrev main_cst_18 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_19 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_22 : Ref sig .tc := ⟨.hbm, 127, rfl⟩
abbrev main_v91 : Ref sig .tc := ⟨.hbm, 128, rfl⟩
abbrev main_v92 : Ref sig .tc := ⟨.hbm, 129, rfl⟩
abbrev main_cst_23 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_24 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_25 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_26 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_27 : Ref sig .tc := ⟨.hbm, 157, rfl⟩
abbrev main_v116 : Ref sig .tc := ⟨.hbm, 158, rfl⟩
abbrev main_v117 : Ref sig .tc := ⟨.hbm, 159, rfl⟩
abbrev main_cst_28 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_29 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_30 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_31 : Ref sig .tc := ⟨.hbm, 180, rfl⟩
abbrev main_v135 : Ref sig .tc := ⟨.hbm, 181, rfl⟩
abbrev main_v136 : Ref sig .tc := ⟨.hbm, 182, rfl⟩
abbrev main_cst_32 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_33 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_34 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_35 : Ref sig .tc := ⟨.hbm, 206, rfl⟩
abbrev main_v157 : Ref sig .tc := ⟨.hbm, 207, rfl⟩
abbrev main_v158 : Ref sig .tc := ⟨.hbm, 208, rfl⟩
abbrev main_cst_36 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_cst_37 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S256x1024 : Shape := ⟨2, ![256, 1024]⟩
abbrev S256x512 : Shape := ⟨2, ![256, 512]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S512x1024 : Shape := ⟨2, ![512, 1024]⟩
abbrev S1x1024x1024 : Shape := ⟨3, ![1, 1024, 1024]⟩

abbrev nBuf : Space → Nat
  | .hbm => 19
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S1024x4x1024, .bf16⟩
  | .hbm, ⟨10, _⟩ => ⟨S4x1024x1024, .bf16⟩
  | .hbm, ⟨11, _⟩ => ⟨S8192x512, .bf16⟩
  | .hbm, ⟨12, _⟩ => ⟨S1024x1024, .bf16⟩
  | .hbm, ⟨13, _⟩ => ⟨S8192x1024, .bf16⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x4096, .bf16⟩
  | .hbm, ⟨18, _⟩ => ⟨S8192x4096, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S1x512, .f32⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S4x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x4096, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S8192x1024, .bf16⟩
  | .hbm, ⟨61, _⟩ => ⟨S8192x1024, .bf16⟩
  | .hbm, ⟨62, _⟩ => ⟨S8192x4096, .f32⟩
  | .hbm, ⟨63, _⟩ => ⟨S8192x4096, .bf16⟩
  | .hbm, ⟨64, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel5.lean ====
abbrev S8192x1024 : Shape := ⟨2, ![8192, 1024]⟩
abbrev S8192x8x64 : Shape := ⟨3, ![8192, 8, 64]⟩
abbrev S8192x8 : Shape := ⟨2, ![8192, 8]⟩
abbrev S8192x512 : Shape := ⟨2, ![8192, 512]⟩
abbrev S1x1024 : Shape := ⟨2, ![1, 1024]⟩
abbrev S1024x2568 : Shape := ⟨2, ![1024, 2568]⟩
abbrev S1x8 : Shape := ⟨2, ![1, 8]⟩
abbrev S1x512 : Shape := ⟨2, ![1, 512]⟩
abbrev S8x128x128 : Shape := ⟨3, ![8, 128, 128]⟩
abbrev S8x128 : Shape := ⟨2, ![8, 128]⟩
abbrev S1024x1536 : Shape := ⟨2, ![1024, 1536]⟩
abbrev S1024x8 : Shape := ⟨2, ![1024, 8]⟩
abbrev S1024x1024 : Shape := ⟨2, ![1024, 1024]⟩
abbrev S_ : Shape := ⟨0, ![]⟩
abbrev S1024x120 : Shape := ⟨2, ![1024, 120]⟩
abbrev S1024x2688 : Shape := ⟨2, ![1024, 2688]⟩
abbrev S8192 : Shape := ⟨1, ![8192]⟩
abbrev S8192x1 : Shape := ⟨2, ![8192, 1]⟩
abbrev S8192x2688 : Shape := ⟨2, ![8192, 2688]⟩
abbrev S8192x128 : Shape := ⟨2, ![8192, 128]⟩
abbrev S1x128 : Shape := ⟨2, ![1, 128]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S8192x8x3 : Shape := ⟨3, ![8192, 8, 3]⟩
abbrev S8192x8x1 : Shape := ⟨3, ![8192, 8, 1]⟩
abbrev S8192x8x60 : Shape := ⟨3, ![8192, 8, 60]⟩
abbrev S8192x8x128 : Shape := ⟨3, ![8192, 8, 128]⟩
abbrev S512 : Shape := ⟨1, ![512]⟩
abbrev S1024 : Shape := ⟨1, ![1024]⟩
abbrev S128 : Shape := ⟨1, ![128]⟩
abbrev S1024x1 : Shape := ⟨2, ![1024, 1]⟩
abbrev S1024x512 : Shape := ⟨2, ![1024, 512]⟩
abbrev S1024x128 : Shape := ⟨2, ![1024, 128]⟩
abbrev S512x1 : Shape := ⟨2, ![512, 1]⟩
abbrev S512x128 : Shape := ⟨2, ![512, 128]⟩
abbrev S256x1024 : Shape := ⟨2, ![256, 1024]⟩
abbrev S256x128 : Shape := ⟨2, ![256, 128]⟩
abbrev S256x512 : Shape := ⟨2, ![256, 512]⟩
abbrev S256x2688 : Shape := ⟨2, ![256, 2688]⟩
abbrev S256x256 : Shape := ⟨2, ![256, 256]⟩
abbrev S256 : Shape := ⟨1, ![256]⟩
abbrev S256x1 : Shape := ⟨2, ![256, 1]⟩

abbrev nBuf : Space → Nat
  | .hbm => 200
  | .vmem => 43
  | .smem => 0
  | _ => 0

abbrev hbmTy0_0 (i : Nat) : BufTy := match i % 128 with
  | 0 => ⟨S8192x1024, .f32⟩
  | 1 => ⟨S8192x1024, .f32⟩
  | 2 => ⟨S8192x8x64, .f32⟩
  | 3 => ⟨S8192x8x64, .f32⟩
  | 4 => ⟨S8192x8x64, .f32⟩
  | 5 => ⟨S8192x8, .f32⟩
  | 6 => ⟨S8192x512, .f32⟩
  | 7 => ⟨S1x1024, .f32⟩
  | 8 => ⟨S1024x2568, .f32⟩
  | 9 => ⟨S1x8, .f32⟩
  | 10 => ⟨S1x512, .f32⟩
  | 11 => ⟨S1x512, .f32⟩
  | 12 => ⟨S8x128x128, .f32⟩
  | 13 => ⟨S8x128, .f32⟩
  | 14 => ⟨S1x512, .f32⟩
  | 15 => ⟨S1024x1536, .f32⟩
  | 16 => ⟨S1024x8, .f32⟩
  | 17 => ⟨S1024x1024, .f32⟩
  | 18 => ⟨S_, .f32⟩
  | 19 => ⟨S1024x120, .f32⟩
  | 20 => ⟨S1024x2688, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1024, .f32⟩
  | 33 => ⟨S8192x1024, .f32⟩
  | 34 => ⟨S8192x1024, .f32⟩
  | 35 => ⟨S8192x1024, .f32⟩
  | 36 => ⟨S8192x2688, .f32⟩
  | 37 => ⟨S8192x128, .f32⟩
  | 38 => ⟨S_, .i32⟩
  | 39 => ⟨S_, .f32⟩
  | 40 => ⟨S1x128, .f32⟩
  | 41 => ⟨S8192x128, .f32⟩
  | 42 => ⟨S8192x128, .f32⟩
  | 43 => ⟨S8192x1024, .f32⟩
  | 44 => ⟨S128x128, .i32⟩
  | 45 => ⟨S128x128, .i32⟩
  | 46 => ⟨S128x128, .i1⟩
  | 47 => ⟨S1x128x128, .i1⟩
  | 48 => ⟨S_, .f32⟩
  | 49 => ⟨S_, .f32⟩
  | 50 => ⟨S8x128x128, .i1⟩
  | 51 => ⟨S8x128x128, .f32⟩
  | 52 => ⟨S8x128x128, .f32⟩
  | 53 => ⟨S128x8, .f32⟩
  | 54 => ⟨S128x8x64, .f32⟩
  | 55 => ⟨S128x512, .f32⟩
  | 56 => ⟨S_, .f32⟩
  | 57 => ⟨S8192x8x64, .f32⟩
  | 58 => ⟨S_, .f32⟩
  | 59 => ⟨S8192x8x3, .f32⟩
  | 60 => ⟨S8192x8x1, .f32⟩
  | 61 => ⟨S_, .f32⟩
  | 62 => ⟨S8192x8x60, .f32⟩
  | 63 => ⟨S8192x8x64, .f32⟩
  | 64 => ⟨S8192x8x128, .f32⟩
  | 65 => ⟨S8192x1024, .f32⟩
  | 66 => ⟨S512, .i32⟩
  | 67 => ⟨S1024, .i32⟩
  | 68 => ⟨S128, .i32⟩
  | 69 => ⟨S1024x1, .i32⟩
  | 70 => ⟨S_, .i32⟩
  | 71 => ⟨S_, .i32⟩
  | 72 => ⟨S512, .i32⟩
  | 73 => ⟨S512, .i32⟩
  | 74 => ⟨S512, .i32⟩
  | 75 => ⟨S_, .i32⟩
  | 76 => ⟨S512, .i32⟩
  | 77 => ⟨S512, .i1⟩
  | 78 => ⟨S512, .i32⟩
  | 79 => ⟨S512, .i32⟩
  | 80 => ⟨S_, .i32⟩
  | 81 => ⟨S512, .i32⟩
  | 82 => ⟨S512, .i1⟩
  | 83 => ⟨S512, .i1⟩
  | 84 => ⟨S_, .i32⟩
  | 85 => ⟨S512, .i32⟩
  | 86 => ⟨S512, .i32⟩
  | 87 => ⟨S512, .i32⟩
  | 88 => ⟨S_, .i32⟩
  | 89 => ⟨S512, .i32⟩
  | 90 => ⟨S512, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S512, .i32⟩
  | 98 => ⟨S512, .i32⟩
  | 99 => ⟨S_, .i32⟩
  | 100 => ⟨S512, .i32⟩
  | 101 => ⟨S512, .i1⟩
  | 102 => ⟨S_, .i32⟩
  | 103 => ⟨S512, .i32⟩
  | 104 => ⟨S512, .i1⟩
  | 105 => ⟨S_, .i32⟩
  | 106 => ⟨S_, .i1⟩
  | 107 => ⟨S512, .i1⟩
  | 108 => ⟨S512, .i1⟩
  | 109 => ⟨S512, .i1⟩
  | 110 => ⟨S512, .i32⟩
  | 111 => ⟨S512, .i32⟩
  | 112 => ⟨S512, .i32⟩
  | 113 => ⟨S512, .i32⟩
  | 114 => ⟨S1x512, .i32⟩
  | 115 => ⟨S1024x512, .i32⟩
  | 116 => ⟨S1024x512, .i32⟩
  | 117 => ⟨S1024x512, .i1⟩
  | 118 => ⟨S1024x512, .bf16⟩
  | 119 => ⟨S1024x1, .i32⟩
  | 120 => ⟨S1x128, .i32⟩
  | 121 => ⟨S_, .i32⟩
  | 122 => ⟨S1x128, .i32⟩
  | 123 => ⟨S1x128, .i32⟩
  | 124 => ⟨S_, .i32⟩
  | 125 => ⟨S1x128, .i32⟩
  | 126 => ⟨S1x128, .i32⟩
  | 127 => ⟨S1024x128, .i32⟩
  | _ => ⟨S8192x1024, .f32⟩

abbrev hbmTy0_1 (i : Nat) : BufTy := match i % 128 with
  | 0 => ⟨S1024x128, .i32⟩
  | 1 => ⟨S1024x128, .i1⟩
  | 2 => ⟨S1x128, .i32⟩
  | 3 => ⟨S_, .i32⟩
  | 4 => ⟨S1x128, .i32⟩
  | 5 => ⟨S1x128, .i1⟩
  | 6 => ⟨S1024x128, .i1⟩
  | 7 => ⟨S1024x128, .i1⟩
  | 8 => ⟨S1024x128, .bf16⟩
  | 9 => ⟨S1024x1, .i32⟩
  | 10 => ⟨S1x128, .i32⟩
  | 11 => ⟨S_, .i32⟩
  | 12 => ⟨S1x128, .i32⟩
  | 13 => ⟨S1x128, .i32⟩
  | 14 => ⟨S_, .i32⟩
  | 15 => ⟨S1x128, .i32⟩
  | 16 => ⟨S1x128, .i32⟩
  | 17 => ⟨S_, .i32⟩
  | 18 => ⟨S1x128, .i32⟩
  | 19 => ⟨S1x128, .i32⟩
  | 20 => ⟨S1024x128, .i32⟩
  | 21 => ⟨S1024x128, .i32⟩
  | 22 => ⟨S1024x128, .i1⟩
  | 23 => ⟨S1x128, .i32⟩
  | 24 => ⟨S_, .i32⟩
  | 25 => ⟨S1x128, .i32⟩
  | 26 => ⟨S1x128, .i1⟩
  | 27 => ⟨S1024x128, .i1⟩
  | 28 => ⟨S1024x128, .i1⟩
  | 29 => ⟨S1024x128, .bf16⟩
  | 30 => ⟨S512x1, .i32⟩
  | 31 => ⟨S_, .i32⟩
  | 32 => ⟨S_, .i32⟩
  | 33 => ⟨S512x1, .i32⟩
  | 34 => ⟨S512x1, .i32⟩
  | 35 => ⟨S512x1, .i32⟩
  | 36 => ⟨S_, .i32⟩
  | 37 => ⟨S512x1, .i32⟩
  | 38 => ⟨S512x1, .i1⟩
  | 39 => ⟨S512x1, .i32⟩
  | 40 => ⟨S512x1, .i32⟩
  | 41 => ⟨S_, .i32⟩
  | 42 => ⟨S512x1, .i32⟩
  | 43 => ⟨S512x1, .i1⟩
  | 44 => ⟨S512x1, .i1⟩
  | 45 => ⟨S_, .i32⟩
  | 46 => ⟨S512x1, .i32⟩
  | 47 => ⟨S512x1, .i32⟩
  | 48 => ⟨S512x1, .i32⟩
  | 49 => ⟨S1x128, .i32⟩
  | 50 => ⟨S512x128, .i32⟩
  | 51 => ⟨S512x128, .i32⟩
  | 52 => ⟨S512x128, .i1⟩
  | 53 => ⟨S512x128, .bf16⟩
  | 54 => ⟨S8192x8x128, .f32⟩
  | 55 => ⟨S8192x1024, .f32⟩
  | 56 => ⟨S8192x8x128, .f32⟩
  | 57 => ⟨S8192x1024, .f32⟩
  | 58 => ⟨S1024x2688, .bf16⟩
  | 59 => ⟨S8x128x128, .bf16⟩
  | 60 => ⟨S8x128x128, .f32⟩
  | 61 => ⟨S8x128x128, .bf16⟩
  | 62 => ⟨S8192x1024, .f32⟩
  | 63 => ⟨S8192x2688, .bf16⟩
  | 64 => ⟨S1x1024, .f32⟩
  | 65 => ⟨S1x128, .f32⟩
  | 66 => ⟨S1x512, .f32⟩
  | 67 => ⟨S1x512, .f32⟩
  | 68 => ⟨S1x512, .f32⟩
  | 69 => ⟨S8x128x128, .f32⟩
  | 70 => ⟨S128x512, .f32⟩
  | 71 => ⟨S128x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x2688, .bf16⟩
  | .local _ .vmem, ⟨19, _⟩ => ⟨S256x2688, .bf16⟩
  | .local _ .vmem, ⟨20, _⟩ => ⟨S1x1024, .f32⟩
  | .local _ .vmem, ⟨21, _⟩ => ⟨S1x128, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S8x128x128, .f32⟩
  | .local _ .vmem, ⟨26, _⟩ => ⟨S128x512, .f32⟩
  | .local _ .vmem, ⟨27, _⟩ => ⟨S128x128, .f32⟩
  | .local _ .vmem, ⟨28, _⟩ => ⟨S1x1024, .f32⟩
  | .local _ .vmem, ⟨29, _⟩ => ⟨S1024x2688, .bf16⟩
  | .local _ .vmem, ⟨30, _⟩ => ⟨S1x512, .f32⟩
  | .local _ .vmem, ⟨31, _⟩ => ⟨S1x512, .f32⟩
  | .local _ .vmem, ⟨32, _⟩ => ⟨S8x128x128, .bf16⟩
  | .local _ .vmem, ⟨33, _⟩ => ⟨S8x128x128, .bf16⟩
  | .local _ .vmem, ⟨34, _⟩ => ⟨S128x512, .f32⟩
  | .local _ .vmem, ⟨35, _⟩ => ⟨S1x512, .f32⟩
  | .local _ .vmem, ⟨36, _⟩ => ⟨S512x128, .bf16⟩
  | .local _ .vmem, ⟨37, _⟩ => ⟨S1024x512, .bf16⟩
  | .local _ .vmem, ⟨38, _⟩ => ⟨S1024x128, .bf16⟩
  | .local _ .vmem, ⟨39, _⟩ => ⟨S1024x128, .bf16⟩
  | .local _ .vmem, ⟨40, _⟩ => ⟨S1x128, .f32⟩
  | .local _ .vmem, ⟨41, _⟩ => ⟨S256x512, .f32⟩
  | .local _ .vmem, ⟨42, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v42 : Ref sig .tc := ⟨.hbm, 87, rfl⟩
abbrev main_c_8 : Ref sig .tc := ⟨.hbm, 88, rfl⟩
abbrev main_v43 : Ref sig .tc := ⟨.hbm, 89, rfl⟩
abbrev main_v44 : Ref sig .tc := ⟨.hbm, 90, rfl⟩
abbrev main_c_9 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_c_1 : Ref sig .tc := ⟨.hbm, 99, rfl⟩
abbrev main_call3_v5 : Ref sig .tc := ⟨.hbm, 100, rfl⟩
abbrev main_call3_v6 : Ref sig .tc := ⟨.hbm, 101, rfl⟩
abbrev main_call3_c_2 : Ref sig .tc := ⟨.hbm, 102, rfl⟩
abbrev main_call3_v7 : Ref sig .tc := ⟨.hbm, 103, rfl⟩
abbrev main_call3_v8 : Ref sig .tc := ⟨.hbm, 104, rfl⟩
abbrev main_call3_c_3 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_c_10 : Ref sig .tc := ⟨.hbm, 121, rfl⟩
abbrev main_v54 : Ref sig .tc := ⟨.hbm, 122, rfl⟩
abbrev main_v55 : Ref sig .tc := ⟨.hbm, 123, rfl⟩
abbrev main_c_11 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_c_12 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_c_13 : Ref sig .tc := ⟨.hbm, 139, rfl⟩
abbrev main_v69 : Ref sig .tc := ⟨.hbm, 140, rfl⟩
abbrev main_v70 : Ref sig .tc := ⟨.hbm, 141, rfl⟩
abbrev main_c_14 : Ref sig .tc := ⟨.hbm, 142, rfl⟩
abbrev main_v71 : Ref sig .tc := ⟨.hbm, 143, rfl⟩
abbrev main_v72 : Ref sig .tc := ⟨.hbm, 144, rfl⟩
abbrev main_c_15 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_c_16 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_c_17 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_v7 : Ref sig .tc := ⟨.hbm, 167, rfl⟩
abbrev main_call4_v8 : Ref sig .tc := ⟨.hbm, 168, rfl⟩
abbrev main_call4_c : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_c_0 : Ref sig .tc := ⟨.hbm, 173, rfl⟩
abbrev main_call4_v12 : Ref sig .tc := ⟨.hbm, 174, rfl⟩
abbrev main_call4_v13 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99_0 : Ref sig .tc := ⟨.hbm, 190, rfl⟩
abbrev main_v99_1 : Ref sig .tc := ⟨.hbm, 191, rfl⟩
abbrev main_v99_2 : Ref sig .tc := ⟨.hbm, 192, rfl⟩
abbrev main_v99_3 : Ref sig .tc := ⟨.hbm, 193, rfl⟩
abbrev main_v99_4 : Ref sig .tc := ⟨.hbm, 194, rfl⟩
abbrev main_v99_5 : Ref sig .tc := ⟨.hbm, 195, rfl⟩
abbrev main_v99_6 : Ref sig .tc := ⟨.hbm, 196, rfl⟩
abbrev main_v99_7 : Ref sig .tc := ⟨.hbm, 197, rfl⟩
abbrev main_v99_8 : Ref sig .tc := ⟨.hbm, 198, rfl⟩
abbrev main_v99_9 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_scratch11 : Ref sig .tc := ⟨.vmem, 39, rfl⟩
abbrev cc0_scratch12 : Ref sig .tc := ⟨.vmem, 40, rfl⟩
abbrev cc0_scratch13 : Ref sig .tc := ⟨.vmem, 41, rfl⟩
abbrev cc0_scratch14 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v679 : BitVec 1 := Scalar.cmpi .eq arg0 c31_i32
  let v680 : BitVec 32 := Scalar.extui v679
  let c0_i32_436 : BitVec 32 := 0#32
  let v681 : BitVec 1 := Scalar.cmpi .ne v680 c0_i32_436
  v681

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2688 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Proof.TailLoss.Vals.lean ====
/- What the loss call computes of one block of 256 rows: the block values as functions of the rows' inputs and of the
   weights that stay in VMEM, spelt by the kernel's own operations, and the two column sums carried over the grid. -/
module

public import proofs.«01_k».proof.Proof.Gen.KernelIdeal.Frame.Runs

@[expose] public section

set_option maxRecDepth 16384

noncomputable section

namespace Cert.KernelIdeal.TailLoss

open Cert.KernelIdeal Cert.KernelIdeal.Gen Idealize.ShloMosaic Idealize.ShloMosaic.TcCoe Idealize.SL.Sem

variable {F : FTy → Type} [FloatOps F]

/-- The five operands that stay resident: the second feed-forward weight, its norm's gain, the gate's weight and bias,
    the embedding weight in four slabs. -/
structure Wts (F : FTy → Type) where
  w2 : Vec F S4096x1024 .bf16
  gpff : Vec F S1x1024 .f32
  wg : Vec F S1024x1024 .bf16
  bg : Vec F S1x1024 .f32
  wp : Vec F S4x256x256 .bf16

/-- One grid point's input blocks: activations, residual, embedding input, target. -/
structure Blk (F : FTy → Type) where
  s : Vec F S256x4096 .bf16
  h1 : Vec F S256x1024 .f32
  p : Vec F S256x256 .f32
  tgt : Vec F S256x1024 .f32

variable (w : Wts F) (x : Blk F)

/-- Slab `k` of the embedding weight. -/
def slab (wp : Vec F S4x256x256 .bf16) (k : Fin 4) : Vec F S1x256x256 .bf16 :=
  View.ld wp (Rect.unit (s := S4x256x256) ![k.val, 0, 0] S1x256x256.size
    (fun a => by fin_cases a <;> have := k.isLt <;> simp [S1x256x256, S4x256x256, Shape.size] <;> omega))

/-- The feed-forward product of the block. -/
def ffB : Vec F S256x1024 .f32 := k0_pay9 x.s w.w2
/-- The residual stream after the feed-forward. -/
def h2B : Vec F S256x1024 .f32 := k0_pay10 x.s w.w2 x.h1 w.gpff
/-- The same, rounded. -/
def h2bB : Vec F S256x1024 .bf16 := k0_pay11 x.s w.w2 x.h1 w.gpff
/-- Minus the gate's argument. -/
def nlB : Vec F S256x1024 .f32 := k0_pay12 x.s w.w2 x.h1 w.gpff w.wg w.bg
/-- The gate. -/
def gateB : Vec F S256x1024 .f32 := k0_pay13 (nlB w x)
/-- The embedding. -/
def eB : Vec F S256x1024 .f32 := k0_pay14 x.p (slab w.wp 0) (slab w.wp 1) (slab w.wp 2) (slab w.wp 3)
/-- The prediction's error. -/
def diffB : Vec F S256x1024 .f32 :=
  k0_pay15 (h2B w x) (nlB w x) x.p (slab w.wp 0) (slab w.wp 1) (slab w.wp 2) (slab w.wp 3) x.tgt
/-- The constant 1/1024. -/
abbrev cN : F .f32 := Scalar.ofBits .f32 0x3A800000#32
/-- The gradient of the embedding. -/
def deB : Vec F S256x1024 .bf16 := k0_pay2 (gateB w x) (diffB w x) cN
/-- The gradient of the gate's argument. -/
def dpreB : Vec F S256x1024 .bf16 := k0_pay5 (gateB w x) (eB w x) (diffB w x) cN
/-- The gradient of the residual stream. -/
def dh2B : Vec F S256x1024 .f32 := k0_pay6 (gateB w x) (eB w x) (diffB w x) cN w.wg
/-- The loss columns with the block's squares added. -/
def lossB (acc : Vec F S1x1024 .f32) : Vec F S1x1024 .f32 :=
  k0_pay16 (h2B w x) (nlB w x) x.p (slab w.wp 0) (slab w.wp 1) (slab w.wp 2) (slab w.wp 3) x.tgt acc
/-- The bias gradient with the block's rows added. -/
def dbgB (acc : Vec F S1x1024 .f32) : Vec F S1x1024 .f32 := k0_pay4 (gateB w x) (eB w x) (diffB w x) cN acc

end Cert.KernelIdeal.TailLoss

end
-- ==== Proof.TailLoss.BodyB.lean ====
/- The kernel's body at a grid point after the first, on any staging buffers: what every output buffer holds afterwards. -/
module

public import proofs.«01_k».proof.Proof.TailLoss.Vals
public import Idealize.ShloMosaic.Lib.Pipeline.Value

@[expose] public section

set_option maxRecDepth 16384

noncomputable section

namespace Cert.KernelIdeal.TailLoss

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

/-- One covering store leaves its payload. -/
theorem read_store {S : Shape} {e : EltTy} {sp : Space} (v : View sig .tc sp S e) (f : v.ty.Contents (Elt F)) {off : Fin S.rank → ℕ}
    (h : off = fun _ => 0) (inb : ∀ a, off a + S.size a ≤ S.size a) (p : Vec F S e) (L : List (View.Piece (Elt F) S e)) :
    v.read (Elt F) (v.writes (Elt F) f (⟨Rect.unit (s := S) off S.size inb, p⟩ :: L)) = p := by
  subst h
  funext y
  have := View.read_writes_cons_emb v f (Rect.unit (s := S) (fun _ => 0) S.size inb) p L y
  have e : (Rect.unit (s := S) (fun _ => 0) S.size inb).emb y = y := by
    funext a; apply Fin.ext; simp [Rect.emb, Rect.unit]
  rwa [e] at this

/-- The cells and operands in HBM that the body only uses at the first point. -/
def held (c : Dev nD) (fh0 : HbBuf0 (F := F) c hbM0_0) (fh1 : HbBuf0 (F := F) c hbM0_1) (fh2 : HbBuf0 (F := F) c hbM0_2)
    (fh3 : HbBuf0 (F := F) c hbM0_3) (fh4 : HbBuf0 (F := F) c hbM0_4) : sProp 𝕄 :=
  iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
    ∗ hbPt0 c hbM0_0 fh0 ∗ hbPt0 c hbM0_1 fh1 ∗ hbPt0 c hbM0_2 fh2 ∗ hbPt0 c hbM0_3 fh3 ∗ hbPt0 c hbM0_4 fh4)

variable (c : Dev nD) (i : grid0.Coords) (a1 : Memref sig .tc .vmem S256x4096 .bf16) (h1 : a1.IsWhole)
  (a2 : Memref sig .tc .vmem S256x1024 .f32) (h2 : a2.IsWhole) (a3 : Memref sig .tc .vmem S256x256 .f32) (h3 : a3.IsWhole)
  (a4 : Memref sig .tc .vmem S256x1024 .f32) (h4 : a4.IsWhole) (a10 : Memref sig .tc .vmem S256x1024 .f32) (h10 : a10.IsWhole)
  (a11 : Memref sig .tc .vmem S256x1024 .bf16) (h11 : a11.IsWhole) (a12 : Memref sig .tc .vmem S256x1024 .bf16) (h12 : a12.IsWhole)
  (a13 : Memref sig .tc .vmem S256x1024 .bf16) (h13 : a13.IsWhole) (a14 : Memref sig .tc .vmem S256x1024 .f32) (h14 : a14.IsWhole)
  (a15 : Memref sig .tc .vmem S1x1024 .f32) (h15 : a15.IsWhole) (a16 : Memref sig .tc .vmem S1x1024 .f32) (h16 : a16.IsWhole)
  (a17 : Memref sig .tc .vmem S4096x1024 .bf16) (h17 : a17.IsWhole) (a18 : Memref sig .tc .vmem S1x1024 .f32) (h18 : a18.IsWhole)
  (a19 : Memref sig .tc .vmem S1024x1024 .bf16) (h19 : a19.IsWhole) (a20 : Memref sig .tc .vmem S1x1024 .f32) (h20 : a20.IsWhole)
  (a21 : Memref sig .tc .vmem S4x256x256 .bf16) (h21 : a21.IsWhole)

/-- The body's program on these buffers. -/
abbrev prog : Prog (TpuEff nD τ sig (Elt F) Λ₀ .tc) PUnit :=
  cc0_tail_fwd2 i a1 h1 a2 h2 a3 h3 a4 h4 (Memref.whole main_v4) (Memref.isWhole_whole _) (Memref.whole main_arg5) (Memref.isWhole_whole _) (Memref.whole main_v5) (Memref.isWhole_whole _) (Memref.whole main_arg7) (Memref.isWhole_whole _) (Memref.whole main_v2) (Memref.isWhole_whole _) a10 h10 a11 h11 a12 h12 a13 h13 a14 h14 a15 h15 a16 h16 a17 h17 a18 h18 a19 h19 a20 h20 a21 h21 cc0_scoped0 cc0_scoped1 cc0_scoped2 cc0_scoped3 cc0_scoped4

/-- The input blocks' buffers. -/
def ins (x : Blk F) : sProp 𝕄 :=
  iprop(owns (c : Thread nD τ) a1 fullShare x.s ∗ owns (c : Thread nD τ) a2 fullShare x.h1 ∗ owns (c : Thread nD τ) a3 fullShare x.p ∗ owns (c : Thread nD τ) a4 fullShare x.tgt)

/-- The resident weights' buffers. -/
def wts (w : Wts F) : sProp 𝕄 :=
  iprop(owns (c : Thread nD τ) a17 fullShare w.w2 ∗ owns (c : Thread nD τ) a18 fullShare w.gpff ∗ owns (c : Thread nD τ) a19 fullShare w.wg ∗ owns (c : Thread nD τ) a20 fullShare w.bg ∗ owns (c : Thread nD τ) a21 fullShare w.wp)

/-- The outputs' buffers with the block's values in them, the two column sums grown from `l` and `b`. -/
def outs (w : Wts F) (x : Blk F) (l b : Vec F S1x1024 .f32) : sProp 𝕄 :=
  iprop(owns (c : Thread nD τ) a10 fullShare (ffB w x) ∗ owns (c : Thread nD τ) a11 fullShare (h2bB w x) ∗ owns (c : Thread nD τ) a12 fullShare (deB w x)
    ∗ owns (c : Thread nD τ) a13 fullShare (dpreB w x) ∗ owns (c : Thread nD τ) a14 fullShare (dh2B w x)
    ∗ owns (c : Thread nD τ) a15 fullShare (lossB w x l) ∗ owns (c : Thread nD τ) a16 fullShare (dbgB w x b))

set_option maxHeartbeats 3200000 in
/-- A point after the first: the column sums grow from what they held. -/
theorem body_B (hc0 : ¬cond0_0 i) (w : Wts F) (x : Blk F) (l b : Vec F S1x1024 .f32) (W : Waits sig Unit) (K : PUnit → sProp 𝕄) :
    iprop(ins c a1 a2 a3 a4 x
      ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
      ∗ owns (c : Thread nD τ) a15 fullShare l ∗ owns (c : Thread nD τ) a16 fullShare b
      ∗ wts c a17 a18 a19 a20 a21 w ∗ owes (c : Thread nD τ) 0 W
      ∗ (iprop(ins c a1 a2 a3 a4 x ∗ outs c a10 a11 a12 a13 a14 a15 a16 w x l b ∗ wts c a17 a18 a19 a20 a21 w ∗ (∃ W', owes (c : Thread nD τ) 0 W')) -∗ K ⟨⟩))
    ⊢ wp frame (wpE (defs₀ (F := F)) Variants.none c none) Set.univ
        (prog i a1 h1 a2 h2 a3 h3 a4 h4 a10 h10 a11 h11 a12 h12 a13 h13 a14 h14 a15 h15 a16 h16 a17 h17 a18 h18 a19 h19 a20 h20 a21 h21) K := by
  unfold prog
  simp only [cc0_tail_fwd2_eq_skeleton]; unfold cc0_tail_fwd2_skel
  simp only [k0_part1_eq_skeleton, k0_part2_eq_skeleton]
  unfold ins wts outs owns
  iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨⟨%fs0, %hfs0, HS0⟩, ⟨%fs1, %hfs1, HS1⟩, ⟨%fs2, %hfs2, HS2⟩, ⟨%fs3, %hfs3, HS3⟩, ⟨%fs4, %hfs4, HS4⟩⟩, HW, Hk⟩
  obtain rfl := h1.eq_unread hf0; obtain rfl := h2.eq_unread hf1; obtain rfl := h3.eq_unread hf2; obtain rfl := h4.eq_unread hf3; obtain rfl := h15.eq_unread hf9; obtain rfl := h16.eq_unread hf10; obtain rfl := h17.eq_unread hfs0; obtain rfl := h18.eq_unread hfs1; obtain rfl := h19.eq_unread hfs2; obtain rfl := h20.eq_unread hfs3; obtain rfl := h21.eq_unread hfs4
  sl_exec (disch := first | sl_exact hc0)
  sl_step
  iapply Hk
  isplitl [H0 H1 H2 H3]
  · isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    iexists _; isplitr; · ipureintro; exact h4.read_unread _
    iexact H3
  isplitl [H4 H5 H6 H7 H8 H9 H10]
  · isplitl [H4]
    · iexists _; isplitr
      swap; · iexact H4
      ipureintro
      refine (read_store _ _ hz2 _ _ _).trans ?_
      sl_unfold_words
      simp only [View.readAt_eq_ld, Memref.IsWhole.read_unread, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H5]
    · iexists _; isplitr
      swap; · iexact H5
      ipureintro
      refine (read_store _ _ hz2 _ _ _).trans ?_
      sl_unfold_words
      simp only [View.readAt_eq_ld, Memref.IsWhole.read_unread, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H6]
    · iexists _; isplitr
      swap; · iexact H6
      ipureintro
      refine (read_store _ _ hz2 _ _ _).trans ?_
      sl_unfold_words
      simp only [View.readAt_eq_ld, Memref.IsWhole.read_unread, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H7]
    · iexists _; isplitr
      swap; · iexact H7
      ipureintro
      refine (read_store _ _ hz2 _ _ _).trans ?_
      sl_unfold_words
      simp only [View.readAt_eq_ld, Memref.IsWhole.read_unread, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H8]
    · iexists _; isplitr
      swap; · iexact H8
      ipureintro
      refine (read_store _ _ hz2 _ _ _).trans ?_
      sl_unfold_words
      simp only [View.readAt_eq_ld, Memref.IsWhole.read_unread, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H9]
    · iexists _; isplitr
      swap; · iexact H9
      ipureintro
      refine (read_store _ _ hz2 _ _ _).trans ?_
      sl_unfold_words
      simp only [View.readAt_eq_ld, Memref.IsWhole.read_unread, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    iexists _; isplitr
    swap; · iexact H10
    ipureintro
    refine (read_store _ _ hz2 _ _ _).trans ?_
    sl_unfold_words
    simp only [View.readAt_eq_ld, Memref.IsWhole.read_unread, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
    rfl
  isplitl [HS0 HS1 HS2 HS3 HS4]
  · isplitl [HS0]
    · iexists _; isplitr; · ipureintro; exact h17.read_unread _
      iexact HS0
    isplitl [HS1]
    · iexists _; isplitr; · ipureintro; exact h18.read_unread _
      iexact HS1
    isplitl [HS2]
    · iexists _; isplitr; · ipureintro; exact h19.read_unread _
      iexact HS2
    isplitl [HS3]
    · iexists _; isplitr; · ipureintro; exact h20.read_unread _
      iexact HS3
    iexists _; isplitr; · ipureintro; exact h21.read_unread _
    iexact HS4
  iexists _; iexact HW

end Cert.KernelIdeal.TailLoss

end
-- ==== Proof.TailLoss.BodyA.lean ====
/- The kernel's body at the first grid point, on any staging buffers: what every output buffer holds afterwards. -/
module

public import proofs.«01_k».proof.Proof.TailLoss.BodyB

@[expose] public section

set_option maxRecDepth 16384

noncomputable section

namespace Cert.KernelIdeal.TailLoss

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A load from a buffer that a copy has filled reads the copied contents. -/
theorem readCov_copy {S : Shape} {e : EltTy} {sp : Space} (v : View sig .tc sp S e) (p : Vec F S e) (r : Rect S) :
    v.readCov (Val := Elt F) [⟨Rect.whole S, p⟩] r.toLoadRect = View.ld p r := by
  unfold View.readCov
  rw [View.readAt_eq_ld, View.read_writes_whole]

variable (c : Dev nD) (i : grid0.Coords) (a1 : Memref sig .tc .vmem S256x4096 .bf16) (h1 : a1.IsWhole)
  (a2 : Memref sig .tc .vmem S256x1024 .f32) (h2 : a2.IsWhole) (a3 : Memref sig .tc .vmem S256x256 .f32) (h3 : a3.IsWhole)
  (a4 : Memref sig .tc .vmem S256x1024 .f32) (h4 : a4.IsWhole) (a10 : Memref sig .tc .vmem S256x1024 .f32) (h10 : a10.IsWhole)
  (a11 : Memref sig .tc .vmem S256x1024 .bf16) (h11 : a11.IsWhole) (a12 : Memref sig .tc .vmem S256x1024 .bf16) (h12 : a12.IsWhole)
  (a13 : Memref sig .tc .vmem S256x1024 .bf16) (h13 : a13.IsWhole) (a14 : Memref sig .tc .vmem S256x1024 .f32) (h14 : a14.IsWhole)
  (a15 : Memref sig .tc .vmem S1x1024 .f32) (h15 : a15.IsWhole) (a16 : Memref sig .tc .vmem S1x1024 .f32) (h16 : a16.IsWhole)
  (a17 : Memref sig .tc .vmem S4096x1024 .bf16) (h17 : a17.IsWhole) (a18 : Memref sig .tc .vmem S1x1024 .f32) (h18 : a18.IsWhole)
  (a19 : Memref sig .tc .vmem S1024x1024 .bf16) (h19 : a19.IsWhole) (a20 : Memref sig .tc .vmem S1x1024 .f32) (h20 : a20.IsWhole)
  (a21 : Memref sig .tc .vmem S4x256x256 .bf16) (h21 : a21.IsWhole)

/-- The weights as the operands in HBM hold them. -/
def wtsOf (fh0 : HbBuf0 (F := F) c hbM0_0) (fh1 : HbBuf0 (F := F) c hbM0_1) (fh2 : HbBuf0 (F := F) c hbM0_2)
    (fh3 : HbBuf0 (F := F) c hbM0_3) (fh4 : HbBuf0 (F := F) c hbM0_4) : Wts F where
  w2 := fh0
  gpff := fh1
  wg := fh2
  bg := fh3
  wp := fh4

set_option maxHeartbeats 3200000 in
/-- The first point: the weights are copied in, the column sums start from the zero row. -/
theorem body_A (hc0 : cond0_0 i) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (x : Blk F) (W : Waits sig Unit) (K : PUnit → sProp 𝕄) :
    iprop(ins c a1 a2 a3 a4 x
      ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
      ∗ (∃ d, owns (c : Thread nD τ) a15 fullShare d) ∗ (∃ d, owns (c : Thread nD τ) a16 fullShare d)
      ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d)
      ∗ held c fh0 fh1 fh2 fh3 fh4 ∗ owes (c : Thread nD τ) 0 W
      ∗ (iprop(ins c a1 a2 a3 a4 x ∗ outs c a10 a11 a12 a13 a14 a15 a16 (wtsOf c fh0 fh1 fh2 fh3 fh4) x k0_pay7 k0_pay8 ∗ wts c a17 a18 a19 a20 a21 (wtsOf c fh0 fh1 fh2 fh3 fh4) ∗ held c fh0 fh1 fh2 fh3 fh4 ∗ (∃ W', owes (c : Thread nD τ) 0 W')) -∗ K ⟨⟩))
    ⊢ wp frame (wpE (defs₀ (F := F)) Variants.none c none) Set.univ
        (prog i a1 h1 a2 h2 a3 h3 a4 h4 a10 h10 a11 h11 a12 h12 a13 h13 a14 h14 a15 h15 a16 h16 a17 h17 a18 h18 a19 h19 a20 h20 a21 h21) K := by
  unfold prog
  simp only [cc0_tail_fwd2_eq_skeleton]; unfold cc0_tail_fwd2_skel
  simp only [k0_part1_eq_skeleton, k0_part2_eq_skeleton]
  unfold ins wts outs held owns
  iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%e0, %fs0, -, HS0⟩, ⟨%e1, %fs1, -, HS1⟩, ⟨%e2, %fs2, -, HS2⟩, ⟨%e3, %fs3, -, HS3⟩, ⟨%e4, %fs4, -, HS4⟩, ⟨Hq0, Hq1, Hq2, Hq3, Hq4, Hh0, Hh1, Hh2, Hh3, Hh4⟩, HW, Hk⟩
  obtain rfl := h1.eq_unread hf0; obtain rfl := h2.eq_unread hf1; obtain rfl := h3.eq_unread hf2; obtain rfl := h4.eq_unread hf3
  sl_exec (disch := first | sl_exact hc0)
  sl_step
  iapply Hk
  isplitl [H0 H1 H2 H3]
  · isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    iexists _; isplitr; · ipureintro; exact h4.read_unread _
    iexact H3
  isplitl [H4 H5 H6 H7 H8 H9 H10]
  · isplitl [H4]
    · iexists _; isplitr
      swap; · iexact H4
      ipureintro
      refine (read_store _ _ hz2 _ _ _).trans ?_
      sl_unfold_words
      simp only [readCov_copy, View.readAt_eq_ld, Memref.IsWhole.read_unread, View.readCov_unit_zero (S := S256x1024) _ hz2, View.readCov_unit_zero (S := S1x1024) _ hz2, View.readCov_unit_zero (S := S4096x1024) _ hz2, View.readCov_unit_zero (S := S1024x1024) _ hz2, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H5]
    · iexists _; isplitr
      swap; · iexact H5
      ipureintro
      refine (read_store _ _ hz2 _ _ _).trans ?_
      sl_unfold_words
      simp only [readCov_copy, View.readAt_eq_ld, Memref.IsWhole.read_unread, View.readCov_unit_zero (S := S256x1024) _ hz2, View.readCov_unit_zero (S := S1x1024) _ hz2, View.readCov_unit_zero (S := S4096x1024) _ hz2, View.readCov_unit_zero (S := S1024x1024) _ hz2, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H6]
    · iexists _; isplitr
      swap; · iexact H6
      ipureintro
      refine (read_store _ _ hz2 _ _ _).trans ?_
      sl_unfold_words
      simp only [readCov_copy, View.readAt_eq_ld, Memref.IsWhole.read_unread, View.readCov_unit_zero (S := S256x1024) _ hz2, View.readCov_unit_zero (S := S1x1024) _ hz2, View.readCov_unit_zero (S := S4096x1024) _ hz2, View.readCov_unit_zero (S := S1024x1024) _ hz2, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H7]
    · iexists _; isplitr
      swap; · iexact H7
      ipureintro
      refine (read_store _ _ hz2 _ _ _).trans ?_
      sl_unfold_words
      simp only [readCov_copy, View.readAt_eq_ld, Memref.IsWhole.read_unread, View.readCov_unit_zero (S := S256x1024) _ hz2, View.readCov_unit_zero (S := S1x1024) _ hz2, View.readCov_unit_zero (S := S4096x1024) _ hz2, View.readCov_unit_zero (S := S1024x1024) _ hz2, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H8]
    · iexists _; isplitr
      swap; · iexact H8
      ipureintro
      refine (read_store _ _ hz2 _ _ _).trans ?_
      sl_unfold_words
      simp only [readCov_copy, View.readAt_eq_ld, Memref.IsWhole.read_unread, View.readCov_unit_zero (S := S256x1024) _ hz2, View.readCov_unit_zero (S := S1x1024) _ hz2, View.readCov_unit_zero (S := S4096x1024) _ hz2, View.readCov_unit_zero (S := S1024x1024) _ hz2, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    isplitl [H9]
    · iexists _; isplitr
      swap; · iexact H9
      ipureintro
      refine (read_store _ _ hz2 _ _ _).trans ?_
      sl_unfold_words
      simp only [readCov_copy, View.readAt_eq_ld, Memref.IsWhole.read_unread, View.readCov_unit_zero (S := S256x1024) _ hz2, View.readCov_unit_zero (S := S1x1024) _ hz2, View.readCov_unit_zero (S := S4096x1024) _ hz2, View.readCov_unit_zero (S := S1024x1024) _ hz2, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
      rfl
    iexists _; isplitr
    swap; · iexact H10
    ipureintro
    refine (read_store _ _ hz2 _ _ _).trans ?_
    sl_unfold_words
    simp only [readCov_copy, View.readAt_eq_ld, Memref.IsWhole.read_unread, View.readCov_unit_zero (S := S256x1024) _ hz2, View.readCov_unit_zero (S := S1x1024) _ hz2, View.readCov_unit_zero (S := S4096x1024) _ hz2, View.readCov_unit_zero (S := S1024x1024) _ hz2, View.ld_unit_zero (S := S256x1024) hz2, View.ld_unit_zero (S := S256x4096) hz2, View.ld_unit_zero (S := S256x256) hz2, View.ld_unit_zero (S := S1x1024) hz2, View.ld_unit_zero (S := S4096x1024) hz2, View.ld_unit_zero (S := S1024x1024) hz2]
    rfl
  isplitl [HS0 HS1 HS2 HS3 HS4]
  · isplitl [HS0]
    · iexists _; isplitr
      swap; · iexact HS0
      ipureintro
      exact (View.read_writes_whole _ _ _).trans rfl
    isplitl [HS1]
    · iexists _; isplitr
      swap; · iexact HS1
      ipureintro
      exact (View.read_writes_whole _ _ _).trans rfl
    isplitl [HS2]
    · iexists _; isplitr
      swap; · iexact HS2
      ipureintro
      exact (View.read_writes_whole _ _ _).trans rfl
    isplitl [HS3]
    · iexists _; isplitr
      swap; · iexact HS3
      ipureintro
      exact (View.read_writes_whole _ _ _).trans rfl
    iexists _; isplitr
    swap; · iexact HS4
    ipureintro
    exact (View.read_writes_whole _ _ _).trans rfl
  isplitl [Hq0 Hq1 Hq2 Hq3 Hq4 Hh0 Hh1 Hh2 Hh3 Hh4]
  · isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [Hh2]; · iexact Hh2
    isplitl [Hh3]; · iexact Hh3
    iexact Hh4
  iexists _; iexact HW

end Cert.KernelIdeal.TailLoss

end
-- ==== Proof.TailLoss.Run.lean ====
/- The loss call run over its grid: what every staging buffer holds after each point, the body's obligation from its
   two triples, the launch, and from it the quiescent frame and the arrays the call leaves. -/
module

public import proofs.«01_k».proof.Proof.TailLoss.BodyA
public import Idealize.ShloMosaic.Lib.Claim

@[expose] public section

set_option maxRecDepth 16384

noncomputable section

namespace Cert.KernelIdeal.TailLoss

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The resident weights, as the host lines before the call leave them. -/
def wOf (c : Dev nD) : Wts F :=
  wtsOf c (V m c main_v4) (V m c main_arg5) (V m c main_v5) (V m c main_arg7) (V m c main_v2)

/-- The input blocks of point `t`. -/
def xOf (c : Dev nD) (t : Fin cfg0.N) : Blk F where
  s := iblk m c 0 t
  h1 := iblk m c 1 t
  p := iblk m c 2 t
  tgt := iblk m c 3 t

/-- The loss columns before point `n`. -/
def lossAcc (c : Dev nD) : ℕ → Vec F S1x1024 .f32
  | 0 => k0_pay7
  | n + 1 => if h : n < cfg0.N then lossB (wOf m c) (xOf m c ⟨n, h⟩) (lossAcc c n) else lossAcc c n

/-- The bias gradient before point `n`. -/
def dbgAcc (c : Dev nD) : ℕ → Vec F S1x1024 .f32
  | 0 => k0_pay8
  | n + 1 => if h : n < cfg0.N then dbgB (wOf m c) (xOf m c ⟨n, h⟩) (dbgAcc c n) else dbgAcc c n

theorem lossAcc_succ (c : Dev nD) (t : Fin cfg0.N) :
    lossAcc m c (t.val + 1) = lossB (wOf m c) (xOf m c t) (lossAcc m c t.val) := by
  rw [lossAcc]; exact dif_pos t.isLt

theorem dbgAcc_succ (c : Dev nD) (t : Fin cfg0.N) :
    dbgAcc m c (t.val + 1) = dbgB (wOf m c) (xOf m c t) (dbgAcc m c t.val) := by
  rw [dbgAcc]; exact dif_pos t.isLt

/-- What the call holds between points, the weights once copied: scratch, register, cells and operands in HBM. -/
def mid (c : Dev nD) : sProp 𝕄 :=
  iprop(wts c scM0_0 scM0_1 scM0_2 scM0_3 scM0_4 (wOf m c) ∗ (∃ r, prngReg c r)
    ∗ held c (V m c main_v4) (V m c main_arg5) (V m c main_v5) (V m c main_arg7) (V m c main_v2))

/-- The invariant: before the first point what the launch hands over, afterwards `mid`. -/
def Inv (c : Dev nD) : ℕ → sProp 𝕄
  | 0 => Pipeline.ΦD osem0 spec0 H0 (V m) c
  | _ + 1 => mid m c

/-- The proof data: the arrays as the region finds them, the inputs at their blocks, the outputs at the block values. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ffB (wOf m c) (xOf m c t)
    | ⟨5, _⟩ => h2bB (wOf m c) (xOf m c t)
    | ⟨6, _⟩ => deB (wOf m c) (xOf m c t)
    | ⟨7, _⟩ => dpreB (wOf m c) (xOf m c t)
    | ⟨8, _⟩ => dh2B (wOf m c) (xOf m c t)
    | ⟨9, _⟩ => lossAcc m c (t.val + 1)
    | ⟨10, _⟩ => dbgAcc m c (t.val + 1)
  Φ t := Inv m c t.val
  q _ := fullShare
  owed _ := 0

theorem A_eq (c : Dev nD) (w) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d

/-- After the first point the loss columns' buffer holds what the point before left. -/
theorem before_9 (c : Dev nD) (t : Fin cfg0.N) (h : t.val ≠ 0) (d) : (dats m 0 c).before 9 t d = lossAcc m c t.val := by
  have hN : t.val < 32 := lt_of_lt_of_eq t.isLt N_0
  rw [Dat.before_out_kept _ 9 rfl t (by omega) (Bool.eq_false_iff.mpr fun h => by have := (flush0_9 _).mp h; dsimp only at this; omega) (fun _ => rfl) (fun _ _ => rfl)]
  dsimp only [dats]
  rw [Nat.sub_add_cancel (by omega)]

theorem before_10 (c : Dev nD) (t : Fin cfg0.N) (h : t.val ≠ 0) (d) : (dats m 0 c).before 10 t d = dbgAcc m c t.val := by
  have hN : t.val < 32 := lt_of_lt_of_eq t.isLt N_0
  rw [Dat.before_out_kept _ 10 rfl t (by omega) (Bool.eq_false_iff.mpr fun h => by have := (flush0_10 _).mp h; dsimp only at this; omega) (fun _ => rfl) (fun _ _ => rfl)]
  dsimp only [dats]
  rw [Nat.sub_add_cancel (by omega)]

/-- The buffers before the body runs at point `t`, and after. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare ((dats m 0 c).before 8 t d)) ∗ (∃ d, owns (c : Thread nD τ) (ms0_9 t) fullShare ((dats m 0 c).before 9 t d))
    ∗ (∃ d, owns (c : Thread nD τ) (ms0_10 t) fullShare ((dats m 0 c).before 10 t d)))

def post (c : Dev nD) (t : Fin cfg0.N) : sProp 𝕄 :=
  iprop(mid m c ∗ (dats m 0 c).owesAt () t.succ
    ∗ owns (c : Thread nD τ) (ms0_0 t) fullShare (xOf m c t).s ∗ owns (c : Thread nD τ) (ms0_1 t) fullShare (xOf m c t).h1
    ∗ owns (c : Thread nD τ) (ms0_2 t) fullShare (xOf m c t).p ∗ owns (c : Thread nD τ) (ms0_3 t) fullShare (xOf m c t).tgt
    ∗ outs c (ms0_4 t) (ms0_5 t) (ms0_6 t) (ms0_7 t) (ms0_8 t) (ms0_9 t) (ms0_10 t) (wOf m c) (xOf m c t) (lossAcc m c t.val) (dbgAcc m c t.val))

/-- What both cases hand back, put together. -/
theorem post_of (c : Dev nD) (t : Fin cfg0.N) :
    iprop(ins c (ms0_0 t) (ms0_1 t) (ms0_2 t) (ms0_3 t) (xOf m c t)
      ∗ outs c (ms0_4 t) (ms0_5 t) (ms0_6 t) (ms0_7 t) (ms0_8 t) (ms0_9 t) (ms0_10 t) (wOf m c) (xOf m c t) (lossAcc m c t.val) (dbgAcc m c t.val)
      ∗ mid m c ∗ (∃ W', owes (c : Thread nD τ) 0 W')) ⊢ post m c t := by
  unfold post ins Dat.owesAt Pipeline.owesWithin
  rw [show (dats m 0 c).owed t.succ = 0 from rfl]
  iintro ⟨⟨H0, H1, H2, H3⟩, Ho, Hm, ⟨%W', HW⟩⟩
  isplitl [Hm]; · iexact Hm
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact Ho

set_option maxHeartbeats 12800000 in
/-- The body at any point. -/
theorem sound (c : Dev nD) (t : Fin cfg0.N) :
    pre m c t ⊢ wp frame (wpE (defs₀ (F := F)) Variants.none c none) Set.univ (bodyAt0 t) (fun _ => post m c t) := by
  have hN : t.val < 32 := lt_of_lt_of_eq t.isLt N_0
  unfold pre bodyAt0
  simp only [before_0, before_1, before_2, before_3]
  unfold Dat.owesAt Pipeline.owesWithin
  rw [show (dats m 0 c).owed t.castSucc = 0 from rfl]
  by_cases h0 : t.val = 0
  · rw [show (dats m 0 c).Φ t.castSucc = Pipeline.ΦD osem0 spec0 H0 (V m) c from by
      show Inv m c t.val = _; rw [h0]; rfl, PhiD0_eq]
    iintro ⟨⟨⟨HS0, HS1, HS2, HS3, HS4⟩, Hg, ⟨Hq0, Hq1, Hq2, Hq3, Hq4⟩, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _)
      ((hcond0_0 t).mpr (by omega)) (V m c main_v4) (V m c main_arg5) (V m c main_v5) (V m c main_arg7) (V m c main_v2) (xOf m c t) W _)
    unfold ins held
    isplitl [H0 H1 H2 H3]
    · isplitl [H0]; · iexact H0
      isplitl [H1]; · iexact H1
      isplitl [H2]; · iexact H2
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [Hq0 Hq1 Hq2 Hq3 Hq4 Hh0 Hh1 Hh2 Hh3 Hh4]
    · isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      isplitl [Hh1]; · iexact Hh1
      isplitl [Hh2]; · iexact Hh2
      isplitl [Hh3]; · iexact Hh3
      iexact Hh4
    isplitl [HW]; · iexact HW
    iintro ⟨Hi, Ho, Hw, Hh, HW⟩
    iapply (post_of m c t)
    unfold ins mid held
    rw [h0]
    isplitl [Hi]; · iexact Hi
    isplitl [Ho]; · iexact Ho
    isplitl [Hw Hg Hh]
    · isplitl [Hw]; · iexact Hw
      isplitl [Hg]; · iexact Hg
      iexact Hh
    iexact HW
  · rw [show (dats m 0 c).Φ t.castSucc = mid m c from by
      show Inv m c t.val = _; obtain ⟨n, hn⟩ := Nat.exists_eq_succ_of_ne_zero h0; rw [hn]; rfl]
    simp only [before_9 m c t h0, before_10 m c t h0]
    unfold mid
    iintro ⟨⟨Hw, Hg, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _)
      (fun h => h0 (by have := (hcond0_0 t).mp h; omega)) (wOf m c) (xOf m c t) (lossAcc m c t.val) (dbgAcc m c t.val) W _)
    unfold ins
    isplitl [H0 H1 H2 H3]
    · isplitl [H0]; · iexact H0
      isplitl [H1]; · iexact H1
      isplitl [H2]; · iexact H2
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexact H9
    isplitl [H10]; · iexact H10
    isplitl [Hw]; · iexact Hw
    isplitl [HW]; · iexact HW
    iintro ⟨Hi, Ho, Hw, HW⟩
    iapply (post_of m c t)
    unfold ins mid
    isplitl [Hi]; · iexact Hi
    isplitl [Ho]; · iexact Ho
    isplitl [Hw Hg Hh]
    · isplitl [Hw]; · iexact Hw
      isplitl [Hg]; · iexact Hg
      iexact Hh
    iexact HW

theorem defs₀_row (t : Fin cfg0.N) : defs₀ (F := F) .tc cfg0.body (cfg0.bodyArgs t (cfg0.slots t)) = bodyAt0 t := by
  unfold defs₀; rw [Defs.onTc_tc]

/-- The post, in the shape the obligation wants. -/
theorem post_eq (c : Dev nD) (t : Fin cfg0.N) :
    post m c t ⊢ iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t)
    ∗ owns (c : Thread nD τ) (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare ((dats m 0 c).after 5 t)
    ∗ owns (c : Thread nD τ) (ms0_6 t) fullShare ((dats m 0 c).after 6 t) ∗ owns (c : Thread nD τ) (ms0_7 t) fullShare ((dats m 0 c).after 7 t)
    ∗ owns (c : Thread nD τ) (ms0_8 t) fullShare ((dats m 0 c).after 8 t) ∗ owns (c : Thread nD τ) (ms0_9 t) fullShare ((dats m 0 c).after 9 t)
    ∗ owns (c : Thread nD τ) (ms0_10 t) fullShare ((dats m 0 c).after 10 t)) := by
  unfold post outs
  rw [show (dats m 0 c).Φ t.succ = mid m c from rfl]
  dsimp only [dats]
  rw [lossAcc_succ, dbgAcc_succ]
  exact .rfl

theorem obligation (c : Dev nD) : BodyObligation (dats (F := F) m 0 c) (defs₀ (F := F)) Variants.none () Set.univ := fun t => by
  rw [bigSep_W0, bigSep_W0, defs₀_row]
  exact triple_restated (sound m c t) rfl .rfl fun _ => post_eq m c t

theorem hin (c : Dev nD) : Pipeline.ΦD osem0 spec0 H0 (V m) c ⊢ (dats m 0 c).Φ 0 := by
  rw [show (dats m 0 c).Φ 0 = Pipeline.ΦD osem0 spec0 H0 (V m) c from rfl]

theorem hout (c : Dev nD) : (dats m 0 c).Φ (Fin.last cfg0.N) ⊢ Pipeline.ΦD osem0 spec0 H0 (V m) c := by
  rw [show (dats m 0 c).Φ (Fin.last cfg0.N) = mid m c from by
    show Inv m c (Fin.last cfg0.N).val = _
    rw [Fin.val_last, show cfg0.N = 31 + 1 from N_0]; rfl, PhiD0_eq]
  unfold mid wts held
  iintro ⟨⟨HS0, HS1, HS2, HS3, HS4⟩, Hg, ⟨Hq0, Hq1, Hq2, Hq3, Hq4, Hh⟩⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  isplitl [Hg]; · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  iexact Hh

set_option backward.isDefEq.respectTransparency.types false in
/-- The launch: every execution ends with the arrays at what the proof data computes, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The call ends with its arguments unchanged and every counter at zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
    ∧ r.2.sem = fun _ => 0) :=
  θ_run_and (frame_of m ρ (dats m) (A_eq m) (run m ρ)) ((θ_run defs _ _).mono (fun _ h => h.2) (run_quiescent m ρ))

end Cert.KernelIdeal.TailLoss

end
-- ==== Proof.TailLoss.Rows.lean ====
/- The loss call's block values at an index, over the reals: each is a function of one row of the inputs and of the
   weights. -/
module

public import proofs.«01_k».proof.Proof.TailLoss.Vals
public import Idealize.ShloMosaic.Lib.Pointwise

@[expose] public section

set_option maxRecDepth 16384

noncomputable section

namespace Cert.KernelIdeal.TailLoss

open Cert.KernelIdeal Cert.KernelIdeal.Gen Idealize.ShloMosaic Idealize.ShloMosaic.TcCoe Idealize.SL.Sem

/-- The weights as functions of their indices. -/
structure RW where
  w2 : Fin 4096 → Fin 1024 → EReal
  gpff : Fin 1024 → EReal
  wg : Fin 1024 → Fin 1024 → EReal
  bg : Fin 1024 → EReal
  wp : Fin 256 → Fin 1024 → EReal

/-- One row of the inputs. -/
structure Row where
  s : Fin 4096 → EReal
  h1 : Fin 1024 → EReal
  p : Fin 256 → EReal
  tgt : Fin 1024 → EReal

/-- 1/1024 -/
abbrev cD : EReal := Ideal.ofBits .f32 0x3A800000#32
/-- The norm's ε. -/
abbrev cE : EReal := Ideal.ofBits .f32 0x358637BD#32

def ffR (w : RW) (x : Row) (l : Fin 1024) : EReal := ∑ k, x.s k * w.w2 k l
def h2R (w : RW) (x : Row) (l : Fin 1024) : EReal :=
  x.h1 l + ffR w x l * Ideal.rsqrt ((∑ k, ffR w x k * ffR w x k) * cD + cE) * w.gpff l
def nlR (w : RW) (x : Row) (l : Fin 1024) : EReal := 0 - ((∑ k, h2R w x k * w.wg k l) + w.bg l)
def gateR (w : RW) (x : Row) (l : Fin 1024) : EReal := Ideal.div 1 (1 + Ideal.exp (nlR w x l))
def eR (w : RW) (x : Row) (l : Fin 1024) : EReal := ∑ k, x.p k * w.wp k l
def diffR (w : RW) (x : Row) (l : Fin 1024) : EReal := h2R w x l + gateR w x l * eR w x l - x.tgt l
def deR (w : RW) (x : Row) (l : Fin 1024) : EReal := diffR w x l * cD * gateR w x l
def dpreR (w : RW) (x : Row) (l : Fin 1024) : EReal := diffR w x l * cD * eR w x l * gateR w x l * (1 - gateR w x l)
def dh2R (w : RW) (x : Row) (l : Fin 1024) : EReal := diffR w x l * cD + ∑ k, dpreR w x k * w.wg l k

/-- The weights read. -/
def rw_ (w : Wts Ideal) : RW where
  w2 k l := w.w2 (ix2 k l)
  gpff l := w.gpff (ix2 0 l)
  wg k l := w.wg (ix2 k l)
  bg l := w.bg (ix2 0 l)
  wp k l := w.wp (ix3 (⟨l.val / 256, by omega⟩ : Fin 4) k (⟨l.val % 256, by omega⟩ : Fin 256))

/-- Row `r` of a block. -/
def row (x : Blk Ideal) (r : Fin 256) : Row where
  s k := x.s (ix2 r k)
  h1 k := x.h1 (ix2 r k)
  p k := x.p (ix2 r k)
  tgt k := x.tgt (ix2 r k)

variable (w : Wts Ideal) (x : Blk Ideal) (r : Fin 256) (l : Fin 1024)

theorem ffB_row : ffB w x (ix2 r l) = ffR (rw_ w) (row x r) l := by
  unfold ffR row rw_
  pointwise [ffB, k0_pay9]

theorem h2B_row : h2B w x (ix2 r l) = h2R (rw_ w) (row x r) l := by
  have h (k) : k0_pay9 x.s w.w2 (ix2 r k) = _ := ffB_row w x r k
  unfold h2R
  pointwise [h2B, k0_pay10]
  simp only [h]; rfl

theorem h2bB_row : h2bB w x (ix2 r l) = h2R (rw_ w) (row x r) l := by
  rw [← h2B_row]
  pointwise [h2bB, k0_pay11, h2B]

theorem nlB_row : nlB w x (ix2 r l) = nlR (rw_ w) (row x r) l := by
  have h (k) : k0_pay11 x.s w.w2 x.h1 w.gpff (ix2 r k) = _ := h2bB_row w x r k
  unfold nlR
  pointwise [nlB, k0_pay12]
  simp only [h]; rfl

theorem gateB_row : gateB w x (ix2 r l) = gateR (rw_ w) (row x r) l := by
  unfold gateR
  rw [← nlB_row]
  pointwise [gateB, k0_pay13]

theorem eB_row : eB w x (ix2 r l) = eR (rw_ w) (row x r) l := by
  have hl := l.isLt
  have hs (k : Fin 4) (a b : Fin 256) : slab w.wp k (ix3 0 a b) = w.wp (ix3 k a b) := by
    unfold slab View.ld
    congr 1
    funext d
    fin_cases d <;> apply Fin.ext <;> simp [Rect.emb, Rect.unit, ix3]
  unfold eR
  pointwise [eB, k0_pay14]
  simp only [hs]
  split_ifs with h0 h1 h2
  all_goals
    refine Finset.sum_congr rfl fun k _ => congrArg _ (congrArg w.wp ?_)
    congr 1 <;> apply Fin.ext <;> simp only [] <;> omega

theorem diffB_row : diffB w x (ix2 r l) = diffR (rw_ w) (row x r) l := by
  unfold diffR
  rw [← h2B_row, ← gateB_row, ← eB_row]
  pointwise [diffB, k0_pay15, gateB, eB]
  rfl

theorem deB_row : deB w x (ix2 r l) = deR (rw_ w) (row x r) l := by
  unfold deR
  rw [← diffB_row, ← gateB_row]
  pointwise [deB, k0_pay2, k0_pay1]

theorem dpre3_row : k0_pay3 (gateB w x) (eB w x) (diffB w x) cN (ix2 r l) = dpreR (rw_ w) (row x r) l := by
  unfold dpreR
  rw [← diffB_row, ← gateB_row, ← eB_row]
  pointwise [k0_pay3, k0_pay1]

theorem dpreB_row : dpreB w x (ix2 r l) = dpreR (rw_ w) (row x r) l := by
  rw [← dpre3_row]
  pointwise [dpreB, k0_pay5]

theorem dh2B_row : dh2B w x (ix2 r l) = dh2R (rw_ w) (row x r) l := by
  have h (k) : k0_pay5 (gateB w x) (eB w x) (diffB w x) cN (ix2 r k) = _ := dpreB_row w x r k
  unfold dh2R
  rw [← diffB_row]
  pointwise [dh2B, k0_pay6, k0_pay1]
  exact congrArg _ (Finset.sum_congr rfl fun k _ => congrArg₂ (· * ·) (h k) rfl)

theorem lossB_row (acc : Vec Ideal S1x1024 .f32) : lossB w x acc (ix2 0 l) = acc (ix2 0 l) + ∑ r, diffR (rw_ w) (row x r) l * diffR (rw_ w) (row x r) l := by
  have h (r) : k0_pay15 (h2B w x) (nlB w x) x.p (slab w.wp 0) (slab w.wp 1) (slab w.wp 2) (slab w.wp 3) x.tgt (ix2 r l) = _ := diffB_row w x r l
  pointwise [lossB, k0_pay16]
  exact congrArg _ (Finset.sum_congr rfl fun r _ => congrArg₂ (· * ·) (h r) (h r))

theorem dbgB_row (acc : Vec Ideal S1x1024 .f32) : dbgB w x acc (ix2 0 l) = acc (ix2 0 l) + ∑ r, dpreR (rw_ w) (row x r) l := by
  have h (r) := dpre3_row w x r l
  pointwise [dbgB, k0_pay4]
  exact congrArg _ (Finset.sum_congr rfl fun r _ => h r)

theorem loss0_row : (k0_pay7 (F := Ideal)) (ix2 0 l) = 0 := by pointwise [k0_pay7]
theorem dbg0_row : (k0_pay8 (F := Ideal)) (ix2 0 l) = 0 := by pointwise [k0_pay8]

end Cert.KernelIdeal.TailLoss

end
-- ==== Proof.TailLoss.Arrays.lean ====
/- From blocks to arrays: what the windows read, and what the call's result arrays hold at an index, over the reals. -/
module

public import proofs.«01_k».proof.Proof.TailLoss.Run
public import proofs.«01_k».proof.Proof.TailLoss.Rows

@[expose] public section

set_option maxRecDepth 16384

noncomputable section

namespace Cert.KernelIdeal.TailLoss

open Cert.KernelIdeal Cert.KernelIdeal.Gen Idealize.ShloMosaic Idealize.ShloMosaic.TcCoe Idealize.SL.Sem
open Idealize.ShloMosaic.Pipeline (Dat)

/-- Row `r` of block `t`, in the array. -/
def at_ (t : Fin cfg0.N) (r : Fin 256) : Fin 8192 := ⟨256 * t.val + r.val, by have := t.isLt; have : cfg0.N = 32 := N_0; omega⟩

theorem idx0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = 0 ∧ win0_9.index t 1 = 0)
    ∧ (win0_10.index t 0 = 0 ∧ win0_10.index t 1 = 0) := by decide +kernel

variable {F : FTy → Type} [FloatOps F]

/-- An index of rank two from its coordinates. -/
theorem ix2_of {n k : ℕ} (j : (⟨2, ![n, k]⟩ : Shape).Idx) (r : Fin n) (l : Fin k) (h0 : (j 0).val = r.val) (h1 : (j 1).val = l.val) :
    j = ix2 r l := by
  funext a
  fin_cases a
  · exact Fin.ext h0
  · exact Fin.ext h1

/-- The block that holds row `n`. -/
def pt (n : ℕ) (h : n < 8192) : Fin cfg0.N := ⟨n / 256, by rw [show cfg0.N = 32 from N_0]; omega⟩

/-- The last block. -/
def lastPt : Fin cfg0.N := pt 8191 (by omega)

variable (m : (ℓ : Loc nD τ sig) → Buf (Elt F) ℓ)

theorem iblk_0 (c : Dev nD) (t : Fin cfg0.N) (r : Fin 256) (l : Fin 4096) :
    (xOf m c t).s (ix2 r l) = (V m c main_v3 : FVec F S8192x4096 .bf16) (ix2 (at_ t r) l) :=
  congrArg (V m c main_v3 : FVec F S8192x4096 .bf16) (ix2_of _ (at_ t r) l
    (by show win0_0.index t 0 * 256 + 1 * r.val = 256 * t.val + r.val; rw [(idx0 t).1.1]; omega)
    (by show win0_0.index t 1 * 4096 + 1 * l.val = l.val; rw [(idx0 t).1.2]; omega))

theorem iblk_1 (c : Dev nD) (t : Fin cfg0.N) (r : Fin 256) (l : Fin 1024) :
    (xOf m c t).h1 (ix2 r l) = (V m c main_arg1 : FVec F S8192x1024 .f32) (ix2 (at_ t r) l) :=
  congrArg (V m c main_arg1 : FVec F S8192x1024 .f32) (ix2_of _ (at_ t r) l
    (by show win0_1.index t 0 * 256 + 1 * r.val = 256 * t.val + r.val; rw [(idx0 t).2.1.1]; omega)
    (by show win0_1.index t 1 * 1024 + 1 * l.val = l.val; rw [(idx0 t).2.1.2]; omega))

theorem iblk_2 (c : Dev nD) (t : Fin cfg0.N) (r : Fin 256) (l : Fin 256) :
    (xOf m c t).p (ix2 r l) = (V m c main_arg2 : FVec F S8192x256 .f32) (ix2 (at_ t r) l) :=
  congrArg (V m c main_arg2 : FVec F S8192x256 .f32) (ix2_of _ (at_ t r) l
    (by show win0_2.index t 0 * 256 + 1 * r.val = 256 * t.val + r.val; rw [(idx0 t).2.2.1.1]; omega)
    (by show win0_2.index t 1 * 256 + 1 * l.val = l.val; rw [(idx0 t).2.2.1.2]; omega))

theorem iblk_3 (c : Dev nD) (t : Fin cfg0.N) (r : Fin 256) (l : Fin 1024) :
    (xOf m c t).tgt (ix2 r l) = (V m c main_arg3 : FVec F S8192x1024 .f32) (ix2 (at_ t r) l) :=
  congrArg (V m c main_arg3 : FVec F S8192x1024 .f32) (ix2_of _ (at_ t r) l
    (by show win0_3.index t 0 * 256 + 1 * r.val = 256 * t.val + r.val; rw [(idx0 t).2.2.2.1.1]; omega)
    (by show win0_3.index t 1 * 1024 + 1 * l.val = l.val; rw [(idx0 t).2.2.2.1.2]; omega))

/-- Where a row-block window covers its array, at offsets given by `o`. -/
theorem cover_rows (o : Fin cfg0.N → Fin 2 → ℕ) (ho : ∀ t, o t 0 = t.val ∧ o t 1 = 0) (a0 a1 : ℕ) (h0 : a0 < 8192) (h1 : a1 < 1024) :
    (o (pt a0 h0) 0 * 256 ≤ a0 ∧ a0 < o (pt a0 h0) 0 * 256 + 256) ∧ (o (pt a0 h0) 1 * 1024 ≤ a1 ∧ a1 < o (pt a0 h0) 1 * 1024 + 1024) := by
  rw [(ho _).1, (ho _).2]; simp only [pt]; omega

/-- The array of the feed-forward output, from its blocks. -/
theorem arr_4 (c : Dev nD) (G : FVec F S8192x1024 .f32)
    (h : ∀ (t : Fin cfg0.N) (r : Fin 256) (l : Fin 1024), ffB (wOf m c) (xOf m c t) (ix2 r l) = G (ix2 (at_ t r) l)) : (dats m 0 c).arrAt 4 cfg0.N = G := by
  have ho := fun t => (idx0 t).2.2.2.2.1
  refine (dats m 0 c).arrAt_eq_of_cover 4 G (fun t _ => ?_) fun j => ⟨pt _ (j 0).isLt, flush0_4 _, ?_⟩
  · funext j
    idx_vars j
    exact (h t j0 j1).trans (congrArg G (ix2_of _ (at_ t j0) j1
      (by show win0_4.index t 0 * 256 + 1 * j0.val = 256 * t.val + j0.val; rw [(ho t).1]; omega)
      (by show win0_4.index t 1 * 1024 + 1 * j1.val = j1.val; rw [(ho t).2]; omega)).symm)
  · show j ∈ ((View.whole main_v6_0).slice (win0_4.rect (pt _ (j 0).isLt))).set
    rw [View.set_slice_whole, Rect.mem_set_unit]
    have := cover_rows (fun t => win0_4.index t) ho _ _ (j 0).isLt (j 1).isLt
    intro a
    fin_cases a
    · exact this.1
    · exact this.2

/-- The array of the hidden state after it, from its blocks. -/
theorem arr_5 (c : Dev nD) (G : FVec F S8192x1024 .bf16)
    (h : ∀ (t : Fin cfg0.N) (r : Fin 256) (l : Fin 1024), h2bB (wOf m c) (xOf m c t) (ix2 r l) = G (ix2 (at_ t r) l)) : (dats m 0 c).arrAt 5 cfg0.N = G := by
  have ho := fun t => (idx0 t).2.2.2.2.2.1
  refine (dats m 0 c).arrAt_eq_of_cover 5 G (fun t _ => ?_) fun j => ⟨pt _ (j 0).isLt, flush0_5 _, ?_⟩
  · funext j
    idx_vars j
    exact (h t j0 j1).trans (congrArg G (ix2_of _ (at_ t j0) j1
      (by show win0_5.index t 0 * 256 + 1 * j0.val = 256 * t.val + j0.val; rw [(ho t).1]; omega)
      (by show win0_5.index t 1 * 1024 + 1 * j1.val = j1.val; rw [(ho t).2]; omega)).symm)
  · show j ∈ ((View.whole main_v6_1).slice (win0_5.rect (pt _ (j 0).isLt))).set
    rw [View.set_slice_whole, Rect.mem_set_unit]
    have := cover_rows (fun t => win0_5.index t) ho _ _ (j 0).isLt (j 1).isLt
    intro a
    fin_cases a
    · exact this.1
    · exact this.2

/-- The array of the gradient of the embedding, from its blocks. -/
theorem arr_6 (c : Dev nD) (G : FVec F S8192x1024 .bf16)
    (h : ∀ (t : Fin cfg0.N) (r : Fin 256) (l : Fin 1024), deB (wOf m c) (xOf m c t) (ix2 r l) = G (ix2 (at_ t r) l)) : (dats m 0 c).arrAt 6 cfg0.N = G := by
  have ho := fun t => (idx0 t).2.2.2.2.2.2.1
  refine (dats m 0 c).arrAt_eq_of_cover 6 G (fun t _ => ?_) fun j => ⟨pt _ (j 0).isLt, flush0_6 _, ?_⟩
  · funext j
    idx_vars j
    exact (h t j0 j1).trans (congrArg G (ix2_of _ (at_ t j0) j1
      (by show win0_6.index t 0 * 256 + 1 * j0.val = 256 * t.val + j0.val; rw [(ho t).1]; omega)
      (by show win0_6.index t 1 * 1024 + 1 * j1.val = j1.val; rw [(ho t).2]; omega)).symm)
  · show j ∈ ((View.whole main_v6_2).slice (win0_6.rect (pt _ (j 0).isLt))).set
    rw [View.set_slice_whole, Rect.mem_set_unit]
    have := cover_rows (fun t => win0_6.index t) ho _ _ (j 0).isLt (j 1).isLt
    intro a
    fin_cases a
    · exact this.1
    · exact this.2

/-- The array of the gradient of the gate's argument, from its blocks. -/
theorem arr_7 (c : Dev nD) (G : FVec F S8192x1024 .bf16)
    (h : ∀ (t : Fin cfg0.N) (r : Fin 256) (l : Fin 1024), dpreB (wOf m c) (xOf m c t) (ix2 r l) = G (ix2 (at_ t r) l)) : (dats m 0 c).arrAt 7 cfg0.N = G := by
  have ho := fun t => (idx0 t).2.2.2.2.2.2.2.1
  refine (dats m 0 c).arrAt_eq_of_cover 7 G (fun t _ => ?_) fun j => ⟨pt _ (j 0).isLt, flush0_7 _, ?_⟩
  · funext j
    idx_vars j
    exact (h t j0 j1).trans (congrArg G (ix2_of _ (at_ t j0) j1
      (by show win0_7.index t 0 * 256 + 1 * j0.val = 256 * t.val + j0.val; rw [(ho t).1]; omega)
      (by show win0_7.index t 1 * 1024 + 1 * j1.val = j1.val; rw [(ho t).2]; omega)).symm)
  · show j ∈ ((View.whole main_v6_3).slice (win0_7.rect (pt _ (j 0).isLt))).set
    rw [View.set_slice_whole, Rect.mem_set_unit]
    have := cover_rows (fun t => win0_7.index t) ho _ _ (j 0).isLt (j 1).isLt
    intro a
    fin_cases a
    · exact this.1
    · exact this.2

/-- The array of the gradient of the hidden state, from its blocks. -/
theorem arr_8 (c : Dev nD) (G : FVec F S8192x1024 .f32)
    (h : ∀ (t : Fin cfg0.N) (r : Fin 256) (l : Fin 1024), dh2B (wOf m c) (xOf m c t) (ix2 r l) = G (ix2 (at_ t r) l)) : (dats m 0 c).arrAt 8 cfg0.N = G := by
  have ho := fun t => (idx0 t).2.2.2.2.2.2.2.2.1
  refine (dats m 0 c).arrAt_eq_of_cover 8 G (fun t _ => ?_) fun j => ⟨pt _ (j 0).isLt, flush0_8 _, ?_⟩
  · funext j
    idx_vars j
    exact (h t j0 j1).trans (congrArg G (ix2_of _ (at_ t j0) j1
      (by show win0_8.index t 0 * 256 + 1 * j0.val = 256 * t.val + j0.val; rw [(ho t).1]; omega)
      (by show win0_8.index t 1 * 1024 + 1 * j1.val = j1.val; rw [(ho t).2]; omega)).symm)
  · show j ∈ ((View.whole main_v6_4).slice (win0_8.rect (pt _ (j 0).isLt))).set
    rw [View.set_slice_whole, Rect.mem_set_unit]
    have := cover_rows (fun t => win0_8.index t) ho _ _ (j 0).isLt (j 1).isLt
    intro a
    fin_cases a
    · exact this.1
    · exact this.2

/-- The accumulated loss columns are flushed once, after the last block. -/
theorem arr_9 (c : Dev nD) : (dats m 0 c).arrAt 9 cfg0.N = (lossAcc m c 32 : FVec F S1x1024 .f32) := by
  have ho := fun t => (idx0 t).2.2.2.2.2.2.2.2.2.1
  refine (dats m 0 c).arrAt_eq_of_cover 9 _ (fun t ht => ?_) fun j => ⟨lastPt, (flush0_9 _).mpr rfl, ?_⟩
  · have h31 : t.val + 1 = 32 := by have := (flush0_9 t).mp ht; have := t.isLt; have : cfg0.N = 32 := N_0; omega
    funext j
    idx_vars j
    refine (show (dats m 0 c).flushed 9 t (ix2 j0 j1) = (lossAcc m c (t.val + 1) : FVec F S1x1024 .f32) (ix2 j0 j1) from rfl).trans ?_
    rw [h31]
    exact (congrArg (lossAcc m c 32 : FVec F S1x1024 .f32) (ix2_of _ j0 j1
      (by show win0_9.index t 0 * 1 + 1 * j0.val = j0.val; rw [(ho t).1]; omega)
      (by show win0_9.index t 1 * 1024 + 1 * j1.val = j1.val; rw [(ho t).2]; omega))).symm
  · show j ∈ ((View.whole main_v6_5).slice (win0_9.rect lastPt)).set
    rw [View.set_slice_whole, Rect.mem_set_unit]
    intro a
    fin_cases a
    · show win0_9.index _ 0 * 1 ≤ (j 0).val ∧ (j 0).val < win0_9.index _ 0 * 1 + 1
      have : (j 0).val < 1 := (j 0).isLt; rw [(ho _).1]; omega
    · show win0_9.index _ 1 * 1024 ≤ (j 1).val ∧ (j 1).val < win0_9.index _ 1 * 1024 + 1024
      have : (j 1).val < 1024 := (j 1).isLt; rw [(ho _).2]; omega

/-- The accumulated bias gradient is flushed once, after the last block. -/
theorem arr_10 (c : Dev nD) : (dats m 0 c).arrAt 10 cfg0.N = (dbgAcc m c 32 : FVec F S1x1024 .f32) := by
  have ho := fun t => (idx0 t).2.2.2.2.2.2.2.2.2.2
  refine (dats m 0 c).arrAt_eq_of_cover 10 _ (fun t ht => ?_) fun j => ⟨lastPt, (flush0_10 _).mpr rfl, ?_⟩
  · have h31 : t.val + 1 = 32 := by have := (flush0_10 t).mp ht; have := t.isLt; have : cfg0.N = 32 := N_0; omega
    funext j
    idx_vars j
    refine (show (dats m 0 c).flushed 10 t (ix2 j0 j1) = (dbgAcc m c (t.val + 1) : FVec F S1x1024 .f32) (ix2 j0 j1) from rfl).trans ?_
    rw [h31]
    exact (congrArg (dbgAcc m c 32 : FVec F S1x1024 .f32) (ix2_of _ j0 j1
      (by show win0_10.index t 0 * 1 + 1 * j0.val = j0.val; rw [(ho t).1]; omega)
      (by show win0_10.index t 1 * 1024 + 1 * j1.val = j1.val; rw [(ho t).2]; omega))).symm
  · show j ∈ ((View.whole main_v6_6).slice (win0_10.rect lastPt)).set
    rw [View.set_slice_whole, Rect.mem_set_unit]
    intro a
    fin_cases a
    · show win0_10.index _ 0 * 1 ≤ (j 0).val ∧ (j 0).val < win0_10.index _ 0 * 1 + 1
      have : (j 0).val < 1 := (j 0).isLt; rw [(ho _).1]; omega
    · show win0_10.index _ 1 * 1024 ≤ (j 1).val ∧ (j 1).val < win0_10.index _ 1 * 1024 + 1024
      have : (j 1).val < 1024 := (j 1).isLt; rw [(ho _).2]; omega

/-- What is added up block by block is the sum over all rows. -/
theorem acc_sum (a : ℕ → EReal) (g : Fin 8192 → EReal) (h0 : a 0 = 0)
    (hs : ∀ t : Fin cfg0.N, a (t.val + 1) = a t.val + ∑ r : Fin 256, g (at_ t r)) : a 32 = ∑ R, g R := by
  let g' : ℕ → EReal := fun R => if h : R < 8192 then g ⟨R, h⟩ else 0
  have key : ∀ n, n ≤ 32 → a n = ∑ R ∈ Finset.range (256 * n), g' R := by
    intro n
    induction n with
    | zero => intro _; simp [h0]
    | succ n ih =>
      intro hn
      have hN : cfg0.N = 32 := N_0
      rw [hs ⟨n, by omega⟩, ih (by omega), show 256 * (n + 1) = 256 * n + 256 by ring, Finset.sum_range_add, Finset.sum_range (n := 256)]
      congr 1
      refine Finset.sum_congr rfl fun r _ => ?_
      have hr : 256 * n + r.val < 8192 := by have := r.isLt; omega
      simp only [g', dif_pos hr]
      rfl
  rw [key 32 le_rfl, Finset.sum_range (n := 8192)]
  exact Finset.sum_congr rfl fun r _ => by simp only [g', dif_pos r.isLt]

theorem V_main_v2 (c : Dev nD) : V m c main_v2 = transpose S4x256x256 [1, 0, 2]
    (shapeCast S256x4x256 (truncf .bf16 (m ((c : Thread nD τ).loc main_arg8) : FVec F S256x1024 .f32) bitsLt_bf16_f32) shapeCasts_S256x1024_S256x4x256) transposes_S256x4x256_S4x256x256_1_0_2 := by
  unfold_abbrev_sides; after_results; rfl
theorem V_main_v3 (c : Dev nD) : V m c main_v3 = truncf .bf16 (m ((c : Thread nD τ).loc main_arg0) : FVec F S8192x4096 .f32) bitsLt_bf16_f32 := by
  unfold_abbrev_sides; after_results
theorem V_main_v4 (c : Dev nD) : V m c main_v4 = truncf .bf16 (m ((c : Thread nD τ).loc main_arg4) : FVec F S4096x1024 .f32) bitsLt_bf16_f32 := by
  unfold_abbrev_sides; after_results
theorem V_main_v5 (c : Dev nD) : V m c main_v5 = truncf .bf16 (m ((c : Thread nD τ).loc main_arg6) : FVec F S1024x1024 .f32) bitsLt_bf16_f32 := by
  unfold_abbrev_sides; after_results

end Cert.KernelIdeal.TailLoss

end
-- ==== Proof.TailLoss.Ref.lean ====
/- The reference's values at an index, over the reals: the same functions of one row of the inputs and of the weights. -/
module

public import proofs.«01_k».proof.Proof.TailLoss.Rows
public import proofs.«01_k».proof.Proof.Gen.ReferenceIdeal.Read

@[expose] public section

set_option maxRecDepth 16384

noncomputable section

namespace Cert.ReferenceIdeal.TailLoss

open Cert.ReferenceIdeal Cert.ReferenceIdeal.Gen Cert.ReferenceIdeal.Read Idealize.ShloMosaic Idealize.ShloMosaic.TcCoe Idealize.SL.Sem
open Cert.KernelIdeal.TailLoss (RW Row ffR h2R nlR gateR eR diffR deR dpreR dh2R cD cE)

theorem c1024 : Ideal.ofBits .f32 0x44800000#32 = ((1024 : ℝ) : EReal) := by
  simp [Ideal.ofBits, Ideal.ieee]; norm_num; rw [← EReal.coe_mul]; norm_num
theorem cD_eq : cD = ((1 / 1024 : ℝ) : EReal) := by
  simp [cD, Ideal.ofBits, Ideal.ieee]; norm_num; rw [← EReal.coe_mul]; norm_num
theorem chalf : Ideal.ofBits .f32 0x3F000000#32 = ((1 / 2 : ℝ) : EReal) := by
  simp [Ideal.ofBits, Ideal.ieee]; norm_num; rw [← EReal.coe_mul]; norm_num
theorem ctwo : Ideal.ofBits .f32 0x40000000#32 = ((2 : ℝ) : EReal) := by
  simp [Ideal.ofBits, Ideal.ieee]; norm_num; rw [← EReal.coe_mul]; norm_num

/-- A mean over 1024 is a sum times 1/1024. -/
theorem div1024 (x : EReal) : Ideal.div x (Ideal.ofBits .f32 0x44800000#32) = x * cD := by
  rw [c1024, cD_eq, Ideal.div_coe (by norm_num)]

variable (x0 : FVec Ideal S8192x4096 .f32) (x1 : FVec Ideal S8192x1024 .f32) (x2 : FVec Ideal S8192x256 .f32)
  (x3 : FVec Ideal S8192x1024 .f32) (x4 : FVec Ideal S4096x1024 .f32) (x5 : FVec Ideal S1x1024 .f32)
  (x6 : FVec Ideal S1024x1024 .f32) (x7 : FVec Ideal S1x1024 .f32) (x8 : FVec Ideal S256x1024 .f32)

/-- The weights read. -/
def rw_ : RW where
  w2 k l := x4 (ix2 k l)
  gpff l := x5 (ix2 0 l)
  wg k l := x6 (ix2 k l)
  bg l := x7 (ix2 0 l)
  wp k l := x8 (ix2 k l)

/-- Row `r` of the arrays. -/
def row (r : Fin 8192) : Row where
  s k := x0 (ix2 r k)
  h1 k := x1 (ix2 r k)
  p k := x2 (ix2 r k)
  tgt k := x3 (ix2 r k)

variable (r : Fin 8192) (l : Fin 1024)

theorem ff_row : val_main_v0 (F := Ideal) x0 x4 (ix2 r l) = ffR (rw_ x4 x5 x6 x7 x8) (row x0 x1 x2 x3 r) l := by
  unfold ffR row rw_
  pointwise [val_main_v0]

theorem h2_row : val_main_v13 (F := Ideal) x0 x1 x4 x5 (ix2 r l) = h2R (rw_ x4 x5 x6 x7 x8) (row x0 x1 x2 x3 r) l := by
  have h (k) := ff_row x0 x1 x2 x3 x4 x5 x6 x7 x8 r k
  unfold h2R
  pointwise [val_main_v13, val_main_v12, val_main_v11, val_main_v10, val_main_v9, val_main_v8, val_main_v7, val_main_v6, val_main_cst_1, val_main_v5, val_main_v4, val_main_cst_0, val_main_v3, val_main_v2, val_main_cst, val_main_v1]
  simp only [h, div1024]; rfl

theorem gate_row : val_main_v26 (F := Ideal) x0 x1 x4 x5 x6 x7 (ix2 r l) = gateR (rw_ x4 x5 x6 x7 x8) (row x0 x1 x2 x3 r) l := by
  have h (k) := h2_row x0 x1 x2 x3 x4 x5 x6 x7 x8 r k
  unfold gateR nlR
  pointwise [val_main_v26, val_main_v25, val_main_v24, val_main_v23, val_main_v22, val_main_v21, val_main_v20, val_main_v19, val_main_v18, val_main_v17, val_main_v14, val_main_cst_2, val_main_cst_3, val_main_cst_4]
  simp only [h, zero_sub]; rfl

theorem e_row : val_main_v16 (F := Ideal) x2 x8 (ix2 r l) = eR (rw_ x4 x5 x6 x7 x8) (row x0 x1 x2 x3 r) l := by
  unfold eR row rw_
  pointwise [val_main_v16, val_main_v15, val_main_v14, val_main_cst_2]

theorem diff_row : val_main_v32 (F := Ideal) x0 x1 x2 x3 x4 x5 x6 x7 x8 (ix2 r l) = diffR (rw_ x4 x5 x6 x7 x8) (row x0 x1 x2 x3 r) l := by
  unfold diffR
  rw [← h2_row, ← gate_row, ← e_row]
  pointwise [val_main_v32, val_main_v31, val_main_v30]
  rfl

theorem dh3_row : val_main_v48 (F := Ideal) x0 x1 x2 x3 x4 x5 x6 x7 x8 (ix2 r l) = diffR (rw_ x4 x5 x6 x7 x8) (row x0 x1 x2 x3 r) l * cD := by
  rw [← diff_row]
  pointwise [val_main_v48, val_main_v47, val_main_v46, val_main_v45, val_main_v44, val_main_v43, val_main_v35, val_main_v34, val_main_cst_12, val_main_cst_13, val_main_cst_14, val_main_cst_6]
  rw [div1024, chalf, ctwo, cD_eq, ← mul_assoc, ← EReal.coe_mul, ← EReal.coe_mul, mul_comm]
  norm_num

theorem de_row : val_main_v57 (F := Ideal) x0 x1 x2 x3 x4 x5 x6 x7 x8 (ix2 r l) = deR (rw_ x4 x5 x6 x7 x8) (row x0 x1 x2 x3 r) l := by
  unfold deR
  rw [← dh3_row, ← gate_row]
  pointwise [val_main_v57, val_main_v49]
  exact mul_comm _ _

theorem dpre3_row : val_main_v51 (F := Ideal) x0 x1 x2 x3 x4 x5 x6 x7 x8 (ix2 r l) = dpreR (rw_ x4 x5 x6 x7 x8) (row x0 x1 x2 x3 r) l := by
  unfold dpreR
  rw [← dh3_row, ← gate_row, ← e_row]
  pointwise [val_main_v51, val_main_v50, val_main_v29, val_main_v28, val_main_v27, val_main_cst_5]
  exact (mul_assoc _ _ _).symm

theorem dh2_row : val_main_v55 (F := Ideal) x0 x1 x2 x3 x4 x5 x6 x7 x8 (ix2 r l) = dh2R (rw_ x4 x5 x6 x7 x8) (row x0 x1 x2 x3 r) l := by
  have h (k) := dpre3_row x0 x1 x2 x3 x4 x5 x6 x7 x8 r k
  unfold dh2R
  rw [← dh3_row]
  pointwise [val_main_v55, val_main_v54]
  exact congrArg _ (Finset.sum_congr rfl fun k _ => congrArg₂ (· * ·) (h k) rfl)

theorem cols_row : val_main_v42 (F := Ideal) x0 x1 x2 x3 x4 x5 x6 x7 x8 (ix2 0 l) = ∑ r, diffR (rw_ x4 x5 x6 x7 x8) (row x0 x1 x2 x3 r) l * diffR (rw_ x4 x5 x6 x7 x8) (row x0 x1 x2 x3 r) l := by
  have h (r) := diff_row x0 x1 x2 x3 x4 x5 x6 x7 x8 r l
  pointwise [val_main_v42, val_main_v41, val_main_v33, val_main_cst_11]
  exact (Finset.sum_congr rfl fun k _ => congrArg₂ (· * ·) (h k) (h k))

theorem dbg_row : val_main_v53 (F := Ideal) x0 x1 x2 x3 x4 x5 x6 x7 x8 (ix2 0 l) = ∑ r, dpreR (rw_ x4 x5 x6 x7 x8) (row x0 x1 x2 x3 r) l := by
  have h (r) := dpre3_row x0 x1 x2 x3 x4 x5 x6 x7 x8 r l
  pointwise [val_main_v53, val_main_v52, val_main_cst_15]
  exact (Finset.sum_congr rfl fun k _ => h k)

end Cert.ReferenceIdeal.TailLoss

end
-- ==== Proof.TailLoss.Claim.lean ====
/- The loss call's results are the reference's: block by block the same functions of one row, and the two sums over all
   rows added up block by block. -/
module

public import proofs.«01_k».proof.Proof.TailLoss.Arrays
public import proofs.«01_k».proof.Proof.TailLoss.Ref

@[expose] public section

set_option maxRecDepth 16384

noncomputable section

namespace Cert.KernelIdeal.TailLoss

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (c : Dev nD)

abbrev A0 : FVec Ideal S8192x4096 .f32 := m ((c : Thread nD τ).loc main_arg0)
abbrev A1 : FVec Ideal S8192x1024 .f32 := m ((c : Thread nD τ).loc main_arg1)
abbrev A2 : FVec Ideal S8192x256 .f32 := m ((c : Thread nD τ).loc main_arg2)
abbrev A3 : FVec Ideal S8192x1024 .f32 := m ((c : Thread nD τ).loc main_arg3)
abbrev A4 : FVec Ideal S4096x1024 .f32 := m ((c : Thread nD τ).loc main_arg4)
abbrev A5 : FVec Ideal S1x1024 .f32 := m ((c : Thread nD τ).loc main_arg5)
abbrev A6 : FVec Ideal S1024x1024 .f32 := m ((c : Thread nD τ).loc main_arg6)
abbrev A7 : FVec Ideal S1x1024 .f32 := m ((c : Thread nD τ).loc main_arg7)
abbrev A8 : FVec Ideal S256x1024 .f32 := m ((c : Thread nD τ).loc main_arg8)

/-- Row `r` of block `t` is row `256 t + r` of the arguments. -/
theorem row_eq (t : Fin cfg0.N) (r : Fin 256) :
    row (xOf m c t) r = Cert.ReferenceIdeal.TailLoss.row (A0 m c) (A1 m c) (A2 m c) (A3 m c) (at_ t r) := by
  unfold row Cert.ReferenceIdeal.TailLoss.row
  congr 1
  · funext k; rw [iblk_0, V_main_v3]; rfl
  · funext k; rw [iblk_1, V_main_arg1]
  · funext k; rw [iblk_2, V_main_arg2]
  · funext k; rw [iblk_3, V_main_arg3]

/-- The embedding weights in four slabs are the weights themselves, read by columns. -/
theorem slabs_eq (k : Fin 256) (l : Fin 1024) :
    (V m c main_v2 : FVec Ideal S4x256x256 .bf16) (ix3 (⟨l.val / 256, by omega⟩ : Fin 4) k (⟨l.val % 256, by omega⟩ : Fin 256))
      = A8 m c (ix2 k l) := by
  rw [V_main_v2]
  pointwise []

/-- The weights the call reads are the arguments'. -/
theorem rw_eq : rw_ (wOf m c) = Cert.ReferenceIdeal.TailLoss.rw_ (A4 m c) (A5 m c) (A6 m c) (A7 m c) (A8 m c) := by
  unfold rw_ Cert.ReferenceIdeal.TailLoss.rw_ wOf wtsOf
  rw [RW.mk.injEq]
  exact ⟨funext fun k => funext fun l => congrFun (V_main_v4 m c) (ix2 k l), funext fun l => congrFun (V_main_arg5 m c) (ix2 0 l),
    funext fun k => funext fun l => congrFun (V_main_v5 m c) (ix2 k l), funext fun l => congrFun (V_main_arg7 m c) (ix2 0 l),
    funext fun k => funext fun l => slabs_eq m c k l⟩

open Cert.ReferenceIdeal.TailLoss in
theorem out_0 : (dats m 0 c).arrAt 4 cfg0.N = val_main_v0 (F := Ideal) (A0 m c) (A4 m c) :=
  arr_4 m c _ fun t r l => by
    rw [ffB_row, row_eq, rw_eq]; exact (ff_row _ _ _ _ _ _ _ _ _ _ l).symm

open Cert.ReferenceIdeal.TailLoss in
theorem out_1 : (dats m 0 c).arrAt 5 cfg0.N = val_main_v56 (F := Ideal) (A0 m c) (A1 m c) (A4 m c) (A5 m c) :=
  arr_5 m c _ fun t r l => by
    rw [h2bB_row, row_eq, rw_eq]; exact (h2_row _ _ _ _ _ _ _ _ _ _ l).symm

open Cert.ReferenceIdeal.TailLoss in
theorem out_2 : (dats m 0 c).arrAt 6 cfg0.N
    = val_main_v57 (F := Ideal) (A0 m c) (A1 m c) (A2 m c) (A3 m c) (A4 m c) (A5 m c) (A6 m c) (A7 m c) (A8 m c) :=
  arr_6 m c _ fun t r l => by
    rw [deB_row, row_eq, rw_eq]; exact (de_row _ _ _ _ _ _ _ _ _ _ l).symm

open Cert.ReferenceIdeal.TailLoss in
theorem out_3 : (dats m 0 c).arrAt 7 cfg0.N
    = val_main_v58 (F := Ideal) (A0 m c) (A1 m c) (A2 m c) (A3 m c) (A4 m c) (A5 m c) (A6 m c) (A7 m c) (A8 m c) :=
  arr_7 m c _ fun t r l => by
    rw [dpreB_row, row_eq, rw_eq]; exact (Cert.ReferenceIdeal.TailLoss.dpre3_row _ _ _ _ _ _ _ _ _ _ l).symm

open Cert.ReferenceIdeal.TailLoss in
theorem out_4 : (dats m 0 c).arrAt 8 cfg0.N
    = val_main_v55 (F := Ideal) (A0 m c) (A1 m c) (A2 m c) (A3 m c) (A4 m c) (A5 m c) (A6 m c) (A7 m c) (A8 m c) :=
  arr_8 m c _ fun t r l => by
    rw [dh2B_row, row_eq, rw_eq]; exact (dh2_row _ _ _ _ _ _ _ _ _ _ l).symm

open Cert.ReferenceIdeal.TailLoss in
theorem out_5 : (dats m 0 c).arrAt 9 cfg0.N
    = val_main_v42 (F := Ideal) (A0 m c) (A1 m c) (A2 m c) (A3 m c) (A4 m c) (A5 m c) (A6 m c) (A7 m c) (A8 m c) := by
  refine (arr_9 m c).trans ?_
  funext j
  idx_vars j
  obtain rfl : j0 = 0 := Subsingleton.elim _ _
  rw [cols_row]
  exact acc_sum (fun n => lossAcc m c n (ix2 0 j1)) _ (loss0_row j1) fun t => by
    show lossAcc m c (t.val + 1) (ix2 0 j1) = _
    rw [lossAcc_succ, lossB_row]
    simp only [row_eq, rw_eq]

open Cert.ReferenceIdeal.TailLoss in
theorem out_6 : (dats m 0 c).arrAt 10 cfg0.N
    = val_main_v53 (F := Ideal) (A0 m c) (A1 m c) (A2 m c) (A3 m c) (A4 m c) (A5 m c) (A6 m c) (A7 m c) (A8 m c) := by
  refine (arr_10 m c).trans ?_
  funext j
  idx_vars j
  obtain rfl : j0 = 0 := Subsingleton.elim _ _
  rw [dbg_row]
  exact acc_sum (fun n => dbgAcc m c n (ix2 0 j1)) _ (dbg0_row j1) fun t => by
    show dbgAcc m c (t.val + 1) (ix2 0 j1) = _
    rw [dbgAcc_succ, dbgB_row]
    simp only [row_eq, rw_eq]

end Cert.KernelIdeal.TailLoss

end
-- ==== Proof.TailBwd.Vals.lean ====
/- What the tail's backward call computes of one block of 256 rows: the block values as functions of the rows' inputs and
   of the weights that stay in VMEM, spelt by the kernel's own operations. -/
module

public import proofs.«01_k».proof.Proof.Gen.Kernel3Ideal.Frame.Runs

@[expose] public section

set_option maxRecDepth 16384

noncomputable section

namespace Cert.Kernel3Ideal.TailBwd

open Cert.Kernel3Ideal Cert.Kernel3Ideal.Gen Idealize.ShloMosaic Idealize.ShloMosaic.TcCoe Idealize.SL.Sem

variable {F : FTy → Type} [FloatOps F]

/-- The nine operands that stay resident: the second feed-forward weight, the first in four slabs, the attention's output
    weight, the four norms' gains, and the two selections between heads and lanes. -/
structure Wts (F : FTy → Type) where
  w2 : Vec F S4096x1024 .bf16
  w1 : Vec F S4x1024x1024 .bf16
  wo : Vec F S1024x1024 .bf16
  gff : Vec F S1x1024 .f32
  gpf : Vec F S1x1024 .f32
  gpm : Vec F S1x1024 .f32
  ga : Vec F S1x512 .f32
  gs : Vec F S512x128 .bf16
  ex : Vec F S512x1024 .bf16

/-- One grid point's input blocks. -/
structure Blk (F : FTy → Type) where
  dh : Vec F S256x1024 .f32
  ff : Vec F S256x1024 .f32
  rr : Vec F S256x4096 .bf16
  h1 : Vec F S256x1024 .f32
  ov : Vec F S256x1024 .f32
  ya : Vec F S256x512 .f32

/-- The four gains' gradients, as carried over the grid. -/
@[ext] structure Acc (F : FTy → Type) where
  gff : Vec F S1x1024 .f32
  gpf : Vec F S1x1024 .f32
  gpm : Vec F S1x1024 .f32
  ga : Vec F S1x512 .f32

variable (w : Wts F) (x : Blk F)

/-- Slab `k` of the first feed-forward weight. -/
def slab (w1 : Vec F S4x1024x1024 .bf16) (k : Fin 4) : Vec F S1x1024x1024 .bf16 :=
  View.ld w1 (Rect.unit (s := S4x1024x1024) ![k.val, 0, 0] S1x1024x1024.size
    (fun a => by fin_cases a <;> have := k.isLt <;> simp [S1x1024x1024, S4x1024x1024, Shape.size] <;> omega))
/-- The output weight's rows for the attention, and for the signals. -/
def woTop (wo : Vec F S1024x1024 .bf16) : Vec F S512x1024 .bf16 :=
  View.ld wo (Rect.unit (s := S1024x1024) ![0, 0] S512x1024.size inb_S1024x1024_S512x1024_0_0)
def woBot (wo : Vec F S1024x1024 .bf16) : Vec F S512x1024 .bf16 :=
  View.ld wo (Rect.unit (s := S1024x1024) ![512, 0] S512x1024.size inb_S1024x1024_S512x1024_512_0)

/-- The gradient of the feed-forward's output, and the same rounded. -/
def dffV : FVec F S256x1024 .f32 := k0_pay8 x.dh x.ff w.gff
def dffB : Vec F S256x1024 .bf16 := k0_pay10 (dffV w x)
/-- The gradient of the feed-forward's inner product, past the squared relu. -/
def drB : Vec F S256x4096 .bf16 := k0_pay11 (dffV w x) w.w2 x.rr
/-- The gradient of the normed residual. -/
def dcV : FVec F S256x1024 .f32 := k0_pay12 (dffV w x) w.w2 x.rr (slab w.w1 0) (slab w.w1 1) (slab w.w1 2) (slab w.w1 3)
/-- The gradient of the residual stream before the feed-forward. -/
def dh1B : Vec F S256x1024 .f32 := k0_pay16 x.dh (dcV w x) x.h1 w.gpf
/-- The gradient of the output projection, rounded. -/
def doB : Vec F S256x1024 .bf16 := k0_pay21 (dh1B w x) (k0_pay17 x.ov) (k0_pay18 x.ov) w.gpm
/-- The gradient of the signals' half. -/
def dysB : Vec F S256x512 .f32 := k0_pay22 (dh1B w x) (k0_pay17 x.ov) (k0_pay18 x.ov) w.gpm (woBot w.wo)
/-- The gradient of the attention's output, its spread over 128 lanes a head, and its product with that output by head. -/
def dyaV : FVec F S256x512 .f32 := k0_pay25 (doB w x) (woTop w.wo) x.ya w.ga
def do8B : Vec F S256x1024 .bf16 := k0_pay27 (doB w x) (woTop w.wo) x.ya w.ga w.ex
def dltB : Vec F S256x128 .f32 := k0_pay1 x.ya (dyaV w x) w.gs
/-- The gains' gradients with the block's rows added. -/
def stepA (a : Acc F) : Acc F where
  gff := k0_pay9 x.dh x.ff a.gff
  gpf := k0_pay15 (dcV w x) x.h1 a.gpf
  gpm := k0_pay20 (dh1B w x) (k0_pay17 x.ov) (k0_pay18 x.ov) a.gpm
  ga := k0_pay26 (doB w x) (woTop w.wo) x.ya a.ga
/-- Before the first block they are zero. -/
def zeroA : Acc F := ⟨k0_pay2, k0_pay3, k0_pay4, k0_pay5⟩

end Cert.Kernel3Ideal.TailBwd

end
-- ==== Proof.TailBwd.BodyB.lean ====
/- The body of the tail's backward call at a grid point after the first, on any staging buffers: what every output buffer
   holds afterwards. -/
module

public import proofs.«01_k».proof.Proof.TailBwd.Vals
public import Idealize.ShloMosaic.Lib.Pipeline.Value

@[expose] public section

set_option maxRecDepth 16384

noncomputable section

namespace Cert.Kernel3Ideal.TailBwd

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

/-- One covering store leaves its payload. -/
theorem read_store {S : Shape} {e : EltTy} {sp : Space} (v : View sig .tc sp S e) (f : v.ty.Contents (Elt F)) {off : Fin S.rank → ℕ}
    (h : off = fun _ => 0) (inb : ∀ a, off a + S.size a ≤ S.size a) (p : Vec F S e) (L : List (View.Piece (Elt F) S e)) :
    v.read (Elt F) (v.writes (Elt F) f (⟨Rect.unit (s := S) off S.size inb, p⟩ :: L)) = p := by
  subst h
  funext y
  have := View.read_writes_cons_emb v f (Rect.unit (s := S) (fun _ => 0) S.size inb) p L y
  have e : (Rect.unit (s := S) (fun _ => 0) S.size inb).emb y = y := by
    funext a; apply Fin.ext; simp [Rect.emb, Rect.unit]
  rwa [e] at this

/-- The cells and operands in HBM that the body only uses at the first point. -/
def held (c : Dev nD) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4)
    (fh5 : HbBuf0 (F := F) c hbM0_5) (fh6 : HbBuf0 (F := F) c hbM0_6) (fh7 : HbBuf0 (F := F) c hbM0_7) (fh8 : HbBuf0 (F := F) c hbM0_8) : sProp 𝕄 :=
  iprop(semVal ((c : Thread nD τ), SemLoc.dma 30) 0 ∗ semVal ((c : Thread nD τ), SemLoc.dma 31) 0 ∗ semVal ((c : Thread nD τ), SemLoc.dma 32) 0
    ∗ semVal ((c : Thread nD τ), SemLoc.dma 33) 0 ∗ semVal ((c : Thread nD τ), SemLoc.dma 34) 0 ∗ semVal ((c : Thread nD τ), SemLoc.dma 35) 0
    ∗ semVal ((c : Thread nD τ), SemLoc.dma 36) 0 ∗ semVal ((c : Thread nD τ), SemLoc.dma 37) 0 ∗ semVal ((c : Thread nD τ), SemLoc.dma 38) 0
    ∗ hbPt0 c hbM0_0 fh0 ∗ hbPt0 c hbM0_1 fh1 ∗ hbPt0 c hbM0_2 fh2
    ∗ hbPt0 c hbM0_3 fh3 ∗ hbPt0 c hbM0_4 fh4 ∗ hbPt0 c hbM0_5 fh5
    ∗ hbPt0 c hbM0_6 fh6 ∗ hbPt0 c hbM0_7 fh7 ∗ hbPt0 c hbM0_8 fh8)

variable (c : Dev nD) (i : grid0.Coords)
  (a1 : Memref sig .tc .vmem S256x1024 .f32) (h1 : a1.IsWhole) (a2 : Memref sig .tc .vmem S256x1024 .f32) (h2 : a2.IsWhole)
  (a3 : Memref sig .tc .vmem S256x4096 .bf16) (h3 : a3.IsWhole) (a4 : Memref sig .tc .vmem S256x1024 .f32) (h4 : a4.IsWhole)
  (a5 : Memref sig .tc .vmem S256x1024 .f32) (h5 : a5.IsWhole) (a6 : Memref sig .tc .vmem S256x512 .f32) (h6 : a6.IsWhole)
  (a16 : Memref sig .tc .vmem S256x1024 .bf16) (h16 : a16.IsWhole) (a17 : Memref sig .tc .vmem S256x4096 .bf16) (h17 : a17.IsWhole)
  (a18 : Memref sig .tc .vmem S256x1024 .bf16) (h18 : a18.IsWhole) (a19 : Memref sig .tc .vmem S256x1024 .bf16) (h19 : a19.IsWhole)
  (a20 : Memref sig .tc .vmem S256x128 .f32) (h20 : a20.IsWhole) (a21 : Memref sig .tc .vmem S256x512 .f32) (h21 : a21.IsWhole)
  (a22 : Memref sig .tc .vmem S256x1024 .f32) (h22 : a22.IsWhole) (a23 : Memref sig .tc .vmem S1x1024 .f32) (h23 : a23.IsWhole)
  (a24 : Memref sig .tc .vmem S1x1024 .f32) (h24 : a24.IsWhole) (a25 : Memref sig .tc .vmem S1x1024 .f32) (h25 : a25.IsWhole)
  (a26 : Memref sig .tc .vmem S1x512 .f32) (h26 : a26.IsWhole) (a27 : Memref sig .tc .vmem S4096x1024 .bf16) (h27 : a27.IsWhole)
  (a28 : Memref sig .tc .vmem S4x1024x1024 .bf16) (h28 : a28.IsWhole) (a29 : Memref sig .tc .vmem S1024x1024 .bf16) (h29 : a29.IsWhole)
  (a30 : Memref sig .tc .vmem S1x1024 .f32) (h30 : a30.IsWhole) (a31 : Memref sig .tc .vmem S1x1024 .f32) (h31 : a31.IsWhole)
  (a32 : Memref sig .tc .vmem S1x1024 .f32) (h32 : a32.IsWhole) (a33 : Memref sig .tc .vmem S1x512 .f32) (h33 : a33.IsWhole)
  (a34 : Memref sig .tc .vmem S512x128 .bf16) (h34 : a34.IsWhole) (a35 : Memref sig .tc .vmem S512x1024 .bf16) (h35 : a35.IsWhole)

/-- The body's program on these buffers. -/
abbrev prog : Prog (TpuEff nD τ sig (Elt F) Λ₀ .tc) PUnit :=
  cc0_tail_bwd i a1 h1 a2 h2 a3 h3 a4 h4 a5 h5 a6 h6
    (Memref.whole main_v61) (Memref.isWhole_whole _) (Memref.whole main_v59) (Memref.isWhole_whole _) (Memref.whole main_v62) (Memref.isWhole_whole _)
    (Memref.whole main_arg9) (Memref.isWhole_whole _) (Memref.whole main_arg6) (Memref.isWhole_whole _) (Memref.whole main_arg5) (Memref.isWhole_whole _)
    (Memref.whole main_arg3) (Memref.isWhole_whole _) (Memref.whole main_v47) (Memref.isWhole_whole _) (Memref.whole main_v56) (Memref.isWhole_whole _)
    a16 h16 a17 h17 a18 h18 a19 h19 a20 h20 a21 h21 a22 h22 a23 h23 a24 h24 a25 h25 a26 h26
    a27 h27 a28 h28 a29 h29 a30 h30 a31 h31 a32 h32 a33 h33 a34 h34 a35 h35
    cc0_scoped0 cc0_scoped1 cc0_scoped2 cc0_scoped3 cc0_scoped4 cc0_scoped5 cc0_scoped6 cc0_scoped7 cc0_scoped8

/-- The input blocks' buffers. -/
def ins (x : Blk F) : sProp 𝕄 :=
  iprop(owns (c : Thread nD τ) a1 fullShare x.dh ∗ owns (c : Thread nD τ) a2 fullShare x.ff ∗ owns (c : Thread nD τ) a3 fullShare x.rr
    ∗ owns (c : Thread nD τ) a4 fullShare x.h1 ∗ owns (c : Thread nD τ) a5 fullShare x.ov ∗ owns (c : Thread nD τ) a6 fullShare x.ya)

/-- The resident weights' buffers. -/
def wts (w : Wts F) : sProp 𝕄 :=
  iprop(owns (c : Thread nD τ) a27 fullShare w.w2 ∗ owns (c : Thread nD τ) a28 fullShare w.w1 ∗ owns (c : Thread nD τ) a29 fullShare w.wo
    ∗ owns (c : Thread nD τ) a30 fullShare w.gff ∗ owns (c : Thread nD τ) a31 fullShare w.gpf ∗ owns (c : Thread nD τ) a32 fullShare w.gpm
    ∗ owns (c : Thread nD τ) a33 fullShare w.ga ∗ owns (c : Thread nD τ) a34 fullShare w.gs ∗ owns (c : Thread nD τ) a35 fullShare w.ex)

/-- The outputs' buffers with the block's values in them, the gains' gradients grown from `a`. -/
def outs (w : Wts F) (x : Blk F) (a : Acc F) : sProp 𝕄 :=
  iprop(owns (c : Thread nD τ) a16 fullShare (dffB w x) ∗ owns (c : Thread nD τ) a17 fullShare (drB w x) ∗ owns (c : Thread nD τ) a18 fullShare (doB w x)
    ∗ owns (c : Thread nD τ) a19 fullShare (do8B w x) ∗ owns (c : Thread nD τ) a20 fullShare (dltB w x) ∗ owns (c : Thread nD τ) a21 fullShare (dysB w x)
    ∗ owns (c : Thread nD τ) a22 fullShare (dh1B w x) ∗ owns (c : Thread nD τ) a23 fullShare ((stepA w x a).gff) ∗ owns (c : Thread nD τ) a24 fullShare ((stepA w x a).gpf)
    ∗ owns (c : Thread nD τ) a25 fullShare ((stepA w x a).gpm) ∗ owns (c : Thread nD τ) a26 fullShare ((stepA w x a).ga))

set_option maxHeartbeats 6400000 in
/-- A point after the first: the gains' gradients grow from what they held. -/
theorem body_B (hc0 : ¬cond0_0 i) (w : Wts F) (x : Blk F) (a : Acc F) (W : Waits sig Unit) (K : PUnit → sProp 𝕄) :
    iprop(ins c a1 a2 a3 a4 a5 a6 x
      ∗ (∃ d, owns (c : Thread nD τ) a16 fullShare d) ∗ (∃ d, owns (c : Thread nD τ) a17 fullShare d) ∗ (∃ d, owns (c : Thread nD τ) a18 fullShare d)
      ∗ (∃ d, owns (c : Thread nD τ) a19 fullShare d) ∗ (∃ d, owns (c : Thread nD τ) a20 fullShare d) ∗ (∃ d, owns (c : Thread nD τ) a21 fullShare d)
      ∗ (∃ d, owns (c : Thread nD τ) a22 fullShare d)
      ∗ owns (c : Thread nD τ) a23 fullShare a.gff ∗ owns (c : Thread nD τ) a24 fullShare a.gpf ∗ owns (c : Thread nD τ) a25 fullShare a.gpm ∗ owns (c : Thread nD τ) a26 fullShare a.ga
      ∗ wts c a27 a28 a29 a30 a31 a32 a33 a34 a35 w ∗ owes (c : Thread nD τ) 0 W
      ∗ (iprop(ins c a1 a2 a3 a4 a5 a6 x ∗ outs c a16 a17 a18 a19 a20 a21 a22 a23 a24 a25 a26 w x a
          ∗ wts c a27 a28 a29 a30 a31 a32 a33 a34 a35 w ∗ (∃ W', owes (c : Thread nD τ) 0 W')) -∗ K ⟨⟩))
    ⊢ wp frame (wpE (defs₀ (F := F)) Variants.none c none) Set.univ
        (prog i a1 h1 a2 h2 a3 h3 a4 h4 a5 h5 a6 h6
          a16 h16 a17 h17 a18 h18 a19 h19 a20 h20 a21 h21 a22 h22 a23 h23 a24 h24 a25 h25 a26 h26
          a27 h27 a28 h28 a29 h29 a30 h30 a31 h31 a32 h32 a33 h33 a34 h34 a35 h35) K := by
  unfold prog
  simp only [cc0_tail_bwd_eq_skeleton]; unfold cc0_tail_bwd_skel
  simp only [k0_part1_eq_skeleton, k0_part2_eq_skeleton, k0_part3_eq_skeleton, k0_part4_eq_skeleton, k0_part5_eq_skeleton]
  unfold ins wts outs owns
  iintro ⟨⟨⟨%f1, %e1, H1⟩, ⟨%f2, %e2, H2⟩, ⟨%f3, %e3, H3⟩, ⟨%f4, %e4, H4⟩, ⟨%f5, %e5, H5⟩, ⟨%f6, %e6, H6⟩⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩,
    ⟨%f23, %e23, H23⟩, ⟨%f24, %e24, H24⟩, ⟨%f25, %e25, H25⟩, ⟨%f26, %e26, H26⟩,
    ⟨⟨%f27, %e27, H27⟩, ⟨%f28, %e28, H28⟩, ⟨%f29, %e29, H29⟩, ⟨%f30, %e30, H30⟩, ⟨%f31, %e31, H31⟩, ⟨%f32, %e32, H32⟩, ⟨%f33, %e33, H33⟩, ⟨%f34, %e34, H34⟩, ⟨%f35, %e35, H35⟩⟩, HW, Hk⟩
  obtain rfl := h1.eq_unread e1; obtain rfl := h2.eq_unread e2; obtain rfl := h3.eq_unread e3; obtain rfl := h4.eq_unread e4; obtain rfl := h5.eq_unread e5
  obtain rfl := h6.eq_unread e6; obtain rfl := h23.eq_unread e23; obtain rfl := h24.eq_unread e24; obtain rfl := h25.eq_unread e25; obtain rfl := h26.eq_unread e26
  obtain rfl := h27.eq_unread e27; obtain rfl := h28.eq_unread e28; obtain rfl := h29.eq_unread e29; obtain rfl := h30.eq_unread e30; obtain rfl := h31.eq_unread e31
  obtain rfl := h32.eq_unread e32; obtain rfl := h33.eq_unread e33; obtain rfl := h34.eq_unread e34; obtain rfl := h35.eq_unread e35
  sl_exec (disch := first | sl_exact hc0)
  sl_step
  iapply Hk
  isplitl [H1 H2 H3 H4 H5 H6]
  · isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    iexists _; isplitr; swap; iexact H6
    all_goals ipureintro; exact Memref.IsWhole.read_unread (by assumption) _
  isplitl [H16 H17 H18 H19 H20 H21 H22 H23 H24 H25 H26]
  · isplitl [H16]; iexists _; isplitr; swap; iexact H16; rotate_left
    isplitl [H17]; iexists _; isplitr; swap; iexact H17; rotate_left
    isplitl [H18]; iexists _; isplitr; swap; iexact H18; rotate_left
    isplitl [H19]; iexists _; isplitr; swap; iexact H19; rotate_left
    isplitl [H20]; iexists _; isplitr; swap; iexact H20; rotate_left
    isplitl [H21]; iexists _; isplitr; swap; iexact H21; rotate_left
    isplitl [H22]; iexists _; isplitr; swap; iexact H22; rotate_left
    isplitl [H23]; iexists _; isplitr; swap; iexact H23; rotate_left
    isplitl [H24]; iexists _; isplitr; swap; iexact H24; rotate_left
    isplitl [H25]; iexists _; isplitr; swap; iexact H25; rotate_left
    iexists _; isplitr; swap; iexact H26
    all_goals
      ipureintro
      refine (read_store _ _ hz2 _ _ _).trans ?_
      sl_unfold_words
      simp only [View.readAt_eq_ld, Memref.IsWhole.read_unread, View.ld_unit_zero (S := S256x1024) hz2, View.ld_unit_zero (S := S256x4096) hz2, View.ld_unit_zero (S := S256x512) hz2, View.ld_unit_zero (S := S256x128) hz2
        , View.ld_unit_zero (S := S1x1024) hz2, View.ld_unit_zero (S := S1x512) hz2, View.ld_unit_zero (S := S4096x1024) hz2, View.ld_unit_zero (S := S1024x1024) hz2
        , View.ld_unit_zero (S := S512x128) hz2, View.ld_unit_zero (S := S512x1024) hz2]
      rfl
  isplitl [H27 H28 H29 H30 H31 H32 H33 H34 H35]
  · isplitl [H27]; iexists _; isplitr; swap; iexact H27; rotate_left
    isplitl [H28]; iexists _; isplitr; swap; iexact H28; rotate_left
    isplitl [H29]; iexists _; isplitr; swap; iexact H29; rotate_left
    isplitl [H30]; iexists _; isplitr; swap; iexact H30; rotate_left
    isplitl [H31]; iexists _; isplitr; swap; iexact H31; rotate_left
    isplitl [H32]; iexists _; isplitr; swap; iexact H32; rotate_left
    isplitl [H33]; iexists _; isplitr; swap; iexact H33; rotate_left
    isplitl [H34]; iexists _; isplitr; swap; iexact H34; rotate_left
    iexists _; isplitr; swap; iexact H35
    all_goals ipureintro; exact Memref.IsWhole.read_unread (by assumption) _
  iexists _; iexact HW

end Cert.Kernel3Ideal.TailBwd

end
-- ==== Proof.TailBwd.BodyA.lean ====
/- The body of the tail's backward call at the first grid point, on any staging buffers: what every output buffer holds
   afterwards. -/
module

public import proofs.«01_k».proof.Proof.TailBwd.BodyB

@[expose] public section

set_option maxRecDepth 16384

noncomputable section

namespace Cert.Kernel3Ideal.TailBwd

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A load from a buffer that a copy has filled reads the copied contents. -/
theorem readCov_copy {S : Shape} {e : EltTy} {sp : Space} (v : View sig .tc sp S e) (p : Vec F S e) (r : Rect S) :
    v.readCov (Val := Elt F) [⟨Rect.whole S, p⟩] r.toLoadRect = View.ld p r := by
  unfold View.readCov
  rw [View.readAt_eq_ld, View.read_writes_whole]

variable (c : Dev nD) (i : grid0.Coords)
  (a1 : Memref sig .tc .vmem S256x1024 .f32) (h1 : a1.IsWhole) (a2 : Memref sig .tc .vmem S256x1024 .f32) (h2 : a2.IsWhole)
  (a3 : Memref sig .tc .vmem S256x4096 .bf16) (h3 : a3.IsWhole) (a4 : Memref sig .tc .vmem S256x1024 .f32) (h4 : a4.IsWhole)
  (a5 : Memref sig .tc .vmem S256x1024 .f32) (h5 : a5.IsWhole) (a6 : Memref sig .tc .vmem S256x512 .f32) (h6 : a6.IsWhole)
  (a16 : Memref sig .tc .vmem S256x1024 .bf16) (h16 : a16.IsWhole) (a17 : Memref sig .tc .vmem S256x4096 .bf16) (h17 : a17.IsWhole)
  (a18 : Memref sig .tc .vmem S256x1024 .bf16) (h18 : a18.IsWhole) (a19 : Memref sig .tc .vmem S256x1024 .bf16) (h19 : a19.IsWhole)
  (a20 : Memref sig .tc .vmem S256x128 .f32) (h20 : a20.IsWhole) (a21 : Memref sig .tc .vmem S256x512 .f32) (h21 : a21.IsWhole)
  (a22 : Memref sig .tc .vmem S256x1024 .f32) (h22 : a22.IsWhole) (a23 : Memref sig .tc .vmem S1x1024 .f32) (h23 : a23.IsWhole)
  (a24 : Memref sig .tc .vmem S1x1024 .f32) (h24 : a24.IsWhole) (a25 : Memref sig .tc .vmem S1x1024 .f32) (h25 : a25.IsWhole)
  (a26 : Memref sig .tc .vmem S1x512 .f32) (h26 : a26.IsWhole) (a27 : Memref sig .tc .vmem S4096x1024 .bf16) (h27 : a27.IsWhole)
  (a28 : Memref sig .tc .vmem S4x1024x1024 .bf16) (h28 : a28.IsWhole) (a29 : Memref sig .tc .vmem S1024x1024 .bf16) (h29 : a29.IsWhole)
  (a30 : Memref sig .tc .vmem S1x1024 .f32) (h30 : a30.IsWhole) (a31 : Memref sig .tc .vmem S1x1024 .f32) (h31 : a31.IsWhole)
  (a32 : Memref sig .tc .vmem S1x1024 .f32) (h32 : a32.IsWhole) (a33 : Memref sig .tc .vmem S1x512 .f32) (h33 : a33.IsWhole)
  (a34 : Memref sig .tc .vmem S512x128 .bf16) (h34 : a34.IsWhole) (a35 : Memref sig .tc .vmem S512x1024 .bf16) (h35 : a35.IsWhole)

/-- The weights as the operands in HBM hold them. -/
def wtsOf (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4)
    (fh5 : HbBuf0 (F := F) c hbM0_5) (fh6 : HbBuf0 (F := F) c hbM0_6) (fh7 : HbBuf0 (F := F) c hbM0_7) (fh8 : HbBuf0 (F := F) c hbM0_8) : Wts F where
  w2 := fh0
  w1 := fh1
  wo := fh2
  gff := fh3
  gpf := fh4
  gpm := fh5
  ga := fh6
  gs := fh7
  ex := fh8

set_option maxHeartbeats 6400000 in
/-- The first point: the weights are copied in, the gains' gradients start from zero. -/
theorem body_A (hc0 : cond0_0 i) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4)
    (fh5 : HbBuf0 (F := F) c hbM0_5) (fh6 : HbBuf0 (F := F) c hbM0_6) (fh7 : HbBuf0 (F := F) c hbM0_7) (fh8 : HbBuf0 (F := F) c hbM0_8)
    (x : Blk F) (W : Waits sig Unit) (K : PUnit → sProp 𝕄) :
    iprop(ins c a1 a2 a3 a4 a5 a6 x
      ∗ (∃ d, owns (c : Thread nD τ) a16 fullShare d) ∗ (∃ d, owns (c : Thread nD τ) a17 fullShare d) ∗ (∃ d, owns (c : Thread nD τ) a18 fullShare d)
      ∗ (∃ d, owns (c : Thread nD τ) a19 fullShare d) ∗ (∃ d, owns (c : Thread nD τ) a20 fullShare d) ∗ (∃ d, owns (c : Thread nD τ) a21 fullShare d)
      ∗ (∃ d, owns (c : Thread nD τ) a22 fullShare d) ∗ (∃ d, owns (c : Thread nD τ) a23 fullShare d) ∗ (∃ d, owns (c : Thread nD τ) a24 fullShare d)
      ∗ (∃ d, owns (c : Thread nD τ) a25 fullShare d) ∗ (∃ d, owns (c : Thread nD τ) a26 fullShare d)
      ∗ (∃ d, owns (c : Thread nD τ) a27 fullShare d) ∗ (∃ d, owns (c : Thread nD τ) a28 fullShare d) ∗ (∃ d, owns (c : Thread nD τ) a29 fullShare d)
      ∗ (∃ d, owns (c : Thread nD τ) a30 fullShare d) ∗ (∃ d, owns (c : Thread nD τ) a31 fullShare d) ∗ (∃ d, owns (c : Thread nD τ) a32 fullShare d)
      ∗ (∃ d, owns (c : Thread nD τ) a33 fullShare d) ∗ (∃ d, owns (c : Thread nD τ) a34 fullShare d) ∗ (∃ d, owns (c : Thread nD τ) a35 fullShare d)
      ∗ held c fh0 fh1 fh2 fh3 fh4 fh5 fh6 fh7 fh8 ∗ owes (c : Thread nD τ) 0 W
      ∗ (iprop(ins c a1 a2 a3 a4 a5 a6 x ∗ outs c a16 a17 a18 a19 a20 a21 a22 a23 a24 a25 a26 (wtsOf c fh0 fh1 fh2 fh3 fh4 fh5 fh6 fh7 fh8) x zeroA
          ∗ wts c a27 a28 a29 a30 a31 a32 a33 a34 a35 (wtsOf c fh0 fh1 fh2 fh3 fh4 fh5 fh6 fh7 fh8) ∗ held c fh0 fh1 fh2 fh3 fh4 fh5 fh6 fh7 fh8
          ∗ (∃ W', owes (c : Thread nD τ) 0 W')) -∗ K ⟨⟩))
    ⊢ wp frame (wpE (defs₀ (F := F)) Variants.none c none) Set.univ
        (prog i a1 h1 a2 h2 a3 h3 a4 h4 a5 h5 a6 h6
          a16 h16 a17 h17 a18 h18 a19 h19 a20 h20 a21 h21 a22 h22 a23 h23 a24 h24 a25 h25 a26 h26
          a27 h27 a28 h28 a29 h29 a30 h30 a31 h31 a32 h32 a33 h33 a34 h34 a35 h35) K := by
  unfold prog
  simp only [cc0_tail_bwd_eq_skeleton]; unfold cc0_tail_bwd_skel
  simp only [k0_part1_eq_skeleton, k0_part2_eq_skeleton, k0_part3_eq_skeleton, k0_part4_eq_skeleton, k0_part5_eq_skeleton]
  unfold ins wts outs held owns
  iintro ⟨⟨⟨%f1, %e1, H1⟩, ⟨%f2, %e2, H2⟩, ⟨%f3, %e3, H3⟩, ⟨%f4, %e4, H4⟩, ⟨%f5, %e5, H5⟩, ⟨%f6, %e6, H6⟩⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩,
    ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩,
    ⟨Hq0, Hq1, Hq2, Hq3, Hq4, Hq5, Hq6, Hq7, Hq8, Hh0, Hh1, Hh2, Hh3, Hh4, Hh5, Hh6, Hh7, Hh8⟩, HW, Hk⟩
  obtain rfl := h1.eq_unread e1; obtain rfl := h2.eq_unread e2; obtain rfl := h3.eq_unread e3; obtain rfl := h4.eq_unread e4; obtain rfl := h5.eq_unread e5; obtain rfl := h6.eq_unread e6
  sl_exec (disch := first | sl_exact hc0)
  sl_step
  iapply Hk
  isplitl [H1 H2 H3 H4 H5 H6]
  · isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    iexists _; isplitr; swap; iexact H6
    all_goals ipureintro; exact Memref.IsWhole.read_unread (by assumption) _
  isplitl [H16 H17 H18 H19 H20 H21 H22 H23 H24 H25 H26]
  · isplitl [H16]; iexists _; isplitr; swap; iexact H16; rotate_left
    isplitl [H17]; iexists _; isplitr; swap; iexact H17; rotate_left
    isplitl [H18]; iexists _; isplitr; swap; iexact H18; rotate_left
    isplitl [H19]; iexists _; isplitr; swap; iexact H19; rotate_left
    isplitl [H20]; iexists _; isplitr; swap; iexact H20; rotate_left
    isplitl [H21]; iexists _; isplitr; swap; iexact H21; rotate_left
    isplitl [H22]; iexists _; isplitr; swap; iexact H22; rotate_left
    isplitl [H23]; iexists _; isplitr; swap; iexact H23; rotate_left
    isplitl [H24]; iexists _; isplitr; swap; iexact H24; rotate_left
    isplitl [H25]; iexists _; isplitr; swap; iexact H25; rotate_left
    iexists _; isplitr; swap; iexact H26
    all_goals
      ipureintro
      refine (read_store _ _ hz2 _ _ _).trans ?_
      sl_unfold_words
      simp only [readCov_copy, View.readAt_eq_ld, Memref.IsWhole.read_unread, View.readCov_unit_zero (S := S256x1024) _ hz2, View.readCov_unit_zero (S := S1x1024) _ hz2, View.readCov_unit_zero (S := S1x512) _ hz2, View.readCov_unit_zero (S := S4096x1024) _ hz2
        , View.readCov_unit_zero (S := S512x128) _ hz2, View.readCov_unit_zero (S := S512x1024) _ hz2, View.ld_unit_zero (S := S256x1024) hz2, View.ld_unit_zero (S := S256x4096) hz2
        , View.ld_unit_zero (S := S256x512) hz2, View.ld_unit_zero (S := S256x128) hz2, View.ld_unit_zero (S := S1x1024) hz2, View.ld_unit_zero (S := S1x512) hz2
        , View.ld_unit_zero (S := S4096x1024) hz2, View.ld_unit_zero (S := S1024x1024) hz2, View.ld_unit_zero (S := S512x128) hz2, View.ld_unit_zero (S := S512x1024) hz2]
      rfl
  isplitl [H27 H28 H29 H30 H31 H32 H33 H34 H35]
  · isplitl [H27]; iexists _; isplitr; swap; iexact H27; rotate_left
    isplitl [H28]; iexists _; isplitr; swap; iexact H28; rotate_left
    isplitl [H29]; iexists _; isplitr; swap; iexact H29; rotate_left
    isplitl [H30]; iexists _; isplitr; swap; iexact H30; rotate_left
    isplitl [H31]; iexists _; isplitr; swap; iexact H31; rotate_left
    isplitl [H32]; iexists _; isplitr; swap; iexact H32; rotate_left
    isplitl [H33]; iexists _; isplitr; swap; iexact H33; rotate_left
    isplitl [H34]; iexists _; isplitr; swap; iexact H34; rotate_left
    iexists _; isplitr; swap; iexact H35
    all_goals ipureintro; exact (View.read_writes_whole _ _ _).trans rfl
  isplitl [Hq0 Hq1 Hq2 Hq3 Hq4 Hq5 Hq6 Hq7 Hq8 Hh0 Hh1 Hh2 Hh3 Hh4 Hh5 Hh6 Hh7 Hh8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    iexact Hh8
  iexists _; iexact HW

end Cert.Kernel3Ideal.TailBwd

end
-- ==== Proof.TailBwd.Run.lean ====
/- The tail's backward call run over its grid: what every staging buffer holds after each point, the body's obligation
   from its two triples, the launch, and from it the quiescent frame and the arrays the call leaves. -/
module

public import proofs.«01_k».proof.Proof.TailBwd.BodyA
public import Idealize.ShloMosaic.Lib.Claim

@[expose] public section

set_option maxRecDepth 16384

noncomputable section

namespace Cert.Kernel3Ideal.TailBwd

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The resident weights, as the host lines before the call leave them. -/
def wOf (c : Dev nD) : Wts F :=
  wtsOf c (V m c main_v61) (V m c main_v59) (V m c main_v62) (V m c main_arg9) (V m c main_arg6) (V m c main_arg5) (V m c main_arg3) (V m c main_v47) (V m c main_v56)

/-- The input blocks of point `t`. -/
def xOf (c : Dev nD) (t : Fin cfg0.N) : Blk F where
  dh := iblk m c 0 t
  ff := iblk m c 1 t
  rr := iblk m c 2 t
  h1 := iblk m c 3 t
  ov := iblk m c 4 t
  ya := iblk m c 5 t

/-- The gains' gradients before point `n`. -/
def accAt (c : Dev nD) : ℕ → Acc F
  | 0 => zeroA
  | n + 1 => if h : n < cfg0.N then stepA (wOf m c) (xOf m c ⟨n, h⟩) (accAt c n) else accAt c n

theorem accAt_succ (c : Dev nD) (t : Fin cfg0.N) :
    accAt m c (t.val + 1) = stepA (wOf m c) (xOf m c t) (accAt m c t.val) := by
  rw [accAt]; exact dif_pos t.isLt

/-- What the call holds between points, the weights once copied: scratch, register, cells and operands in HBM. -/
def mid (c : Dev nD) : sProp 𝕄 :=
  iprop(wts c scM0_0 scM0_1 scM0_2 scM0_3 scM0_4 scM0_5 scM0_6 scM0_7 scM0_8 (wOf m c) ∗ (∃ r, prngReg c r)
    ∗ held c (V m c main_v61) (V m c main_v59) (V m c main_v62) (V m c main_arg9) (V m c main_arg6) (V m c main_arg5) (V m c main_arg3) (V m c main_v47) (V m c main_v56))

/-- The invariant: before the first point what the launch hands over, afterwards `mid`. -/
def Inv (c : Dev nD) : ℕ → sProp 𝕄
  | 0 => Pipeline.ΦD osem0 spec0 H0 (V m) c
  | _ + 1 => mid m c

/-- The proof data: the arrays as the region finds them, the inputs at their blocks, the outputs at the block values. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => dffB (wOf m c) (xOf m c t)
    | 7 => drB (wOf m c) (xOf m c t)
    | 8 => doB (wOf m c) (xOf m c t)
    | 9 => do8B (wOf m c) (xOf m c t)
    | 10 => dltB (wOf m c) (xOf m c t)
    | 11 => dysB (wOf m c) (xOf m c t)
    | 12 => dh1B (wOf m c) (xOf m c t)
    | 13 => (accAt m c (t.val + 1)).gff
    | 14 => (accAt m c (t.val + 1)).gpf
    | 15 => (accAt m c (t.val + 1)).gpm
    | 16 => (accAt m c (t.val + 1)).ga
    | ⟨_ + 17, h⟩ => absurd h (Nat.not_lt.2 (Nat.le_add_left _ _))
  Φ t := Inv m c t.val
  q _ := fullShare
  owed _ := 0

theorem A_eq (c : Dev nD) (w) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d

/-- After the first point the gains' buffers hold what the point before left. -/
theorem before_13 (c : Dev nD) (t : Fin cfg0.N) (h : t.val ≠ 0) (d) : (dats m 0 c).before 13 t d = (accAt m c t.val).gff := by
  have hN : t.val < 32 := lt_of_lt_of_eq t.isLt N_0
  rw [Dat.before_out_kept _ 13 rfl t (by omega) (Bool.eq_false_iff.mpr fun h => by have := (flush0_13 _).mp h; dsimp only at this; omega) (fun _ => rfl) (fun _ _ => rfl)]
  dsimp only [dats]
  rw [Nat.sub_add_cancel (by omega)]
theorem before_14 (c : Dev nD) (t : Fin cfg0.N) (h : t.val ≠ 0) (d) : (dats m 0 c).before 14 t d = (accAt m c t.val).gpf := by
  have hN : t.val < 32 := lt_of_lt_of_eq t.isLt N_0
  rw [Dat.before_out_kept _ 14 rfl t (by omega) (Bool.eq_false_iff.mpr fun h => by have := (flush0_14 _).mp h; dsimp only at this; omega) (fun _ => rfl) (fun _ _ => rfl)]
  dsimp only [dats]
  rw [Nat.sub_add_cancel (by omega)]
theorem before_15 (c : Dev nD) (t : Fin cfg0.N) (h : t.val ≠ 0) (d) : (dats m 0 c).before 15 t d = (accAt m c t.val).gpm := by
  have hN : t.val < 32 := lt_of_lt_of_eq t.isLt N_0
  rw [Dat.before_out_kept _ 15 rfl t (by omega) (Bool.eq_false_iff.mpr fun h => by have := (flush0_15 _).mp h; dsimp only at this; omega) (fun _ => rfl) (fun _ _ => rfl)]
  dsimp only [dats]
  rw [Nat.sub_add_cancel (by omega)]
theorem before_16 (c : Dev nD) (t : Fin cfg0.N) (h : t.val ≠ 0) (d) : (dats m 0 c).before 16 t d = (accAt m c t.val).ga := by
  have hN : t.val < 32 := lt_of_lt_of_eq t.isLt N_0
  rw [Dat.before_out_kept _ 16 rfl t (by omega) (Bool.eq_false_iff.mpr fun h => by have := (flush0_16 _).mp h; dsimp only at this; omega) (fun _ => rfl) (fun _ _ => rfl)]
  dsimp only [dats]
  rw [Nat.sub_add_cancel (by omega)]

/-- The buffers before the body runs at point `t`, and after. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare ((dats m 0 c).before 8 t d)) ∗ (∃ d, owns (c : Thread nD τ) (ms0_9 t) fullShare ((dats m 0 c).before 9 t d))
    ∗ (∃ d, owns (c : Thread nD τ) (ms0_10 t) fullShare ((dats m 0 c).before 10 t d)) ∗ (∃ d, owns (c : Thread nD τ) (ms0_11 t) fullShare ((dats m 0 c).before 11 t d))
    ∗ (∃ d, owns (c : Thread nD τ) (ms0_12 t) fullShare ((dats m 0 c).before 12 t d)) ∗ (∃ d, owns (c : Thread nD τ) (ms0_13 t) fullShare ((dats m 0 c).before 13 t d))
    ∗ (∃ d, owns (c : Thread nD τ) (ms0_14 t) fullShare ((dats m 0 c).before 14 t d)) ∗ (∃ d, owns (c : Thread nD τ) (ms0_15 t) fullShare ((dats m 0 c).before 15 t d))
    ∗ (∃ d, owns (c : Thread nD τ) (ms0_16 t) fullShare ((dats m 0 c).before 16 t d)))

def post (c : Dev nD) (t : Fin cfg0.N) : sProp 𝕄 :=
  iprop(mid m c ∗ (dats m 0 c).owesAt () t.succ
    ∗ owns (c : Thread nD τ) (ms0_0 t) fullShare (xOf m c t).dh ∗ owns (c : Thread nD τ) (ms0_1 t) fullShare (xOf m c t).ff
    ∗ owns (c : Thread nD τ) (ms0_2 t) fullShare (xOf m c t).rr ∗ owns (c : Thread nD τ) (ms0_3 t) fullShare (xOf m c t).h1
    ∗ owns (c : Thread nD τ) (ms0_4 t) fullShare (xOf m c t).ov ∗ owns (c : Thread nD τ) (ms0_5 t) fullShare (xOf m c t).ya
    ∗ outs c (ms0_6 t) (ms0_7 t) (ms0_8 t) (ms0_9 t) (ms0_10 t) (ms0_11 t) (ms0_12 t) (ms0_13 t) (ms0_14 t) (ms0_15 t) (ms0_16 t) (wOf m c) (xOf m c t) (accAt m c t.val))

/-- What both cases hand back, put together. -/
theorem post_of (c : Dev nD) (t : Fin cfg0.N) :
    iprop(ins c (ms0_0 t) (ms0_1 t) (ms0_2 t) (ms0_3 t) (ms0_4 t) (ms0_5 t) (xOf m c t)
      ∗ outs c (ms0_6 t) (ms0_7 t) (ms0_8 t) (ms0_9 t) (ms0_10 t) (ms0_11 t) (ms0_12 t) (ms0_13 t) (ms0_14 t) (ms0_15 t) (ms0_16 t) (wOf m c) (xOf m c t) (accAt m c t.val)
      ∗ mid m c ∗ (∃ W', owes (c : Thread nD τ) 0 W')) ⊢ post m c t := by
  unfold post ins Dat.owesAt Pipeline.owesWithin
  rw [show (dats m 0 c).owed t.succ = 0 from rfl]
  iintro ⟨⟨H0, H1, H2, H3, H4, H5⟩, Ho, Hm, ⟨%W', HW⟩⟩
  isplitl [Hm]; · iexact Hm
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact Ho

set_option maxHeartbeats 12800000 in
/-- The body at any point. -/
theorem sound (c : Dev nD) (t : Fin cfg0.N) :
    pre m c t ⊢ wp frame (wpE (defs₀ (F := F)) Variants.none c none) Set.univ (bodyAt0 t) (fun _ => post m c t) := by
  have hN : t.val < 32 := lt_of_lt_of_eq t.isLt N_0
  unfold pre bodyAt0
  simp only [before_0, before_1, before_2, before_3, before_4, before_5]
  unfold Dat.owesAt Pipeline.owesWithin
  rw [show (dats m 0 c).owed t.castSucc = 0 from rfl]
  by_cases h0 : t.val = 0
  · rw [show (dats m 0 c).Φ t.castSucc = Pipeline.ΦD osem0 spec0 H0 (V m) c from by
      show Inv m c t.val = _; rw [h0]; rfl, PhiD0_eq]
    iintro ⟨⟨⟨HS0, HS1, HS2, HS3, HS4, HS5, HS6, HS7, HS8⟩, Hg, ⟨Hq0, Hq1, Hq2, Hq3, Hq4, Hq5, Hq6, Hq7, Hq8⟩, ⟨Hh0, Hh1, Hh2, Hh3, Hh4, Hh5, Hh6, Hh7, Hh8⟩⟩, ⟨%W, -, HW⟩,
      ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _)
      ((hcond0_0 t).mpr (by omega)) (V m c main_v61) (V m c main_v59) (V m c main_v62) (V m c main_arg9) (V m c main_arg6) (V m c main_arg5) (V m c main_arg3) (V m c main_v47) (V m c main_v56) (xOf m c t) W _)
    unfold ins held
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [Hq0 Hq1 Hq2 Hq3 Hq4 Hq5 Hq6 Hq7 Hq8 Hh0 Hh1 Hh2 Hh3 Hh4 Hh5 Hh6 Hh7 Hh8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      iexact Hh8
    isplitl [HW]; · iexact HW
    iintro ⟨Hi, Ho, Hw, Hh, HW⟩
    iapply (post_of m c t)
    unfold ins mid held
    rw [h0]
    isplitl [Hi]; · iexact Hi
    isplitl [Ho]; · iexact Ho
    isplitl [Hw Hg Hh]
    · isplitl [Hw]; · iexact Hw
      isplitl [Hg]; · iexact Hg
      iexact Hh
    iexact HW
  · rw [show (dats m 0 c).Φ t.castSucc = mid m c from by
      show Inv m c t.val = _; obtain ⟨n, hn⟩ := Nat.exists_eq_succ_of_ne_zero h0; rw [hn]; rfl]
    simp only [before_13 m c t h0, before_14 m c t h0, before_15 m c t h0, before_16 m c t h0]
    unfold mid
    iintro ⟨⟨Hw, Hg, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _)
      (fun h => h0 (by have := (hcond0_0 t).mp h; omega)) (wOf m c) (xOf m c t) (accAt m c t.val) W _)
    unfold ins
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [H16]; · iexact H16
    isplitl [Hw]; · iexact Hw
    isplitl [HW]; · iexact HW
    iintro ⟨Hi, Ho, Hw, HW⟩
    iapply (post_of m c t)
    unfold ins mid
    isplitl [Hi]; · iexact Hi
    isplitl [Ho]; · iexact Ho
    isplitl [Hw Hg Hh]
    · isplitl [Hw]; · iexact Hw
      isplitl [Hg]; · iexact Hg
      iexact Hh
    iexact HW

theorem defs₀_row (t : Fin cfg0.N) : defs₀ (F := F) .tc cfg0.body (cfg0.bodyArgs t (cfg0.slots t)) = bodyAt0 t := by
  unfold defs₀; rw [Defs.onTc_tc]

set_option maxHeartbeats 2000000 in
/-- The post, in the shape the obligation wants. -/
theorem post_eq (c : Dev nD) (t : Fin cfg0.N) :
    post m c t ⊢ iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t)
    ∗ owns (c : Thread nD τ) (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare ((dats m 0 c).after 5 t)
    ∗ owns (c : Thread nD τ) (ms0_6 t) fullShare ((dats m 0 c).after 6 t) ∗ owns (c : Thread nD τ) (ms0_7 t) fullShare ((dats m 0 c).after 7 t)
    ∗ owns (c : Thread nD τ) (ms0_8 t) fullShare ((dats m 0 c).after 8 t) ∗ owns (c : Thread nD τ) (ms0_9 t) fullShare ((dats m 0 c).after 9 t)
    ∗ owns (c : Thread nD τ) (ms0_10 t) fullShare ((dats m 0 c).after 10 t) ∗ owns (c : Thread nD τ) (ms0_11 t) fullShare ((dats m 0 c).after 11 t)
    ∗ owns (c : Thread nD τ) (ms0_12 t) fullShare ((dats m 0 c).after 12 t) ∗ owns (c : Thread nD τ) (ms0_13 t) fullShare ((dats m 0 c).after 13 t)
    ∗ owns (c : Thread nD τ) (ms0_14 t) fullShare ((dats m 0 c).after 14 t) ∗ owns (c : Thread nD τ) (ms0_15 t) fullShare ((dats m 0 c).after 15 t)
    ∗ owns (c : Thread nD τ) (ms0_16 t) fullShare ((dats m 0 c).after 16 t)) := by
  unfold post outs
  rw [show (dats m 0 c).Φ t.succ = mid m c from rfl]
  dsimp only [dats]
  rw [accAt_succ]
  exact .rfl

theorem obligation (c : Dev nD) : BodyObligation (dats (F := F) m 0 c) (defs₀ (F := F)) Variants.none () Set.univ := fun t => by
  rw [bigSep_W0, bigSep_W0, defs₀_row]
  exact triple_restated (sound m c t) rfl .rfl fun _ => post_eq m c t

theorem hin (c : Dev nD) : Pipeline.ΦD osem0 spec0 H0 (V m) c ⊢ (dats m 0 c).Φ 0 := by
  rw [show (dats m 0 c).Φ 0 = Pipeline.ΦD osem0 spec0 H0 (V m) c from rfl]

set_option maxHeartbeats 1000000 in
theorem hout (c : Dev nD) : (dats m 0 c).Φ (Fin.last cfg0.N) ⊢ Pipeline.ΦD osem0 spec0 H0 (V m) c := by
  rw [show (dats m 0 c).Φ (Fin.last cfg0.N) = mid m c from by
    show Inv m c (Fin.last cfg0.N).val = _
    rw [Fin.val_last, show cfg0.N = 31 + 1 from N_0]; rfl, PhiD0_eq]
  unfold mid wts held
  iintro ⟨⟨HS0, HS1, HS2, HS3, HS4, HS5, HS6, HS7, HS8⟩, Hg, ⟨Hq0, Hq1, Hq2, Hq3, Hq4, Hq5, Hq6, Hq7, Hq8, Hh⟩⟩
  isplitl [HS0 HS1 HS2 HS3 HS4 HS5 HS6 HS7 HS8]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8
  isplitl [Hg]; · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  iexact Hh

set_option backward.isDefEq.respectTransparency.types false in
/-- The launch: every execution ends with the arrays at what the proof data computes, the lines after the call run on
    them, and every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) (hQ' := fun _ h => h) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The call ends with its arguments unchanged and every counter at zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10))
    ∧ r.2.sem = fun _ => 0) :=
  θ_run_and (frame_of m ρ (dats m) (A_eq m) (run m ρ)) ((θ_run defs _ _).mono (fun _ h => h.2) (run_quiescent m ρ))

end Cert.Kernel3Ideal.TailBwd

end
-- ==== Proof.TailBwd.Real.lean ====
/- The tail's backward pass over the real numbers.

   `Inputs` holds the eleven arguments as arrays of reals. The definitions spell the tail's forward pass (a norm of the
   attention's output, the output weight, a norm and a residual, a norm, the squared-relu feed-forward) and its derivative
   as plain sums; both programs are shown to compute them. -/
module

public import Idealize.ShloMosaic.Lib.Pointwise
public import Idealize.ShloMosaic.PureOps.Ideal.Laws

@[expose] public section

noncomputable section

namespace Cert.Tail

open Idealize.ShloMosaic

/-- The norms' ε, as the nearest f32. -/
def eps : ℝ := 8796093 / 2 ^ 43

/-- One over the root mean square of a row. -/
def rms {n : ℕ} (x : Fin n → ℝ) : ℝ := (√((∑ k, x k * x k) * (1 / n) + eps))⁻¹
/-- The derivative of the norm with gain `g` at the row `x`, of the cotangent `d`. -/
def bwd {n : ℕ} (x g d : Fin n → ℝ) (j : Fin n) : ℝ := rms x * (d j * g j) - x j * (rms x ^ 3 * (1 / n) * ∑ k, d k * g k * x k)

/-- The eleven arguments, as reals. -/
structure Inputs where
  x : Fin 8192 → Fin 1024 → ℝ
  ya : Fin 8192 → Fin 512 → ℝ
  ys : Fin 8192 → Fin 512 → ℝ
  ga : Fin 1 → Fin 512 → ℝ
  wo : Fin 1024 → Fin 1024 → ℝ
  gpm : Fin 1 → Fin 1024 → ℝ
  gpf : Fin 1 → Fin 1024 → ℝ
  w1 : Fin 1024 → Fin 4096 → ℝ
  w2 : Fin 4096 → Fin 1024 → ℝ
  gff : Fin 1 → Fin 1024 → ℝ
  dh : Fin 8192 → Fin 1024 → ℝ

/-- The first 512 columns, and the last. -/
def lo (k : Fin 512) : Fin 1024 := ⟨k.val, by omega⟩
def hi (k : Fin 512) : Fin 1024 := ⟨512 + k.val, by omega⟩
/-- Element `d` of head `h`. -/
def hd (h : Fin 8) (d : Fin 64) : Fin 512 := ⟨64 * h.val + d.val, by omega⟩

namespace Inputs

variable (a : Inputs)

/-! The forward pass. -/

def cat (t : Fin 8192) (k : Fin 1024) : ℝ :=
  if h : k.val < 512 then a.ya t ⟨k.val, h⟩ * rms (a.ya t) * a.ga 0 ⟨k.val, h⟩ else a.ys t ⟨k.val - 512, by omega⟩
def ov (t : Fin 8192) (j : Fin 1024) : ℝ := ∑ k, a.cat t k * a.wo k j
def h1 (t : Fin 8192) (j : Fin 1024) : ℝ := a.x t j + a.ov t j * rms (a.ov t) * a.gpm 0 j
def hn (t : Fin 8192) (j : Fin 1024) : ℝ := a.h1 t j * rms (a.h1 t) * a.gpf 0 j
def pr (t : Fin 8192) (m : Fin 4096) : ℝ := ∑ k, a.hn t k * a.w1 k m
def r (t : Fin 8192) (m : Fin 4096) : ℝ := max (a.pr t m) 0
def ff (t : Fin 8192) (j : Fin 1024) : ℝ := ∑ m, a.r t m * a.r t m * a.w2 m j

/-! The derivative. -/

def dff (t : Fin 8192) : Fin 1024 → ℝ := bwd (a.ff t) (a.gff 0) (a.dh t)
def dr (t : Fin 8192) (m : Fin 4096) : ℝ := (∑ j, a.dff t j * a.w2 m j) * (2 * a.r t m)
def dc (t : Fin 8192) (k : Fin 1024) : ℝ := ∑ m, a.dr t m * a.w1 k m
def dh1 (t : Fin 8192) (j : Fin 1024) : ℝ := a.dh t j + bwd (a.h1 t) (a.gpf 0) (a.dc t) j
def dov (t : Fin 8192) : Fin 1024 → ℝ := bwd (a.ov t) (a.gpm 0) (a.dh1 t)
def dcat (t : Fin 8192) (k : Fin 1024) : ℝ := ∑ j, a.dov t j * a.wo k j
def dca (t : Fin 8192) (k : Fin 512) : ℝ := a.dcat t (lo k)
def dys (t : Fin 8192) (k : Fin 512) : ℝ := a.dcat t (hi k)
def dya (t : Fin 8192) : Fin 512 → ℝ := bwd (a.ya t) (a.ga 0) (a.dca t)
def dlt (t : Fin 8192) (h : Fin 8) : ℝ := ∑ d : Fin 64, a.dya t (hd h d) * a.ya t (hd h d)
def dgff (_ : Fin 1) (j : Fin 1024) : ℝ := ∑ t, a.dh t j * a.ff t j * rms (a.ff t)
def dgpf (_ : Fin 1) (j : Fin 1024) : ℝ := ∑ t, a.dc t j * a.h1 t j * rms (a.h1 t)
def dgpm (_ : Fin 1) (j : Fin 1024) : ℝ := ∑ t, a.dh1 t j * a.ov t j * rms (a.ov t)
def dga (_ : Fin 1) (k : Fin 512) : ℝ := ∑ t, a.dca t k * a.ya t k * rms (a.ya t)

end Inputs

/-! ### Arrays of reals, and the extended reals at real numbers -/

/-- An array of reals as an array of extended reals. -/
def up2 {n k : ℕ} (f : Fin n → Fin k → ℝ) : FVec Ideal ⟨2, ![n, k]⟩ .f32 := fun i => ((f (i 0) (i 1) : ℝ) : EReal)
def up3 {n k p : ℕ} (f : Fin n → Fin k → Fin p → ℝ) : FVec Ideal ⟨3, ![n, k, p]⟩ .f32 := fun i => ((f (i 0) (i 1) (i 2) : ℝ) : EReal)
theorem up2_apply {n k : ℕ} (f : Fin n → Fin k → ℝ) (t : Fin n) (h : Fin k) : up2 f (ix2 t h) = ((f t h : ℝ) : EReal) := rfl
theorem up3_apply {n k p : ℕ} (f : Fin n → Fin k → Fin p → ℝ) (t : Fin n) (h : Fin k) (d : Fin p) : up3 f (ix3 t h d) = ((f t h d : ℝ) : EReal) := rfl

theorem ext2 {n k : ℕ} {A : FVec Ideal ⟨2, ![n, k]⟩ .f32} {f : Fin n → Fin k → ℝ} (h : ∀ t l, A (ix2 t l) = ((f t l : ℝ) : EReal)) : A = up2 f := by
  funext j
  have e : j = ix2 (j 0) (j 1) := by
    funext a
    fin_cases a <;> rfl
  exact (congrArg A e).trans (h (j 0) (j 1))

theorem coe_sum {ι : Type} (s : Finset ι) (f : ι → ℝ) : ((∑ i ∈ s, f i : ℝ) : EReal) = ∑ i ∈ s, ((f i : ℝ) : EReal) := by
  induction s using Finset.cons_induction with
  | empty => rfl
  | cons i s hi ih => rw [Finset.sum_cons, Finset.sum_cons, EReal.coe_add, ih]

theorem div_real (x y : ℝ) (h : y ≠ 0) : Ideal.div (x : EReal) (y : EReal) = ((x / y : ℝ) : EReal) := by
  rw [Ideal.div_coe h, ← EReal.coe_mul]
  congr 1
  ring

theorem f32_eps : Ideal.ofBits .f32 0x358637BD#32 = ((eps : ℝ) : EReal) := by
  simp [Ideal.ofBits, Ideal.ieee, eps]; norm_num; rw [← EReal.coe_mul]; norm_num
theorem f32_inv1024 : Ideal.ofBits .f32 0x3A800000#32 = ((1 / (1024 : ℕ) : ℝ) : EReal) := by
  simp [Ideal.ofBits, Ideal.ieee]; norm_num; rw [← EReal.coe_mul]; norm_num
theorem f32_inv512 : Ideal.ofBits .f32 0x3B000000#32 = ((1 / (512 : ℕ) : ℝ) : EReal) := by
  simp [Ideal.ofBits, Ideal.ieee]; norm_num; rw [← EReal.coe_mul]; norm_num
theorem f32_1024 : Ideal.ofBits .f32 0x44800000#32 = (((1024 : ℕ) : ℝ) : EReal) := by
  simp [Ideal.ofBits, Ideal.ieee]; norm_num; rw [← EReal.coe_mul]; norm_num
theorem f32_512 : Ideal.ofBits .f32 0x44000000#32 = (((512 : ℕ) : ℝ) : EReal) := by
  simp [Ideal.ofBits, Ideal.ieee]; norm_num; rw [← EReal.coe_mul]; norm_num
theorem f32_half : Ideal.ofBits .f32 0xBF000000#32 = ((-(1 / 2) : ℝ) : EReal) := by
  simp [Ideal.ofBits, Ideal.ieee]; norm_num; rw [← EReal.coe_mul]; norm_num
theorem f32_two : Ideal.ofBits .f32 0x40000000#32 = ((2 : ℝ) : EReal) := by
  simp [Ideal.ofBits, Ideal.ieee]; norm_num; rw [← EReal.coe_mul]; norm_num
theorem f32_zero : Ideal.ofBits .f32 0x00000000#32 = ((0 : ℝ) : EReal) := by
  simp [Ideal.ofBits, Ideal.ieee]

/-! ### The norm, at real rows -/

variable {n : ℕ}

theorem ms_pos (x : Fin n → ℝ) : 0 < (∑ k, x k * x k) * (1 / n) + eps := by
  have h1 : 0 ≤ ∑ k, x k * x k := Finset.sum_nonneg fun k _ => mul_self_nonneg _
  have h2 : 0 ≤ (∑ k, x k * x k) * (1 / (n : ℝ)) := mul_nonneg h1 (by positivity)
  have h3 : 0 < eps := by unfold eps; positivity
  linarith

theorem rsqrt_ms (x : Fin n → ℝ) : Ideal.rsqrt (((∑ k, x k * x k) * (1 / n) + eps : ℝ) : EReal) = ((rms x : ℝ) : EReal) := by
  rw [Idealize.ShloMosaic.Ideal.rsqrt_coe, if_neg (not_lt.mpr (ms_pos x).le), if_neg (ms_pos x).ne']
  rfl

/-- The root divided by the mean square is the root's cube. -/
theorem rms_div (x : Fin n → ℝ) : rms x / ((∑ k, x k * x k) * (1 / n) + eps) = rms x ^ 3 := by
  have h := Real.sq_sqrt (ms_pos x).le
  have h0 := (Real.sqrt_pos.mpr (ms_pos x)).ne'
  unfold rms
  generalize √((∑ k, x k * x k) * (1 / n) + eps) = s at h h0 ⊢
  rw [← h]
  field_simp

/-- One over the root mean square, as the kernel spells it. -/
def rsE (c : EReal) (y : Fin n → EReal) : EReal := Ideal.rsqrt ((∑ k, y k * y k) * c + Ideal.ofBits .f32 0x358637BD#32)
/-- The norm's derivative, as the kernel spells it. -/
def bwdE (c : EReal) (y g d : Fin n → EReal) (l : Fin n) : EReal :=
  rsE c y * (d l * g l) - y l * (rsE c y * rsE c y * rsE c y * c * ∑ k, d k * g k * y k)

theorem rsE_real (y : Fin n → ℝ) : rsE ((1 / n : ℝ) : EReal) (fun k => ((y k : ℝ) : EReal)) = ((rms y : ℝ) : EReal) := by
  unfold rsE
  rw [← rsqrt_ms, f32_eps]
  simp only [← EReal.coe_mul, ← coe_sum, ← EReal.coe_add]

theorem bwdE_real (y g d : Fin n → ℝ) (l : Fin n) :
    bwdE ((1 / n : ℝ) : EReal) (fun k => ((y k : ℝ) : EReal)) (fun k => ((g k : ℝ) : EReal)) (fun k => ((d k : ℝ) : EReal)) l = ((bwd y g d l : ℝ) : EReal) := by
  unfold bwdE
  rw [rsE_real]
  simp only [← EReal.coe_mul, ← coe_sum, ← EReal.coe_sub]
  congr 1
  unfold bwd
  ring

end Cert.Tail
-- ==== Proof.TailBwd.Arr.lean ====
/- The host's array expressions of a norm, of its derivative and of the products, at real arguments. -/
module

public import proofs.«01_k».proof.Proof.Gen.Reference3Ideal.Read
public import proofs.«01_k».proof.Proof.TailBwd.Real

@[expose] public section

noncomputable section

namespace Cert.Tail

open Cert.Reference3Ideal Cert.Reference3Ideal.Gen Idealize.ShloMosaic

variable {F : FTy → Type} [FloatOps F]

/-! ### Rows of 1024 -/

/-- The mean square of each row plus ε, and one over its root. -/
def msA (y : FVec F S8192x1024 .f32) : FVec F S8192x1 .f32 :=
  addf (Host.divf (broadcastInDim S8192x1 ![0] bcast_S8192_S8192x1_0
      (Host.reduceAdd (mulf y y) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))
def rsA (y : FVec F S8192x1024 .f32) : FVec F S8192x1 .f32 := Host.rsqrt (msA y)
/-- A column spread over 1024, and a gain over the rows. -/
def wideA (r : FVec F S8192x1 .f32) : FVec F S8192x1024 .f32 := broadcastInDim S8192x1024 ![0, 1] bcast_S8192x1_S8192x1024_0_1 r
def gainA (g : FVec F S1x1024 .f32) : FVec F S8192x1024 .f32 := broadcastInDim S8192x1024 ![0, 1] bcast_S1x1024_S8192x1024_0_1 g
/-- What the derivative of the mean square adds, once for each of the two factors of a square. -/
def pullA (y w : FVec F S8192x1024 .f32) : FVec F S8192x1024 .f32 :=
  broadcastInDim S8192x1024 ![0] bcast_S8192_S8192x1024_0
    (Host.reduceAdd (Host.divf (mulf (shapeCast S8192x1 (Host.reduceAdd (mulf y w) (constant S_ .f32 0x00000000#32) reducesTo_S8192x1024_S8192_d1 h_S_) shapeCasts_S8192_S8192x1)
        (mulf (broadcastInDim S8192x1 ![] bcast_S_S8192x1 (constant S_ .f32 0xBF000000#32)) (Host.divf (rsA y) (msA y))))
      (broadcastInDim S8192x1 ![] bcast_S_S8192x1 (constant S_ .f32 0x44800000#32)))
      (constant S_ .f32 0x00000000#32) reducesTo_S8192x1_S8192_d1 h_S_)
/-- The sum over the rows. -/
def sumA (u : FVec F S8192x1024 .f32) : FVec F S1x1024 .f32 :=
  shapeCast S1x1024 (Host.reduceAdd u (constant S_ .f32 0x00000000#32) reducesTo_S8192x1024_S1024_d0 h_S_) shapeCasts_S1024_S1x1024

section

variable (y w : Fin 8192 → Fin 1024 → ℝ) (t : Fin 8192) (j : Fin 1024)

theorem msA_real : msA (F := Ideal) (up2 y) (ix2 t 0) = (((∑ k, y t k * y t k) * (1 / (1024 : ℕ)) + eps : ℝ) : EReal) := by
  pointwise [msA]
  simp only [up2_apply, ← EReal.coe_mul, ← coe_sum]
  rw [f32_1024, f32_eps, div_real _ _ (by norm_num), ← EReal.coe_add, mul_one_div]
theorem rsA_real : rsA (F := Ideal) (up2 y) (ix2 t 0) = ((rms (y t) : ℝ) : EReal) := by
  rw [← rsqrt_ms, ← msA_real]
  pointwise [rsA]
theorem wideA_real (r : FVec Ideal S8192x1 .f32) : wideA r (ix2 t j) = r (ix2 t 0) := by
  pointwise [wideA]
theorem gainA_real (g : Fin 1 → Fin 1024 → ℝ) : gainA (F := Ideal) (up2 g) (ix2 t j) = ((g 0 j : ℝ) : EReal) := by
  pointwise [gainA]
  rfl
theorem pullA_real : pullA (F := Ideal) (up2 y) (up2 w) (ix2 t j) = (((∑ k, y t k * w t k) * (-(1 / 2) * rms (y t) ^ 3) / (1024 : ℕ) : ℝ) : EReal) := by
  have h1 := msA_real y t
  have h2 := rsA_real y t
  pointwise [pullA]
  simp only [up2_apply, ← EReal.coe_mul, ← coe_sum]
  rw [Fin.sum_univ_one, h1, h2, f32_1024, f32_half, div_real _ _ (ms_pos (y t)).ne', rms_div, ← EReal.coe_mul, ← EReal.coe_mul, div_real _ _ (by norm_num)]
theorem sumA_real (u : Fin 8192 → Fin 1024 → ℝ) : sumA (F := Ideal) (up2 u) (ix2 0 j) = ((∑ t, u t j : ℝ) : EReal) := by
  pointwise [sumA]
  simp only [up2_apply, ← coe_sum]

end

/-! ### Rows of 512 -/

def msB (y : FVec F S8192x512 .f32) : FVec F S8192x1 .f32 :=
  addf (Host.divf (broadcastInDim S8192x1 ![0] bcast_S8192_S8192x1_0
      (Host.reduceAdd (mulf y y) (constant S_ .f32 0x00000000#32) reducesTo_S8192x512_S8192_d1 h_S_))
    (broadcastInDim S8192x1 ![] bcast_S_S8192x1 (constant S_ .f32 0x44000000#32)))
    (broadcastInDim S8192x1 ![] bcast_S_S8192x1 (constant S_ .f32 0x358637BD#32))
def rsB (y : FVec F S8192x512 .f32) : FVec F S8192x1 .f32 := Host.rsqrt (msB y)
def wideB (r : FVec F S8192x1 .f32) : FVec F S8192x512 .f32 := broadcastInDim S8192x512 ![0, 1] bcast_S8192x1_S8192x512_0_1 r
def gainB (g : FVec F S1x512 .f32) : FVec F S8192x512 .f32 := broadcastInDim S8192x512 ![0, 1] bcast_S1x512_S8192x512_0_1 g
def pullB (y w : FVec F S8192x512 .f32) : FVec F S8192x512 .f32 :=
  broadcastInDim S8192x512 ![0] bcast_S8192_S8192x512_0
    (Host.reduceAdd (Host.divf (mulf (shapeCast S8192x1 (Host.reduceAdd (mulf y w) (constant S_ .f32 0x00000000#32) reducesTo_S8192x512_S8192_d1 h_S_) shapeCasts_S8192_S8192x1)
        (mulf (broadcastInDim S8192x1 ![] bcast_S_S8192x1 (constant S_ .f32 0xBF000000#32)) (Host.divf (rsB y) (msB y))))
      (broadcastInDim S8192x1 ![] bcast_S_S8192x1 (constant S_ .f32 0x44000000#32)))
      (constant S_ .f32 0x00000000#32) reducesTo_S8192x1_S8192_d1 h_S_)
def sumB (u : FVec F S8192x512 .f32) : FVec F S1x512 .f32 :=
  shapeCast S1x512 (Host.reduceAdd u (constant S_ .f32 0x00000000#32) reducesTo_S8192x512_S512_d0 h_S_) shapeCasts_S512_S1x512

section

variable (y w : Fin 8192 → Fin 512 → ℝ) (t : Fin 8192) (j : Fin 512)

theorem msB_real : msB (F := Ideal) (up2 y) (ix2 t 0) = (((∑ k, y t k * y t k) * (1 / (512 : ℕ)) + eps : ℝ) : EReal) := by
  pointwise [msB]
  simp only [up2_apply, ← EReal.coe_mul, ← coe_sum]
  rw [f32_512, f32_eps, div_real _ _ (by norm_num), ← EReal.coe_add, mul_one_div]
theorem rsB_real : rsB (F := Ideal) (up2 y) (ix2 t 0) = ((rms (y t) : ℝ) : EReal) := by
  rw [← rsqrt_ms, ← msB_real]
  pointwise [rsB]
theorem wideB_real (r : FVec Ideal S8192x1 .f32) : wideB r (ix2 t j) = r (ix2 t 0) := by
  pointwise [wideB]
theorem gainB_real (g : Fin 1 → Fin 512 → ℝ) : gainB (F := Ideal) (up2 g) (ix2 t j) = ((g 0 j : ℝ) : EReal) := by
  pointwise [gainB]
  rfl
theorem pullB_real : pullB (F := Ideal) (up2 y) (up2 w) (ix2 t j) = (((∑ k, y t k * w t k) * (-(1 / 2) * rms (y t) ^ 3) / (512 : ℕ) : ℝ) : EReal) := by
  have h1 := msB_real y t
  have h2 := rsB_real y t
  pointwise [pullB]
  simp only [up2_apply, ← EReal.coe_mul, ← coe_sum]
  rw [Fin.sum_univ_one, h1, h2, f32_512, f32_half, div_real _ _ (ms_pos (y t)).ne', rms_div, ← EReal.coe_mul, ← EReal.coe_mul, div_real _ _ (by norm_num)]
theorem sumB_real (u : Fin 8192 → Fin 512 → ℝ) : sumB (F := Ideal) (up2 u) (ix2 0 j) = ((∑ t, u t j : ℝ) : EReal) := by
  pointwise [sumB]
  simp only [up2_apply, ← coe_sum]

end

/-! ### The same as equations between arrays of reals -/

section

variable {n k : ℕ}

theorem mul_up (f g : Fin n → Fin k → ℝ) : mulf (F := Ideal) (up2 f) (up2 g) = up2 fun t l => f t l * g t l := by
  funext i; exact (EReal.coe_mul _ _).symm
theorem add_up (f g : Fin n → Fin k → ℝ) : addf (F := Ideal) (up2 f) (up2 g) = up2 fun t l => f t l + g t l := by
  funext i; exact (EReal.coe_add _ _).symm

theorem rs_up (y : Fin 8192 → Fin 1024 → ℝ) : wideA (F := Ideal) (rsA (up2 y)) = up2 fun t _ => rms (y t) :=
  ext2 fun t l => by rw [wideA_real, rsA_real]
theorem gain_up (g : Fin 1 → Fin 1024 → ℝ) : gainA (F := Ideal) (up2 g) = up2 fun _ l => g 0 l := ext2 fun t l => gainA_real t l g
theorem pull_up (y w : Fin 8192 → Fin 1024 → ℝ) :
    pullA (F := Ideal) (up2 y) (up2 w) = up2 fun t _ => (∑ k, y t k * w t k) * (-(1 / 2) * rms (y t) ^ 3) / (1024 : ℕ) := ext2 fun t l => pullA_real y w t l
theorem sum_up (u : Fin 8192 → Fin 1024 → ℝ) : sumA (F := Ideal) (up2 u) = up2 fun _ l => ∑ t, u t l := ext2 fun t l => by
  rw [Subsingleton.elim t 0]; exact sumA_real l u
theorem rsB_up (y : Fin 8192 → Fin 512 → ℝ) : wideB (F := Ideal) (rsB (up2 y)) = up2 fun t _ => rms (y t) :=
  ext2 fun t l => by rw [wideB_real, rsB_real]
theorem gainB_up (g : Fin 1 → Fin 512 → ℝ) : gainB (F := Ideal) (up2 g) = up2 fun _ l => g 0 l := ext2 fun t l => gainB_real t l g
theorem pullB_up (y w : Fin 8192 → Fin 512 → ℝ) :
    pullB (F := Ideal) (up2 y) (up2 w) = up2 fun t _ => (∑ k, y t k * w t k) * (-(1 / 2) * rms (y t) ^ 3) / (512 : ℕ) := ext2 fun t l => pullB_real y w t l
theorem sumB_up (u : Fin 8192 → Fin 512 → ℝ) : sumB (F := Ideal) (up2 u) = up2 fun _ l => ∑ t, u t l := ext2 fun t l => by
  rw [Subsingleton.elim t 0]; exact sumB_real l u

end

/-! The arrays of zeros, the relu and what its derivative selects. -/

def zeroX : FVec F S8192x1024 .f32 := broadcastInDim S8192x1024 ![] bcast_S_S8192x1024 (constant S_ .f32 0x00000000#32)
def zeroM : FVec F S8192x4096 .f32 := broadcastInDim S8192x4096 ![] bcast_S_S8192x4096 (constant S_ .f32 0x00000000#32)
def twoM : FVec F S8192x4096 .f32 := broadcastInDim S8192x4096 ![] bcast_S_S8192x4096 (constant S_ .f32 0x40000000#32)

theorem zeroX_up : zeroX (F := Ideal) = up2 fun _ _ => 0 := ext2 fun t l => by
  rw [← f32_zero]; rfl
theorem zeroM_up : zeroM (F := Ideal) = up2 fun _ _ => 0 := ext2 fun t l => by
  rw [← f32_zero]; rfl
theorem twoM_up : twoM (F := Ideal) = up2 fun _ _ => 2 := ext2 fun t l => by
  rw [← f32_two]; rfl
theorem relu_up (p : Fin 8192 → Fin 4096 → ℝ) : maximumf (F := Ideal) (up2 p) (up2 fun _ _ => 0) = up2 fun t m => max (p t m) 0 := ext2 fun t m => by
  pointwise []
  simp only [up2_apply]
  exact (EReal.coe_strictMono.monotone.map_max).symm
theorem select_up (p u : Fin 8192 → Fin 4096 → ℝ) :
    select (cmpf (F := Ideal) .ogt (up2 p) (up2 fun _ _ => 0)) (up2 u) (up2 fun _ _ => 0) = up2 fun t m => if 0 < p t m then u t m else 0 := ext2 fun t m => by
  show Scalar.select (Idealize.ShloMosaic.Ideal.cmp .ogt ((p t m : ℝ) : EReal) ((0 : ℝ) : EReal)) ((u t m : ℝ) : EReal) ((0 : ℝ) : EReal) = _
  unfold Scalar.select Idealize.ShloMosaic.Ideal.cmp
  by_cases h : 0 < p t m <;> simp [h]

/-! The products. -/

theorem dot_wo (f : Fin 8192 → Fin 1024 → ℝ) (g : Fin 1024 → Fin 1024 → ℝ) :
    Host.dotGeneral (F := Ideal) (φ₁ := .f32) (φ₂ := .f32) dot_S8192x1024_S1024x1024_S8192x1024_1_0_0_1_n_n none (up2 f) (up2 g) = up2 fun t j => ∑ k, f t k * g k j := ext2 fun t j => by
  pointwise []
  simp only [up2_apply, ← EReal.coe_mul, ← coe_sum]
theorem dot_w1 (f : Fin 8192 → Fin 1024 → ℝ) (g : Fin 1024 → Fin 4096 → ℝ) :
    Host.dotGeneral (F := Ideal) (φ₁ := .f32) (φ₂ := .f32) dot_S8192x1024_S1024x4096_S8192x4096_1_0_0_1_n_n none (up2 f) (up2 g) = up2 fun t j => ∑ k, f t k * g k j := ext2 fun t j => by
  pointwise []
  simp only [up2_apply, ← EReal.coe_mul, ← coe_sum]
theorem dot_w2 (f : Fin 8192 → Fin 4096 → ℝ) (g : Fin 4096 → Fin 1024 → ℝ) :
    Host.dotGeneral (F := Ideal) (φ₁ := .f32) (φ₂ := .f32) dot_S8192x4096_S4096x1024_S8192x1024_1_0_0_1_n_n none (up2 f) (up2 g) = up2 fun t j => ∑ k, f t k * g k j := ext2 fun t j => by
  pointwise []
  simp only [up2_apply, ← EReal.coe_mul, ← coe_sum]
theorem dot_w2t (f : Fin 8192 → Fin 1024 → ℝ) (g : Fin 4096 → Fin 1024 → ℝ) :
    Host.dotGeneral (F := Ideal) (φ₁ := .f32) (φ₂ := .f32) dot_S8192x1024_S4096x1024_S8192x4096_1_1_0_0_n_n none (up2 f) (up2 g) = up2 fun t m => ∑ j, f t j * g m j := ext2 fun t j => by
  pointwise []
  simp only [up2_apply, ← EReal.coe_mul, ← coe_sum]
theorem dot_w1t (f : Fin 8192 → Fin 4096 → ℝ) (g : Fin 1024 → Fin 4096 → ℝ) :
    Host.dotGeneral (F := Ideal) (φ₁ := .f32) (φ₂ := .f32) dot_S8192x4096_S1024x4096_S8192x1024_1_1_0_0_n_n none (up2 f) (up2 g) = up2 fun t k => ∑ m, f t m * g k m := ext2 fun t j => by
  pointwise []
  simp only [up2_apply, ← EReal.coe_mul, ← coe_sum]
theorem dot_wot (f : Fin 8192 → Fin 1024 → ℝ) (g : Fin 1024 → Fin 1024 → ℝ) :
    Host.dotGeneral (F := Ideal) (φ₁ := .f32) (φ₂ := .f32) dot_S8192x1024_S1024x1024_S8192x1024_1_1_0_0_n_n none (up2 f) (up2 g) = up2 fun t k => ∑ j, f t j * g k j := ext2 fun t j => by
  pointwise []
  simp only [up2_apply, ← EReal.coe_mul, ← coe_sum]

/-! Laying out. -/

theorem cat_up (f g : Fin 8192 → Fin 512 → ℝ) :
    concatenate S8192x1024 1 [⟨S8192x512, up2 f⟩, ⟨S8192x512, up2 g⟩] concatenates_S8192x512_S8192x512_S8192x1024_d1
      = up2 fun t (k : Fin 1024) => if h : k.val < 512 then f t ⟨k.val, h⟩ else g t ⟨k.val - 512, by omega⟩ := ext2 fun t k => by
  pointwise []
  simp only [up2_apply]
  split_ifs <;> rfl
theorem lo_up (f : Fin 8192 → Fin 1024 → ℝ) :
    extractStridedSlice S8192x512 ![0, 0] (up2 f) slices_S8192x1024_S8192x512_0_0 = up2 fun t k => f t (lo k) := ext2 fun t k => by
  pointwise []
  rfl
theorem hi_up (f : Fin 8192 → Fin 1024 → ℝ) :
    extractStridedSlice S8192x512 ![0, 512] (up2 f) slices_S8192x1024_S8192x512_0_512 = up2 fun t k => f t (hi k) := ext2 fun t k => by
  pointwise []
  rfl
theorem same_up (f : Fin 8192 → Fin 1024 → ℝ) : shapeCast S8192x1024 (up2 f) shapeCasts_S8192x1024_S8192x1024 = up2 f := ext2 fun t k => by
  pointwise []
  rfl

/-- The norm's derivative, as the reference sums it. -/
theorem bwd_ref {n : ℕ} (y g d : Fin n → ℝ) (j : Fin n) :
    d j * g j * rms y + y j * ((∑ k, y k * (d k * g k)) * (-(1 / 2) * rms y ^ 3) / n) + (∑ k, y k * (d k * g k)) * (-(1 / 2) * rms y ^ 3) / n * y j
      = bwd y g d j := by
  rw [show ∑ k, y k * (d k * g k) = ∑ k, d k * g k * y k from Finset.sum_congr rfl fun k _ => mul_comm _ _]
  unfold bwd
  ring

end Cert.Tail
-- ==== Proof.TailBwd.Host.lean ====
/- What the call's operands hold: the saved forward values, computed on the host by the forward pass's own lines, the weights
   rounded, and the two selections between heads and lanes. -/
module

public import proofs.«01_k».proof.Proof.TailBwd.Vals
public import proofs.«01_k».proof.Proof.TailBwd.Arr
public import Idealize.ShloMosaic.Lib.Claim
public import Idealize.ShloMosaic.Lib.StableHlo.RunRead

@[expose] public section

set_option maxRecDepth 16384

noncomputable section

namespace Cert.Kernel3Ideal.TailBwd

open Cert.Kernel3Ideal Cert.Kernel3Ideal.Gen Idealize.ShloMosaic Idealize.ShloMosaic.TcCoe Idealize.ShloMosaic.Tactic
open Cert.Tail

variable {F : FTy → Type} [FloatOps F]

/-- The projected output, the residual stream, the feed-forward's relu and its output. -/
def ovK (x1 x2 : FVec F S8192x512 .f32) (x3 : FVec F S1x512 .f32) (x4 : FVec F S1024x1024 .f32) : FVec F S8192x1024 .f32 :=
  Host.dotGeneral dot_S8192x1024_S1024x1024_S8192x1024_1_0_0_1_n_n none
    (concatenate S8192x1024 1 [⟨S8192x512, mulf (mulf x1 (wideB (rsB x1))) (gainB x3)⟩, ⟨S8192x512, x2⟩] concatenates_S8192x512_S8192x512_S8192x1024_d1) x4
def h1K (o x0 : FVec F S8192x1024 .f32) (g : FVec F S1x1024 .f32) : FVec F S8192x1024 .f32 := addf x0 (mulf (mulf o (wideA (rsA o))) (gainA g))
def rK (h : FVec F S8192x1024 .f32) (g : FVec F S1x1024 .f32) (w1 : FVec F S1024x4096 .f32) : FVec F S8192x4096 .f32 :=
  maximumf (Host.dotGeneral dot_S8192x1024_S1024x4096_S8192x4096_1_0_0_1_n_n none (mulf (mulf h (wideA (rsA h))) (gainA g)) w1) zeroM
def ffK (r : FVec F S8192x4096 .f32) (w2 : FVec F S4096x1024 .f32) : FVec F S8192x1024 .f32 :=
  Host.dotGeneral dot_S8192x4096_S4096x1024_S8192x1024_1_0_0_1_n_n none (mulf r r) w2

/-- The quotient rounded down, and the remainder with the divisor's sign, by a scalar. -/
def fdivA {s : Shape} (hb : S_.BroadcastsInDim s ![]) (x : IVec s 32) (y : IVec S_ 32) : IVec s 32 :=
  select (andi (cmpi .ne (signi x) (broadcastInDim s ![] hb (signi y)))
      (cmpi .ne (Host.remsi x (broadcastInDim s ![] hb y)) (broadcastInDim s ![] hb (constantI S_ 32 0#32))))
    (subi (Host.divsi x (broadcastInDim s ![] hb y)) (broadcastInDim s ![] hb (constantI S_ 32 1#32)))
    (Host.divsi x (broadcastInDim s ![] hb y))
def divisor (y : IVec S_ 32) : IVec S_ 32 := select (cmpi .eq y (constantI S_ 32 0#32)) (constantI S_ 32 1#32) y
def remA {s : Shape} (hb : S_.BroadcastsInDim s ![]) (x : IVec s 32) (y : IVec S_ 32) : IVec s 32 :=
  select (andi (cmpi .ne (cmpi .slt (Host.remsi x (broadcastInDim s ![] hb (divisor y))) (broadcastInDim s ![] hb (constantI S_ 32 0#32)))
        (broadcastInDim s ![] hb (cmpi .slt (divisor y) (constantI S_ 32 0#32))))
      (cmpi .ne (Host.remsi x (broadcastInDim s ![] hb (divisor y))) (broadcastInDim s ![] hb (constantI S_ 32 0#32))))
    (addi (Host.remsi x (broadcastInDim s ![] hb (divisor y))) (broadcastInDim s ![] hb (divisor y)))
    (Host.remsi x (broadcastInDim s ![] hb (divisor y)))
/-- The head of each element, and the spread of each head's 64 elements over 128 lanes. -/
def gsK : FVec F S512x128 .bf16 :=
  uitofp .bf16 (cmpi .eq (fdivA bcast_S_S512x128 (iotaInDim S512x128 32 0) (constantI S_ 32 64#32)) (iotaInDim S512x128 32 1))
def exK : FVec F S512x1024 .bf16 :=
  uitofp .bf16 (cmpi .eq (addi (muli (fdivA bcast_S_S512x1024 (iotaInDim S512x1024 32 0) (constantI S_ 32 64#32))
      (broadcastInDim S512x1024 ![] bcast_S_S512x1024 (constantI S_ 32 128#32)))
    (remA bcast_S_S512x1024 (iotaInDim S512x1024 32 0) (constantI S_ 32 64#32))) (iotaInDim S512x1024 32 1))
/-- The first weight in four slabs of columns. -/
def w1K (w : FVec F S1024x4096 .f32) : FVec F S4x1024x1024 .bf16 :=
  transpose S4x1024x1024 [1, 0, 2] (shapeCast S1024x4x1024 (truncf .bf16 w bitsLt_bf16_f32) shapeCasts_S1024x4096_S1024x4x1024) transposes_S1024x4x1024_S4x1024x1024_1_0_2

variable (m : (ℓ : Loc nD τ sig) → Buf (Elt F) ℓ) (c : Dev nD)

abbrev X0 : FVec F S8192x1024 .f32 := m ((c : Thread nD τ).loc main_arg0)
abbrev X1 : FVec F S8192x512 .f32 := m ((c : Thread nD τ).loc main_arg1)
abbrev X2 : FVec F S8192x512 .f32 := m ((c : Thread nD τ).loc main_arg2)
abbrev X3 : FVec F S1x512 .f32 := m ((c : Thread nD τ).loc main_arg3)
abbrev X4 : FVec F S1024x1024 .f32 := m ((c : Thread nD τ).loc main_arg4)
abbrev X5 : FVec F S1x1024 .f32 := m ((c : Thread nD τ).loc main_arg5)
abbrev X6 : FVec F S1x1024 .f32 := m ((c : Thread nD τ).loc main_arg6)
abbrev X7 : FVec F S1024x4096 .f32 := m ((c : Thread nD τ).loc main_arg7)
abbrev X8 : FVec F S4096x1024 .f32 := m ((c : Thread nD τ).loc main_arg8)
abbrev X9 : FVec F S1x1024 .f32 := m ((c : Thread nD τ).loc main_arg9)
abbrev X10 : FVec F S8192x1024 .f32 := m ((c : Thread nD τ).loc main_arg10)

abbrev ovM : FVec F S8192x1024 .f32 := ovK (X1 m c) (X2 m c) (X3 m c) (X4 m c)
abbrev h1M : FVec F S8192x1024 .f32 := h1K (ovM m c) (X0 m c) (X5 m c)
abbrev rM : FVec F S8192x4096 .f32 := rK (h1M m c) (X6 m c) (X7 m c)
abbrev ffM : FVec F S8192x1024 .f32 := ffK (rM m c) (X8 m c)

theorem V_main_v61 : V m c main_v61 = truncf .bf16 (X8 m c) bitsLt_bf16_f32 := by
  unfold_abbrev_sides
  simp only [List.flatten_cons, List.flatten_nil, List.append_nil, List.cons_append, List.nil_append]
  after_reads_simp
theorem V_main_v59 : V m c main_v59 = w1K (X7 m c) := by
  unfold_abbrev_sides
  simp only [List.flatten_cons, List.flatten_nil, List.append_nil, List.cons_append, List.nil_append]
  after_reads_simp
  rfl
theorem V_main_v62 : V m c main_v62 = truncf .bf16 (X4 m c) bitsLt_bf16_f32 := by
  unfold_abbrev_sides
  simp only [List.flatten_cons, List.flatten_nil, List.append_nil, List.cons_append, List.nil_append]
  after_reads_simp
theorem V_main_v47 : V m c main_v47 = gsK := by
  unfold_abbrev_sides
  simp only [List.flatten_cons, List.flatten_nil, List.append_nil, List.cons_append, List.nil_append]
  after_reads_simp
  rfl
set_option maxHeartbeats 1000000 in
theorem V_main_v56 : V m c main_v56 = exK := by
  unfold_abbrev_sides
  simp only [List.flatten_cons, List.flatten_nil, List.append_nil, List.cons_append, List.nil_append]
  after_reads_simp
  rfl
theorem V_main_v13 : V m c main_v13 = ovM m c := by
  unfold_abbrev_sides
  simp only [List.flatten_cons, List.flatten_nil, List.append_nil, List.cons_append, List.nil_append]
  after_reads_simp
  rfl
set_option maxHeartbeats 1000000 in
theorem V_main_v26 : V m c main_v26 = h1M m c := by
  unfold_abbrev_sides
  simp only [List.flatten_cons, List.flatten_nil, List.append_nil, List.cons_append, List.nil_append]
  after_reads_simp
  rfl
set_option maxHeartbeats 1000000 in
theorem V_main_v60 : V m c main_v60 = truncf .bf16 (rM m c) bitsLt_bf16_f32 := by
  unfold_abbrev_sides
  simp only [List.flatten_cons, List.flatten_nil, List.append_nil, List.cons_append, List.nil_append]
  after_reads_simp
  rfl
set_option maxHeartbeats 1000000 in
theorem V_main_v42 : V m c main_v42 = ffM m c := by
  unfold_abbrev_sides
  simp only [List.flatten_cons, List.flatten_nil, List.append_nil, List.cons_append, List.nil_append]
  after_reads_simp
  rfl

end Cert.Kernel3Ideal.TailBwd
-- ==== Proof.TailBwd.Pays.lean ====
/- The call's payloads at an index: each norm's derivative, the products and the gains' sums. -/
module

public import proofs.«01_k».proof.Proof.TailBwd.Vals
public import proofs.«01_k».proof.Proof.TailBwd.Real

@[expose] public section

set_option maxRecDepth 16384

noncomputable section

namespace Cert.Kernel3Ideal.TailBwd

open Cert.Kernel3Ideal Cert.Kernel3Ideal.Gen Idealize.ShloMosaic Idealize.ShloMosaic.TcCoe Idealize.SL.Sem
open Cert.Tail

/-- 1/1024 and 1/512 -/
abbrev cD : EReal := Ideal.ofBits .f32 0x3A800000#32
abbrev cH : EReal := Ideal.ofBits .f32 0x3B000000#32

variable (r : Fin 256) (l : Fin 1024)

/-! One over the root mean square of a block's row. -/

theorem pay7_at (y : Vec Ideal S256x1024 .f32) : k0_pay7 y (ix2 r 0) = rsE cD (fun k => y (ix2 r k)) := by
  unfold rsE
  pointwise [k0_pay7, k0_pay6]
theorem pay14_at (y : Vec Ideal S256x1024 .f32) : k0_pay14 y (ix2 r 0) = rsE cD (fun k => y (ix2 r k)) := by
  unfold rsE
  pointwise [k0_pay14, k0_pay13]
theorem pay19_at (y : Vec Ideal S256x1024 .f32) : k0_pay19 (k0_pay18 y) (ix2 r 0) = rsE cD (fun k => y (ix2 r k)) := by
  unfold rsE
  pointwise [k0_pay19, k0_pay18, k0_pay17]
theorem pay24_at (y : Vec Ideal S256x512 .f32) : k0_pay24 y (ix2 r 0) = rsE cH (fun k => y (ix2 r k)) := by
  unfold rsE
  pointwise [k0_pay24]

/-! The norms' derivatives. -/

theorem pay8_at (d y : Vec Ideal S256x1024 .f32) (g : Vec Ideal S1x1024 .f32) :
    k0_pay8 d y g (ix2 r l) = bwdE cD (fun k => y (ix2 r k)) (fun k => g (ix2 0 k)) (fun k => d (ix2 r k)) l := by
  have h := pay7_at r y
  unfold bwdE
  pointwise [k0_pay8, k0_pay6]
  simp only [h]
theorem pay16_at (d D y : Vec Ideal S256x1024 .f32) (g : Vec Ideal S1x1024 .f32) :
    k0_pay16 d D y g (ix2 r l) = d (ix2 r l) + bwdE cD (fun k => y (ix2 r k)) (fun k => g (ix2 0 k)) (fun k => D (ix2 r k)) l := by
  have h := pay14_at r y
  unfold bwdE
  pointwise [k0_pay16, k0_pay13]
  simp only [h]
theorem pay21_at (D y : Vec Ideal S256x1024 .f32) (g : Vec Ideal S1x1024 .f32) :
    k0_pay21 D (k0_pay17 y) (k0_pay18 y) g (ix2 r l) = bwdE cD (fun k => y (ix2 r k)) (fun k => g (ix2 0 k)) (fun k => D (ix2 r k)) l := by
  have h := pay19_at r y
  unfold bwdE
  pointwise [k0_pay21, k0_pay17]
  simp only [h]
theorem pay25_at (D : FVec Ideal S256x1024 .bf16) (wt : Vec Ideal S512x1024 .bf16) (y : Vec Ideal S256x512 .f32) (g : Vec Ideal S1x512 .f32) (k : Fin 512) :
    k0_pay25 D wt y g (ix2 r k) = bwdE cH (fun k => y (ix2 r k)) (fun k => g (ix2 0 k)) (fun k => k0_pay23 D wt (ix2 r k)) k := by
  have h := pay24_at r y
  unfold bwdE
  pointwise [k0_pay25]
  simp only [h]

/-! The products. -/

theorem pay10_at (D : FVec Ideal S256x1024 .f32) : k0_pay10 D (ix2 r l) = D (ix2 r l) := by
  pointwise [k0_pay10]
theorem pay11_at (D : FVec Ideal S256x1024 .f32) (w2 : Vec Ideal S4096x1024 .bf16) (rr : Vec Ideal S256x4096 .bf16) (n : Fin 4096) :
    k0_pay11 D w2 rr (ix2 r n) = (∑ j, D (ix2 r j) * w2 (ix2 n j)) * (Ideal.ofBits .f32 0x40000000#32 * rr (ix2 r n)) := by
  pointwise [k0_pay11, k0_pay10]
theorem pay23_at (D : FVec Ideal S256x1024 .bf16) (wt : Vec Ideal S512x1024 .bf16) (k : Fin 512) :
    k0_pay23 D wt (ix2 r k) = ∑ j, D (ix2 r j) * wt (ix2 k j) := by
  pointwise [k0_pay23]
theorem pay22_at (D y s : Vec Ideal S256x1024 .f32) (g : Vec Ideal S1x1024 .f32) (wt : Vec Ideal S512x1024 .bf16) (k : Fin 512) :
    k0_pay22 D y s g wt (ix2 r k) = ∑ j, k0_pay21 D y s g (ix2 r j) * wt (ix2 k j) := by
  pointwise [k0_pay22]
theorem pay27_at (D : FVec Ideal S256x1024 .bf16) (wt : Vec Ideal S512x1024 .bf16) (y : Vec Ideal S256x512 .f32) (g : Vec Ideal S1x512 .f32) (ex : Vec Ideal S512x1024 .bf16) :
    k0_pay27 D wt y g ex (ix2 r l) = ∑ k, k0_pay25 D wt y g (ix2 r k) * ex (ix2 k l) := by
  pointwise [k0_pay27]
theorem pay1_at (y : Vec Ideal S256x512 .f32) (D : FVec Ideal S256x512 .f32) (gs : Vec Ideal S512x128 .bf16) (h : Fin 128) :
    k0_pay1 y D gs (ix2 r h) = (∑ k, D (ix2 r k) * y (ix2 r k) * gs (ix2 k h))
      + (∑ k, (D (ix2 r k) * y (ix2 r k) - D (ix2 r k) * y (ix2 r k)) * gs (ix2 k h))
      + ∑ k, (D (ix2 r k) * y (ix2 r k) - D (ix2 r k) * y (ix2 r k) - (D (ix2 r k) * y (ix2 r k) - D (ix2 r k) * y (ix2 r k))) * gs (ix2 k h) := by
  pointwise [k0_pay1]
/-- Column `k` of quarter `s`. -/
def qt (s : Fin 4) (k : Fin 1024) : Fin 4096 := ⟨1024 * s.val + k.val, by omega⟩
theorem pay12_at (D : FVec Ideal S256x1024 .f32) (w2 : Vec Ideal S4096x1024 .bf16) (rr : Vec Ideal S256x4096 .bf16) (s0 s1 s2 s3 : Vec Ideal S1x1024x1024 .bf16) :
    k0_pay12 D w2 rr s0 s1 s2 s3 (ix2 r l) = (∑ k, k0_pay11 D w2 rr (ix2 r (qt 0 k)) * s0 (ix3 0 l k)) + (∑ k, k0_pay11 D w2 rr (ix2 r (qt 1 k)) * s1 (ix3 0 l k))
      + (∑ k, k0_pay11 D w2 rr (ix2 r (qt 2 k)) * s2 (ix3 0 l k)) + ∑ k, k0_pay11 D w2 rr (ix2 r (qt 3 k)) * s3 (ix3 0 l k) := by
  have e0 (x : Fin 1024) (h) : (⟨x.val, h⟩ : Fin 4096) = qt 0 x := Fin.ext (by show x.val = 1024 * 0 + x.val; omega)
  have e1 (x : Fin 1024) (h) : (⟨1024 + x.val, h⟩ : Fin 4096) = qt 1 x := Fin.ext (by show 1024 + x.val = 1024 * 1 + x.val; omega)
  have e2 (x : Fin 1024) (h) : (⟨2048 + x.val, h⟩ : Fin 4096) = qt 2 x := Fin.ext (by show 2048 + x.val = 1024 * 2 + x.val; omega)
  have e3 (x : Fin 1024) (h) : (⟨3072 + x.val, h⟩ : Fin 4096) = qt 3 x := Fin.ext (by show 3072 + x.val = 1024 * 3 + x.val; omega)
  pointwise [k0_pay12]
  simp only [e0, e1, e2, e3]

/-! The gains' sums. -/

theorem pay9_at (d y : Vec Ideal S256x1024 .f32) (acc : Vec Ideal S1x1024 .f32) :
    k0_pay9 d y acc (ix2 0 l) = acc (ix2 0 l) + ∑ r, d (ix2 r l) * y (ix2 r l) * rsE cD (fun k => y (ix2 r k)) := by
  have h (r) := pay7_at r y
  pointwise [k0_pay9, k0_pay6]
  simp only [h]
theorem pay15_at (d y : Vec Ideal S256x1024 .f32) (acc : Vec Ideal S1x1024 .f32) :
    k0_pay15 d y acc (ix2 0 l) = acc (ix2 0 l) + ∑ r, d (ix2 r l) * y (ix2 r l) * rsE cD (fun k => y (ix2 r k)) := by
  have h (r) := pay14_at r y
  pointwise [k0_pay15, k0_pay13]
  simp only [h]
theorem pay20_at (d y : Vec Ideal S256x1024 .f32) (acc : Vec Ideal S1x1024 .f32) :
    k0_pay20 d (k0_pay17 y) (k0_pay18 y) acc (ix2 0 l) = acc (ix2 0 l) + ∑ r, d (ix2 r l) * y (ix2 r l) * rsE cD (fun k => y (ix2 r k)) := by
  have h (r) := pay19_at r y
  pointwise [k0_pay20, k0_pay17]
  simp only [h]
theorem pay26_at (D : FVec Ideal S256x1024 .bf16) (wt : Vec Ideal S512x1024 .bf16) (y : Vec Ideal S256x512 .f32) (acc : Vec Ideal S1x512 .f32) (k : Fin 512) :
    k0_pay26 D wt y acc (ix2 0 k) = acc (ix2 0 k) + ∑ r, k0_pay23 D wt (ix2 r k) * y (ix2 r k) * rsE cH (fun k => y (ix2 r k)) := by
  have h (r) := pay24_at r y
  pointwise [k0_pay26]
  simp only [h]

theorem zero_gff : (zeroA (F := Ideal)).gff (ix2 0 l) = 0 := by pointwise [zeroA, k0_pay2]
theorem zero_gpf : (zeroA (F := Ideal)).gpf (ix2 0 l) = 0 := by pointwise [zeroA, k0_pay3]
theorem zero_gpm : (zeroA (F := Ideal)).gpm (ix2 0 l) = 0 := by pointwise [zeroA, k0_pay4]
theorem zero_ga (k : Fin 512) : (zeroA (F := Ideal)).ga (ix2 0 k) = 0 := by pointwise [zeroA, k0_pay5]

/-! The blocks of the resident weights. -/

theorem slab_at (w1 : Vec Ideal S4x1024x1024 .bf16) (s : Fin 4) (a b : Fin 1024) : slab w1 s (ix3 0 a b) = w1 (ix3 s a b) := by
  unfold slab View.ld
  congr 1
  funext d
  fin_cases d <;> apply Fin.ext <;> simp [Rect.emb, Rect.unit, ix3]
theorem woTop_at (wo : Vec Ideal S1024x1024 .bf16) (k : Fin 512) (j : Fin 1024) : woTop wo (ix2 k j) = wo (ix2 (lo k) j) := by
  unfold woTop View.ld lo
  congr 1
  funext d
  fin_cases d <;> apply Fin.ext <;> simp [Rect.emb, Rect.unit, ix2]
theorem woBot_at (wo : Vec Ideal S1024x1024 .bf16) (k : Fin 512) (j : Fin 1024) : woBot wo (ix2 k j) = wo (ix2 (hi k) j) := by
  unfold woBot View.ld hi
  congr 1
  funext d
  fin_cases d <;> apply Fin.ext <;> simp [Rect.emb, Rect.unit, ix2]

end Cert.Kernel3Ideal.TailBwd
-- ==== Proof.TailBwd.Rows.lean ====
/- The call's block values at real arguments: the rows of the derivative, and the rows' sums for the gains. -/
module

public import proofs.«01_k».proof.Proof.TailBwd.Pays

@[expose] public section

set_option maxRecDepth 16384

noncomputable section

namespace Cert.Kernel3Ideal.TailBwd

open Cert.Kernel3Ideal Cert.Kernel3Ideal.Gen Idealize.ShloMosaic Idealize.ShloMosaic.TcCoe Idealize.SL.Sem
open Cert.Tail

/-- The head of element `k`, among 128 columns: one where it is `h`. -/
def sel (k : Fin 512) (h : Fin 128) : ℝ := if k.val / 64 = h.val then 1 else 0
/-- Where element `k` goes when each head's 64 elements are spread over 128 lanes. -/
def put (k : Fin 512) (l : Fin 1024) : ℝ := if k.val / 64 * 128 + k.val % 64 = l.val then 1 else 0

/-- The resident operands, as the reals they hold. -/
structure RealW (a : Inputs) (w : Wts Ideal) : Prop where
  w2 : ∀ n j, w.w2 (ix2 n j) = ((a.w2 n j : ℝ) : EReal)
  w1 : ∀ s k l, w.w1 (ix3 s k l) = ((a.w1 k (qt s l) : ℝ) : EReal)
  wo : ∀ k j, w.wo (ix2 k j) = ((a.wo k j : ℝ) : EReal)
  gff : ∀ k, w.gff (ix2 0 k) = ((a.gff 0 k : ℝ) : EReal)
  gpf : ∀ k, w.gpf (ix2 0 k) = ((a.gpf 0 k : ℝ) : EReal)
  gpm : ∀ k, w.gpm (ix2 0 k) = ((a.gpm 0 k : ℝ) : EReal)
  ga : ∀ k, w.ga (ix2 0 k) = ((a.ga 0 k : ℝ) : EReal)
  gs : ∀ k h, w.gs (ix2 k h) = ((sel k h : ℝ) : EReal)
  ex : ∀ k l, w.ex (ix2 k l) = ((put k l : ℝ) : EReal)

/-- A block of rows `T`, as the reals it holds. -/
structure RealX (a : Inputs) (T : Fin 256 → Fin 8192) (x : Blk Ideal) : Prop where
  dh : ∀ r j, x.dh (ix2 r j) = ((a.dh (T r) j : ℝ) : EReal)
  ff : ∀ r j, x.ff (ix2 r j) = ((a.ff (T r) j : ℝ) : EReal)
  rr : ∀ r n, x.rr (ix2 r n) = ((a.r (T r) n : ℝ) : EReal)
  h1 : ∀ r j, x.h1 (ix2 r j) = ((a.h1 (T r) j : ℝ) : EReal)
  ov : ∀ r j, x.ov (ix2 r j) = ((a.ov (T r) j : ℝ) : EReal)
  ya : ∀ r k, x.ya (ix2 r k) = ((a.ya (T r) k : ℝ) : EReal)

/-- A sum over 4096 by its four quarters. -/
theorem sum_quarters (f : Fin 4096 → ℝ) :
    ∑ n, f n = (∑ k, f (qt 0 k)) + (∑ k, f (qt 1 k)) + (∑ k, f (qt 2 k)) + ∑ k, f (qt 3 k) := by
  have e : ∑ n : Fin (1024 + 1024 + 1024 + 1024), f n = _ := Fin.sum_univ_add (a := 1024 + 1024 + 1024) (b := 1024) f
  refine e.trans ?_
  rw [Fin.sum_univ_add (a := 1024 + 1024) (b := 1024), Fin.sum_univ_add (a := 1024) (b := 1024)]
  refine congrArg₂ (· + ·) (congrArg₂ (· + ·) (congrArg₂ (· + ·) ?_ ?_) ?_) ?_ <;>
    exact Finset.sum_congr rfl fun k _ => congrArg f (Fin.ext (by simp [qt] <;> omega))

variable {a : Inputs} {T : Fin 256 → Fin 8192} {w : Wts Ideal} {x : Blk Ideal} (hw : RealW a w) (hx : RealX a T x)
include hw hx

theorem dffV_real (r : Fin 256) (j : Fin 1024) : dffV w x (ix2 r j) = ((a.dff (T r) j : ℝ) : EReal) := by
  unfold dffV
  rw [pay8_at]
  simp only [hx.ff, hx.dh, hw.gff]
  rw [cD, f32_inv1024, bwdE_real]
  rfl
theorem dffB_real (r : Fin 256) (j : Fin 1024) : dffB w x (ix2 r j) = ((a.dff (T r) j : ℝ) : EReal) := by
  unfold dffB
  rw [pay10_at, dffV_real hw hx]
theorem drB_real (r : Fin 256) (n : Fin 4096) : drB w x (ix2 r n) = ((a.dr (T r) n : ℝ) : EReal) := by
  unfold drB
  rw [pay11_at, f32_two]
  simp only [dffV_real hw hx, hw.w2, hx.rr, ← EReal.coe_mul, ← coe_sum]
  rfl
theorem dcV_real (r : Fin 256) (j : Fin 1024) : dcV w x (ix2 r j) = ((a.dc (T r) j : ℝ) : EReal) := by
  have h (n : Fin 4096) : k0_pay11 (dffV w x) w.w2 x.rr (ix2 r n) = _ := drB_real hw hx r n
  unfold dcV
  rw [pay12_at]
  simp only [h, slab_at, hw.w1, ← EReal.coe_mul, ← coe_sum, ← EReal.coe_add]
  unfold Inputs.dc
  rw [sum_quarters]
theorem dh1B_real (r : Fin 256) (j : Fin 1024) : dh1B w x (ix2 r j) = ((a.dh1 (T r) j : ℝ) : EReal) := by
  unfold dh1B
  rw [pay16_at]
  simp only [hx.dh, hx.h1, hw.gpf, dcV_real hw hx]
  rw [cD, f32_inv1024, bwdE_real, ← EReal.coe_add]
  rfl
theorem doB_real (r : Fin 256) (j : Fin 1024) : doB w x (ix2 r j) = ((a.dov (T r) j : ℝ) : EReal) := by
  unfold doB
  rw [pay21_at]
  simp only [hx.ov, hw.gpm, dh1B_real hw hx]
  rw [cD, f32_inv1024, bwdE_real]
  rfl
theorem dysB_real (r : Fin 256) (k : Fin 512) : dysB w x (ix2 r k) = ((a.dys (T r) k : ℝ) : EReal) := by
  have h (j : Fin 1024) : k0_pay21 (dh1B w x) (k0_pay17 x.ov) (k0_pay18 x.ov) w.gpm (ix2 r j) = _ := doB_real hw hx r j
  unfold dysB
  rw [pay22_at]
  simp only [h, woBot_at, hw.wo, ← EReal.coe_mul, ← coe_sum]
  rfl
theorem dcaV_real (r : Fin 256) (k : Fin 512) : k0_pay23 (doB w x) (woTop w.wo) (ix2 r k) = ((a.dca (T r) k : ℝ) : EReal) := by
  rw [pay23_at]
  simp only [doB_real hw hx, woTop_at, hw.wo, ← EReal.coe_mul, ← coe_sum]
  rfl
theorem dyaV_real (r : Fin 256) (k : Fin 512) : dyaV w x (ix2 r k) = ((a.dya (T r) k : ℝ) : EReal) := by
  unfold dyaV
  rw [pay25_at]
  simp only [hx.ya, hw.ga, dcaV_real hw hx]
  rw [cH, f32_inv512, bwdE_real]
  rfl
theorem do8B_real (r : Fin 256) (l : Fin 1024) : do8B w x (ix2 r l) = ((∑ k, a.dya (T r) k * put k l : ℝ) : EReal) := by
  have h (k : Fin 512) : k0_pay25 (doB w x) (woTop w.wo) x.ya w.ga (ix2 r k) = _ := dyaV_real hw hx r k
  unfold do8B
  rw [pay27_at]
  simp only [h, hw.ex, ← EReal.coe_mul, ← coe_sum]
theorem dltB_real (r : Fin 256) (h : Fin 128) : dltB w x (ix2 r h) = ((∑ k, a.dya (T r) k * a.ya (T r) k * sel k h : ℝ) : EReal) := by
  unfold dltB
  rw [pay1_at]
  simp only [dyaV_real hw hx, hx.ya, hw.gs, ← EReal.coe_mul, ← EReal.coe_sub, ← coe_sum, ← EReal.coe_add]
  congr 1
  simp

/-! The gains' sums. -/

variable {A : Acc Ideal} (l : Fin 1024)

theorem gff_real : (stepA w x A).gff (ix2 0 l) = A.gff (ix2 0 l) + ((∑ r, a.dh (T r) l * a.ff (T r) l * rms (a.ff (T r)) : ℝ) : EReal) := by
  refine (pay9_at l x.dh x.ff A.gff).trans (congrArg _ ?_)
  simp only [hx.dh, hx.ff, cD, f32_inv1024, rsE_real, ← EReal.coe_mul, ← coe_sum]
theorem gpf_real : (stepA w x A).gpf (ix2 0 l) = A.gpf (ix2 0 l) + ((∑ r, a.dc (T r) l * a.h1 (T r) l * rms (a.h1 (T r)) : ℝ) : EReal) := by
  refine (pay15_at l (dcV w x) x.h1 A.gpf).trans (congrArg _ ?_)
  simp only [dcV_real hw hx, hx.h1, cD, f32_inv1024, rsE_real, ← EReal.coe_mul, ← coe_sum]
theorem gpm_real : (stepA w x A).gpm (ix2 0 l) = A.gpm (ix2 0 l) + ((∑ r, a.dh1 (T r) l * a.ov (T r) l * rms (a.ov (T r)) : ℝ) : EReal) := by
  refine (pay20_at l (dh1B w x) x.ov A.gpm).trans (congrArg _ ?_)
  simp only [dh1B_real hw hx, hx.ov, cD, f32_inv1024, rsE_real, ← EReal.coe_mul, ← coe_sum]
theorem ga_real (k : Fin 512) : (stepA w x A).ga (ix2 0 k) = A.ga (ix2 0 k) + ((∑ r, a.dca (T r) k * a.ya (T r) k * rms (a.ya (T r)) : ℝ) : EReal) := by
  refine (pay26_at (doB w x) (woTop w.wo) x.ya A.ga k).trans (congrArg _ ?_)
  simp only [dcaV_real hw hx, hx.ya, cH, f32_inv512, rsE_real, ← EReal.coe_mul, ← coe_sum]

end Cert.Kernel3Ideal.TailBwd
-- ==== Proof.TailBwd.Select.lean ====
/- The two selections, read at an index: an element's head, and the lane that keeps it. -/
module

public import proofs.«01_k».proof.Proof.TailBwd.Host
public import proofs.«01_k».proof.Proof.TailBwd.Rows

@[expose] public section

set_option maxRecDepth 16384

noncomputable section

namespace Cert.Kernel3Ideal.TailBwd

open Cert.Kernel3Ideal Cert.Kernel3Ideal.Gen Idealize.ShloMosaic Idealize.ShloMosaic.TcCoe
open Cert.Tail

/-- The sign of a word. -/
def sgn (x : BitVec 32) : BitVec 32 := if x = 0 then 0 else if x.msb then -1 else 1
/-- The quotient and the remainder of a word by 64, as the host lines compute them. -/
def quo (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)
def div64 : BitVec 32 := Scalar.select (IntOp.cmpi .eq 64#32 0#32) 1#32 64#32
def rem (x : BitVec 32) : BitVec 32 :=
  Scalar.select (IntOp.andi (IntOp.cmpi .ne (IntOp.cmpi .slt (IntOp.remsi .host x div64) 0#32) (IntOp.cmpi .slt div64 0#32))
      (IntOp.cmpi .ne (IntOp.remsi .host x div64) 0#32))
    (IntOp.addi (IntOp.remsi .host x div64) div64) (IntOp.remsi .host x div64)

theorem quo_eq : ∀ k : Fin 512, quo (BitVec.ofNat 32 k.val) = BitVec.ofNat 32 (k.val / 64) := by decide +kernel
theorem lane_eq : ∀ k : Fin 512, IntOp.addi (IntOp.muli (quo (BitVec.ofNat 32 k.val)) 128#32) (rem (BitVec.ofNat 32 k.val))
    = BitVec.ofNat 32 (k.val / 64 * 128 + k.val % 64) := by decide +kernel

/-- Two small words are equal where the numbers are. -/
theorem word_eq (a b : ℕ) (ha : a < 2 ^ 32) (hb : b < 2 ^ 32) :
    FloatOps.uitofp (F := Ideal) .bf16 (IntOp.cmpi .eq (BitVec.ofNat 32 a) (BitVec.ofNat 32 b)) = (((if a = b then 1 else 0 : ℝ)) : EReal) := by
  by_cases h : a = b
  · subst h
    rw [if_pos rfl, show IntOp.cmpi .eq (BitVec.ofNat 32 a) (BitVec.ofNat 32 a) = 1#1 by simp [IntOp.cmpi]]
    show (((1#1 : BitVec 1).toNat : ℝ) : EReal) = _
    simp
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, show IntOp.cmpi .eq (BitVec.ofNat 32 a) (BitVec.ofNat 32 b) = 0#1 by
      show BitVec.ofBool (_ == _) = _; rw [beq_eq_false_iff_ne.mpr hne]; rfl]
    show (((0#1 : BitVec 1).toNat : ℝ) : EReal) = _
    simp

theorem gs_at (k : Fin 512) (h : Fin 128) : gsK (F := Ideal) (ix2 k h) = ((sel k h : ℝ) : EReal) := by
  refine Eq.trans (b := FloatOps.uitofp (F := Ideal) .bf16 (IntOp.cmpi .eq (quo (BitVec.ofNat 32 k.val)) (BitVec.ofNat 32 h.val))) rfl ?_
  rw [quo_eq]
  exact (word_eq _ _ (by omega) (by omega)).trans rfl
theorem ex_at (k : Fin 512) (l : Fin 1024) : exK (F := Ideal) (ix2 k l) = ((put k l : ℝ) : EReal) := by
  refine Eq.trans (b := FloatOps.uitofp (F := Ideal) .bf16 (IntOp.cmpi .eq (IntOp.addi (IntOp.muli (quo (BitVec.ofNat 32 k.val)) 128#32) (rem (BitVec.ofNat 32 k.val))) (BitVec.ofNat 32 l.val))) rfl ?_
  rw [lane_eq]
  exact (word_eq _ _ (by omega) (by omega)).trans rfl

end Cert.Kernel3Ideal.TailBwd
-- ==== Proof.TailBwd.Arrays.lean ====
/- From blocks to arrays: at real arguments the call's operands hold reals, and its result arrays are the gradients row by row,
   the gains' summed over all rows. -/
module

public import proofs.«01_k».proof.Proof.TailBwd.Run
public import proofs.«01_k».proof.Proof.TailBwd.Select
public import proofs.«01_k».proof.Proof.TailBwd.Rows

@[expose] public section

set_option maxRecDepth 16384

noncomputable section

namespace Cert.Kernel3Ideal.TailBwd

open Cert.Kernel3Ideal Cert.Kernel3Ideal.Gen Idealize.ShloMosaic Idealize.ShloMosaic.TcCoe Idealize.SL.Sem
open Idealize.ShloMosaic.Pipeline (Dat)
open Cert.Tail

/-! ## The saved forward values -/

theorem ovK_up (a : Inputs) : ovK (F := Ideal) (up2 a.ya) (up2 a.ys) (up2 a.ga) (up2 a.wo) = up2 a.ov := by
  unfold ovK
  rw [rsB_up, gainB_up, mul_up, mul_up]
  exact (congrArg (fun z => Host.dotGeneral (F := Ideal) (φ₁ := .f32) (φ₂ := .f32) dot_S8192x1024_S1024x1024_S8192x1024_1_0_0_1_n_n none z (up2 a.wo)) (cat_up _ _)).trans
    (dot_wo _ _)
theorem h1K_up (a : Inputs) : h1K (F := Ideal) (up2 a.ov) (up2 a.x) (up2 a.gpm) = up2 a.h1 := by
  unfold h1K
  rw [rs_up, gain_up, mul_up, mul_up, add_up]
  rfl
theorem rK_up (a : Inputs) : rK (F := Ideal) (up2 a.h1) (up2 a.gpf) (up2 a.w1) = up2 a.r := by
  unfold rK
  rw [rs_up, gain_up, mul_up, mul_up, zeroM_up]
  exact (congrArg (fun z : FVec Ideal S8192x4096 .f32 => maximumf z (up2 fun _ _ => 0)) (dot_w1 a.hn a.w1)).trans (relu_up a.pr)
theorem ffK_up (a : Inputs) : ffK (F := Ideal) (up2 a.r) (up2 a.w2) = up2 a.ff := by
  unfold ffK
  rw [mul_up]
  exact dot_w2 _ _

/-- The arguments are the arrays of the reals `a`. -/
structure Args (m : (ℓ : Loc nD τ sig) → Buf (Elt Ideal) ℓ) (c : Dev nD) (a : Inputs) : Prop where
  x : X0 m c = up2 a.x
  ya : X1 m c = up2 a.ya
  ys : X2 m c = up2 a.ys
  ga : X3 m c = up2 a.ga
  wo : X4 m c = up2 a.wo
  gpm : X5 m c = up2 a.gpm
  gpf : X6 m c = up2 a.gpf
  w1 : X7 m c = up2 a.w1
  w2 : X8 m c = up2 a.w2
  gff : X9 m c = up2 a.gff
  dh : X10 m c = up2 a.dh

section
variable {m : (ℓ : Loc nD τ sig) → Buf (Elt Ideal) ℓ} {c : Dev nD} {a : Inputs} (A : Args m c a)
include A

theorem ovM_real : ovM m c = up2 a.ov := by
  show ovK _ _ _ _ = _
  rw [A.ya, A.ys, A.ga, A.wo, ovK_up]
theorem h1M_real : h1M m c = up2 a.h1 := by
  show h1K (ovM m c) _ _ = _
  rw [ovM_real A, A.x, A.gpm, h1K_up]
theorem rM_real : rM m c = up2 a.r := by
  show rK (h1M m c) _ _ = _
  rw [h1M_real A, A.gpf, A.w1, rK_up]
theorem ffM_real : ffM m c = up2 a.ff := by
  show ffK (rM m c) _ = _
  rw [rM_real A, A.w2, ffK_up]

theorem w1K_at (w : FVec Ideal S1024x4096 .f32) (s : Fin 4) (k l : Fin 1024) : w1K w (ix3 s k l) = w (ix2 k (qt s l)) := by
  unfold w1K
  pointwise []
  exact congrArg w (congrArg (ix2 k) (Fin.ext (by show _ = 1024 * s.val + l.val; simp [Nat.mul_comm])))

theorem w_w2 : ∀ n j, (wOf m c).w2 (ix2 n j) = ((a.w2 n j : ℝ) : EReal) := fun n j =>
  (congrFun (V_main_v61 m c) (ix2 n j)).trans (congrFun A.w2 (ix2 n j))
theorem w_w1 : ∀ s k l, (wOf m c).w1 (ix3 s k l) = ((a.w1 k (qt s l) : ℝ) : EReal) := fun s k l =>
  (congrFun (V_main_v59 m c) (ix3 s k l)).trans ((w1K_at A _ s k l).trans (congrFun A.w1 (ix2 k (qt s l))))
theorem w_wo : ∀ k j, (wOf m c).wo (ix2 k j) = ((a.wo k j : ℝ) : EReal) := fun k j =>
  (congrFun (V_main_v62 m c) (ix2 k j)).trans (congrFun A.wo (ix2 k j))
theorem w_gff : ∀ k, (wOf m c).gff (ix2 0 k) = ((a.gff 0 k : ℝ) : EReal) := fun k =>
  (congrFun (V_main_arg9 m c) (ix2 0 k)).trans (congrFun A.gff (ix2 0 k))
theorem w_gpf : ∀ k, (wOf m c).gpf (ix2 0 k) = ((a.gpf 0 k : ℝ) : EReal) := fun k =>
  (congrFun (V_main_arg6 m c) (ix2 0 k)).trans (congrFun A.gpf (ix2 0 k))
theorem w_gpm : ∀ k, (wOf m c).gpm (ix2 0 k) = ((a.gpm 0 k : ℝ) : EReal) := fun k =>
  (congrFun (V_main_arg5 m c) (ix2 0 k)).trans (congrFun A.gpm (ix2 0 k))
theorem w_ga : ∀ k, (wOf m c).ga (ix2 0 k) = ((a.ga 0 k : ℝ) : EReal) := fun k =>
  (congrFun (V_main_arg3 m c) (ix2 0 k)).trans (congrFun A.ga (ix2 0 k))
theorem w_gs : ∀ k h, (wOf m c).gs (ix2 k h) = ((sel k h : ℝ) : EReal) := fun k h =>
  (congrFun (V_main_v47 m c) (ix2 k h)).trans (gs_at k h)
theorem w_ex : ∀ k l, (wOf m c).ex (ix2 k l) = ((put k l : ℝ) : EReal) := fun k l =>
  (congrFun (V_main_v56 m c) (ix2 k l)).trans (ex_at k l)
theorem realW : RealW a (wOf m c) := ⟨w_w2 A, w_w1 A, w_wo A, w_gff A, w_gpf A, w_gpm A, w_ga A, w_gs A, w_ex A⟩

end

/-! ## Blocks of rows -/

/-- Row `r` of block `t`, in the array. -/
def at_ (t : Fin cfg0.N) (r : Fin 256) : Fin 8192 := ⟨256 * t.val + r.val, by have := t.isLt; have : cfg0.N = 32 := N_0; omega⟩

/-- An index of rank two from its coordinates. -/
theorem ix2_of {n k : ℕ} (j : (⟨2, ![n, k]⟩ : Shape).Idx) (r : Fin n) (l : Fin k) (h0 : (j 0).val = r.val) (h1 : (j 1).val = l.val) :
    j = ix2 r l := by
  funext a
  fin_cases a
  · exact Fin.ext h0
  · exact Fin.ext h1

/-- The block that holds row `n`, and the last one. -/
def pt (n : ℕ) (h : n < 8192) : Fin cfg0.N := ⟨n / 256, by rw [show cfg0.N = 32 from N_0]; omega⟩
def lastPt : Fin cfg0.N := pt 8191 (by omega)

/-- A row window reads block `t` at block `t`; a window of one block reads it always. -/
def RowIdx (o : Fin cfg0.N → Fin 2 → ℕ) : Prop := ∀ t, o t 0 = t.val ∧ o t 1 = 0
def OneIdx (o : Fin cfg0.N → Fin 2 → ℕ) : Prop := ∀ t, o t 0 = 0 ∧ o t 1 = 0

theorem idx_0 : RowIdx fun t => win0_0.index t := by unfold RowIdx; decide +kernel
theorem idx_1 : RowIdx fun t => win0_1.index t := by unfold RowIdx; decide +kernel
theorem idx_2 : RowIdx fun t => win0_2.index t := by unfold RowIdx; decide +kernel
theorem idx_3 : RowIdx fun t => win0_3.index t := by unfold RowIdx; decide +kernel
theorem idx_4 : RowIdx fun t => win0_4.index t := by unfold RowIdx; decide +kernel
theorem idx_5 : RowIdx fun t => win0_5.index t := by unfold RowIdx; decide +kernel
theorem idx_6 : RowIdx fun t => win0_6.index t := by unfold RowIdx; decide +kernel
theorem idx_7 : RowIdx fun t => win0_7.index t := by unfold RowIdx; decide +kernel
theorem idx_8 : RowIdx fun t => win0_8.index t := by unfold RowIdx; decide +kernel
theorem idx_9 : RowIdx fun t => win0_9.index t := by unfold RowIdx; decide +kernel
theorem idx_10 : RowIdx fun t => win0_10.index t := by unfold RowIdx; decide +kernel
theorem idx_11 : RowIdx fun t => win0_11.index t := by unfold RowIdx; decide +kernel
theorem idx_12 : RowIdx fun t => win0_12.index t := by unfold RowIdx; decide +kernel
theorem idx_13 : OneIdx fun t => win0_13.index t := by unfold OneIdx; decide +kernel
theorem idx_14 : OneIdx fun t => win0_14.index t := by unfold OneIdx; decide +kernel
theorem idx_15 : OneIdx fun t => win0_15.index t := by unfold OneIdx; decide +kernel
theorem idx_16 : OneIdx fun t => win0_16.index t := by unfold OneIdx; decide +kernel

theorem at_eq {o : Fin cfg0.N → Fin 2 → ℕ} (ho : RowIdx o) {n : ℕ} (j : (⟨2, ![8192, n]⟩ : Shape).Idx) (t : Fin cfg0.N) (r : Fin 256) (l : Fin n)
    (h0 : (j 0).val = o t 0 * 256 + 1 * r.val) (h1 : (j 1).val = o t 1 * n + 1 * l.val) : j = ix2 (at_ t r) l :=
  ix2_of _ _ _ (by rw [h0, (ho t).1]; show _ = 256 * t.val + r.val; omega) (by rw [h1, (ho t).2]; omega)
theorem one_eq {o : Fin cfg0.N → Fin 2 → ℕ} (ho : OneIdx o) {n : ℕ} (j : (⟨2, ![1, n]⟩ : Shape).Idx) (t : Fin cfg0.N) (r : Fin 1) (l : Fin n)
    (h0 : (j 0).val = o t 0 * 1 + 1 * r.val) (h1 : (j 1).val = o t 1 * n + 1 * l.val) : j = ix2 r l :=
  ix2_of _ _ _ (by rw [h0, (ho t).1]; omega) (by rw [h1, (ho t).2]; omega)

/-- A window of row blocks covers its array. -/
theorem cover_rows {o : Fin cfg0.N → Fin 2 → ℕ} (ho : RowIdx o) {n : ℕ} (a0 a1 : ℕ) (h0 : a0 < 8192) (h1 : a1 < n) :
    (o (pt a0 h0) 0 * 256 ≤ a0 ∧ a0 < o (pt a0 h0) 0 * 256 + 256) ∧ (o (pt a0 h0) 1 * n ≤ a1 ∧ a1 < o (pt a0 h0) 1 * n + n) := by
  rw [(ho _).1, (ho _).2]; simp only [pt]; omega
theorem cover_one {o : Fin cfg0.N → Fin 2 → ℕ} (ho : OneIdx o) {n : ℕ} (t : Fin cfg0.N) (a0 a1 : ℕ) (h0 : a0 < 1) (h1 : a1 < n) :
    (o t 0 * 1 ≤ a0 ∧ a0 < o t 0 * 1 + 1) ∧ (o t 1 * n ≤ a1 ∧ a1 < o t 1 * n + n) := by
  rw [(ho _).1, (ho _).2]; omega

/-- What is added up block by block is the sum over all rows. -/
theorem acc_sum (b : ℕ → EReal) (g : Fin 8192 → ℝ) (h0 : b 0 = 0)
    (hs : ∀ t : Fin cfg0.N, b (t.val + 1) = b t.val + ((∑ r : Fin 256, g (at_ t r) : ℝ) : EReal)) : b 32 = ((∑ R, g R : ℝ) : EReal) := by
  let g' : ℕ → ℝ := fun R => if h : R < 8192 then g ⟨R, h⟩ else 0
  have key : ∀ n, n ≤ 32 → b n = ((∑ R ∈ Finset.range (256 * n), g' R : ℝ) : EReal) := by
    intro n
    induction n with
    | zero => intro _; simp [h0]
    | succ n ih =>
      intro hn
      have hN : cfg0.N = 32 := N_0
      rw [hs ⟨n, by omega⟩, ih (by omega), show 256 * (n + 1) = 256 * n + 256 by ring, Finset.sum_range_add, Finset.sum_range (n := 256), EReal.coe_add]
      congr 2
      refine Finset.sum_congr rfl fun r _ => ?_
      have hr : 256 * n + r.val < 8192 := by have := r.isLt; omega
      simp only [g', dif_pos hr]
      rfl
  rw [key 32 le_rfl, Finset.sum_range (n := 8192)]
  exact congrArg _ (Finset.sum_congr rfl fun r _ => by simp only [g', dif_pos r.isLt])

variable {m : (ℓ : Loc nD τ sig) → Buf (Elt Ideal) ℓ} {c : Dev nD} {a : Inputs} (A : Args m c a)
include A

theorem x_dh (t : Fin cfg0.N) : ∀ r l, (xOf m c t).dh (ix2 r l) = ((a.dh (at_ t r) l : ℝ) : EReal) := fun r l =>
  (show (xOf m c t).dh (ix2 r l) = (V m c main_arg10 : FVec Ideal S8192x1024 .f32) (ix2 (at_ t r) l) from
    congrArg (V m c main_arg10 : FVec Ideal S8192x1024 .f32) (at_eq idx_0 _ t r l rfl rfl)).trans
  ((congrFun (V_main_arg10 m c) (ix2 (at_ t r) l)).trans (congrFun (A.dh) (ix2 (at_ t r) l)))
theorem x_ff (t : Fin cfg0.N) : ∀ r l, (xOf m c t).ff (ix2 r l) = ((a.ff (at_ t r) l : ℝ) : EReal) := fun r l =>
  (show (xOf m c t).ff (ix2 r l) = (V m c main_v42 : FVec Ideal S8192x1024 .f32) (ix2 (at_ t r) l) from
    congrArg (V m c main_v42 : FVec Ideal S8192x1024 .f32) (at_eq idx_1 _ t r l rfl rfl)).trans
  ((congrFun (V_main_v42 m c) (ix2 (at_ t r) l)).trans (congrFun (ffM_real A) (ix2 (at_ t r) l)))
theorem x_rr (t : Fin cfg0.N) : ∀ r l, (xOf m c t).rr (ix2 r l) = ((a.r (at_ t r) l : ℝ) : EReal) := fun r l =>
  (show (xOf m c t).rr (ix2 r l) = (V m c main_v60 : FVec Ideal S8192x4096 .bf16) (ix2 (at_ t r) l) from
    congrArg (V m c main_v60 : FVec Ideal S8192x4096 .bf16) (at_eq idx_2 _ t r l rfl rfl)).trans
  ((congrFun (V_main_v60 m c) (ix2 (at_ t r) l)).trans (congrFun (rM_real A) (ix2 (at_ t r) l)))
theorem x_h1 (t : Fin cfg0.N) : ∀ r l, (xOf m c t).h1 (ix2 r l) = ((a.h1 (at_ t r) l : ℝ) : EReal) := fun r l =>
  (show (xOf m c t).h1 (ix2 r l) = (V m c main_v26 : FVec Ideal S8192x1024 .f32) (ix2 (at_ t r) l) from
    congrArg (V m c main_v26 : FVec Ideal S8192x1024 .f32) (at_eq idx_3 _ t r l rfl rfl)).trans
  ((congrFun (V_main_v26 m c) (ix2 (at_ t r) l)).trans (congrFun (h1M_real A) (ix2 (at_ t r) l)))
theorem x_ov (t : Fin cfg0.N) : ∀ r l, (xOf m c t).ov (ix2 r l) = ((a.ov (at_ t r) l : ℝ) : EReal) := fun r l =>
  (show (xOf m c t).ov (ix2 r l) = (V m c main_v13 : FVec Ideal S8192x1024 .f32) (ix2 (at_ t r) l) from
    congrArg (V m c main_v13 : FVec Ideal S8192x1024 .f32) (at_eq idx_4 _ t r l rfl rfl)).trans
  ((congrFun (V_main_v13 m c) (ix2 (at_ t r) l)).trans (congrFun (ovM_real A) (ix2 (at_ t r) l)))
theorem x_ya (t : Fin cfg0.N) : ∀ r l, (xOf m c t).ya (ix2 r l) = ((a.ya (at_ t r) l : ℝ) : EReal) := fun r l =>
  (show (xOf m c t).ya (ix2 r l) = (V m c main_arg1 : FVec Ideal S8192x512 .f32) (ix2 (at_ t r) l) from
    congrArg (V m c main_arg1 : FVec Ideal S8192x512 .f32) (at_eq idx_5 _ t r l rfl rfl)).trans
  ((congrFun (V_main_arg1 m c) (ix2 (at_ t r) l)).trans (congrFun (A.ya) (ix2 (at_ t r) l)))
theorem realX (t : Fin cfg0.N) : RealX a (at_ t) (xOf m c t) := ⟨x_dh A t, x_ff A t, x_rr A t, x_h1 A t, x_ov A t, x_ya A t⟩

/-! ## The result arrays -/

/-- The gradient of the feed-forward output. -/
theorem arr_6 : (dats m 0 c).arrAt 6 cfg0.N = (up2 fun R (l : Fin 1024) => a.dff R l : FVec Ideal S8192x1024 .f32) := by
  refine (dats m 0 c).arrAt_eq_of_cover 6 _ (fun t _ => ?_) fun j => ⟨pt _ (j 0).isLt, flush0_6 _, ?_⟩
  · funext j
    idx_vars j
    exact (dffB_real (realW A) (realX A t) j0 j1).trans (congrArg (up2 fun R (l : Fin 1024) => a.dff R l) (at_eq idx_6 _ t j0 j1 rfl rfl)).symm
  · show j ∈ ((View.whole main_v63_0).slice (win0_6.rect (pt _ (j 0).isLt))).set
    rw [View.set_slice_whole, Rect.mem_set_unit]
    have := cover_rows idx_6 (n := 1024) _ _ (j 0).isLt (j 1).isLt
    intro a
    fin_cases a
    · exact this.1
    · exact this.2

/-- The gradient of its hidden layer. -/
theorem arr_7 : (dats m 0 c).arrAt 7 cfg0.N = (up2 fun R (l : Fin 4096) => a.dr R l : FVec Ideal S8192x4096 .f32) := by
  refine (dats m 0 c).arrAt_eq_of_cover 7 _ (fun t _ => ?_) fun j => ⟨pt _ (j 0).isLt, flush0_7 _, ?_⟩
  · funext j
    idx_vars j
    exact (drB_real (realW A) (realX A t) j0 j1).trans (congrArg (up2 fun R (l : Fin 4096) => a.dr R l) (at_eq idx_7 _ t j0 j1 rfl rfl)).symm
  · show j ∈ ((View.whole main_v63_1).slice (win0_7.rect (pt _ (j 0).isLt))).set
    rw [View.set_slice_whole, Rect.mem_set_unit]
    have := cover_rows idx_7 (n := 4096) _ _ (j 0).isLt (j 1).isLt
    intro a
    fin_cases a
    · exact this.1
    · exact this.2

/-- The gradient of the projected output. -/
theorem arr_8 : (dats m 0 c).arrAt 8 cfg0.N = (up2 fun R (l : Fin 1024) => a.dov R l : FVec Ideal S8192x1024 .f32) := by
  refine (dats m 0 c).arrAt_eq_of_cover 8 _ (fun t _ => ?_) fun j => ⟨pt _ (j 0).isLt, flush0_8 _, ?_⟩
  · funext j
    idx_vars j
    exact (doB_real (realW A) (realX A t) j0 j1).trans (congrArg (up2 fun R (l : Fin 1024) => a.dov R l) (at_eq idx_8 _ t j0 j1 rfl rfl)).symm
  · show j ∈ ((View.whole main_v63_2).slice (win0_8.rect (pt _ (j 0).isLt))).set
    rw [View.set_slice_whole, Rect.mem_set_unit]
    have := cover_rows idx_8 (n := 1024) _ _ (j 0).isLt (j 1).isLt
    intro a
    fin_cases a
    · exact this.1
    · exact this.2

/-- The gradient of the attention, each head's 64 elements over 128 lanes. -/
theorem arr_9 : (dats m 0 c).arrAt 9 cfg0.N = (up2 fun R (l : Fin 1024) => ∑ k, a.dya R k * put k l : FVec Ideal S8192x1024 .f32) := by
  refine (dats m 0 c).arrAt_eq_of_cover 9 _ (fun t _ => ?_) fun j => ⟨pt _ (j 0).isLt, flush0_9 _, ?_⟩
  · funext j
    idx_vars j
    exact (do8B_real (realW A) (realX A t) j0 j1).trans (congrArg (up2 fun R (l : Fin 1024) => ∑ k, a.dya R k * put k l) (at_eq idx_9 _ t j0 j1 rfl rfl)).symm
  · show j ∈ ((View.whole main_v63_3).slice (win0_9.rect (pt _ (j 0).isLt))).set
    rw [View.set_slice_whole, Rect.mem_set_unit]
    have := cover_rows idx_9 (n := 1024) _ _ (j 0).isLt (j 1).isLt
    intro a
    fin_cases a
    · exact this.1
    · exact this.2

/-- Its product with the attention, summed by head. -/
theorem arr_10 : (dats m 0 c).arrAt 10 cfg0.N = (up2 fun R (l : Fin 128) => ∑ k, a.dya R k * a.ya R k * sel k l : FVec Ideal S8192x128 .f32) := by
  refine (dats m 0 c).arrAt_eq_of_cover 10 _ (fun t _ => ?_) fun j => ⟨pt _ (j 0).isLt, flush0_10 _, ?_⟩
  · funext j
    idx_vars j
    exact (dltB_real (realW A) (realX A t) j0 j1).trans (congrArg (up2 fun R (l : Fin 128) => ∑ k, a.dya R k * a.ya R k * sel k l) (at_eq idx_10 _ t j0 j1 rfl rfl)).symm
  · show j ∈ ((View.whole main_v63_4).slice (win0_10.rect (pt _ (j 0).isLt))).set
    rw [View.set_slice_whole, Rect.mem_set_unit]
    have := cover_rows idx_10 (n := 128) _ _ (j 0).isLt (j 1).isLt
    intro a
    fin_cases a
    · exact this.1
    · exact this.2

/-- The gradient of the other half. -/
theorem arr_11 : (dats m 0 c).arrAt 11 cfg0.N = (up2 fun R (l : Fin 512) => a.dys R l : FVec Ideal S8192x512 .f32) := by
  refine (dats m 0 c).arrAt_eq_of_cover 11 _ (fun t _ => ?_) fun j => ⟨pt _ (j 0).isLt, flush0_11 _, ?_⟩
  · funext j
    idx_vars j
    exact (dysB_real (realW A) (realX A t) j0 j1).trans (congrArg (up2 fun R (l : Fin 512) => a.dys R l) (at_eq idx_11 _ t j0 j1 rfl rfl)).symm
  · show j ∈ ((View.whole main_v63_5).slice (win0_11.rect (pt _ (j 0).isLt))).set
    rw [View.set_slice_whole, Rect.mem_set_unit]
    have := cover_rows idx_11 (n := 512) _ _ (j 0).isLt (j 1).isLt
    intro a
    fin_cases a
    · exact this.1
    · exact this.2

/-- The gradient of the residual stream. -/
theorem arr_12 : (dats m 0 c).arrAt 12 cfg0.N = (up2 fun R (l : Fin 1024) => a.dh1 R l : FVec Ideal S8192x1024 .f32) := by
  refine (dats m 0 c).arrAt_eq_of_cover 12 _ (fun t _ => ?_) fun j => ⟨pt _ (j 0).isLt, flush0_12 _, ?_⟩
  · funext j
    idx_vars j
    exact (dh1B_real (realW A) (realX A t) j0 j1).trans (congrArg (up2 fun R (l : Fin 1024) => a.dh1 R l) (at_eq idx_12 _ t j0 j1 rfl rfl)).symm
  · show j ∈ ((View.whole main_v63_6).slice (win0_12.rect (pt _ (j 0).isLt))).set
    rw [View.set_slice_whole, Rect.mem_set_unit]
    have := cover_rows idx_12 (n := 1024) _ _ (j 0).isLt (j 1).isLt
    intro a
    fin_cases a
    · exact this.1
    · exact this.2

/-- The gradient of the last gain. -/
theorem arr_13 : (dats m 0 c).arrAt 13 cfg0.N = (up2 a.dgff : FVec Ideal S1x1024 .f32) := by
  refine (dats m 0 c).arrAt_eq_of_cover 13 _ (fun t ht => ?_) fun j => ⟨lastPt, (flush0_13 _).mpr rfl, ?_⟩
  · have h31 : t.val + 1 = 32 := by have := (flush0_13 t).mp ht; have := t.isLt; have : cfg0.N = 32 := N_0; omega
    funext j
    idx_vars j
    obtain rfl : j0 = 0 := Subsingleton.elim _ _
    refine (show (dats m 0 c).flushed 13 t (ix2 0 j1) = (accAt m c (t.val + 1)).gff (ix2 0 j1) from rfl).trans ?_
    rw [h31]
    refine Eq.trans ?_ (congrArg (up2 a.dgff) (one_eq idx_13 _ t 0 j1 rfl rfl)).symm
    exact acc_sum (fun n => (accAt m c n).gff (ix2 0 j1)) _ (zero_gff j1) fun t => by
      show (accAt m c (t.val + 1)).gff (ix2 0 j1) = _
      rw [accAt_succ]; exact gff_real (realW A) (realX A t) j1
  · show j ∈ ((View.whole main_v63_7).slice (win0_13.rect lastPt)).set
    rw [View.set_slice_whole, Rect.mem_set_unit]
    have := cover_one idx_13 (n := 1024) lastPt _ _ (j 0).isLt (j 1).isLt
    intro a
    fin_cases a
    · exact this.1
    · exact this.2

/-- That of the feed-forward's gain. -/
theorem arr_14 : (dats m 0 c).arrAt 14 cfg0.N = (up2 a.dgpf : FVec Ideal S1x1024 .f32) := by
  refine (dats m 0 c).arrAt_eq_of_cover 14 _ (fun t ht => ?_) fun j => ⟨lastPt, (flush0_14 _).mpr rfl, ?_⟩
  · have h31 : t.val + 1 = 32 := by have := (flush0_14 t).mp ht; have := t.isLt; have : cfg0.N = 32 := N_0; omega
    funext j
    idx_vars j
    obtain rfl : j0 = 0 := Subsingleton.elim _ _
    refine (show (dats m 0 c).flushed 14 t (ix2 0 j1) = (accAt m c (t.val + 1)).gpf (ix2 0 j1) from rfl).trans ?_
    rw [h31]
    refine Eq.trans ?_ (congrArg (up2 a.dgpf) (one_eq idx_14 _ t 0 j1 rfl rfl)).symm
    exact acc_sum (fun n => (accAt m c n).gpf (ix2 0 j1)) _ (zero_gpf j1) fun t => by
      show (accAt m c (t.val + 1)).gpf (ix2 0 j1) = _
      rw [accAt_succ]; exact gpf_real (realW A) (realX A t) j1
  · show j ∈ ((View.whole main_v63_8).slice (win0_14.rect lastPt)).set
    rw [View.set_slice_whole, Rect.mem_set_unit]
    have := cover_one idx_14 (n := 1024) lastPt _ _ (j 0).isLt (j 1).isLt
    intro a
    fin_cases a
    · exact this.1
    · exact this.2

/-- That of the projected output's. -/
theorem arr_15 : (dats m 0 c).arrAt 15 cfg0.N = (up2 a.dgpm : FVec Ideal S1x1024 .f32) := by
  refine (dats m 0 c).arrAt_eq_of_cover 15 _ (fun t ht => ?_) fun j => ⟨lastPt, (flush0_15 _).mpr rfl, ?_⟩
  · have h31 : t.val + 1 = 32 := by have := (flush0_15 t).mp ht; have := t.isLt; have : cfg0.N = 32 := N_0; omega
    funext j
    idx_vars j
    obtain rfl : j0 = 0 := Subsingleton.elim _ _
    refine (show (dats m 0 c).flushed 15 t (ix2 0 j1) = (accAt m c (t.val + 1)).gpm (ix2 0 j1) from rfl).trans ?_
    rw [h31]
    refine Eq.trans ?_ (congrArg (up2 a.dgpm) (one_eq idx_15 _ t 0 j1 rfl rfl)).symm
    exact acc_sum (fun n => (accAt m c n).gpm (ix2 0 j1)) _ (zero_gpm j1) fun t => by
      show (accAt m c (t.val + 1)).gpm (ix2 0 j1) = _
      rw [accAt_succ]; exact gpm_real (realW A) (realX A t) j1
  · show j ∈ ((View.whole main_v63_9).slice (win0_15.rect lastPt)).set
    rw [View.set_slice_whole, Rect.mem_set_unit]
    have := cover_one idx_15 (n := 1024) lastPt _ _ (j 0).isLt (j 1).isLt
    intro a
    fin_cases a
    · exact this.1
    · exact this.2

/-- That of the attention's. -/
theorem arr_16 : (dats m 0 c).arrAt 16 cfg0.N = (up2 a.dga : FVec Ideal S1x512 .f32) := by
  refine (dats m 0 c).arrAt_eq_of_cover 16 _ (fun t ht => ?_) fun j => ⟨lastPt, (flush0_16 _).mpr rfl, ?_⟩
  · have h31 : t.val + 1 = 32 := by have := (flush0_16 t).mp ht; have := t.isLt; have : cfg0.N = 32 := N_0; omega
    funext j
    idx_vars j
    obtain rfl : j0 = 0 := Subsingleton.elim _ _
    refine (show (dats m 0 c).flushed 16 t (ix2 0 j1) = (accAt m c (t.val + 1)).ga (ix2 0 j1) from rfl).trans ?_
    rw [h31]
    refine Eq.trans ?_ (congrArg (up2 a.dga) (one_eq idx_16 _ t 0 j1 rfl rfl)).symm
    exact acc_sum (fun n => (accAt m c n).ga (ix2 0 j1)) _ (zero_ga j1) fun t => by
      show (accAt m c (t.val + 1)).ga (ix2 0 j1) = _
      rw [accAt_succ]; exact ga_real (realW A) (realX A t) j1
  · show j ∈ ((View.whole main_v63_10).slice (win0_16.rect lastPt)).set
    rw [View.set_slice_whole, Rect.mem_set_unit]
    have := cover_one idx_16 (n := 512) lastPt _ _ (j 0).isLt (j 1).isLt
    intro a
    fin_cases a
    · exact this.1
    · exact this.2

end Cert.Kernel3Ideal.TailBwd

end
-- ==== Proof.TailBwd.Tail.lean ====
/- The host lines after the tail's backward call: the attention's gradient and its products taken out of the padded lanes. -/
module

public import proofs.«01_k».proof.Proof.TailBwd.Arrays
public import Idealize.ShloMosaic.Lib.StableHlo.RunRead

@[expose] public section

set_option maxRecDepth 16384

noncomputable section

namespace Cert.Kernel3Ideal.TailBwd

open Cert.Kernel3Ideal Cert.Kernel3Ideal.Gen Idealize.ShloMosaic Idealize.ShloMosaic.TcCoe Idealize.SL.Sem
open Cert.Tail

section
variable {F : FTy → Type} [FloatOps F]

/-- Each head's first 64 lanes, and the first 8 columns. -/
def heads (x : FVec F S8192x1024 .bf16) : FVec F S8192x8x64 .bf16 :=
  extractStridedSlice S8192x8x64 ![0, 0, 0] (shapeCast S8192x8x128 x shapeCasts_S8192x1024_S8192x8x128) slices_S8192x8x128_S8192x8x64_0_0_0
def sums (x : FVec F S8192x128 .f32) : FVec F S8192x8 .f32 := extractStridedSlice S8192x8 ![0, 0] x slices_S8192x128_S8192x8_0_0

variable (V : Valuation τ sig (Elt F))

theorem tail_v65 : StableHlo.after [hostOps1].flatten V (Proc.devRef .tc main_v65) = heads (V (Proc.devRef .tc main_v63_3)) := by
  simp only [List.flatten_cons, List.flatten_nil, List.append_nil]
  after_reads_simp
  rfl
theorem tail_v66 : StableHlo.after [hostOps1].flatten V (Proc.devRef .tc main_v66) = sums (V (Proc.devRef .tc main_v63_4)) := by
  simp only [List.flatten_cons, List.flatten_nil, List.append_nil]
  after_reads_simp
  rfl

variable (m : (ℓ : Loc nD τ sig) → Buf (Elt F) ℓ) (c : Dev nD)

/-- What the host lines after the call leave in a buffer. -/
abbrev last (b : Ref sig .tc) := Pipeline.afterTail₀ cfgs (dats m) 0 (V0 m) [hostOps1] c b

theorem W_main_v65 : last m c main_v65 = heads ((dats m 0 c).arrAt 9 cfg0.N) := by
  unfold last Pipeline.afterTail₀
  rw [tail_v65]
  exact congrArg heads (Pipeline.withArrays_arr spec0 launch0.win.arr_inj c (V0 m c) _ 9)
theorem W_main_v66 : last m c main_v66 = sums ((dats m 0 c).arrAt 10 cfg0.N) := by
  unfold last Pipeline.afterTail₀
  rw [tail_v66]
  exact congrArg sums (Pipeline.withArrays_arr spec0 launch0.win.arr_inj c (V0 m c) _ 10)
end

/-- The elements by head and place. -/
theorem sum_heads (f : Fin 512 → ℝ) : ∑ k, f k = ∑ h : Fin 8, ∑ d : Fin 64, f (hd h d) := by
  rw [← (finProdFinEquiv (m := 8) (n := 64)).sum_comp f, Fintype.sum_prod_type]
  refine Finset.sum_congr rfl fun h _ => Finset.sum_congr rfl fun d _ => congrArg f (Fin.ext ?_)
  show d.val + 64 * h.val = 64 * h.val + d.val
  omega

/-- Lane `128 h + d` keeps the head's element `d`. -/
theorem put_sum (f : Fin 512 → ℝ) (h : Fin 8) (d : Fin 64) (l : Fin 1024) (hl : l.val = 128 * h.val + d.val) : ∑ k, f k * put k l = f (hd h d) := by
  rw [Finset.sum_eq_single (hd h d) (fun k _ hk => ?_) (fun h => absurd (Finset.mem_univ _) h)]
  · unfold put
    rw [if_pos (by show (64 * h.val + d.val) / 64 * 128 + (64 * h.val + d.val) % 64 = l.val; omega), mul_one]
  · unfold put
    rw [if_neg (fun e => hk (Fin.ext (by show k.val = 64 * h.val + d.val; omega))), mul_zero]

/-- Column `h` sums head `h`. -/
theorem sel_sum (f : Fin 512 → ℝ) (h : Fin 8) (l : Fin 128) (hl : l.val = h.val) : ∑ k, f k * sel k l = ∑ d : Fin 64, f (hd h d) := by
  rw [sum_heads, Finset.sum_eq_single h (fun h' _ hh => ?_) (fun h => absurd (Finset.mem_univ _) h)]
  · refine Finset.sum_congr rfl fun d _ => ?_
    unfold sel
    rw [if_pos (by show (64 * h.val + d.val) / 64 = l.val; omega), mul_one]
  · refine Finset.sum_eq_zero fun d _ => ?_
    unfold sel
    rw [if_neg (fun e => hh (Fin.ext (by
      have e' : (64 * h'.val + d.val) / 64 = l.val := e
      omega))), mul_zero]

variable (a : Inputs)

theorem heads_real (t : Fin 8192) (h : Fin 8) (d : Fin 64) :
    heads (F := Ideal) (up2 fun R (l : Fin 1024) => ∑ k, a.dya R k * put k l) (ix3 t h d) = ((a.dya t (hd h d) : ℝ) : EReal) := by
  have hh := h.isLt
  have hd' := d.isLt
  have e (x : FVec Ideal S8192x1024 .bf16) : heads x (ix3 t h d) = x (ix2 t ⟨128 * h.val + d.val, by omega⟩) := by
    pointwise [heads]
    exact congrArg x (congrArg₂ ix2 (Fin.ext (by show _ = t.val; simp)) (Fin.ext (by show _ = 128 * h.val + d.val; simp; omega)))
  exact (e _).trans (congrArg _ (put_sum _ h d _ rfl))
theorem sums_real (t : Fin 8192) (h : Fin 8) :
    sums (F := Ideal) (up2 fun R (l : Fin 128) => ∑ k, a.dya R k * a.ya R k * sel k l) (ix2 t h) = ((a.dlt t h : ℝ) : EReal) := by
  have hh := h.isLt
  have e (x : FVec Ideal S8192x128 .f32) : sums x (ix2 t h) = x (ix2 t ⟨h.val, by omega⟩) := by
    pointwise [sums]
  exact (e _).trans (congrArg _ (sel_sum (fun k => a.dya t k * a.ya t k) h _ rfl))

end Cert.Kernel3Ideal.TailBwd

end
-- ==== Proof.TailBwd.Ref.lean ====
/- What the reference's values are at real arguments: the derivative of `Real`. -/
module

public import proofs.«01_k».proof.Proof.TailBwd.Arr

@[expose] public section

set_option maxRecDepth 16384

noncomputable section

namespace Cert.Tail

open Cert.Reference3Ideal Cert.Reference3Ideal.Gen Cert.Reference3Ideal.Read Idealize.ShloMosaic

/-- The sum over the 64 elements of each head. -/
def headSum (x : FVec Ideal S8192x512 .f32) : FVec Ideal S8192x8 .f32 :=
  Host.reduceAdd (shapeCast S8192x8x64 x shapeCasts_S8192x512_S8192x8x64) (constant S_ .f32 0x00000000#32) reducesTo_S8192x8x64_S8192x8_d2 h_S_

theorem split_at (f : Fin 8192 → Fin 512 → ℝ) (t : Fin 8192) (h : Fin 8) (d : Fin 64) :
    shapeCast S8192x8x64 (up2 f) shapeCasts_S8192x512_S8192x8x64 (ix3 t h d) = ((f t (hd h d) : ℝ) : EReal) := by
  have hh := h.isLt
  have hd' := d.isLt
  pointwise []
  exact congrArg (fun k => up2 f (ix2 t k)) (Fin.ext (by show _ = 64 * h.val + d.val; simp only []; omega))
theorem headSum_up (f : Fin 8192 → Fin 512 → ℝ) : headSum (up2 f) = up2 fun t h => ∑ d, f t (hd h d) := ext2 fun t h => by
  have e (d : Fin 64) := split_at f t h d
  unfold headSum
  generalize shapeCast S8192x8x64 (up2 f) shapeCasts_S8192x512_S8192x8x64 = u at e ⊢
  pointwise []
  simp only [e, coe_sum]

variable (a : Inputs)

theorem ref_v14 : val_main_v14 (F := Ideal) (up2 a.ya) = up2 fun t k => a.ya t k * rms (a.ya t) := by
  have e : val_main_v14 (F := Ideal) (up2 a.ya)
      = mulf (up2 a.ya) (wideB (rsB (up2 a.ya))) := rfl
  rw [e, rsB_up, mul_up]
/-- The projected output. -/
theorem ref_v19 : val_main_v19 (F := Ideal) (up2 a.ya) (up2 a.ys) (up2 a.ga) (up2 a.wo) = up2 a.ov := by
  have e : val_main_v19 (F := Ideal) (up2 a.ya) (up2 a.ys) (up2 a.ga) (up2 a.wo)
      = addf (Host.dotGeneral dot_S8192x1024_S1024x1024_S8192x1024_1_0_0_1_n_n none (concatenate S8192x1024 1 [⟨S8192x512, mulf (mulf (up2 a.ya) (wideB (rsB (up2 a.ya)))) (gainB (up2 a.ga))⟩, ⟨S8192x512, up2 a.ys⟩] concatenates_S8192x512_S8192x512_S8192x1024_d1) (up2 a.wo)) zeroX := rfl
  rw [e, rsB_up, gainB_up, mul_up, mul_up, cat_up, dot_wo, zeroX_up, add_up]
  exact congrArg up2 (funext fun t => funext fun l => add_zero _)
theorem ref_v32 : val_main_v32 (F := Ideal) (up2 a.ya) (up2 a.ys) (up2 a.ga) (up2 a.wo) = up2 fun t j => a.ov t j * rms (a.ov t) := by
  have e : val_main_v32 (F := Ideal) (up2 a.ya) (up2 a.ys) (up2 a.ga) (up2 a.wo)
      = mulf (F := Ideal) (φ := .f32) (val_main_v19 (F := Ideal) (up2 a.ya) (up2 a.ys) (up2 a.ga) (up2 a.wo)) (wideA (rsA (val_main_v19 (F := Ideal) (up2 a.ya) (up2 a.ys) (up2 a.ga) (up2 a.wo)))) := rfl
  rw [e, ref_v19, rs_up, mul_up]
/-- The residual stream before the feed-forward. -/
theorem ref_v35 : val_main_v35 (F := Ideal) (up2 a.x) (up2 a.ya) (up2 a.ys) (up2 a.ga) (up2 a.wo) (up2 a.gpm) = up2 a.h1 := by
  have e : val_main_v35 (F := Ideal) (up2 a.x) (up2 a.ya) (up2 a.ys) (up2 a.ga) (up2 a.wo) (up2 a.gpm)
      = addf (up2 a.x) (mulf (F := Ideal) (φ := .f32) (val_main_v32 (F := Ideal) (up2 a.ya) (up2 a.ys) (up2 a.ga) (up2 a.wo)) (gainA (up2 a.gpm))) := rfl
  rw [e, ref_v32, gain_up, mul_up, add_up]
  rfl
theorem ref_v48 : val_main_v48 (F := Ideal) (up2 a.x) (up2 a.ya) (up2 a.ys) (up2 a.ga) (up2 a.wo) (up2 a.gpm) = up2 fun t j => a.h1 t j * rms (a.h1 t) := by
  have e : val_main_v48 (F := Ideal) (up2 a.x) (up2 a.ya) (up2 a.ys) (up2 a.ga) (up2 a.wo) (up2 a.gpm)
      = mulf (F := Ideal) (φ := .f32) (val_main_v35 (F := Ideal) (up2 a.x) (up2 a.ya) (up2 a.ys) (up2 a.ga) (up2 a.wo) (up2 a.gpm)) (wideA (rsA (val_main_v35 (F := Ideal) (up2 a.x) (up2 a.ya) (up2 a.ys) (up2 a.ga) (up2 a.wo) (up2 a.gpm)))) := rfl
  rw [e, ref_v35, rs_up, mul_up]
theorem ref_v52 : val_main_v52 (F := Ideal) (up2 a.x) (up2 a.ya) (up2 a.ys) (up2 a.ga) (up2 a.wo) (up2 a.gpm) (up2 a.gpf) (up2 a.w1) = up2 a.pr := by
  have e : val_main_v52 (F := Ideal) (up2 a.x) (up2 a.ya) (up2 a.ys) (up2 a.ga) (up2 a.wo) (up2 a.gpm) (up2 a.gpf) (up2 a.w1)
      = addf (Host.dotGeneral dot_S8192x1024_S1024x4096_S8192x4096_1_0_0_1_n_n none (mulf (F := Ideal) (φ := .f32) (val_main_v48 (F := Ideal) (up2 a.x) (up2 a.ya) (up2 a.ys) (up2 a.ga) (up2 a.wo) (up2 a.gpm)) (gainA (up2 a.gpf))) (up2 a.w1)) zeroM := rfl
  rw [e, ref_v48, gain_up, mul_up, dot_w1, zeroM_up, add_up]
  exact congrArg up2 (funext fun t => funext fun l => add_zero _)
theorem ref_v53 : val_main_v53 (F := Ideal) (up2 a.x) (up2 a.ya) (up2 a.ys) (up2 a.ga) (up2 a.wo) (up2 a.gpm) (up2 a.gpf) (up2 a.w1) = up2 a.r := by
  have e : val_main_v53 (F := Ideal) (up2 a.x) (up2 a.ya) (up2 a.ys) (up2 a.ga) (up2 a.wo) (up2 a.gpm) (up2 a.gpf) (up2 a.w1)
      = maximumf (F := Ideal) (φ := .f32) (val_main_v52 (F := Ideal) (up2 a.x) (up2 a.ya) (up2 a.ys) (up2 a.ga) (up2 a.wo) (up2 a.gpm) (up2 a.gpf) (up2 a.w1)) zeroM := rfl
  rw [e, ref_v52, zeroM_up, relu_up]
  rfl
/-- The feed-forward's output. -/
theorem ref_v61 : val_main_v61 (F := Ideal) (up2 a.x) (up2 a.ya) (up2 a.ys) (up2 a.ga) (up2 a.wo) (up2 a.gpm) (up2 a.gpf) (up2 a.w1) (up2 a.w2) = up2 a.ff := by
  have e : val_main_v61 (F := Ideal) (up2 a.x) (up2 a.ya) (up2 a.ys) (up2 a.ga) (up2 a.wo) (up2 a.gpm) (up2 a.gpf) (up2 a.w1) (up2 a.w2)
      = addf (Host.dotGeneral dot_S8192x4096_S4096x1024_S8192x1024_1_0_0_1_n_n none (mulf (F := Ideal) (φ := .f32) (val_main_v53 (F := Ideal) (up2 a.x) (up2 a.ya) (up2 a.ys) (up2 a.ga) (up2 a.wo) (up2 a.gpm) (up2 a.gpf) (up2 a.w1)) (val_main_v53 (F := Ideal) (up2 a.x) (up2 a.ya) (up2 a.ys) (up2 a.ga) (up2 a.wo) (up2 a.gpm) (up2 a.gpf) (up2 a.w1))) (up2 a.w2)) zeroX := rfl
  rw [e, ref_v53, mul_up, dot_w2, zeroX_up, add_up]
  exact congrArg up2 (funext fun t => funext fun l => add_zero _)
theorem ref_v82 : val_main_v82 (F := Ideal) (up2 a.x) (up2 a.ya) (up2 a.ys) (up2 a.ga) (up2 a.wo) (up2 a.gpm) (up2 a.gpf) (up2 a.w1) (up2 a.w2) (up2 a.dh) = up2 a.dgff := by
  have e : val_main_v82 (F := Ideal) (up2 a.x) (up2 a.ya) (up2 a.ys) (up2 a.ga) (up2 a.wo) (up2 a.gpm) (up2 a.gpf) (up2 a.w1) (up2 a.w2) (up2 a.dh)
      = sumA (mulf (mulf (F := Ideal) (φ := .f32) (val_main_v61 (F := Ideal) (up2 a.x) (up2 a.ya) (up2 a.ys) (up2 a.ga) (up2 a.wo) (up2 a.gpm) (up2 a.gpf) (up2 a.w1) (up2 a.w2)) (wideA (rsA (val_main_v61 (F := Ideal) (up2 a.x) (up2 a.ya) (up2 a.ys) (up2 a.ga) (up2 a.wo) (up2 a.gpm) (up2 a.gpf) (up2 a.w1) (up2 a.w2))))) (shapeCast S8192x1024 (up2 a.dh) shapeCasts_S8192x1024_S8192x1024)) := rfl
  rw [e, ref_v61, rs_up, mul_up, same_up, mul_up, sum_up]
  exact congrArg up2 (funext fun _ => funext fun l => Finset.sum_congr rfl fun t _ => by ring)
/-- The gradient of the feed-forward's output. -/
theorem ref_v98 : val_main_v98 (F := Ideal) (up2 a.x) (up2 a.ya) (up2 a.ys) (up2 a.ga) (up2 a.wo) (up2 a.gpm) (up2 a.gpf) (up2 a.w1) (up2 a.w2) (up2 a.gff) (up2 a.dh) = up2 a.dff := by
  have e : val_main_v98 (F := Ideal) (up2 a.x) (up2 a.ya) (up2 a.ys) (up2 a.ga) (up2 a.wo) (up2 a.gpm) (up2 a.gpf) (up2 a.w1) (up2 a.w2) (up2 a.gff) (up2 a.dh)
      = addf (addf (mulf (mulf (shapeCast S8192x1024 (up2 a.dh) shapeCasts_S8192x1024_S8192x1024) (gainA (up2 a.gff))) (wideA (rsA (val_main_v61 (F := Ideal) (up2 a.x) (up2 a.ya) (up2 a.ys) (up2 a.ga) (up2 a.wo) (up2 a.gpm) (up2 a.gpf) (up2 a.w1) (up2 a.w2))))) (mulf (F := Ideal) (φ := .f32) (val_main_v61 (F := Ideal) (up2 a.x) (up2 a.ya) (up2 a.ys) (up2 a.ga) (up2 a.wo) (up2 a.gpm) (up2 a.gpf) (up2 a.w1) (up2 a.w2)) (pullA (val_main_v61 (F := Ideal) (up2 a.x) (up2 a.ya) (up2 a.ys) (up2 a.ga) (up2 a.wo) (up2 a.gpm) (up2 a.gpf) (up2 a.w1) (up2 a.w2)) (mulf (shapeCast S8192x1024 (up2 a.dh) shapeCasts_S8192x1024_S8192x1024) (gainA (up2 a.gff)))))) (mulf (pullA (val_main_v61 (F := Ideal) (up2 a.x) (up2 a.ya) (up2 a.ys) (up2 a.ga) (up2 a.wo) (up2 a.gpm) (up2 a.gpf) (up2 a.w1) (up2 a.w2)) (mulf (shapeCast S8192x1024 (up2 a.dh) shapeCasts_S8192x1024_S8192x1024) (gainA (up2 a.gff)))) (val_main_v61 (F := Ideal) (up2 a.x) (up2 a.ya) (up2 a.ys) (up2 a.ga) (up2 a.wo) (up2 a.gpm) (up2 a.gpf) (up2 a.w1) (up2 a.w2))) := rfl
  rw [e, ref_v61, same_up, gain_up, mul_up, rs_up, pull_up, mul_up, mul_up, mul_up, add_up, add_up]
  exact congrArg up2 (funext fun t => funext fun j => bwd_ref (a.ff t) (a.gff 0) (a.dh t) j)
/-- The gradient before the squared relu: where the product is not positive, so is its relu zero. -/
theorem ref_v102 : val_main_v102 (F := Ideal) (up2 a.x) (up2 a.ya) (up2 a.ys) (up2 a.ga) (up2 a.wo) (up2 a.gpm) (up2 a.gpf) (up2 a.w1) (up2 a.w2) (up2 a.gff) (up2 a.dh) = up2 a.dr := by
  have e : val_main_v102 (F := Ideal) (up2 a.x) (up2 a.ya) (up2 a.ys) (up2 a.ga) (up2 a.wo) (up2 a.gpm) (up2 a.gpf) (up2 a.w1) (up2 a.w2) (up2 a.gff) (up2 a.dh)
      = select (cmpf (F := Ideal) (φ := .f32) .ogt (val_main_v52 (F := Ideal) (up2 a.x) (up2 a.ya) (up2 a.ys) (up2 a.ga) (up2 a.wo) (up2 a.gpm) (up2 a.gpf) (up2 a.w1)) zeroM) (mulf (Host.dotGeneral dot_S8192x1024_S4096x1024_S8192x4096_1_1_0_0_n_n none (val_main_v98 (F := Ideal) (up2 a.x) (up2 a.ya) (up2 a.ys) (up2 a.ga) (up2 a.wo) (up2 a.gpm) (up2 a.gpf) (up2 a.w1) (up2 a.w2) (up2 a.gff) (up2 a.dh)) (up2 a.w2)) (mulf twoM (val_main_v53 (F := Ideal) (up2 a.x) (up2 a.ya) (up2 a.ys) (up2 a.ga) (up2 a.wo) (up2 a.gpm) (up2 a.gpf) (up2 a.w1)))) zeroM := rfl
  rw [e, ref_v52, ref_v98, ref_v53, zeroM_up, twoM_up, dot_w2t, mul_up, mul_up, select_up]
  exact congrArg up2 (funext fun t => funext fun m => by
    unfold Inputs.dr Inputs.r
    split_ifs with h
    · rfl
    · rw [max_eq_right (not_lt.mp h), mul_zero, mul_zero])
theorem ref_v103 : val_main_v103 (F := Ideal) (up2 a.x) (up2 a.ya) (up2 a.ys) (up2 a.ga) (up2 a.wo) (up2 a.gpm) (up2 a.gpf) (up2 a.w1) (up2 a.w2) (up2 a.gff) (up2 a.dh) = up2 a.dc := by
  have e : val_main_v103 (F := Ideal) (up2 a.x) (up2 a.ya) (up2 a.ys) (up2 a.ga) (up2 a.wo) (up2 a.gpm) (up2 a.gpf) (up2 a.w1) (up2 a.w2) (up2 a.gff) (up2 a.dh)
      = Host.dotGeneral dot_S8192x4096_S1024x4096_S8192x1024_1_1_0_0_n_n none (val_main_v102 (F := Ideal) (up2 a.x) (up2 a.ya) (up2 a.ys) (up2 a.ga) (up2 a.wo) (up2 a.gpm) (up2 a.gpf) (up2 a.w1) (up2 a.w2) (up2 a.gff) (up2 a.dh)) (up2 a.w1) := rfl
  rw [e, ref_v102, dot_w1t]
  rfl
theorem ref_v106 : val_main_v106 (F := Ideal) (up2 a.x) (up2 a.ya) (up2 a.ys) (up2 a.ga) (up2 a.wo) (up2 a.gpm) (up2 a.gpf) (up2 a.w1) (up2 a.w2) (up2 a.gff) (up2 a.dh) = up2 a.dgpf := by
  have e : val_main_v106 (F := Ideal) (up2 a.x) (up2 a.ya) (up2 a.ys) (up2 a.ga) (up2 a.wo) (up2 a.gpm) (up2 a.gpf) (up2 a.w1) (up2 a.w2) (up2 a.gff) (up2 a.dh)
      = sumA (mulf (F := Ideal) (φ := .f32) (val_main_v48 (F := Ideal) (up2 a.x) (up2 a.ya) (up2 a.ys) (up2 a.ga) (up2 a.wo) (up2 a.gpm)) (val_main_v103 (F := Ideal) (up2 a.x) (up2 a.ya) (up2 a.ys) (up2 a.ga) (up2 a.wo) (up2 a.gpm) (up2 a.gpf) (up2 a.w1) (up2 a.w2) (up2 a.gff) (up2 a.dh))) := rfl
  rw [e, ref_v48, ref_v103, mul_up, sum_up]
  exact congrArg up2 (funext fun _ => funext fun l => Finset.sum_congr rfl fun t _ => by ring)
/-- The gradient of the residual stream. -/
theorem ref_v123 : val_main_v123 (F := Ideal) (up2 a.x) (up2 a.ya) (up2 a.ys) (up2 a.ga) (up2 a.wo) (up2 a.gpm) (up2 a.gpf) (up2 a.w1) (up2 a.w2) (up2 a.gff) (up2 a.dh) = up2 a.dh1 := by
  have e : val_main_v123 (F := Ideal) (up2 a.x) (up2 a.ya) (up2 a.ys) (up2 a.ga) (up2 a.wo) (up2 a.gpm) (up2 a.gpf) (up2 a.w1) (up2 a.w2) (up2 a.gff) (up2 a.dh)
      = addf (addf (addf (shapeCast S8192x1024 (up2 a.dh) shapeCasts_S8192x1024_S8192x1024) (mulf (mulf (F := Ideal) (φ := .f32) (val_main_v103 (F := Ideal) (up2 a.x) (up2 a.ya) (up2 a.ys) (up2 a.ga) (up2 a.wo) (up2 a.gpm) (up2 a.gpf) (up2 a.w1) (up2 a.w2) (up2 a.gff) (up2 a.dh)) (gainA (up2 a.gpf))) (wideA (rsA (val_main_v35 (F := Ideal) (up2 a.x) (up2 a.ya) (up2 a.ys) (up2 a.ga) (up2 a.wo) (up2 a.gpm)))))) (mulf (F := Ideal) (φ := .f32) (val_main_v35 (F := Ideal) (up2 a.x) (up2 a.ya) (up2 a.ys) (up2 a.ga) (up2 a.wo) (up2 a.gpm)) (pullA (val_main_v35 (F := Ideal) (up2 a.x) (up2 a.ya) (up2 a.ys) (up2 a.ga) (up2 a.wo) (up2 a.gpm)) (mulf (F := Ideal) (φ := .f32) (val_main_v103 (F := Ideal) (up2 a.x) (up2 a.ya) (up2 a.ys) (up2 a.ga) (up2 a.wo) (up2 a.gpm) (up2 a.gpf) (up2 a.w1) (up2 a.w2) (up2 a.gff) (up2 a.dh)) (gainA (up2 a.gpf)))))) (mulf (pullA (val_main_v35 (F := Ideal) (up2 a.x) (up2 a.ya) (up2 a.ys) (up2 a.ga) (up2 a.wo) (up2 a.gpm)) (mulf (F := Ideal) (φ := .f32) (val_main_v103 (F := Ideal) (up2 a.x) (up2 a.ya) (up2 a.ys) (up2 a.ga) (up2 a.wo) (up2 a.gpm) (up2 a.gpf) (up2 a.w1) (up2 a.w2) (up2 a.gff) (up2 a.dh)) (gainA (up2 a.gpf)))) (val_main_v35 (F := Ideal) (up2 a.x) (up2 a.ya) (up2 a.ys) (up2 a.ga) (up2 a.wo) (up2 a.gpm))) := rfl
  rw [e, ref_v35, ref_v103, same_up, gain_up, mul_up, rs_up, pull_up, mul_up, mul_up, mul_up, add_up, add_up, add_up]
  exact congrArg up2 (funext fun t => funext fun j => by
    have h := bwd_ref (a.h1 t) (a.gpf 0) (a.dc t) j
    unfold Inputs.dh1
    rw [← h, add_assoc, add_assoc, add_assoc])
theorem ref_v126 : val_main_v126 (F := Ideal) (up2 a.x) (up2 a.ya) (up2 a.ys) (up2 a.ga) (up2 a.wo) (up2 a.gpm) (up2 a.gpf) (up2 a.w1) (up2 a.w2) (up2 a.gff) (up2 a.dh) = up2 a.dgpm := by
  have e : val_main_v126 (F := Ideal) (up2 a.x) (up2 a.ya) (up2 a.ys) (up2 a.ga) (up2 a.wo) (up2 a.gpm) (up2 a.gpf) (up2 a.w1) (up2 a.w2) (up2 a.gff) (up2 a.dh)
      = sumA (mulf (F := Ideal) (φ := .f32) (val_main_v32 (F := Ideal) (up2 a.ya) (up2 a.ys) (up2 a.ga) (up2 a.wo)) (val_main_v123 (F := Ideal) (up2 a.x) (up2 a.ya) (up2 a.ys) (up2 a.ga) (up2 a.wo) (up2 a.gpm) (up2 a.gpf) (up2 a.w1) (up2 a.w2) (up2 a.gff) (up2 a.dh))) := rfl
  rw [e, ref_v32, ref_v123, mul_up, sum_up]
  exact congrArg up2 (funext fun _ => funext fun l => Finset.sum_congr rfl fun t _ => by ring)
/-- The gradient of the projected output. -/
theorem ref_v142 : val_main_v142 (F := Ideal) (up2 a.x) (up2 a.ya) (up2 a.ys) (up2 a.ga) (up2 a.wo) (up2 a.gpm) (up2 a.gpf) (up2 a.w1) (up2 a.w2) (up2 a.gff) (up2 a.dh) = up2 a.dov := by
  have e : val_main_v142 (F := Ideal) (up2 a.x) (up2 a.ya) (up2 a.ys) (up2 a.ga) (up2 a.wo) (up2 a.gpm) (up2 a.gpf) (up2 a.w1) (up2 a.w2) (up2 a.gff) (up2 a.dh)
      = addf (addf (mulf (mulf (F := Ideal) (φ := .f32) (val_main_v123 (F := Ideal) (up2 a.x) (up2 a.ya) (up2 a.ys) (up2 a.ga) (up2 a.wo) (up2 a.gpm) (up2 a.gpf) (up2 a.w1) (up2 a.w2) (up2 a.gff) (up2 a.dh)) (gainA (up2 a.gpm))) (wideA (rsA (val_main_v19 (F := Ideal) (up2 a.ya) (up2 a.ys) (up2 a.ga) (up2 a.wo))))) (mulf (F := Ideal) (φ := .f32) (val_main_v19 (F := Ideal) (up2 a.ya) (up2 a.ys) (up2 a.ga) (up2 a.wo)) (pullA (val_main_v19 (F := Ideal) (up2 a.ya) (up2 a.ys) (up2 a.ga) (up2 a.wo)) (mulf (F := Ideal) (φ := .f32) (val_main_v123 (F := Ideal) (up2 a.x) (up2 a.ya) (up2 a.ys) (up2 a.ga) (up2 a.wo) (up2 a.gpm) (up2 a.gpf) (up2 a.w1) (up2 a.w2) (up2 a.gff) (up2 a.dh)) (gainA (up2 a.gpm)))))) (mulf (pullA (val_main_v19 (F := Ideal) (up2 a.ya) (up2 a.ys) (up2 a.ga) (up2 a.wo)) (mulf (F := Ideal) (φ := .f32) (val_main_v123 (F := Ideal) (up2 a.x) (up2 a.ya) (up2 a.ys) (up2 a.ga) (up2 a.wo) (up2 a.gpm) (up2 a.gpf) (up2 a.w1) (up2 a.w2) (up2 a.gff) (up2 a.dh)) (gainA (up2 a.gpm)))) (val_main_v19 (F := Ideal) (up2 a.ya) (up2 a.ys) (up2 a.ga) (up2 a.wo))) := rfl
  rw [e, ref_v19, ref_v123, gain_up, mul_up, rs_up, pull_up, mul_up, mul_up, mul_up, add_up, add_up]
  exact congrArg up2 (funext fun t => funext fun j => bwd_ref (a.ov t) (a.gpm 0) (a.dh1 t) j)
theorem ref_v143 : val_main_v143 (F := Ideal) (up2 a.x) (up2 a.ya) (up2 a.ys) (up2 a.ga) (up2 a.wo) (up2 a.gpm) (up2 a.gpf) (up2 a.w1) (up2 a.w2) (up2 a.gff) (up2 a.dh) = up2 a.dcat := by
  have e : val_main_v143 (F := Ideal) (up2 a.x) (up2 a.ya) (up2 a.ys) (up2 a.ga) (up2 a.wo) (up2 a.gpm) (up2 a.gpf) (up2 a.w1) (up2 a.w2) (up2 a.gff) (up2 a.dh)
      = Host.dotGeneral dot_S8192x1024_S1024x1024_S8192x1024_1_1_0_0_n_n none (val_main_v142 (F := Ideal) (up2 a.x) (up2 a.ya) (up2 a.ys) (up2 a.ga) (up2 a.wo) (up2 a.gpm) (up2 a.gpf) (up2 a.w1) (up2 a.w2) (up2 a.gff) (up2 a.dh)) (up2 a.wo) := rfl
  rw [e, ref_v142, dot_wot]
  rfl
theorem ref_v144 : val_main_v144 (F := Ideal) (up2 a.x) (up2 a.ya) (up2 a.ys) (up2 a.ga) (up2 a.wo) (up2 a.gpm) (up2 a.gpf) (up2 a.w1) (up2 a.w2) (up2 a.gff) (up2 a.dh) = up2 a.dca := by
  have e : val_main_v144 (F := Ideal) (up2 a.x) (up2 a.ya) (up2 a.ys) (up2 a.ga) (up2 a.wo) (up2 a.gpm) (up2 a.gpf) (up2 a.w1) (up2 a.w2) (up2 a.gff) (up2 a.dh)
      = extractStridedSlice S8192x512 ![0, 0] (val_main_v143 (F := Ideal) (up2 a.x) (up2 a.ya) (up2 a.ys) (up2 a.ga) (up2 a.wo) (up2 a.gpm) (up2 a.gpf) (up2 a.w1) (up2 a.w2) (up2 a.gff) (up2 a.dh)) slices_S8192x1024_S8192x512_0_0 := rfl
  rw [e, ref_v143, lo_up]
  rfl
theorem ref_v145 : val_main_v145 (F := Ideal) (up2 a.x) (up2 a.ya) (up2 a.ys) (up2 a.ga) (up2 a.wo) (up2 a.gpm) (up2 a.gpf) (up2 a.w1) (up2 a.w2) (up2 a.gff) (up2 a.dh) = up2 a.dys := by
  have e : val_main_v145 (F := Ideal) (up2 a.x) (up2 a.ya) (up2 a.ys) (up2 a.ga) (up2 a.wo) (up2 a.gpm) (up2 a.gpf) (up2 a.w1) (up2 a.w2) (up2 a.gff) (up2 a.dh)
      = extractStridedSlice S8192x512 ![0, 512] (val_main_v143 (F := Ideal) (up2 a.x) (up2 a.ya) (up2 a.ys) (up2 a.ga) (up2 a.wo) (up2 a.gpm) (up2 a.gpf) (up2 a.w1) (up2 a.w2) (up2 a.gff) (up2 a.dh)) slices_S8192x1024_S8192x512_0_512 := rfl
  rw [e, ref_v143, hi_up]
  rfl
theorem ref_v148 : val_main_v148 (F := Ideal) (up2 a.x) (up2 a.ya) (up2 a.ys) (up2 a.ga) (up2 a.wo) (up2 a.gpm) (up2 a.gpf) (up2 a.w1) (up2 a.w2) (up2 a.gff) (up2 a.dh) = up2 a.dga := by
  have e : val_main_v148 (F := Ideal) (up2 a.x) (up2 a.ya) (up2 a.ys) (up2 a.ga) (up2 a.wo) (up2 a.gpm) (up2 a.gpf) (up2 a.w1) (up2 a.w2) (up2 a.gff) (up2 a.dh)
      = sumB (mulf (F := Ideal) (φ := .f32) (val_main_v14 (F := Ideal) (up2 a.ya)) (val_main_v144 (F := Ideal) (up2 a.x) (up2 a.ya) (up2 a.ys) (up2 a.ga) (up2 a.wo) (up2 a.gpm) (up2 a.gpf) (up2 a.w1) (up2 a.w2) (up2 a.gff) (up2 a.dh))) := rfl
  rw [e, ref_v14, ref_v144, mul_up, sumB_up]
  exact congrArg up2 (funext fun _ => funext fun l => Finset.sum_congr rfl fun t _ => by ring)
/-- The gradient of the attention's output. -/
theorem ref_v164 : val_main_v164 (F := Ideal) (up2 a.x) (up2 a.ya) (up2 a.ys) (up2 a.ga) (up2 a.wo) (up2 a.gpm) (up2 a.gpf) (up2 a.w1) (up2 a.w2) (up2 a.gff) (up2 a.dh) = up2 a.dya := by
  have e : val_main_v164 (F := Ideal) (up2 a.x) (up2 a.ya) (up2 a.ys) (up2 a.ga) (up2 a.wo) (up2 a.gpm) (up2 a.gpf) (up2 a.w1) (up2 a.w2) (up2 a.gff) (up2 a.dh)
      = addf (addf (mulf (mulf (F := Ideal) (φ := .f32) (val_main_v144 (F := Ideal) (up2 a.x) (up2 a.ya) (up2 a.ys) (up2 a.ga) (up2 a.wo) (up2 a.gpm) (up2 a.gpf) (up2 a.w1) (up2 a.w2) (up2 a.gff) (up2 a.dh)) (gainB (up2 a.ga))) (wideB (rsB (up2 a.ya)))) (mulf (up2 a.ya) (pullB (up2 a.ya) (mulf (F := Ideal) (φ := .f32) (val_main_v144 (F := Ideal) (up2 a.x) (up2 a.ya) (up2 a.ys) (up2 a.ga) (up2 a.wo) (up2 a.gpm) (up2 a.gpf) (up2 a.w1) (up2 a.w2) (up2 a.gff) (up2 a.dh)) (gainB (up2 a.ga)))))) (mulf (pullB (up2 a.ya) (mulf (F := Ideal) (φ := .f32) (val_main_v144 (F := Ideal) (up2 a.x) (up2 a.ya) (up2 a.ys) (up2 a.ga) (up2 a.wo) (up2 a.gpm) (up2 a.gpf) (up2 a.w1) (up2 a.w2) (up2 a.gff) (up2 a.dh)) (gainB (up2 a.ga)))) (up2 a.ya)) := rfl
  rw [e, ref_v144, gainB_up, mul_up, rsB_up, pullB_up, mul_up, mul_up, mul_up, add_up, add_up]
  exact congrArg up2 (funext fun t => funext fun j => bwd_ref (a.ya t) (a.ga 0) (a.dca t) j)
/-- The same by head. -/
theorem ref_v172 (t : Fin 8192) (h : Fin 8) (d : Fin 64) : val_main_v172 (F := Ideal) (up2 a.x) (up2 a.ya) (up2 a.ys) (up2 a.ga) (up2 a.wo) (up2 a.gpm) (up2 a.gpf) (up2 a.w1) (up2 a.w2) (up2 a.gff) (up2 a.dh) (ix3 t h d) = ((a.dya t (hd h d) : ℝ) : EReal) := by
  have e : val_main_v172 (F := Ideal) (up2 a.x) (up2 a.ya) (up2 a.ys) (up2 a.ga) (up2 a.wo) (up2 a.gpm) (up2 a.gpf) (up2 a.w1) (up2 a.w2) (up2 a.gff) (up2 a.dh) (ix3 t h d)
      = shapeCast S8192x8x64 (val_main_v164 (F := Ideal) (up2 a.x) (up2 a.ya) (up2 a.ys) (up2 a.ga) (up2 a.wo) (up2 a.gpm) (up2 a.gpf) (up2 a.w1) (up2 a.w2) (up2 a.gff) (up2 a.dh)) shapeCasts_S8192x512_S8192x8x64 (ix3 t h d) := rfl
  rw [e, ref_v164, split_at]
/-- Its product with that output, summed over each head. -/
theorem ref_v167 : val_main_v167 (F := Ideal) (up2 a.x) (up2 a.ya) (up2 a.ys) (up2 a.ga) (up2 a.wo) (up2 a.gpm) (up2 a.gpf) (up2 a.w1) (up2 a.w2) (up2 a.gff) (up2 a.dh) = up2 a.dlt := by
  have e : val_main_v167 (F := Ideal) (up2 a.x) (up2 a.ya) (up2 a.ys) (up2 a.ga) (up2 a.wo) (up2 a.gpm) (up2 a.gpf) (up2 a.w1) (up2 a.w2) (up2 a.gff) (up2 a.dh)
      = headSum (mulf (F := Ideal) (φ := .f32) (val_main_v164 (F := Ideal) (up2 a.x) (up2 a.ya) (up2 a.ys) (up2 a.ga) (up2 a.wo) (up2 a.gpm) (up2 a.gpf) (up2 a.w1) (up2 a.w2) (up2 a.gff) (up2 a.dh)) (up2 a.ya)) := rfl
  rw [e, ref_v164, mul_up, headSum_up]
  rfl

end Cert.Tail
-- ==== Proof.TailBwd.Claim.lean ====
/- The tail's backward call returns the reference's gradients, at real arguments. -/
module

public import proofs.«01_k».proof.Proof.TailBwd.Tail
public import proofs.«01_k».proof.Proof.TailBwd.Ref

@[expose] public section

set_option maxRecDepth 16384

noncomputable section

namespace Cert.Kernel3Ideal.TailBwd

open Cert.Kernel3Ideal Cert.Kernel3Ideal.Gen Idealize.ShloMosaic Idealize.ShloMosaic.TcCoe Idealize.SL.Sem
open Cert.Tail
open Cert.Reference3Ideal.Read

variable {m : (ℓ : Loc nD τ sig) → Buf (Elt Ideal) ℓ} {c : Dev nD} {a : Inputs} (A : Args m c a)
variable {y0 y10 : FVec Ideal S8192x1024 .f32} {y1 y2 : FVec Ideal S8192x512 .f32} {y3 : FVec Ideal S1x512 .f32} {y4 : FVec Ideal S1024x1024 .f32} {y5 y6 y9 : FVec Ideal S1x1024 .f32} {y7 : FVec Ideal S1024x4096 .f32} {y8 : FVec Ideal S4096x1024 .f32}
  (e : y0 = X0 m c ∧ y1 = X1 m c ∧ y2 = X2 m c ∧ y3 = X3 m c ∧ y4 = X4 m c ∧ y5 = X5 m c ∧ y6 = X6 m c ∧ y7 = X7 m c ∧ y8 = X8 m c ∧ y9 = X9 m c ∧ y10 = X10 m c)
include A e

/-! The reference's results on the same arguments. -/

theorem args_up : y0 = up2 a.x ∧ y1 = up2 a.ya ∧ y2 = up2 a.ys ∧ y3 = up2 a.ga ∧ y4 = up2 a.wo ∧ y5 = up2 a.gpm ∧ y6 = up2 a.gpf ∧ y7 = up2 a.w1 ∧ y8 = up2 a.w2 ∧ y9 = up2 a.gff ∧ y10 = up2 a.dh := by
  obtain ⟨e0, e1, e2, e3, e4, e5, e6, e7, e8, e9, e10⟩ := e
  exact ⟨e0.trans A.x, e1.trans A.ya, e2.trans A.ys, e3.trans A.ga, e4.trans A.wo, e5.trans A.gpm, e6.trans A.gpf, e7.trans A.w1, e8.trans A.w2, e9.trans A.gff, e10.trans A.dh⟩
theorem res_dff : val_main_v168 (F := Ideal) y0 y1 y2 y3 y4 y5 y6 y7 y8 y9 y10 = (dats m 0 c).arrAt 6 cfg0.N := by
  obtain ⟨rfl, rfl, rfl, rfl, rfl, rfl, rfl, rfl, rfl, rfl, rfl⟩ := args_up A e
  exact (ref_v98 a).trans (arr_6 A).symm
theorem res_dr : val_main_v169 (F := Ideal) y0 y1 y2 y3 y4 y5 y6 y7 y8 y9 y10 = (dats m 0 c).arrAt 7 cfg0.N := by
  obtain ⟨rfl, rfl, rfl, rfl, rfl, rfl, rfl, rfl, rfl, rfl, rfl⟩ := args_up A e
  exact (ref_v102 a).trans (arr_7 A).symm
theorem res_dov : val_main_v170 (F := Ideal) y0 y1 y2 y3 y4 y5 y6 y7 y8 y9 y10 = (dats m 0 c).arrAt 8 cfg0.N := by
  obtain ⟨rfl, rfl, rfl, rfl, rfl, rfl, rfl, rfl, rfl, rfl, rfl⟩ := args_up A e
  exact (ref_v142 a).trans (arr_8 A).symm
theorem res_dya : val_main_v172 (F := Ideal) y0 y1 y2 y3 y4 y5 y6 y7 y8 y9 y10 = last m c main_v65 := by
  obtain ⟨rfl, rfl, rfl, rfl, rfl, rfl, rfl, rfl, rfl, rfl, rfl⟩ := args_up A e
  refine Eq.symm ((W_main_v65 m c).trans ?_)
  rw [arr_9 A]
  funext i
  idx_vars i
  exact (heads_real a _ _ _).trans (ref_v172 a _ _ _).symm
theorem res_dlt : val_main_v167 (F := Ideal) y0 y1 y2 y3 y4 y5 y6 y7 y8 y9 y10 = last m c main_v66 := by
  obtain ⟨rfl, rfl, rfl, rfl, rfl, rfl, rfl, rfl, rfl, rfl, rfl⟩ := args_up A e
  refine Eq.symm ((W_main_v66 m c).trans ?_)
  rw [arr_10 A]
  exact Eq.trans (ext2 fun t h => sums_real a t h) (ref_v167 a).symm
theorem res_dys : val_main_v145 (F := Ideal) y0 y1 y2 y3 y4 y5 y6 y7 y8 y9 y10 = (dats m 0 c).arrAt 11 cfg0.N := by
  obtain ⟨rfl, rfl, rfl, rfl, rfl, rfl, rfl, rfl, rfl, rfl, rfl⟩ := args_up A e
  exact (ref_v145 a).trans (arr_11 A).symm
theorem res_dh1 : val_main_v123 (F := Ideal) y0 y1 y2 y3 y4 y5 y6 y7 y8 y9 y10 = (dats m 0 c).arrAt 12 cfg0.N := by
  obtain ⟨rfl, rfl, rfl, rfl, rfl, rfl, rfl, rfl, rfl, rfl, rfl⟩ := args_up A e
  exact (ref_v123 a).trans (arr_12 A).symm
theorem res_dgff : val_main_v82 (F := Ideal) y0 y1 y2 y3 y4 y5 y6 y7 y8 y10 = (dats m 0 c).arrAt 13 cfg0.N := by
  obtain ⟨rfl, rfl, rfl, rfl, rfl, rfl, rfl, rfl, rfl, rfl, rfl⟩ := args_up A e
  exact (ref_v82 a).trans (arr_13 A).symm
theorem res_dgpf : val_main_v106 (F := Ideal) y0 y1 y2 y3 y4 y5 y6 y7 y8 y9 y10 = (dats m 0 c).arrAt 14 cfg0.N := by
  obtain ⟨rfl, rfl, rfl, rfl, rfl, rfl, rfl, rfl, rfl, rfl, rfl⟩ := args_up A e
  exact (ref_v106 a).trans (arr_14 A).symm
theorem res_dgpm : val_main_v126 (F := Ideal) y0 y1 y2 y3 y4 y5 y6 y7 y8 y9 y10 = (dats m 0 c).arrAt 15 cfg0.N := by
  obtain ⟨rfl, rfl, rfl, rfl, rfl, rfl, rfl, rfl, rfl, rfl, rfl⟩ := args_up A e
  exact (ref_v126 a).trans (arr_15 A).symm
theorem res_dga : val_main_v148 (F := Ideal) y0 y1 y2 y3 y4 y5 y6 y7 y8 y9 y10 = (dats m 0 c).arrAt 16 cfg0.N := by
  obtain ⟨rfl, rfl, rfl, rfl, rfl, rfl, rfl, rfl, rfl, rfl, rfl⟩ := args_up A e
  exact (ref_v148 a).trans (arr_16 A).symm

end Cert.Kernel3Ideal.TailBwd

end
-- ==== Proof.FlashBwd.Offs.lean ====
/- Where the attention backward's body reads and writes: the closed form of every block offset of its two loops' trips
   and of the last odd step, and the words it compares with the mask. -/
module

public import proofs.«01_k».proof.Proof.Gen.Kernel2Ideal.Frame
public import Idealize.ShloMosaic.Lib.Exec

@[expose] public section

set_option maxRecDepth 16384

noncomputable section

namespace Cert.Kernel2Ideal.FlashBwd

open Cert.Kernel2Ideal Cert.Kernel2Ideal.Gen Idealize.ShloMosaic Idealize.ShloMosaic.TcCoe Idealize.ShloMosaic.Tactic

/-- The query block whose scores step `t` of key block `kb` computes. -/
def blkA (kb t : ℕ) : ℕ := kb + min t (31 - kb)
/-- The query block whose probabilities step `t` forms. -/
def blkB (kb t : ℕ) : ℕ := kb + min (t - 1) (31 - kb)
/-- The query block whose products step `t` adds up. -/
def blkC (kb t : ℕ) : ℕ := kb + min (t - 2) (31 - kb)

/-- How far right of its own row a query sees in step `t`: nowhere once the blocks are used up. -/
def lim (kb t : ℕ) : BitVec 32 := if t < 32 - kb then BitVec.ofNat 32 (t * 256) else 4294967040#32

theorem off1_eq : ∀ (i : grid0.Coords) (k : Fin (k0_t1_loop i).trips), k0_off1 i k = ![blkC (i 1).val (2 * k.val), 0, 0] := by decide +kernel
theorem off2_eq : ∀ (i : grid0.Coords) (k : Fin (k0_t1_loop i).trips), k0_off2 i k = ![blkC (i 1).val (2 * k.val) * 256, 0] := by decide +kernel
theorem off3_eq : ∀ (i : grid0.Coords) (k : Fin (k0_t1_loop i).trips), k0_off3 i k = ![0, 0, blkB (i 1).val (2 * k.val) * 256] := by decide +kernel
theorem off4_eq : ∀ (i : grid0.Coords) (k : Fin (k0_t1_loop i).trips), k0_off4 i k = ![blkA (i 1).val (2 * k.val), 0, 0] := by decide +kernel
theorem off5_eq : ∀ (i : grid0.Coords) (k : Fin (k0_t1_loop i).trips), k0_off5 i k = ![blkC (i 1).val (2 * k.val), 128, 0] := by decide +kernel
theorem off6_eq : ∀ (i : grid0.Coords) (k : Fin (k0_t1_loop i).trips), k0_off6 i k = ![blkC (i 1).val (2 * k.val) * 256, 128] := by decide +kernel
theorem off7_eq : ∀ (i : grid0.Coords) (k : Fin (k0_t1_loop i).trips), k0_off7 i k = ![0, 1, blkB (i 1).val (2 * k.val) * 256] := by decide +kernel
theorem off8_eq : ∀ (i : grid0.Coords) (k : Fin (k0_t1_loop i).trips), k0_off8 i k = ![blkA (i 1).val (2 * k.val), 128, 0] := by decide +kernel
theorem off9_eq : ∀ (i : grid0.Coords) (k : Fin (k0_t1_loop i).trips), k0_off9 i k = ![blkC (i 1).val (2 * k.val + 1), 0, 0] := by decide +kernel
theorem off10_eq : ∀ (i : grid0.Coords) (k : Fin (k0_t1_loop i).trips), k0_off10 i k = ![blkC (i 1).val (2 * k.val + 1) * 256, 0] := by decide +kernel
theorem off11_eq : ∀ (i : grid0.Coords) (k : Fin (k0_t1_loop i).trips), k0_off11 i k = ![0, 0, blkB (i 1).val (2 * k.val + 1) * 256] := by decide +kernel
theorem off12_eq : ∀ (i : grid0.Coords) (k : Fin (k0_t1_loop i).trips), k0_off12 i k = ![blkA (i 1).val (2 * k.val + 1), 0, 0] := by decide +kernel
theorem off13_eq : ∀ (i : grid0.Coords) (k : Fin (k0_t1_loop i).trips), k0_off13 i k = ![blkC (i 1).val (2 * k.val + 1), 128, 0] := by decide +kernel
theorem off14_eq : ∀ (i : grid0.Coords) (k : Fin (k0_t1_loop i).trips), k0_off14 i k = ![blkC (i 1).val (2 * k.val + 1) * 256, 128] := by decide +kernel
theorem off15_eq : ∀ (i : grid0.Coords) (k : Fin (k0_t1_loop i).trips), k0_off15 i k = ![0, 1, blkB (i 1).val (2 * k.val + 1) * 256] := by decide +kernel
theorem off16_eq : ∀ (i : grid0.Coords) (k : Fin (k0_t1_loop i).trips), k0_off16 i k = ![blkA (i 1).val (2 * k.val + 1), 128, 0] := by decide +kernel

/-- The first loop's trips: half the steps, rounded down, and one. -/
theorem trips1 : ∀ i : grid0.Coords, (k0_t1_loop i).trips = (32 - (i 1).val) / 2 + 1 := by decide +kernel
/-- The second loop has no trip. -/
theorem trips2 : ∀ i : grid0.Coords, (k0_t2_loop i).trips = 0 := by decide +kernel
theorem cond1_eq : ∀ i : grid0.Coords, k0_cond2 i = 1#1 ↔ (32 - (i 1).val) % 2 = 1 := by decide +kernel

theorem off33_eq : ∀ i : grid0.Coords, k0_off33 i = ![blkC (i 1).val (33 - (i 1).val), 0, 0] := by decide +kernel
theorem off34_eq : ∀ i : grid0.Coords, k0_off34 i = ![blkC (i 1).val (33 - (i 1).val) * 256, 0] := by decide +kernel
theorem off35_eq : ∀ i : grid0.Coords, k0_off35 i = ![0, 0, blkB (i 1).val (33 - (i 1).val) * 256] := by decide +kernel
theorem off36_eq : ∀ i : grid0.Coords, k0_off36 i = ![blkA (i 1).val (33 - (i 1).val), 0, 0] := by decide +kernel
theorem off37_eq : ∀ i : grid0.Coords, k0_off37 i = ![blkC (i 1).val (33 - (i 1).val), 128, 0] := by decide +kernel
theorem off38_eq : ∀ i : grid0.Coords, k0_off38 i = ![blkC (i 1).val (33 - (i 1).val) * 256, 128] := by decide +kernel
theorem off39_eq : ∀ i : grid0.Coords, k0_off39 i = ![0, 1, blkB (i 1).val (33 - (i 1).val) * 256] := by decide +kernel
theorem off40_eq : ∀ i : grid0.Coords, k0_off40 i = ![blkA (i 1).val (33 - (i 1).val), 128, 0] := by decide +kernel

/-- The key block's index as the body's word. -/
abbrev kbw (i : grid0.Coords) : BitVec 32 := BitVec.ofNat 32 (i 1).val

theorem lim_even : ∀ (i : grid0.Coords) (k : Fin (k0_t1_loop i).trips),
    Scalar.select (Scalar.cmpi .slt (Scalar.muli 2#32 (Scf.iv 0#32 1#32 k)) (Scalar.subi 32#32 (kbw i)))
      (Scalar.muli (Scalar.muli 2#32 (Scf.iv 0#32 1#32 k)) 256#32) 4294967040#32 = lim (i 1).val (2 * k.val) := by decide +kernel
theorem lim_odd : ∀ (i : grid0.Coords) (k : Fin (k0_t1_loop i).trips),
    Scalar.select (Scalar.cmpi .slt (Scalar.addi (Scalar.muli 2#32 (Scf.iv 0#32 1#32 k)) 1#32) (Scalar.subi 32#32 (kbw i)))
      (Scalar.muli (Scalar.addi (Scalar.muli 2#32 (Scf.iv 0#32 1#32 k)) 1#32) 256#32) 4294967040#32 = lim (i 1).val (2 * k.val + 1) := by decide +kernel

end Cert.Kernel2Ideal.FlashBwd

end
-- ==== Proof.FlashBwd.Model.lean ====
/- What the attention backward computes at one grid point, step by step: the sequences of score, probability and
   product tiles its pipelined steps leave, and the sums they grow, spelt by the kernel's own operations. -/
module

public import proofs.«01_k».proof.Proof.FlashBwd.Offs
public import proofs.«01_k».proof.Proof.Gen.Kernel2Ideal.Skeleton
public import Idealize.ShloMosaic.Lib.WritesUnit
public import Idealize.ShloMosaic.Lib.Pipeline.Value

@[expose] public section

set_option maxRecDepth 16384

noncomputable section

namespace Cert.Kernel2Ideal.FlashBwd

open Cert.Kernel2Ideal Cert.Kernel2Ideal.Gen Idealize.ShloMosaic Idealize.ShloMosaic.TcCoe Idealize.ShloMosaic.Tactic

variable {F : FTy → Type} [FloatOps F] [Named F]

theorem lim_last : ∀ i : grid0.Coords,
    Scalar.select (Scalar.cmpi .slt (Scalar.addi (Scalar.subi 32#32 (kbw i)) 1#32) (Scalar.subi 32#32 (kbw i)))
      (Scalar.muli (Scalar.addi (Scalar.subi 32#32 (kbw i)) 1#32) 256#32) 4294967040#32 = lim (i 1).val (33 - (i 1).val) := by decide +kernel

/-- The blocks a grid point reads: the head pair's queries and cotangents, by rows and by slabs, its key and value block,
    its rows of normalisers and of products. -/
structure Ops (F : FTy → Type) where
  q : Vec F S8192x256 .bf16
  qt : Vec F S32x256x256 .bf16
  k : Vec F S256x256 .bf16
  v : Vec F S256x256 .bf16
  do' : Vec F S8192x256 .bf16
  dot : Vec F S32x256x256 .bf16
  l : Vec F S1x8x8192 .f32
  d : Vec F S1x8x8192 .f32

theorem blkA_lt {kb : ℕ} (h : kb < 32) (t : ℕ) : blkA kb t < 32 := by unfold blkA; omega
theorem blkB_lt {kb : ℕ} (h : kb < 32) (t : ℕ) : blkB kb t < 32 := by unfold blkB; omega
theorem blkC_lt {kb : ℕ} (h : kb < 32) (t : ℕ) : blkC kb t < 32 := by unfold blkC; omega

/-- Half `j` of slab `b`. -/
def slabR (j : Fin 2) (b : ℕ) (hb : b < 32) : Rect S32x256x256 :=
  Rect.unit (s := S32x256x256) ![b, 128 * j.val, 0] S1x128x256.size (fun a => by
    have := j.isLt
    fin_cases a <;> simp [S1x128x256, S32x256x256, Shape.size] <;> omega)

/-- Half `j` of the rows of block `b`. -/
def rowsR (j : Fin 2) (b : ℕ) (hb : b < 32) : Rect S8192x256 :=
  Rect.unit (s := S8192x256) ![b * 256, 128 * j.val] S256x128.size (fun a => by
    have := j.isLt
    fin_cases a <;> simp [S256x128, S8192x256, Shape.size] <;> omega)

/-- Row `j` of the values of block `b`. -/
def lineR (j : Fin 2) (b : ℕ) (hb : b < 32) : Rect S1x8x8192 :=
  Rect.unit (s := S1x8x8192) ![0, j.val, b * 256] S1x1x256.size (fun a => by
    have := j.isLt
    fin_cases a <;> simp [S1x1x256, S1x8x8192, Shape.size] <;> omega)

/-- Half `j` of a block. -/
def halfR (j : Fin 2) : Rect S256x256 :=
  Rect.unit (s := S256x256) ![0, 128 * j.val] S256x128.size (fun a => by
    have := j.isLt
    fin_cases a <;> simp [S256x128, S256x256, Shape.size] <;> omega)

/-- Head `j`'s tile in slot `s`. -/
def slotR (s j : Fin 2) : Rect S2x2x256x256 :=
  Rect.unit (s := S2x2x256x256) ![s.val, j.val, 0, 0] S1x1x256x256.size (fun a => by
    have := j.isLt; have := s.isLt
    fin_cases a <;> simp [S1x1x256x256, S2x2x256x256, Shape.size] <;> omega)

variable (o : Ops F) (kb : ℕ) (hkb : kb < 32) (j : Fin 2)

/-- The keys, and the values, of head `j`. -/
def kj : FVec F S256x128 .bf16 := k0_pay94 (View.ld o.k (halfR j))
def vj : FVec F S256x128 .bf16 := k0_pay96 (View.ld o.v (halfR j))

/-- The scores before step `t`: masked at first. -/
def U : ℕ → Vec F S1x1x256x256 .f32
  | 0 => fun _ => Named.named κ "masked" 0xF1C9F2CA#32
  | t + 1 => k0_pay10 k0_pay93 (kj o j) (lim kb t) (View.ld o.qt (slabR j (blkA kb t) (blkA_lt hkb t)))

/-- The products of values and cotangents before step `t`. -/
def DP : ℕ → Vec F S1x1x256x256 .f32
  | 0 => fun _ => Scalar.ofBits .f32 0x00000000#32
  | t + 1 => k0_pay11 (vj o j) (View.ld o.dot (slabR j (blkA kb t) (blkA_lt hkb t)))

/-- The probabilities step `t` adds up. -/
def P : ℕ → Vec F S1x1x256x256 .bf16
  | 0 => fun _ => Scalar.ofBits .bf16 0x0000#16
  | t + 1 => k0_pay8 (U o kb hkb j t) (View.ld o.l (lineR j (blkB kb t) (blkB_lt hkb t)))

/-- The score gradients step `t` adds up. -/
def DS : ℕ → Vec F S1x1x256x256 .bf16
  | 0 => fun _ => Scalar.ofBits .bf16 0x0000#16
  | t + 1 => k0_pay9 (k0_pay7 (U o kb hkb j t) (View.ld o.l (lineR j (blkB kb t) (blkB_lt hkb t)))) (DP o kb hkb j t)
      (View.ld o.d (lineR j (blkB kb t) (blkB_lt hkb t)))

/-- The keys' gradient before step `t`. -/
def DK : ℕ → Vec F S256x128 .f32
  | 0 => fun _ => Scalar.ofBits .f32 0x00000000#32
  | t + 1 => k0_pay6 (DK t) (DS o kb hkb j t) (View.ld o.q (rowsR j (blkC kb t) (blkC_lt hkb t)))

/-- The values' gradient before step `t`. -/
def DV : ℕ → Vec F S256x128 .f32
  | 0 => fun _ => Scalar.ofBits .f32 0x00000000#32
  | t + 1 => k0_pay6 (DV t) (P o kb hkb j t) (View.ld o.do' (rowsR j (blkC kb t) (blkC_lt hkb t)))

/-- Half `j` of slab `b` of the queries' gradient before step `t`, from what the point found there. -/
def DQ (b : ℕ) (x : Vec F S1x128x256 .f32) : ℕ → Vec F S1x128x256 .f32
  | 0 => x
  | t + 1 => if b = blkC kb t then k0_pay3 (kj o j) (DQ b x t) (DS o kb hkb j t) else DQ b x t

end Cert.Kernel2Ideal.FlashBwd

end
-- ==== Proof.FlashBwd.Tiles.lean ====
/- Reading the tiles the attention backward's steps store: each tile, half, row block and slab as a function of the
   buffer it lies in, what a load reads after the stores that came before it, and the step the queries' gradient takes. -/
module

public import proofs.«01_k».proof.Proof.FlashBwd.Model

@[expose] public section

set_option maxRecDepth 16384

noncomputable section

namespace Cert.Kernel2Ideal.FlashBwd

open Cert.Kernel2Ideal Cert.Kernel2Ideal.Gen Idealize.ShloMosaic Idealize.ShloMosaic.TcCoe Idealize.ShloMosaic.Tactic

variable {F : FTy → Type} [FloatOps F] [Named F]

def slab {e : EltTy} (j : Fin 2) (b : ℕ) (hb : b < 32) (x : Vec F S32x256x256 e) : Vec F S1x128x256 e := View.ld x (slabR j b hb)
def rows {e : EltTy} (j : Fin 2) (b : ℕ) (hb : b < 32) (x : Vec F S8192x256 e) : Vec F S256x128 e := View.ld x (rowsR j b hb)
def line {e : EltTy} (j : Fin 2) (b : ℕ) (hb : b < 32) (x : Vec F S1x8x8192 e) : Vec F S1x1x256 e := View.ld x (lineR j b hb)
def half {e : EltTy} (j : Fin 2) (x : Vec F S256x256 e) : Vec F S256x128 e := View.ld x (halfR j)
def tile {e : EltTy} (s j : Fin 2) (x : Vec F S2x2x256x256 e) : Vec F S1x1x256x256 e := View.ld x (slotR s j)

theorem ld_slab {e : EltTy} (x : Vec F S32x256x256 e) (j : Fin 2) (b : ℕ) (hb : b < 32) {off : Fin 3 → ℕ}
    (inb : ∀ a, off a + S1x128x256.size a ≤ S32x256x256.size a) (h : off = ![b, 128 * j.val, 0]) :
    View.ld x (Rect.unit off S1x128x256.size inb) = slab j b hb x := by subst h; rfl
theorem ld_rows {e : EltTy} (x : Vec F S8192x256 e) (j : Fin 2) (b : ℕ) (hb : b < 32) {off : Fin 2 → ℕ}
    (inb : ∀ a, off a + S256x128.size a ≤ S8192x256.size a) (h : off = ![b * 256, 128 * j.val]) :
    View.ld x (Rect.unit off S256x128.size inb) = rows j b hb x := by subst h; rfl
theorem ld_line {e : EltTy} (x : Vec F S1x8x8192 e) (j : Fin 2) (b : ℕ) (hb : b < 32) {off : Fin 3 → ℕ}
    (inb : ∀ a, off a + S1x1x256.size a ≤ S1x8x8192.size a) (h : off = ![0, j.val, b * 256]) :
    View.ld x (Rect.unit off S1x1x256.size inb) = line j b hb x := by subst h; rfl
theorem ld_half0 {e : EltTy} (x : Vec F S256x256 e) (inb : ∀ a, (![0, 0] : Fin 2 → ℕ) a + (![256, 128] : Fin 2 → ℕ) a ≤ S256x256.size a) :
    View.ld x (Rect.unit (s := S256x256) ![0, 0] (![256, 128] : Fin 2 → ℕ) inb) = half 0 x := rfl
theorem ld_half1 {e : EltTy} (x : Vec F S256x256 e) (inb : ∀ a, (![0, 128] : Fin 2 → ℕ) a + (![256, 128] : Fin 2 → ℕ) a ≤ S256x256.size a) :
    View.ld x (Rect.unit (s := S256x256) ![0, 128] (![256, 128] : Fin 2 → ℕ) inb) = half 1 x := rfl
theorem ld_tile00 {e : EltTy} (x : Vec F S2x2x256x256 e) (inb : ∀ a, (![0, 0, 0, 0] : Fin 4 → ℕ) a + (![1, 1, 256, 256] : Fin 4 → ℕ) a ≤ S2x2x256x256.size a) :
    View.ld x (Rect.unit (s := S2x2x256x256) ![0, 0, 0, 0] (![1, 1, 256, 256] : Fin 4 → ℕ) inb) = tile 0 0 x := rfl
theorem ld_tile01 {e : EltTy} (x : Vec F S2x2x256x256 e) (inb : ∀ a, (![0, 1, 0, 0] : Fin 4 → ℕ) a + (![1, 1, 256, 256] : Fin 4 → ℕ) a ≤ S2x2x256x256.size a) :
    View.ld x (Rect.unit (s := S2x2x256x256) ![0, 1, 0, 0] (![1, 1, 256, 256] : Fin 4 → ℕ) inb) = tile 0 1 x := rfl
theorem ld_tile10 {e : EltTy} (x : Vec F S2x2x256x256 e) (inb : ∀ a, (![1, 0, 0, 0] : Fin 4 → ℕ) a + (![1, 1, 256, 256] : Fin 4 → ℕ) a ≤ S2x2x256x256.size a) :
    View.ld x (Rect.unit (s := S2x2x256x256) ![1, 0, 0, 0] (![1, 1, 256, 256] : Fin 4 → ℕ) inb) = tile 1 0 x := rfl
theorem ld_tile11 {e : EltTy} (x : Vec F S2x2x256x256 e) (inb : ∀ a, (![1, 1, 0, 0] : Fin 4 → ℕ) a + (![1, 1, 256, 256] : Fin 4 → ℕ) a ≤ S2x2x256x256.size a) :
    View.ld x (Rect.unit (s := S2x2x256x256) ![1, 1, 0, 0] (![1, 1, 256, 256] : Fin 4 → ℕ) inb) = tile 1 1 x := rfl

section Stores

variable {sig : RefSig} {κ : Kind} {sp : Space} {s : Shape} {e : EltTy} {Val : EltTy → Type}

/-- A load of the rectangle just stored reads what was stored. -/
theorem ld_hit (v : View sig κ sp s e) (f : v.ty.Contents Val) {off size : Fin s.rank → ℕ} (inb inb' : ∀ a, off a + size a ≤ s.size a)
    (w : (Rect.unit off size inb).shape.Idx → Val e) (L : List (View.Piece Val s e)) :
    View.ld (v.read Val (v.writes Val f ((⟨Rect.unit off size inb, w⟩ : View.Piece Val s e) :: L))) (Rect.unit off size inb') = w :=
  funext fun x => View.read_writes_cons_emb v f (Rect.unit off size inb) w L x

/-- A load of a rectangle apart from the one just stored reads what was there before. -/
theorem ld_miss (v : View sig κ sp s e) (f : v.ty.Contents Val) {off size off' size' : Fin s.rank → ℕ} (inb : ∀ a, off a + size a ≤ s.size a)
    (inb' : ∀ a, off' a + size' a ≤ s.size a)
    (w : (Rect.unit off size inb).shape.Idx → Val e) (L : List (View.Piece Val s e))
    (h : ∃ a, off' a + size' a ≤ off a ∨ off a + size a ≤ off' a) :
    View.ld (v.read Val (v.writes Val f ((⟨Rect.unit off size inb, w⟩ : View.Piece Val s e) :: L))) (Rect.unit off' size' inb')
      = View.ld (v.read Val (v.writes Val f L)) (Rect.unit off' size' inb') := by
  obtain ⟨a, ha⟩ := h
  refine funext fun x => View.read_writes_cons_unit_of_not_mem v f inb w L _ rfl a ?_
  have hx : (x a).val < size' a := (x a).isLt
  show off' a + 1 * (x a).val < off a ∨ off a + size a ≤ off' a + 1 * (x a).val
  omega

theorem readCov_eq_ld [∀ e, Nonempty (Val e)] (v : View sig κ sp s e) (L : List (View.Piece Val s e)) (r : Rect s) :
    v.readCov L r.toLoadRect = View.ld (v.read Val (v.writes Val v.junk L)) r := rfl

theorem read_writes_nil (v : View sig κ sp s e) (f : v.ty.Contents Val) : v.read Val (v.writes Val f []) = v.read Val f := rfl

/-- A store of the whole buffer leaves what it stored. -/
theorem read_whole (v : View sig κ sp s e) (f : v.ty.Contents Val) {off : Fin s.rank → ℕ} (h : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst h
  exact funext fun y => View.read_writes_cons_unit_of_mem v f inb w L y y rfl fun a => (Nat.zero_add _).symm

end Stores

theorem apart_half01 : ∃ a, (![0, 0] : Fin 2 → ℕ) a + S256x128.size a ≤ (![0, 128] : Fin 2 → ℕ) a
    ∨ (![0, 128] : Fin 2 → ℕ) a + S256x128.size a ≤ (![0, 0] : Fin 2 → ℕ) a := by decide
theorem apart_half10 : ∃ a, (![0, 128] : Fin 2 → ℕ) a + S256x128.size a ≤ (![0, 0] : Fin 2 → ℕ) a
    ∨ (![0, 0] : Fin 2 → ℕ) a + S256x128.size a ≤ (![0, 128] : Fin 2 → ℕ) a := by decide

section Step

variable (o : Ops F) (kb : ℕ) (hkb : kb < 32)

/-- One step of the queries' gradient: the two stores of the step's slab take the slabs' state at `t` to that at
    `t + 1`. -/
theorem dq_step (t : ℕ) (xq : Vec F S32x256x256 .f32) {sig : RefSig} {κ : Kind} {sp : Space} (v : View sig κ sp S32x256x256 .f32)
    (f : v.ty.Contents (Elt F)) (L : List (View.Piece (Elt F) S32x256x256 .f32)) {off1 off5 : Fin 3 → ℕ}
    (inb1 : ∀ a, off1 a + S1x128x256.size a ≤ S32x256x256.size a) (inb5 : ∀ a, off5 a + S1x128x256.size a ≤ S32x256x256.size a)
    (e1 : off1 = ![blkC kb t, 0, 0]) (e5 : off5 = ![blkC kb t, 128, 0]) (y0 y1 : Vec F S1x128x256 .f32)
    (H : ∀ (j : Fin 2) (b : ℕ) (hb : b < 32), slab j b hb (v.read (Elt F) (v.writes (Elt F) f L)) = DQ o kb hkb j b (slab j b hb xq) t)
    (hy0 : y0 = k0_pay3 (kj o 0) (View.ld (v.read (Elt F) (v.writes (Elt F) f L)) (Rect.unit off1 S1x128x256.size inb1)) (DS o kb hkb 0 t))
    (hy1 : y1 = k0_pay3 (kj o 1) (View.ld (v.read (Elt F) (v.writes (Elt F) f L)) (Rect.unit off5 S1x128x256.size inb5)) (DS o kb hkb 1 t)) :
    ∀ (j : Fin 2) (b : ℕ) (hb : b < 32), slab j b hb (v.read (Elt F) (v.writes (Elt F) f
        ((⟨Rect.unit off5 S1x128x256.size inb5, y1⟩ : View.Piece (Elt F) S32x256x256 .f32)
          :: (⟨Rect.unit off1 S1x128x256.size inb1, y0⟩ : View.Piece (Elt F) S32x256x256 .f32) :: L)))
      = DQ o kb hkb j b (slab j b hb xq) (t + 1) := by
  have hlt := blkC_lt hkb t
  subst e1 e5
  rw [ld_slab _ 1 _ hlt inb5 rfl, H] at hy1
  rw [ld_slab _ 0 _ hlt inb1 rfl, H] at hy0
  intro j b hb
  show _ = if b = blkC kb t then _ else _
  by_cases hbt : b = blkC kb t
  · subst hbt
    rw [if_pos rfl]
    revert j
    refine Fin.forall_fin_two.mpr ⟨?_, ?_⟩
    · refine (ld_miss v f inb5 inb1 y1 _ ⟨1, by show 0 + 128 ≤ 128 ∨ 128 + 128 ≤ 0; omega⟩).trans ?_
      exact (ld_hit v f inb1 inb1 y0 L).trans hy0
    · exact (ld_hit v f inb5 inb5 y1 _).trans hy1
  · rw [if_neg hbt]
    have m : ∀ (x : ℕ), ∃ a : Fin 3, (![b, 128 * j.val, 0] : Fin 3 → ℕ) a + S1x128x256.size a ≤ (![blkC kb t, x, 0] : Fin 3 → ℕ) a
        ∨ (![blkC kb t, x, 0] : Fin 3 → ℕ) a + S1x128x256.size a ≤ (![b, 128 * j.val, 0] : Fin 3 → ℕ) a := fun x =>
      ⟨0, by show b + 1 ≤ blkC kb t ∨ blkC kb t + 1 ≤ b; omega⟩
    exact ((ld_miss v f inb5 _ y1 _ (m 128)).trans (ld_miss v f inb1 _ y0 L (m 0))).trans (H j b hb)

/-- What the buffers hold before step `t`, the step's scores lying in slot `1` and its probabilities in slot `0` for an even
    step and the other way round for an odd one. -/
structure St (s0 s1 : Fin 2) (t : ℕ) (x0 xq : Vec F S32x256x256 .f32) (xk xv : Vec F S256x256 .f32) (xu xdp : Vec F S2x2x256x256 .f32)
    (xp xds : Vec F S2x2x256x256 .bf16) : Prop where
  dq : ∀ (j : Fin 2) (b : ℕ) (hb : b < 32), slab j b hb xq = DQ o kb hkb j b (slab j b hb x0) t
  dk : ∀ j, half j xk = DK o kb hkb j t
  dv : ∀ j, half j xv = DV o kb hkb j t
  u : ∀ j, tile s1 j xu = U o kb hkb j t
  dp : ∀ j, tile s1 j xdp = DP o kb hkb j t
  p : ∀ j, tile s0 j xp = P o kb hkb j t
  ds : ∀ j, tile s0 j xds = DS o kb hkb j t

end Step

end Cert.Kernel2Ideal.FlashBwd

end
-- ==== Proof.FlashBwd.Pays.lean ====
/- The attention backward's steps spell the same few operations again and again: each spelling is one of eight, and the
   sequences of the model step by step in terms of those eight. -/
module

public import proofs.«01_k».proof.Proof.FlashBwd.Tiles

@[expose] public section

set_option maxRecDepth 16384

noncomputable section

namespace Cert.Kernel2Ideal.FlashBwd

open Cert.Kernel2Ideal Cert.Kernel2Ideal.Gen Idealize.ShloMosaic Idealize.ShloMosaic.TcCoe Idealize.ShloMosaic.Tactic

variable {F : FTy → Type} [FloatOps F] [Named F]

/-! ## One spelling of each operation -/

theorem pay12_eq : k0_pay12 (F := F) = k0_pay3 := rfl
theorem pay21_eq : k0_pay21 (F := F) = k0_pay3 := rfl
theorem pay30_eq : k0_pay30 (F := F) = k0_pay3 := rfl
theorem pay69_eq : k0_pay69 (F := F) = k0_pay3 := rfl
theorem pay78_eq : k0_pay78 (F := F) = k0_pay3 := rfl
theorem pay13_eq : k0_pay13 (F := F) = k0_pay6 := rfl
theorem pay14_eq : k0_pay14 (F := F) = k0_pay6 := rfl
theorem pay22_eq : k0_pay22 (F := F) = k0_pay6 := rfl
theorem pay23_eq : k0_pay23 (F := F) = k0_pay6 := rfl
theorem pay31_eq : k0_pay31 (F := F) = k0_pay6 := rfl
theorem pay32_eq : k0_pay32 (F := F) = k0_pay6 := rfl
theorem pay72_eq : k0_pay72 (F := F) = k0_pay6 := rfl
theorem pay79_eq : k0_pay79 (F := F) = k0_pay6 := rfl
theorem pay80_eq : k0_pay80 (F := F) = k0_pay6 := rfl
theorem pay15_eq : k0_pay15 (F := F) = k0_pay7 := rfl
theorem pay24_eq : k0_pay24 (F := F) = k0_pay7 := rfl
theorem pay33_eq : k0_pay33 (F := F) = k0_pay7 := rfl
theorem pay73_eq : k0_pay73 (F := F) = k0_pay7 := rfl
theorem pay81_eq : k0_pay81 (F := F) = k0_pay7 := rfl
theorem pay16_eq : k0_pay16 (F := F) = k0_pay8 := rfl
theorem pay25_eq : k0_pay25 (F := F) = k0_pay8 := rfl
theorem pay34_eq : k0_pay34 (F := F) = k0_pay8 := rfl
theorem pay74_eq : k0_pay74 (F := F) = k0_pay8 := rfl
theorem pay82_eq : k0_pay82 (F := F) = k0_pay8 := rfl
theorem pay20_eq : k0_pay20 (F := F) = k0_pay11 := rfl
theorem pay29_eq : k0_pay29 (F := F) = k0_pay11 := rfl
theorem pay2_eq : k0_pay2 (F := F) = k0_pay11 := rfl
theorem pay77_eq : k0_pay77 (F := F) = k0_pay11 := rfl
theorem pay95_eq : k0_pay95 (F := F) = k0_pay94 := rfl
theorem pay97_eq : k0_pay97 (F := F) = k0_pay96 := rfl
theorem pay5_eq (x : Vec F S256x128 .f32) (y : Vec F S1x1x256x256 .bf16) (z : Vec F S256x128 .bf16) : k0_pay5 (k0_pay4 x) y z = k0_pay6 x y z := rfl
theorem pay71_eq (x : Vec F S256x128 .f32) (y : Vec F S1x1x256x256 .bf16) (z : Vec F S256x128 .bf16) : k0_pay71 (k0_pay70 x) y z = k0_pay6 x y z := rfl
theorem pay75_eq : k0_pay75 (F := F) = k0_pay9 := rfl
theorem pay17_eq (u dp : Vec F S1x1x256x256 .f32) (l d : Vec F S1x1x256 .f32) : k0_pay17 u l dp d = k0_pay9 (k0_pay7 u l) dp d := rfl
theorem pay26_eq (u dp : Vec F S1x1x256x256 .f32) (l d : Vec F S1x1x256 .f32) : k0_pay26 u l dp d = k0_pay9 (k0_pay7 u l) dp d := rfl
theorem pay83_eq (u dp : Vec F S1x1x256x256 .f32) (l d : Vec F S1x1x256 .f32) : k0_pay83 u l dp d = k0_pay9 (k0_pay7 u l) dp d := rfl
theorem pay98_eq (u dp : Vec F S1x1x256x256 .f32) (l d : Vec F S1x1x256 .f32) : k0_pay98 (k0_pay7 u l) (k0_pay35 dp d) = k0_pay9 (k0_pay7 u l) dp d := rfl
theorem pay76_eq : k0_pay76 (F := F) = k0_pay10 := rfl
theorem pay19_eq (w : IVec S256x256 32) (kk : FVec F S256x128 .bf16) (n : BitVec 32) (x : Vec F S1x128x256 .bf16) : k0_pay19 (k0_pay18 w kk n x) = k0_pay10 w kk n x := rfl
theorem pay28_eq (w : IVec S256x256 32) (kk : FVec F S256x128 .bf16) (n : BitVec 32) (x : Vec F S1x128x256 .bf16) : k0_pay28 (k0_pay27 w kk n x) = k0_pay10 w kk n x := rfl
theorem pay1_eq (w : IVec S256x256 32) (kk : FVec F S256x128 .bf16) (n : BitVec 32) (x : Vec F S1x128x256 .bf16) : k0_pay1 (k0_pay84 w kk n x) = k0_pay10 w kk n x := rfl
theorem pay99_eq (kk : Vec F S256x128 .bf16) (n : BitVec 32) (x : Vec F S1x128x256 .bf16) : k0_pay99 kk n x = k0_pay10 k0_pay93 (k0_pay94 kk) n x := rfl
theorem pay100_eq (vv : Vec F S256x128 .bf16) (x : Vec F S1x128x256 .bf16) : k0_pay100 vv x = k0_pay11 (k0_pay96 vv) x := rfl

/-! ## The model, step by step -/

variable (o : Ops F) (kb : ℕ) (hkb : kb < 32) (j : Fin 2) (t : ℕ)

theorem kj_eq : k0_pay94 (half j o.k) = kj o j := rfl
theorem vj_eq : k0_pay96 (half j o.v) = vj o j := rfl
theorem U_succ : U o kb hkb j (t + 1) = k0_pay10 k0_pay93 (kj o j) (lim kb t) (slab j (blkA kb t) (blkA_lt hkb t) o.qt) := rfl
theorem DP_succ : DP o kb hkb j (t + 1) = k0_pay11 (vj o j) (slab j (blkA kb t) (blkA_lt hkb t) o.dot) := rfl
theorem P_succ : P o kb hkb j (t + 1) = k0_pay8 (U o kb hkb j t) (line j (blkB kb t) (blkB_lt hkb t) o.l) := rfl
theorem DS_succ : DS o kb hkb j (t + 1) = k0_pay9 (k0_pay7 (U o kb hkb j t) (line j (blkB kb t) (blkB_lt hkb t) o.l)) (DP o kb hkb j t)
    (line j (blkB kb t) (blkB_lt hkb t) o.d) := rfl
theorem DK_succ : DK o kb hkb j (t + 1) = k0_pay6 (DK o kb hkb j t) (DS o kb hkb j t) (rows j (blkC kb t) (blkC_lt hkb t) o.q) := rfl
theorem DV_succ : DV o kb hkb j (t + 1) = k0_pay6 (DV o kb hkb j t) (P o kb hkb j t) (rows j (blkC kb t) (blkC_lt hkb t) o.do') := rfl

end Cert.Kernel2Ideal.FlashBwd

end
-- ==== Proof.FlashBwd.Trip.lean ====
module

public import proofs.«01_k».proof.Proof.FlashBwd.Pays

@[expose] public section

set_option maxRecDepth 16384

noncomputable section

namespace Cert.Kernel2Ideal.FlashBwd

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

instance (i : grid0.Coords) (k : Fin (k0_t1_loop i).trips) : ClosedOff (k0_off1 i k) := ⟨_, off1_eq i k⟩
instance (i : grid0.Coords) (k : Fin (k0_t1_loop i).trips) : ClosedOff (k0_off2 i k) := ⟨_, off2_eq i k⟩
instance (i : grid0.Coords) (k : Fin (k0_t1_loop i).trips) : ClosedOff (k0_off3 i k) := ⟨_, off3_eq i k⟩
instance (i : grid0.Coords) (k : Fin (k0_t1_loop i).trips) : ClosedOff (k0_off4 i k) := ⟨_, off4_eq i k⟩
instance (i : grid0.Coords) (k : Fin (k0_t1_loop i).trips) : ClosedOff (k0_off5 i k) := ⟨_, off5_eq i k⟩
instance (i : grid0.Coords) (k : Fin (k0_t1_loop i).trips) : ClosedOff (k0_off6 i k) := ⟨_, off6_eq i k⟩
instance (i : grid0.Coords) (k : Fin (k0_t1_loop i).trips) : ClosedOff (k0_off7 i k) := ⟨_, off7_eq i k⟩
instance (i : grid0.Coords) (k : Fin (k0_t1_loop i).trips) : ClosedOff (k0_off8 i k) := ⟨_, off8_eq i k⟩
instance (i : grid0.Coords) (k : Fin (k0_t1_loop i).trips) : ClosedOff (k0_off9 i k) := ⟨_, off9_eq i k⟩
instance (i : grid0.Coords) (k : Fin (k0_t1_loop i).trips) : ClosedOff (k0_off10 i k) := ⟨_, off10_eq i k⟩
instance (i : grid0.Coords) (k : Fin (k0_t1_loop i).trips) : ClosedOff (k0_off11 i k) := ⟨_, off11_eq i k⟩
instance (i : grid0.Coords) (k : Fin (k0_t1_loop i).trips) : ClosedOff (k0_off12 i k) := ⟨_, off12_eq i k⟩
instance (i : grid0.Coords) (k : Fin (k0_t1_loop i).trips) : ClosedOff (k0_off13 i k) := ⟨_, off13_eq i k⟩
instance (i : grid0.Coords) (k : Fin (k0_t1_loop i).trips) : ClosedOff (k0_off14 i k) := ⟨_, off14_eq i k⟩
instance (i : grid0.Coords) (k : Fin (k0_t1_loop i).trips) : ClosedOff (k0_off15 i k) := ⟨_, off15_eq i k⟩
instance (i : grid0.Coords) (k : Fin (k0_t1_loop i).trips) : ClosedOff (k0_off16 i k) := ⟨_, off16_eq i k⟩

variable (c : Dev nD) (i : grid0.Coords)
  (a2 : Memref sig .tc .vmem S8192x256 .bf16) (h2 : a2.IsWhole) (a3 : Memref sig .tc .vmem S32x256x256 .bf16) (h3 : a3.IsWhole)
  (a4 : Memref sig .tc .vmem S256x256 .bf16) (h4 : a4.IsWhole) (a5 : Memref sig .tc .vmem S256x256 .bf16) (h5 : a5.IsWhole)
  (a6 : Memref sig .tc .vmem S8192x256 .bf16) (h6 : a6.IsWhole) (a7 : Memref sig .tc .vmem S32x256x256 .bf16) (h7 : a7.IsWhole)
  (a8 : Memref sig .tc .vmem S1x8x8192 .f32) (h8 : a8.IsWhole) (a9 : Memref sig .tc .vmem S1x8x8192 .f32) (h9 : a9.IsWhole)
  (a10 : Memref sig .tc .vmem S32x256x256 .f32) (h10 : a10.IsWhole) (a11 : Memref sig .tc .vmem S256x256 .f32) (h11 : a11.IsWhole)
  (a12 : Memref sig .tc .vmem S256x256 .f32) (h12 : a12.IsWhole) (a13 : Memref sig .tc .vmem S2x2x256x256 .f32) (h13 : a13.IsWhole)
  (a14 : Memref sig .tc .vmem S2x2x256x256 .f32) (h14 : a14.IsWhole) (a15 : Memref sig .tc .vmem S2x2x256x256 .bf16) (h15 : a15.IsWhole)
  (a16 : Memref sig .tc .vmem S2x2x256x256 .bf16) (h16 : a16.IsWhole)

theorem kb_lt (i : grid0.Coords) : (i 1).val < 32 := (i 1).isLt

/-- The blocks' buffers. -/
def ins (o : Ops F) : sProp 𝕄 :=
  iprop(owns (c : Thread nD τ) a2 fullShare o.q ∗ owns (c : Thread nD τ) a3 fullShare o.qt ∗ owns (c : Thread nD τ) a6 fullShare o.do' ∗ owns (c : Thread nD τ) a7 fullShare o.dot
    ∗ owns (c : Thread nD τ) a8 fullShare o.l ∗ owns (c : Thread nD τ) a9 fullShare o.d)

/-- The buffers of the sums and of the tiles between steps, as they stand before step `t`. -/
def Tiles (o : Ops F) (kb : ℕ) (hkb : kb < 32) (s0 s1 : Fin 2) (t : ℕ) (x0 : Vec F S32x256x256 .f32) : sProp 𝕄 :=
  iprop(∃ (xq : Vec F S32x256x256 .f32) (xk xv : Vec F S256x256 .f32) (xu xdp : Vec F S2x2x256x256 .f32) (xp xds : Vec F S2x2x256x256 .bf16),
    ⌜St o kb hkb s0 s1 t x0 xq xk xv xu xdp xp xds⌝
     ∗ owns (c : Thread nD τ) a10 fullShare xq ∗ owns (c : Thread nD τ) a11 fullShare xk ∗ owns (c : Thread nD τ) a12 fullShare xv
     ∗ owns (c : Thread nD τ) a13 fullShare xu ∗ owns (c : Thread nD τ) a14 fullShare xdp ∗ owns (c : Thread nD τ) a15 fullShare xp ∗ owns (c : Thread nD τ) a16 fullShare xds)

set_option maxHeartbeats 6400000 in
theorem trip (o : Ops F) (k : Fin (k0_t1_loop i).trips) (v27 v29 v31 v33 : Vec F S256x128 .bf16) (v20 : FVec F S2x2x256x256 .bf16)
   (e27 : v27 = half 0 o.k) (e29 : v29 = half 1 o.k) (e31 : v31 = half 0 o.v) (e33 : v33 = half 1 o.v) (x0 : Vec F S32x256x256 .f32) :
   iprop(ins c a2 a3 a6 a7 a8 a9 o ∗ Tiles c a10 a11 a12 a13 a14 a15 a16 o (i 1).val (kb_lt i) 0 1 (2 * k.val) x0)
   ⊢ wp frame (wpE (defs₀ (F := F)) Variants.none c none) Set.univ
      (k0_t1_body i a2 h2 a3 h3 a4 h4 a5 h5 a6 h6 a7 h7 a8 h8 a9 h9 a10 h10 a11 h11 a12 h12 a13 h13 a14 h14 a15 h15 a16 h16 (kbw i) (Scalar.subi 32#32 (kbw i)) v20 v27 v29 v31 v33 k ())
      (fun _ => iprop(ins c a2 a3 a6 a7 a8 a9 o ∗ Tiles c a10 a11 a12 a13 a14 a15 a16 o (i 1).val (kb_lt i) 0 1 (2 * k.val + 1 + 1) x0)) := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold ins Tiles owns
  iintro ⟨⟨⟨%f2, %hf2, H2⟩, ⟨%f3, %hf3, H3⟩, ⟨%f6, %hf6, H6⟩, ⟨%f7, %hf7, H7⟩, ⟨%f8, %hf8, H8⟩, ⟨%f9, %hf9, H9⟩⟩,
    %xq, %xk, %xv, %xu, %xdp, %xp, %xds, %hst, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩
  obtain rfl := h2.eq_unread hf2; obtain rfl := h3.eq_unread hf3; obtain rfl := h6.eq_unread hf6; obtain rfl := h7.eq_unread hf7; obtain rfl := h8.eq_unread hf8; obtain rfl := h9.eq_unread hf9
  obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16
  sl_exec
  sl_step
  have r2 : ∀ (x : Vec F S8192x256 .bf16) inb, View.ld x (Rect.unit (k0_off2 i k) S256x128.size inb) = rows 0 _ (blkC_lt (kb_lt i) _) x := fun x inb => ld_rows x 0 _ _ inb (off2_eq i k)
  have r3 : ∀ (x : Vec F S1x8x8192 .f32) inb, View.ld x (Rect.unit (k0_off3 i k) S1x1x256.size inb) = line 0 _ (blkB_lt (kb_lt i) _) x := fun x inb => ld_line x 0 _ _ inb (off3_eq i k)
  have r4 : ∀ (x : Vec F S32x256x256 .bf16) inb, View.ld x (Rect.unit (k0_off4 i k) S1x128x256.size inb) = slab 0 _ (blkA_lt (kb_lt i) _) x := fun x inb => ld_slab x 0 _ _ inb (off4_eq i k)
  have r6 : ∀ (x : Vec F S8192x256 .bf16) inb, View.ld x (Rect.unit (k0_off6 i k) S256x128.size inb) = rows 1 _ (blkC_lt (kb_lt i) _) x := fun x inb => ld_rows x 1 _ _ inb (off6_eq i k)
  have r7 : ∀ (x : Vec F S1x8x8192 .f32) inb, View.ld x (Rect.unit (k0_off7 i k) S1x1x256.size inb) = line 1 _ (blkB_lt (kb_lt i) _) x := fun x inb => ld_line x 1 _ _ inb (off7_eq i k)
  have r8 : ∀ (x : Vec F S32x256x256 .bf16) inb, View.ld x (Rect.unit (k0_off8 i k) S1x128x256.size inb) = slab 1 _ (blkA_lt (kb_lt i) _) x := fun x inb => ld_slab x 1 _ _ inb (off8_eq i k)
  have r10 : ∀ (x : Vec F S8192x256 .bf16) inb, View.ld x (Rect.unit (k0_off10 i k) S256x128.size inb) = rows 0 _ (blkC_lt (kb_lt i) _) x := fun x inb => ld_rows x 0 _ _ inb (off10_eq i k)
  have r11 : ∀ (x : Vec F S1x8x8192 .f32) inb, View.ld x (Rect.unit (k0_off11 i k) S1x1x256.size inb) = line 0 _ (blkB_lt (kb_lt i) _) x := fun x inb => ld_line x 0 _ _ inb (off11_eq i k)
  have r12 : ∀ (x : Vec F S32x256x256 .bf16) inb, View.ld x (Rect.unit (k0_off12 i k) S1x128x256.size inb) = slab 0 _ (blkA_lt (kb_lt i) _) x := fun x inb => ld_slab x 0 _ _ inb (off12_eq i k)
  have r14 : ∀ (x : Vec F S8192x256 .bf16) inb, View.ld x (Rect.unit (k0_off14 i k) S256x128.size inb) = rows 1 _ (blkC_lt (kb_lt i) _) x := fun x inb => ld_rows x 1 _ _ inb (off14_eq i k)
  have r15 : ∀ (x : Vec F S1x8x8192 .f32) inb, View.ld x (Rect.unit (k0_off15 i k) S1x1x256.size inb) = line 1 _ (blkB_lt (kb_lt i) _) x := fun x inb => ld_line x 1 _ _ inb (off15_eq i k)
  have r16 : ∀ (x : Vec F S32x256x256 .bf16) inb, View.ld x (Rect.unit (k0_off16 i k) S1x128x256.size inb) = slab 1 _ (blkA_lt (kb_lt i) _) x := fun x inb => ld_slab x 1 _ _ inb (off16_eq i k)
  have m13 : ∃ a : Fin 3, k0_off13 i k a + (![1, 128, 256] : Fin 3 → ℕ) a ≤ k0_off9 i k a ∨ k0_off9 i k a + (![1, 128, 256] : Fin 3 → ℕ) a ≤ k0_off13 i k a := by
    rw [off13_eq, off9_eq]
    exact ⟨1, Or.inr (by show 0 + 128 ≤ 128; omega)⟩
  isplitl [H2 H3 H6 H7 H8 H9]
  · isplitl [H2]
    · iexists _; isplitr; · ipureintro; exact h2.read_unread _
      iexact H2
    isplitl [H3]
    · iexists _; isplitr; · ipureintro; exact h3.read_unread _
      iexact H3
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; isplitr; · ipureintro; exact h9.read_unread _
    iexact H9
  iexists _, _, _, _, _, _, _
  isplitr
  swap
  · isplitl [H10]
    · iexists _; isplitr; swap
      · iexact H10
      ipureintro; rfl
    isplitl [H11]
    · iexists _; isplitr; swap
      · iexact H11
      ipureintro; rfl
    isplitl [H12]
    · iexists _; isplitr; swap
      · iexact H12
      ipureintro; rfl
    isplitl [H13]
    · iexists _; isplitr; swap
      · iexact H13
      ipureintro; rfl
    isplitl [H14]
    · iexists _; isplitr; swap
      · iexact H14
      ipureintro; rfl
    isplitl [H15]
    · iexists _; isplitr; swap
      · iexact H15
      ipureintro; rfl
    iexists _; isplitr; swap
    · iexact H16
    ipureintro; rfl
  ipureintro
  sl_unfold_run_names
  subst e27 e29 e31 e33
  refine ⟨?_, Fin.forall_fin_two.mpr ⟨?_, ?_⟩, Fin.forall_fin_two.mpr ⟨?_, ?_⟩, Fin.forall_fin_two.mpr ⟨?_, ?_⟩, Fin.forall_fin_two.mpr ⟨?_, ?_⟩,
    Fin.forall_fin_two.mpr ⟨?_, ?_⟩, Fin.forall_fin_two.mpr ⟨?_, ?_⟩⟩
  rotate_left
  show View.ld _ (Rect.unit (s := S256x256) ![0, 0] S256x128.size inb_S256x256_S256x128_0_0) = _; rotate_left
  show View.ld _ (Rect.unit (s := S256x256) ![0, 128] S256x128.size inb_S256x256_S256x128_0_128) = _; rotate_left
  show View.ld _ (Rect.unit (s := S256x256) ![0, 0] S256x128.size inb_S256x256_S256x128_0_0) = _; rotate_left
  show View.ld _ (Rect.unit (s := S256x256) ![0, 128] S256x128.size inb_S256x256_S256x128_0_128) = _; rotate_left
  show View.ld _ (Rect.unit (s := S2x2x256x256) ![1, 0, 0, 0] S1x1x256x256.size inb_S2x2x256x256_S1x1x256x256_1_0_0_0) = _; rotate_left
  show View.ld _ (Rect.unit (s := S2x2x256x256) ![1, 1, 0, 0] S1x1x256x256.size inb_S2x2x256x256_S1x1x256x256_1_1_0_0) = _; rotate_left
  show View.ld _ (Rect.unit (s := S2x2x256x256) ![1, 0, 0, 0] S1x1x256x256.size inb_S2x2x256x256_S1x1x256x256_1_0_0_0) = _; rotate_left
  show View.ld _ (Rect.unit (s := S2x2x256x256) ![1, 1, 0, 0] S1x1x256x256.size inb_S2x2x256x256_S1x1x256x256_1_1_0_0) = _; rotate_left
  show View.ld _ (Rect.unit (s := S2x2x256x256) ![0, 0, 0, 0] S1x1x256x256.size inb_S2x2x256x256_S1x1x256x256_0_0_0_0) = _; rotate_left
  show View.ld _ (Rect.unit (s := S2x2x256x256) ![0, 1, 0, 0] S1x1x256x256.size inb_S2x2x256x256_S1x1x256x256_0_1_0_0) = _; rotate_left
  show View.ld _ (Rect.unit (s := S2x2x256x256) ![0, 0, 0, 0] S1x1x256x256.size inb_S2x2x256x256_S1x1x256x256_0_0_0_0) = _; rotate_left
  show View.ld _ (Rect.unit (s := S2x2x256x256) ![0, 1, 0, 0] S1x1x256x256.size inb_S2x2x256x256_S1x1x256x256_0_1_0_0) = _; rotate_left
  refine dq_step o _ (kb_lt i) (2 * k.val + 1) x0 _ _ _ _ _ (off9_eq i k) (off13_eq i k) _ _
    (dq_step o _ (kb_lt i) (2 * k.val) x0 _ _ _ _ _ (off1_eq i k) (off5_eq i k) _ _
      (fun j b hb => by rw [read_writes_nil, h10.read_unread]; exact hst.dq j b hb) ?_ ?_) ?_ ?_
  all_goals
    simp (disch := decide) only [readCov_eq_ld, View.readAt_eq_ld, ld_hit, ld_miss]
    try rw [ld_miss (s := S32x256x256) _ _ _ _ _ _ m13]
    simp only [read_writes_nil, h2.read_unread, h3.read_unread, h8.read_unread, h9.read_unread, h6.read_unread, h7.read_unread, h10.read_unread, h11.read_unread, h12.read_unread,
      h13.read_unread, h14.read_unread, h15.read_unread, h16.read_unread, ld_half0, ld_half1, ld_tile00, ld_tile01, ld_tile10, ld_tile11,
      r2, r3, r4, r6, r7, r8, r10, r11, r12, r14, r15, r16, lim_even, lim_odd, hst.dk, hst.dv, hst.u, hst.dp, hst.p, hst.ds]
    simp only [pay12_eq, pay21_eq, pay30_eq, pay13_eq, pay14_eq, pay22_eq, pay23_eq, pay31_eq, pay32_eq, pay15_eq, pay24_eq, pay33_eq, pay16_eq, pay25_eq, pay34_eq, pay20_eq, pay29_eq, pay2_eq, pay95_eq, pay97_eq,
      pay5_eq, pay17_eq, pay26_eq, pay98_eq, pay19_eq, pay28_eq, pay99_eq, pay100_eq, kj_eq, vj_eq, U_succ, DP_succ, P_succ, DS_succ, DK_succ, DV_succ]

end Cert.Kernel2Ideal.FlashBwd

end
-- ==== Proof.FlashBwd.Front.lean ====
/- The head of the attention backward's body: it clears the two sums and the tiles of the steps before the first, and the
   queries' gradient at the first key block of a head pair. -/
module

public import proofs.«01_k».proof.Proof.FlashBwd.Trip

@[expose] public section

set_option maxRecDepth 16384

noncomputable section

namespace Cert.Kernel2Ideal.FlashBwd

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The word the body compares: it is set at the first key block. -/
abbrev firstWord (i : grid0.Coords) : BitVec 1 := Scalar.cmpi .ne (Scalar.extui (Scalar.cmpi .eq (kbw i) 0#32) : BitVec 32) 0#32

theorem firstWord_eq : ∀ i : grid0.Coords, firstWord i = 1#1 ↔ (i 1).val = 0 := by decide +kernel

/-- What a key block finds of the queries' gradient: zeros at the first. -/
def start (i : grid0.Coords) (xq : Vec F S32x256x256 .f32) : Vec F S32x256x256 .f32 :=
  if (i 1).val = 0 then fun _ => Scalar.ofBits .f32 0x00000000#32 else xq

section Clear

variable {sig : RefSig} {κ : Kind} {sp : Space}

/-- A slot filled with one value reads it in each of its tiles. -/
theorem tile_filled {e : EltTy} (v : View sig κ sp S2x2x256x256 e) (f : v.ty.Contents (Elt F)) (inb : ∀ a, (![1, 0, 0, 0] : Fin 4 → ℕ) a + S1x2x256x256.size a ≤ S2x2x256x256.size a)
    (z : Elt F e) (w : Vec F S1x2x256x256 e) (hw : w = fun _ => z) (j : Fin 2) :
    tile 1 j (v.read (Elt F) (v.writes (Elt F) f [(⟨Rect.unit (s := S2x2x256x256) ![1, 0, 0, 0] S1x2x256x256.size inb, w⟩ : View.Piece (Elt F) S2x2x256x256 e)])) = fun _ => z := by
  subst hw
  funext y
  refine (View.read_writes_cons_unit v f inb (fun _ => z) [] _ rfl).trans (dif_pos fun a => ?_)
  have h0 : (y 0).val < 1 := (y 0).isLt
  have h1 : (y 1).val < 1 := (y 1).isLt
  have h2 : (y 2).val < 256 := (y 2).isLt
  have h3 : (y 3).val < 256 := (y 3).isLt
  have hj := j.isLt
  fin_cases a
  · show 1 ≤ 1 + 1 * (y 0).val ∧ 1 + 1 * (y 0).val < 1 + 1
    omega
  · show 0 ≤ j.val + 1 * (y 1).val ∧ j.val + 1 * (y 1).val < 0 + 2
    omega
  · show 0 ≤ 0 + 1 * (y 2).val ∧ 0 + 1 * (y 2).val < 0 + 256
    omega
  · show 0 ≤ 0 + 1 * (y 3).val ∧ 0 + 1 * (y 3).val < 0 + 256
    omega

end Clear

theorem pay88_eq : k0_pay88 (F := F) = fun _ => Named.named Cert.Kernel2Ideal.κ "masked" 0xF1C9F2CA#32 := rfl
theorem pay89_eq : k0_pay89 (F := F) = fun _ => Scalar.ofBits .f32 0x00000000#32 := rfl
theorem hz4 : (![0, 0, 0, 0] : Fin 4 → ℕ) = fun _ => 0 := by decide
theorem hz3 : (![0, 0, 0] : Fin 3 → ℕ) = fun _ => 0 := by decide
theorem hz2 : (![0, 0] : Fin 2 → ℕ) = fun _ => 0 := by decide

variable (c : Dev nD) (i : grid0.Coords)
  (a2 : Memref sig .tc .vmem S8192x256 .bf16) (h2 : a2.IsWhole) (a3 : Memref sig .tc .vmem S32x256x256 .bf16) (h3 : a3.IsWhole)
  (a4 : Memref sig .tc .vmem S256x256 .bf16) (h4 : a4.IsWhole) (a5 : Memref sig .tc .vmem S256x256 .bf16) (h5 : a5.IsWhole)
  (a6 : Memref sig .tc .vmem S8192x256 .bf16) (h6 : a6.IsWhole) (a7 : Memref sig .tc .vmem S32x256x256 .bf16) (h7 : a7.IsWhole)
  (a8 : Memref sig .tc .vmem S1x8x8192 .f32) (h8 : a8.IsWhole) (a9 : Memref sig .tc .vmem S1x8x8192 .f32) (h9 : a9.IsWhole)
  (a10 : Memref sig .tc .vmem S32x256x256 .f32) (h10 : a10.IsWhole) (a11 : Memref sig .tc .vmem S256x256 .f32) (h11 : a11.IsWhole)
  (a12 : Memref sig .tc .vmem S256x256 .f32) (h12 : a12.IsWhole) (a13 : Memref sig .tc .vmem S2x2x256x256 .f32) (h13 : a13.IsWhole)
  (a14 : Memref sig .tc .vmem S2x2x256x256 .f32) (h14 : a14.IsWhole) (a15 : Memref sig .tc .vmem S2x2x256x256 .bf16) (h15 : a15.IsWhole)
  (a16 : Memref sig .tc .vmem S2x2x256x256 .bf16) (h16 : a16.IsWhole)

/-- The buffers after the head of the body: as before step 0, once the score gradients are cleared. -/
def Cleared (o : Ops F) (kb : ℕ) (hkb : kb < 32) (x0 : Vec F S32x256x256 .f32) : sProp 𝕄 :=
  iprop(∃ (xk xv : Vec F S256x256 .f32) (xu xdp : Vec F S2x2x256x256 .f32) (xp xds : Vec F S2x2x256x256 .bf16),
    ⌜∀ y : Vec F S2x2x256x256 .bf16, (∀ j, tile 0 j y = DS o kb hkb j 0) → St o kb hkb 0 1 0 x0 x0 xk xv xu xdp xp y⌝
     ∗ owns (c : Thread nD τ) a10 fullShare x0 ∗ owns (c : Thread nD τ) a11 fullShare xk ∗ owns (c : Thread nD τ) a12 fullShare xv
     ∗ owns (c : Thread nD τ) a13 fullShare xu ∗ owns (c : Thread nD τ) a14 fullShare xdp ∗ owns (c : Thread nD τ) a15 fullShare xp ∗ owns (c : Thread nD τ) a16 fullShare xds)

/-- The buffers the body writes, holding anything but for the queries' gradient. -/
def Free (xq : Vec F S32x256x256 .f32) : sProp 𝕄 :=
  iprop(owns (c : Thread nD τ) a10 fullShare xq ∗ ∃ (xk xv : Vec F S256x256 .f32) (xu xdp : Vec F S2x2x256x256 .f32) (xp xds : Vec F S2x2x256x256 .bf16),
     owns (c : Thread nD τ) a11 fullShare xk ∗ owns (c : Thread nD τ) a12 fullShare xv
     ∗ owns (c : Thread nD τ) a13 fullShare xu ∗ owns (c : Thread nD τ) a14 fullShare xdp ∗ owns (c : Thread nD τ) a15 fullShare xp ∗ owns (c : Thread nD τ) a16 fullShare xds)

theorem front (o : Ops F) (xq : Vec F S32x256x256 .f32) (R : sProp 𝕄) :
   iprop(R ∗ Free c a10 a11 a12 a13 a14 a15 a16 xq)
   ⊢ wp frame (wpE (defs₀ (F := F)) Variants.none c none) Set.univ
      (k0_part26 i a2 h2 a3 h3 a4 h4 a5 h5 a6 h6 a7 h7 a8 h8 a9 h9 a10 h10 a11 h11 a12 h12 a13 h13 a14 h14 a15 h15 a16 h16)
      (fun r => iprop(⌜r = ⟨kbw i, Scalar.subi 32#32 (kbw i), k0_pay91⟩⌝ ∗ R ∗ Cleared c a10 a11 a12 a13 a14 a15 a16 o (i 1).val (kb_lt i) (start i xq))) := by
  simp only [k0_part26_eq_skeleton]
  unfold k0_part26_skel Free Cleared owns
  iintro ⟨HR, ⟨%f10, %hf10, H10⟩, %xk, %xv, %xu, %xdp, %xp, %xds, ⟨%f11, %hf11, H11⟩, ⟨%f12, %hf12, H12⟩, ⟨%f13, %hf13, H13⟩, ⟨%f14, %hf14, H14⟩, ⟨%f15, %hf15, H15⟩, ⟨%f16, %hf16, H16⟩⟩
  obtain rfl := h10.eq_unread hf10
  sl_exec
  sl_step
  isplitr
  · ipureintro; rfl
  isplitl [HR]
  · iexact HR
  iexists _, _, _, _, _, _
  isplitr
  swap
  · isplitl [H10]
    · iexists _; isplitr; swap
      · iexact H10
      ipureintro
      unfold start
      by_cases hz : (i 1).val = 0
      · rw [if_pos hz]
        refine (congrArg (a10.view.read (Elt F)) (dif_pos ((firstWord_eq i).mpr hz))).trans ?_
        exact read_whole _ _ hz3 _ _ _
      · rw [if_neg hz]
        refine (congrArg (a10.view.read (Elt F)) (dif_neg fun h => hz ((firstWord_eq i).mp h))).trans ?_
        exact h10.read_unread _
    isplitl [H11]
    · iexists _; isplitr; swap
      · iexact H11
      ipureintro; exact read_whole _ _ hz2 _ _ _
    isplitl [H12]
    · iexists _; isplitr; swap
      · iexact H12
      ipureintro; exact read_whole _ _ hz2 _ _ _
    isplitl [H13]
    · iexists _; isplitr; swap
      · iexact H13
      ipureintro; rfl
    isplitl [H14]
    · iexists _; isplitr; swap
      · iexact H14
      ipureintro; rfl
    isplitl [H15]
    · iexists _; isplitr; swap
      · iexact H15
      ipureintro; exact read_whole _ _ hz4 _ _ _
    iexists _; isplitr; swap
    · iexact H16
    ipureintro; rfl
  ipureintro
  refine fun y hy => ⟨fun j b hb => rfl, fun j => rfl, fun j => rfl, fun j => ?_, fun j => ?_, fun j => rfl, hy⟩
  · exact tile_filled a13.view _ _ _ _ pay88_eq j
  · exact tile_filled a14.view _ _ _ _ pay89_eq j

end Cert.Kernel2Ideal.FlashBwd

end
-- ==== Proof.FlashBwd.Middle.lean ====
/- The middle of the attention backward's body: the loop over pairs of steps, by the one trip; the second loop has no
   trip. -/
module

public import proofs.«01_k».proof.Proof.FlashBwd.Front

@[expose] public section

set_option maxRecDepth 16384

noncomputable section

namespace Cert.Kernel2Ideal.FlashBwd

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (a2 : Memref sig .tc .vmem S8192x256 .bf16) (h2 : a2.IsWhole) (a3 : Memref sig .tc .vmem S32x256x256 .bf16) (h3 : a3.IsWhole)
  (a4 : Memref sig .tc .vmem S256x256 .bf16) (h4 : a4.IsWhole) (a5 : Memref sig .tc .vmem S256x256 .bf16) (h5 : a5.IsWhole)
  (a6 : Memref sig .tc .vmem S8192x256 .bf16) (h6 : a6.IsWhole) (a7 : Memref sig .tc .vmem S32x256x256 .bf16) (h7 : a7.IsWhole)
  (a8 : Memref sig .tc .vmem S1x8x8192 .f32) (h8 : a8.IsWhole) (a9 : Memref sig .tc .vmem S1x8x8192 .f32) (h9 : a9.IsWhole)
  (a10 : Memref sig .tc .vmem S32x256x256 .f32) (h10 : a10.IsWhole) (a11 : Memref sig .tc .vmem S256x256 .f32) (h11 : a11.IsWhole)
  (a12 : Memref sig .tc .vmem S256x256 .f32) (h12 : a12.IsWhole) (a13 : Memref sig .tc .vmem S2x2x256x256 .f32) (h13 : a13.IsWhole)
  (a14 : Memref sig .tc .vmem S2x2x256x256 .f32) (h14 : a14.IsWhole) (a15 : Memref sig .tc .vmem S2x2x256x256 .bf16) (h15 : a15.IsWhole)
  (a16 : Memref sig .tc .vmem S2x2x256x256 .bf16) (h16 : a16.IsWhole)

/-- The loop's invariant: before trip `k` the buffers are as before step `2k`. -/
def pairInv (o : Ops F) (x0 : Vec F S32x256x256 .f32) (k : ℕ) : sProp 𝕄 :=
  iprop(ins c a2 a3 a6 a7 a8 a9 o ∗ Tiles c a10 a11 a12 a13 a14 a15 a16 o (i 1).val (kb_lt i) 0 1 (2 * k) x0)

/-- The blocks of keys and values. -/
def kvs (o : Ops F) : sProp 𝕄 :=
  iprop(owns (c : Thread nD τ) a4 fullShare o.k ∗ owns (c : Thread nD τ) a5 fullShare o.v)

theorem middle (o : Ops F) (x0 : Vec F S32x256x256 .f32) :
   iprop((ins c a2 a3 a6 a7 a8 a9 o ∗ kvs c a4 a5 o) ∗ Cleared c a10 a11 a12 a13 a14 a15 a16 o (i 1).val (kb_lt i) x0)
   ⊢ wp frame (wpE (defs₀ (F := F)) Variants.none c none) Set.univ
      (k0_part27 i a2 h2 a3 h3 a4 h4 a5 h5 a6 h6 a7 h7 a8 h8 a9 h9 a10 h10 a11 h11 a12 h12 a13 h13 a14 h14 a15 h15 a16 h16 (kbw i) (Scalar.subi 32#32 (kbw i)) k0_pay91)
      (fun r => iprop(⌜r = ⟨k0_pay93, kj o 0, kj o 1, vj o 0, vj o 1, 2#32⟩⌝ ∗ kvs c a4 a5 o ∗ pairInv c i a2 a3 a6 a7 a8 a9 a10 a11 a12 a13 a14 a15 a16 o x0 ((32 - (i 1).val) / 2 + 1))) := by
  simp only [k0_part27_eq_skeleton]
  unfold k0_part27_skel Cleared kvs owns
  iintro ⟨⟨HI, ⟨%f4, %hf4, H4⟩, ⟨%f5, %hf5, H5⟩⟩, %xk, %xv, %xu, %xdp, %xp, %xds, %hst, H10, H11, H12, H13, H14, H15, ⟨%f16, %hf16, H16⟩⟩
  obtain rfl := h4.eq_unread hf4; obtain rfl := h5.eq_unread hf5
  sl_exec
  have e27 : View.readAt (Elt F) a4.view (Rect.unit (s := S256x256) ![0, 0] S256x128.size inb_S256x256_S256x128_0_0).toLoadRect (h4.unread o.k) = half 0 o.k := by
    rw [View.readAt_eq_ld, h4.read_unread]; rfl
  have e29 : View.readAt (Elt F) a4.view (Rect.unit (s := S256x256) ![0, 128] S256x128.size inb_S256x256_S256x128_0_128).toLoadRect (h4.unread o.k) = half 1 o.k := by
    rw [View.readAt_eq_ld, h4.read_unread]; rfl
  have e31 : View.readAt (Elt F) a5.view (Rect.unit (s := S256x256) ![0, 0] S256x128.size inb_S256x256_S256x128_0_0).toLoadRect (h5.unread o.v) = half 0 o.v := by
    rw [View.readAt_eq_ld, h5.read_unread]; rfl
  have e33 : View.readAt (Elt F) a5.view (Rect.unit (s := S256x256) ![0, 128] S256x128.size inb_S256x256_S256x128_0_128).toLoadRect (h5.unread o.v) = half 1 o.v := by
    rw [View.readAt_eq_ld, h5.read_unread]; rfl
  rw [wp_bind]
  iapply (Scf.wp_for frame (wpE (defs₀ (F := F)) Variants.none (c : Thread nD τ) none) Set.univ _ _ _ _ _ _
    (fun k _ => pairInv c i a2 a3 a6 a7 a8 a9 a10 a11 a12 a13 a14 a15 a16 o x0 k)
    (fun k _ => trip c i a2 h2 a3 h3 a4 h4 a5 h5 a6 h6 a7 h7 a8 h8 a9 h9 a10 h10 a11 h11 a12 h12 a13 h13 a14 h14 a15 h15 a16 h16 o k _ _ _ _ _ e27 e29 e31 e33 x0))
  isplitl [HI H10 H11 H12 H13 H14 H15 H16]
  · unfold pairInv Tiles owns
    isplitl [HI]
    · iexact HI
    iexists _, _, _, _, _, _, _
    isplitr
    swap
    · isplitl [H10]
      · iexact H10
      isplitl [H11]
      · iexact H11
      isplitl [H12]
      · iexact H12
      isplitl [H13]
      · iexact H13
      isplitl [H14]
      · iexact H14
      isplitl [H15]
      · iexact H15
      iexists _; isplitr; swap
      · iexact H16
      ipureintro; rfl
    ipureintro
    refine hst _ fun j => ?_
    refine (congrArg (tile 0 j) (read_whole a16.view _ hz4 _ _ _)).trans rfl
  iintro %acc HI
  rw [wp_bind]
  iapply (Scf.wp_for frame (wpE (defs₀ (F := F)) Variants.none (c : Thread nD τ) none) Set.univ _ _ _ _ _ _
    (fun _ _ => pairInv c i a2 a3 a6 a7 a8 a9 a10 a11 a12 a13 a14 a15 a16 o x0 ((32 - (i 1).val) / 2 + 1))
    (fun k _ => absurd k.isLt (by
      have := trips2 i
      show ¬ k.val < (k0_t2_loop i).trips
      omega)))
  isplitl [HI]
  · have e : Scf.trips (k0_t1_loop i).lb (k0_t1_loop i).ub (k0_t1_loop i).st = (32 - (i 1).val) / 2 + 1 := trips1 i
    rw [e]
    iexact HI
  iintro %acc2 HI
  sl_step
  isplitr
  · ipureintro
    rw [e27, e29, e31, e33]
    rfl
  isplitl [H4 H5]
  · isplitl [H4]
    · iexists _; isplitr; swap
      · iexact H4
      ipureintro; exact h4.read_unread _
    iexists _; isplitr; swap
    · iexact H5
    ipureintro; exact h5.read_unread _
  iexact HI

end Cert.Kernel2Ideal.FlashBwd

end
-- ==== Proof.FlashBwd.Body.lean ====
/- The attention backward's body at one grid point: its head, its loop and, where the number of steps is odd, the last
   step; what it leaves is the model's sums after the last step. -/
module

public import proofs.«01_k».proof.Proof.FlashBwd.Middle

@[expose] public section

set_option maxRecDepth 16384

noncomputable section

namespace Cert.Kernel2Ideal.FlashBwd

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

instance (i : grid0.Coords) : ClosedOff (k0_off33 i) := ⟨_, off33_eq i⟩
instance (i : grid0.Coords) : ClosedOff (k0_off34 i) := ⟨_, off34_eq i⟩
instance (i : grid0.Coords) : ClosedOff (k0_off35 i) := ⟨_, off35_eq i⟩
instance (i : grid0.Coords) : ClosedOff (k0_off36 i) := ⟨_, off36_eq i⟩
instance (i : grid0.Coords) : ClosedOff (k0_off37 i) := ⟨_, off37_eq i⟩
instance (i : grid0.Coords) : ClosedOff (k0_off38 i) := ⟨_, off38_eq i⟩
instance (i : grid0.Coords) : ClosedOff (k0_off39 i) := ⟨_, off39_eq i⟩
instance (i : grid0.Coords) : ClosedOff (k0_off40 i) := ⟨_, off40_eq i⟩

variable (c : Dev nD) (i : grid0.Coords)
  (a2 : Memref sig .tc .vmem S8192x256 .bf16) (h2 : a2.IsWhole) (a3 : Memref sig .tc .vmem S32x256x256 .bf16) (h3 : a3.IsWhole)
  (a4 : Memref sig .tc .vmem S256x256 .bf16) (h4 : a4.IsWhole) (a5 : Memref sig .tc .vmem S256x256 .bf16) (h5 : a5.IsWhole)
  (a6 : Memref sig .tc .vmem S8192x256 .bf16) (h6 : a6.IsWhole) (a7 : Memref sig .tc .vmem S32x256x256 .bf16) (h7 : a7.IsWhole)
  (a8 : Memref sig .tc .vmem S1x8x8192 .f32) (h8 : a8.IsWhole) (a9 : Memref sig .tc .vmem S1x8x8192 .f32) (h9 : a9.IsWhole)
  (a10 : Memref sig .tc .vmem S32x256x256 .f32) (h10 : a10.IsWhole) (a11 : Memref sig .tc .vmem S256x256 .f32) (h11 : a11.IsWhole)
  (a12 : Memref sig .tc .vmem S256x256 .f32) (h12 : a12.IsWhole) (a13 : Memref sig .tc .vmem S2x2x256x256 .f32) (h13 : a13.IsWhole)
  (a14 : Memref sig .tc .vmem S2x2x256x256 .f32) (h14 : a14.IsWhole) (a15 : Memref sig .tc .vmem S2x2x256x256 .bf16) (h15 : a15.IsWhole)
  (a16 : Memref sig .tc .vmem S2x2x256x256 .bf16) (h16 : a16.IsWhole)

/-- What a grid point leaves: the sums after its last step, and the tiles holding anything. -/
def Done (o : Ops F) (x0 : Vec F S32x256x256 .f32) : sProp 𝕄 :=
  iprop(∃ (xq : Vec F S32x256x256 .f32) (xk xv : Vec F S256x256 .f32) (xu xdp : Vec F S2x2x256x256 .f32) (xp xds : Vec F S2x2x256x256 .bf16),
    ⌜(∀ (j : Fin 2) (b : ℕ) (hb : b < 32), slab j b hb xq = DQ o (i 1).val (kb_lt i) j b (slab j b hb x0) (34 - (i 1).val))
      ∧ (∀ j, half j xk = DK o (i 1).val (kb_lt i) j (34 - (i 1).val)) ∧ (∀ j, half j xv = DV o (i 1).val (kb_lt i) j (34 - (i 1).val))⌝
     ∗ owns (c : Thread nD τ) a10 fullShare xq ∗ owns (c : Thread nD τ) a11 fullShare xk ∗ owns (c : Thread nD τ) a12 fullShare xv
     ∗ owns (c : Thread nD τ) a13 fullShare xu ∗ owns (c : Thread nD τ) a14 fullShare xdp ∗ owns (c : Thread nD τ) a15 fullShare xp ∗ owns (c : Thread nD τ) a16 fullShare xds)

set_option maxHeartbeats 6400000 in
theorem body (o : Ops F) (xq : Vec F S32x256x256 .f32) :
   iprop((ins c a2 a3 a6 a7 a8 a9 o ∗ kvs c a4 a5 o) ∗ Free c a10 a11 a12 a13 a14 a15 a16 xq)
   ⊢ wp frame (wpE (defs₀ (F := F)) Variants.none c none) Set.univ
      (cc0_flash_bwd_skel i a2 h2 a3 h3 a4 h4 a5 h5 a6 h6 a7 h7 a8 h8 a9 h9 a10 h10 a11 h11 a12 h12 a13 h13 a14 h14 a15 h15 a16 h16)
      (fun _ => iprop((ins c a2 a3 a6 a7 a8 a9 o ∗ kvs c a4 a5 o) ∗ Done c i a10 a11 a12 a13 a14 a15 a16 o (start i xq))) := by
  have hk := kb_lt i
  unfold cc0_flash_bwd_skel
  rw [wp_bind]
  iintro H
  iapply (wp_wand_r frame (wpE (defs₀ (F := F)) Variants.none (c : Thread nD τ) none) Set.univ)
  isplitl [H]
  · iapply (front c i a2 h2 a3 h3 a4 h4 a5 h5 a6 h6 a7 h7 a8 h8 a9 h9 a10 h10 a11 h11 a12 h12 a13 h13 a14 h14 a15 h15 a16 h16 o xq)
    iexact H
  iintro %r ⟨%hr, H⟩
  subst hr
  rw [wp_bind]
  iapply (wp_wand_r frame (wpE (defs₀ (F := F)) Variants.none (c : Thread nD τ) none) Set.univ)
  isplitl [H]
  · iapply (middle c i a2 h2 a3 h3 a4 h4 a5 h5 a6 h6 a7 h7 a8 h8 a9 h9 a10 h10 a11 h11 a12 h12 a13 h13 a14 h14 a15 h15 a16 h16 o (start i xq))
    iexact H
  iintro %r ⟨%hr, HKV, H⟩
  subst hr
  by_cases hc : k0_cond2 i = 1#1
  · have hodd := (cond1_eq i).mp hc
    have hT : 2 * ((32 - (i 1).val) / 2 + 1) = 33 - (i 1).val := by omega
    have hE : 34 - (i 1).val = 33 - (i 1).val + 1 := by omega
    unfold pairInv Done
    rw [hT, hE]
    generalize start i xq = x0
    simp only [k0_part21_eq_skeleton, k0_part22_eq_skeleton, k0_part23_eq_skeleton, k0_part24_eq_skeleton, k0_part25_eq_skeleton]
    unfold ins Tiles owns
    icases H with ⟨⟨⟨%f2, %hf2, H2⟩, ⟨%f3, %hf3, H3⟩, ⟨%f6, %hf6, H6⟩, ⟨%f7, %hf7, H7⟩, ⟨%f8, %hf8, H8⟩, ⟨%f9, %hf9, H9⟩⟩,
      %xq, %xk, %xv, %xu, %xdp, %xp, %xds, %hst, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩
    obtain rfl := h2.eq_unread hf2; obtain rfl := h3.eq_unread hf3; obtain rfl := h6.eq_unread hf6; obtain rfl := h7.eq_unread hf7; obtain rfl := h8.eq_unread hf8; obtain rfl := h9.eq_unread hf9
    obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16
    sl_exec (disch := first | sl_exact hc)
    sl_step
    have r34 : ∀ (x : Vec F S8192x256 .bf16) inb, View.ld x (Rect.unit (k0_off34 i) S256x128.size inb) = rows 0 _ (blkC_lt (kb_lt i) _) x := fun x inb => ld_rows x 0 _ _ inb (off34_eq i)
    have r35 : ∀ (x : Vec F S1x8x8192 .f32) inb, View.ld x (Rect.unit (k0_off35 i) S1x1x256.size inb) = line 0 _ (blkB_lt (kb_lt i) _) x := fun x inb => ld_line x 0 _ _ inb (off35_eq i)
    have r36 : ∀ (x : Vec F S32x256x256 .bf16) inb, View.ld x (Rect.unit (k0_off36 i) S1x128x256.size inb) = slab 0 _ (blkA_lt (kb_lt i) _) x := fun x inb => ld_slab x 0 _ _ inb (off36_eq i)
    have r38 : ∀ (x : Vec F S8192x256 .bf16) inb, View.ld x (Rect.unit (k0_off38 i) S256x128.size inb) = rows 1 _ (blkC_lt (kb_lt i) _) x := fun x inb => ld_rows x 1 _ _ inb (off38_eq i)
    have r39 : ∀ (x : Vec F S1x8x8192 .f32) inb, View.ld x (Rect.unit (k0_off39 i) S1x1x256.size inb) = line 1 _ (blkB_lt (kb_lt i) _) x := fun x inb => ld_line x 1 _ _ inb (off39_eq i)
    have r40 : ∀ (x : Vec F S32x256x256 .bf16) inb, View.ld x (Rect.unit (k0_off40 i) S1x128x256.size inb) = slab 1 _ (blkA_lt (kb_lt i) _) x := fun x inb => ld_slab x 1 _ _ inb (off40_eq i)
    isplitl [HKV H2 H3 H6 H7 H8 H9]
    · isplitr [HKV]
      · isplitl [H2]
        · iexists _; isplitr; · ipureintro; exact h2.read_unread _
          iexact H2
        isplitl [H3]
        · iexists _; isplitr; · ipureintro; exact h3.read_unread _
          iexact H3
        isplitl [H6]
        · iexists _; isplitr; · ipureintro; exact h6.read_unread _
          iexact H6
        isplitl [H7]
        · iexists _; isplitr; · ipureintro; exact h7.read_unread _
          iexact H7
        isplitl [H8]
        · iexists _; isplitr; · ipureintro; exact h8.read_unread _
          iexact H8
        iexists _; isplitr; · ipureintro; exact h9.read_unread _
        iexact H9
      iexact HKV
    iexists _, _, _, _, _, _, _
    isplitr
    swap
    · isplitl [H10]
      · iexists _; isplitr; swap
        · iexact H10
        ipureintro; rfl
      isplitl [H11]
      · iexists _; isplitr; swap
        · iexact H11
        ipureintro; rfl
      isplitl [H12]
      · iexists _; isplitr; swap
        · iexact H12
        ipureintro; rfl
      isplitl [H13]
      · iexists _; isplitr; swap
        · iexact H13
        ipureintro; rfl
      isplitl [H14]
      · iexists _; isplitr; swap
        · iexact H14
        ipureintro; rfl
      isplitl [H15]
      · iexists _; isplitr; swap
        · iexact H15
        ipureintro; rfl
      iexists _; isplitr; swap
      · iexact H16
      ipureintro; rfl
    ipureintro
    sl_unfold_run_names
    refine ⟨?_, Fin.forall_fin_two.mpr ⟨?_, ?_⟩, Fin.forall_fin_two.mpr ⟨?_, ?_⟩⟩
    rotate_left
    show View.ld _ (Rect.unit (s := S256x256) ![0, 0] S256x128.size inb_S256x256_S256x128_0_0) = _; rotate_left
    show View.ld _ (Rect.unit (s := S256x256) ![0, 128] S256x128.size inb_S256x256_S256x128_0_128) = _; rotate_left
    show View.ld _ (Rect.unit (s := S256x256) ![0, 0] S256x128.size inb_S256x256_S256x128_0_0) = _; rotate_left
    show View.ld _ (Rect.unit (s := S256x256) ![0, 128] S256x128.size inb_S256x256_S256x128_0_128) = _; rotate_left
    refine dq_step o _ (kb_lt i) (33 - (i 1).val) x0 _ _ _ _ _ (off33_eq i) (off37_eq i) _ _
      (fun j b hb => by rw [read_writes_nil, h10.read_unread]; exact hst.dq j b hb) ?_ ?_
    all_goals
      simp (disch := decide) only [readCov_eq_ld, View.readAt_eq_ld, ld_hit, ld_miss]
      simp only [read_writes_nil, h2.read_unread, h3.read_unread, h8.read_unread, h9.read_unread, h6.read_unread, h7.read_unread, h10.read_unread, h11.read_unread, h12.read_unread,
        h13.read_unread, h14.read_unread, h15.read_unread, h16.read_unread, ld_half0, ld_half1, ld_tile00, ld_tile01, ld_tile10, ld_tile11,
        r34, r35, r36, r38, r39, r40, lim_last, hst.dk, hst.dv, hst.u, hst.dp, hst.p, hst.ds]
      simp only [pay69_eq, pay71_eq, pay72_eq, pay73_eq, pay74_eq, pay75_eq, pay76_eq, pay77_eq, pay78_eq, pay79_eq, pay80_eq, pay81_eq, pay82_eq, pay83_eq, pay1_eq, pay2_eq, kj_eq, vj_eq, U_succ, DP_succ, P_succ, DS_succ, DK_succ, DV_succ]
  · have hT : 2 * ((32 - (i 1).val) / 2 + 1) = 34 - (i 1).val := by
      have := mt (cond1_eq i).mpr hc
      omega
    unfold pairInv Done
    rw [hT]
    unfold Tiles
    icases H with ⟨HI, %xq, %xk, %xv, %xu, %xdp, %xp, %xds, %hst, H⟩
    sl_exec (disch := first | sl_exact hc)
    sl_step
    isplitl [HKV HI]
    · isplitl [HI]
      · iexact HI
      iexact HKV
    iexists _, _, _, _, _, _, _
    isplitr
    swap
    · iexact H
    ipureintro
    exact ⟨hst.dq, hst.dk, hst.dv⟩

end Cert.Kernel2Ideal.FlashBwd

end
-- ==== Proof.FlashBwd.Glue.lean ====
/- Whole buffers of the attention backward put together from the parts the steps work on, and read back part by part. -/
module

public import proofs.«01_k».proof.Proof.FlashBwd.Tiles
public import Idealize.ShloMosaic.Lib.Pointwise

@[expose] public section

noncomputable section

namespace Cert.Kernel2Ideal.FlashBwd

open Cert.Kernel2Ideal Cert.Kernel2Ideal.Gen Idealize.ShloMosaic Idealize.ShloMosaic.TcCoe

variable {F : FTy → Type} [FloatOps F] [Named F]

theorem ix2_of {n k : ℕ} (j : (⟨2, ![n, k]⟩ : Shape).Idx) (r : Fin n) (l : Fin k) (h0 : (j 0).val = r.val) (h1 : (j 1).val = l.val) :
    j = ix2 r l := by
  funext a
  fin_cases a
  · exact Fin.ext h0
  · exact Fin.ext h1

theorem ix3_of {n k p : ℕ} (j : (⟨3, ![n, k, p]⟩ : Shape).Idx) (r : Fin n) (l : Fin k) (x : Fin p)
    (h0 : (j 0).val = r.val) (h1 : (j 1).val = l.val) (h2 : (j 2).val = x.val) : j = ix3 r l x := by
  funext a
  fin_cases a
  · exact Fin.ext h0
  · exact Fin.ext h1
  · exact Fin.ext h2

/-- Row `r` of head `j`, among the pair's 256. -/
def up (j : Fin 2) (r : Fin 128) : Fin 256 := ⟨128 * j.val + r.val, by have := j.isLt; have := r.isLt; omega⟩
/-- Row `r` of block `b`, among all 8192. -/
def at_ (b : ℕ) (hb : b < 32) (r : Fin 256) : Fin 8192 := ⟨b * 256 + r.val, by have := r.isLt; omega⟩

theorem slab_apply {e : EltTy} (j : Fin 2) (b : ℕ) (hb : b < 32) (x : Vec F S32x256x256 e) (u : Fin 1) (r : Fin 128) (l : Fin 256) :
    slab j b hb x (ix3 u r l) = x (ix3 ⟨b, hb⟩ (up j r) l) :=
  congrArg x (ix3_of _ _ _ _ (by show b + 1 * u.val = b; omega) (by show 128 * j.val + 1 * r.val = 128 * j.val + r.val; omega)
    (by show 0 + 1 * l.val = l.val; omega))

theorem half_apply {e : EltTy} (j : Fin 2) (x : Vec F S256x256 e) (r : Fin 256) (l : Fin 128) :
    half j x (ix2 r l) = x (ix2 r (up j l)) :=
  congrArg x (ix2_of _ _ _ (by show 0 + 1 * r.val = r.val; omega) (by show 128 * j.val + 1 * l.val = 128 * j.val + l.val; omega))

theorem rows_apply {e : EltTy} (j : Fin 2) (b : ℕ) (hb : b < 32) (x : Vec F S8192x256 e) (r : Fin 256) (l : Fin 128) :
    rows j b hb x (ix2 r l) = x (ix2 (at_ b hb r) (up j l)) :=
  congrArg x (ix2_of _ _ _ (by show b * 256 + 1 * r.val = b * 256 + r.val; omega) (by show 128 * j.val + 1 * l.val = 128 * j.val + l.val; omega))

theorem line_apply {e : EltTy} (j : Fin 2) (b : ℕ) (hb : b < 32) (x : Vec F S1x8x8192 e) (u w : Fin 1) (l : Fin 256) :
    line j b hb x (ix3 u w l) = x (ix3 u ⟨j.val, by have := j.isLt; omega⟩ (at_ b hb l)) :=
  congrArg x (ix3_of _ _ _ _ (by show 0 + 1 * u.val = u.val; omega) (by show j.val + 1 * w.val = j.val; omega)
    (by show b * 256 + 1 * l.val = b * 256 + l.val; omega))

/-- The head a row of the pair belongs to, and its row there. -/
def hd (l : Fin 256) : Fin 2 := ⟨l.val / 128, by have := l.isLt; omega⟩
def lo (l : Fin 256) : Fin 128 := ⟨l.val % 128, Nat.mod_lt _ (by decide)⟩
theorem up_hd_lo (l : Fin 256) : up (hd l) (lo l) = l := Fin.ext (Nat.div_add_mod l.val 128)
theorem hd_up (j : Fin 2) (r : Fin 128) : hd (up j r) = j := Fin.ext (by show (128 * j.val + r.val) / 128 = j.val; have := r.isLt; omega)
theorem lo_up (j : Fin 2) (r : Fin 128) : lo (up j r) = r := Fin.ext (by show (128 * j.val + r.val) % 128 = r.val; have := r.isLt; omega)

/-- The queries' gradient from its slabs. -/
def glueQ (f : (j : Fin 2) → (b : ℕ) → b < 32 → Vec F S1x128x256 .f32) : Vec F S32x256x256 .f32 := fun i =>
  f (hd (i 1)) (i 0).val (i 0).isLt (ix3 0 (lo (i 1)) (i 2))

/-- A key block's gradient from its two halves. -/
def glueK (f : Fin 2 → Vec F S256x128 .f32) : Vec F S256x256 .f32 := fun i => f (hd (i 1)) (ix2 (i 0) (lo (i 1)))

theorem eq_glueQ (x : Vec F S32x256x256 .f32) (f : (j : Fin 2) → (b : ℕ) → b < 32 → Vec F S1x128x256 .f32)
    (h : ∀ j b hb, slab j b hb x = f j b hb) : x = glueQ f := by
  funext i
  refine .trans ?_ (congrFun (h (hd (i 1)) (i 0).val (i 0).isLt) (ix3 0 (lo (i 1)) (i 2)))
  exact .trans (congrArg x (ix3_of i (i 0) (up (hd (i 1)) (lo (i 1))) (i 2) rfl (congrArg Fin.val (up_hd_lo (i 1))).symm rfl)) (slab_apply _ _ _ x _ _ _).symm

theorem glueQ_apply (f : (j : Fin 2) → (b : ℕ) → b < 32 → Vec F S1x128x256 .f32) (b : ℕ) (hb : b < 32) (j : Fin 2) (r : Fin 128) (l : Fin 256) :
    glueQ f (ix3 ⟨b, hb⟩ (up j r) l) = f j b hb (ix3 0 r l) := by
  show f (hd (up j r)) b _ (ix3 0 (lo (up j r)) l) = _
  rw [hd_up, lo_up]

theorem glueK_apply (f : Fin 2 → Vec F S256x128 .f32) (r : Fin 256) (j : Fin 2) (l : Fin 128) :
    glueK f (ix2 r (up j l)) = f j (ix2 r l) := by
  show f (hd (up j l)) (ix2 r (lo (up j l))) = _
  rw [hd_up, lo_up]

theorem slab_glueQ (f : (j : Fin 2) → (b : ℕ) → b < 32 → Vec F S1x128x256 .f32) (j : Fin 2) (b : ℕ) (hb : b < 32) :
    slab j b hb (glueQ f) = f j b hb := by
  funext i
  have e : i = ix3 0 (i 1) (i 2) := ix3_of i 0 (i 1) (i 2) (by have : (i 0).val < 1 := (i 0).isLt; show (i 0).val = 0; omega) rfl rfl
  rw [e]
  exact (slab_apply j b hb (glueQ f) 0 (i 1) (i 2)).trans (glueQ_apply f b hb j (i 1) (i 2))

theorem eq_glueK (x : Vec F S256x256 .f32) (f : Fin 2 → Vec F S256x128 .f32) (h : ∀ j, half j x = f j) : x = glueK f := by
  funext i
  refine .trans ?_ (congrFun (h (hd (i 1))) (ix2 (i 0) (lo (i 1))))
  exact .trans (congrArg x (ix2_of i (i 0) (up (hd (i 1)) (lo (i 1))) rfl (congrArg Fin.val (up_hd_lo (i 1))).symm)) (half_apply _ x _ _).symm

end Cert.Kernel2Ideal.FlashBwd

end
-- ==== Proof.FlashBwd.Run.lean ====
/- The attention backward's launch: its proof data, the body at every grid point and the run of the whole call. -/
module

public import proofs.«01_k».proof.Proof.FlashBwd.Body
public import proofs.«01_k».proof.Proof.FlashBwd.Glue
public import proofs.«01_k».proof.Proof.Gen.Kernel2Ideal.Frame
public import Idealize.ShloMosaic.Lib.Pipeline.FrameTail
public import Idealize.ShloMosaic.Lib.Claim

@[expose] public section

set_option maxRecDepth 16384

noncomputable section

namespace Cert.Kernel2Ideal.FlashBwd

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input blocks of point `t`. -/
def oOf (c : Dev nD) (t : Fin cfg0.N) : Ops F where
  q := iblk m c 0 t
  qt := iblk m c 1 t
  k := iblk m c 2 t
  v := iblk m c 3 t
  do' := iblk m c 4 t
  dot := iblk m c 5 t
  l := iblk m c 6 t
  d := iblk m c 7 t

/-- The key block of a point. -/
theorem coord1 : ∀ t : Fin cfg0.N, (grid0.coords t 1).val = t.val % 32 := by decide +kernel
theorem coord0 : ∀ t : Fin cfg0.N, (grid0.coords t 0).val = t.val / 32 := by decide +kernel

/-- What the queries' gradient holds after a point that found `x`. -/
def dqAfter (o : Ops F) (i : grid0.Coords) (x : Vec F S32x256x256 .f32) : Vec F S32x256x256 .f32 :=
  glueQ fun j b hb => DQ o (i 1).val (kb_lt i) j b (slab j b hb (start i x)) (34 - (i 1).val)

/-- A point's keys' and values' gradients. -/
def dkAt (o : Ops F) (i : grid0.Coords) : Vec F S256x256 .f32 := glueK fun j => DK o (i 1).val (kb_lt i) j (34 - (i 1).val)
def dvAt (o : Ops F) (i : grid0.Coords) : Vec F S256x256 .f32 := glueK fun j => DV o (i 1).val (kb_lt i) j (34 - (i 1).val)

/-- The queries' gradient before point `n`. -/
def dqAcc (c : Dev nD) : ℕ → Vec F S32x256x256 .f32
  | 0 => fun _ => Scalar.ofBits .f32 0x00000000#32
  | n + 1 => if h : n < cfg0.N then dqAfter (oOf m c ⟨n, h⟩) (grid0.coords ⟨n, h⟩) (dqAcc c n) else dqAcc c n

theorem dqAcc_succ (c : Dev nD) (t : Fin cfg0.N) :
    dqAcc m c (t.val + 1) = dqAfter (oOf m c t) (grid0.coords t) (dqAcc m c t.val) := by
  rw [dqAcc]; exact dif_pos t.isLt

/-- A head pair's first point does not look at what it finds. -/
theorem dqAfter_first (o : Ops F) (i : grid0.Coords) (h : (i 1).val = 0) (x y : Vec F S32x256x256 .f32) :
    dqAfter o i x = dqAfter o i y := by
  unfold dqAfter start
  rw [if_pos h, if_pos h]

/-- The proof data: the arrays as the region finds them, the inputs at their blocks, the gradients at the model's sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAcc m c (t.val + 1)
    | ⟨9, _⟩ => dkAt (oOf m c t) (grid0.coords t)
    | ⟨10, _⟩ => dvAt (oOf m c t) (grid0.coords t)
  Φ _ := Pipeline.ΦA spec0 c
  q _ := fullShare
  owed _ := 0

theorem A_eq (c : Dev nD) (w) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d

/-- After a head pair's first point the queries' gradient holds what the point before left. -/
theorem before_8 (c : Dev nD) (t : Fin cfg0.N) (h : t.val % 32 ≠ 0) (d) : (dats m 0 c).before 8 t d = dqAcc m c t.val := by
  rw [Dat.before_out_kept _ 8 rfl t (by omega) (Bool.eq_false_iff.mpr fun h => by have := (flush0_8 _).mp h; dsimp only at this; omega) (fun _ => rfl) (fun _ _ => rfl)]
  dsimp only [dats]
  rw [Nat.sub_add_cancel (by omega)]

/-- Either way the point leaves the next sum. -/
theorem after_8 (c : Dev nD) (t : Fin cfg0.N) (d) :
    dqAfter (oOf m c t) (grid0.coords t) ((dats m 0 c).before 8 t d) = dqAcc m c (t.val + 1) := by
  rw [dqAcc_succ]
  by_cases h : t.val % 32 = 0
  · exact dqAfter_first _ _ (by rw [coord1, h]) _ _
  · rw [before_8 m c t h]

/-- The buffers before the body runs at point `t`, and after. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

/-- What the body leaves, as the proof data states it. -/
theorem post_of (c : Dev nD) (t : Fin cfg0.N) (d) :
    iprop(((dats m 0 c).owesAt () t.castSucc ∗ ∃ r, prngReg c r)
      ∗ (ins c (st0_0 t) (st0_1 t) (st0_4 t) (st0_5 t) (st0_6 t) (st0_7 t) (oOf m c t) ∗ kvs c (st0_2 t) (st0_3 t) (oOf m c t))
      ∗ Done c (grid0.coords t) (st0_8 t) (st0_9 t) (st0_10 t) (Memref.whole cc0_scratch0) (Memref.whole cc0_scratch1) (Memref.whole cc0_scratch2) (Memref.whole cc0_scratch3)
          (oOf m c t) (start (grid0.coords t) ((dats m 0 c).before 8 t d))) ⊢ post m c t := by
  unfold post ins kvs Done
  rw [show (dats m 0 c).Φ t.succ = Pipeline.ΦA spec0 c from rfl]
  unfold Pipeline.ΦA
  rw [scopedRest0_eq]
  simp only [owns_whole]
  rw [show (dats m 0 c).after 8 t = dqAcc m c (t.val + 1) by dsimp only [dats], ← after_8 m c t d,
    show (dats m 0 c).after 9 t = dkAt (oOf m c t) (grid0.coords t) by dsimp only [dats],
    show (dats m 0 c).after 10 t = dvAt (oOf m c t) (grid0.coords t) by dsimp only [dats]]
  iintro ⟨⟨HW, Hg⟩, ⟨⟨H0, H1, H4, H5, H6, H7⟩, H2, H3⟩, %xq, %xk, %xv, %xu, %xdp, %xp, %xds, %hx, H8, H9, H10, HS0, HS1, HS2, HS3⟩
  obtain ⟨hq, hk, hv⟩ := hx
  obtain rfl := eq_glueQ xq _ hq
  obtain rfl := eq_glueK xk _ hk
  obtain rfl := eq_glueK xv _ hv
  isplitl [HS0 HS1 HS2 HS3 Hg]
  · isplitl [HS0 HS1 HS2 HS3]
    · isplitl [HS0]; · iexists _; iexact HS0
      isplitl [HS1]; · iexists _; iexact HS1
      isplitl [HS2]; · iexists _; iexact HS2
      iexists _; iexact HS3
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 3200000 in
/-- The body at any point. -/
theorem sound (c : Dev nD) (t : Fin cfg0.N) :
    pre m c t ⊢ wp frame (wpE (defs₀ (F := F)) Variants.none c none) Set.univ (bodyAt0 t) (fun _ => post m c t) := by
  unfold pre bodyAt0
  rw [cc0_flash_bwd_eq_skeleton]
  simp only [before_0, before_1, before_2, before_3, before_4, before_5, before_6, before_7]
  rw [show (dats m 0 c).Φ t.castSucc = Pipeline.ΦA spec0 c from rfl]
  unfold Pipeline.ΦA
  rw [scopedRest0_eq]
  iintro ⟨⟨⟨⟨%xu, HS0⟩, ⟨%xdp, HS1⟩, ⟨%xp, HS2⟩, ⟨%xds, HS3⟩⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r frame (wpE (defs₀ (F := F)) Variants.none c none) Set.univ)
  isplitl [HS0 HS1 HS2 HS3 H0 H1 H2 H3 H4 H5 H6 H7 H8 H9 H10]
  · iapply (body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (oOf m c t) ((dats m 0 c).before 8 t d8))
    unfold ins kvs Free
    simp only [owns_whole]
    isplitl [H0 H1 H2 H3 H4 H5 H6 H7]
    · isplitl [H0 H1 H4 H5 H6 H7]
      · isplitl [H0]; · iexact H0
        isplitl [H1]; · iexact H1
        isplitl [H4]; · iexact H4
        isplitl [H5]; · iexact H5
        isplitl [H6]; · iexact H6
        iexact H7
      isplitl [H2]; · iexact H2
      iexact H3
    isplitl [H8]; · iexact H8
    iexists _, _, xu, xdp, xp, xds
    isplitl [H9]; · iexact H9
    isplitl [H10]; · iexact H10
    isplitl [HS0]; · iexact HS0
    isplitl [HS1]; · iexact HS1
    isplitl [HS2]; · iexact HS2
    iexact HS3
  iintro %_ ⟨Hi, Hd⟩
  iapply (post_of m c t d8)
  isplitl [HW Hg]
  · isplitl [HW]; · iexact HW
    iexact Hg
  isplitl [Hi]; · iexact Hi
  iexact Hd

theorem defs₀_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The launch: every execution ends with the arrays at what the proof data computes, the lines after the call run on
    them, and every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) (hQ' := fun _ h => h) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The call ends with its arguments unchanged and every counter at zero. -/
theorem frame : θ_run defs (onTc (τ := τ) (main (F := F))) (s₀ m ρ) (fun r => (∀ c : Dev nD,
r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  θ_run_and (frame_of m ρ (dats m) (A_eq m) (run m ρ)) ((θ_run defs _ _).mono (fun _ h => h.2) (run_quiescent m ρ))

end Cert.Kernel2Ideal.FlashBwd

end
-- ==== Proof.FlashBwd.Grad.lean ====
/-
  The gradients of the forgetting attention over the real numbers.

  `Inputs` holds the five arguments as arrays of reals: queries, keys, values, the summed log forget
  gates and the cotangent of the attention's output. The definitions below spell the forward pass and
  its derivative as plain sums; both programs are shown to compute them.
-/
module

public import Idealize.ShloMosaic.Lib.Pointwise
public import Idealize.ShloMosaic.PureOps.Ideal.Laws

@[expose] public section

noncomputable section

namespace Cert.Flash

open Idealize.ShloMosaic

/-- The five arguments, as reals. -/
structure Inputs where
  q : Fin 8192 → Fin 8 → Fin 64 → ℝ
  k : Fin 8192 → Fin 8 → Fin 64 → ℝ
  v : Fin 8192 → Fin 8 → Fin 64 → ℝ
  c : Fin 8192 → Fin 8 → ℝ
  dy : Fin 8192 → Fin 8 → Fin 64 → ℝ

/-- An array of reals as an array of extended reals. -/
def up3 (f : Fin 8192 → Fin 8 → Fin 64 → ℝ) : FVec Ideal ⟨3, ![8192, 8, 64]⟩ .f32 := fun i => ((f (i 0) (i 1) (i 2) : ℝ) : EReal)
def up2 (f : Fin 8192 → Fin 8 → ℝ) : FVec Ideal ⟨2, ![8192, 8]⟩ .f32 := fun i => ((f (i 0) (i 1) : ℝ) : EReal)
theorem up3_apply (f : Fin 8192 → Fin 8 → Fin 64 → ℝ) (t : Fin 8192) (h : Fin 8) (d : Fin 64) : up3 f (ix3 t h d) = ((f t h d : ℝ) : EReal) := rfl
theorem up2_apply (f : Fin 8192 → Fin 8 → ℝ) (t : Fin 8192) (h : Fin 8) : up2 f (ix2 t h) = ((f t h : ℝ) : EReal) := rfl

namespace Inputs

variable (a : Inputs) (M : Fin 8 → Fin 8192 → ℝ)

/-- The score of key `s` for query `t`: the scaled product, and the gates summed between the two. -/
def score (h : Fin 8) (t s : Fin 8192) : ℝ := (∑ d : Fin 64, a.q t h d * (1 / 8) * a.k s h d) + a.c t h - a.c s h
/-- The exponential of a score, the number `M h t` taken off first; zero past the diagonal. -/
def num (h : Fin 8) (t s : Fin 8192) : ℝ := if s ≤ t then Real.exp (a.score h t s - M h t) else 0
def den (h : Fin 8) (t : Fin 8192) : ℝ := ∑ s, a.num M h t s
/-- The attention weight. -/
def prob (h : Fin 8) (t s : Fin 8192) : ℝ := a.num M h t s / a.den M h t
/-- The weight's cotangent. -/
def dprob (h : Fin 8) (t s : Fin 8192) : ℝ := ∑ d : Fin 64, a.dy t h d * a.v s h d
def delta (h : Fin 8) (t : Fin 8192) : ℝ := ∑ s, a.prob M h t s * a.dprob h t s
/-- The score's cotangent. -/
def dscore (h : Fin 8) (t s : Fin 8192) : ℝ := a.prob M h t s * (a.dprob h t s - a.delta M h t)
def dq (t : Fin 8192) (h : Fin 8) (d : Fin 64) : ℝ := (∑ s, a.dscore M h t s * a.k s h d) * (1 / 8)
def dk (s : Fin 8192) (h : Fin 8) (d : Fin 64) : ℝ := ∑ t, a.dscore M h t s * (a.q t h d * (1 / 8))
def dv (s : Fin 8192) (h : Fin 8) (d : Fin 64) : ℝ := ∑ t, a.prob M h t s * a.dy t h d
def dc (t : Fin 8192) (h : Fin 8) : ℝ := (∑ s, a.dscore M h t s) - ∑ s, a.dscore M h s t

theorem num_of_lt {h : Fin 8} {t s : Fin 8192} (hs : t < s) : a.num M h t s = 0 := if_neg (not_le.mpr hs)
theorem num_nonneg (h : Fin 8) (t s : Fin 8192) : 0 ≤ a.num M h t s := by
  unfold num
  split
  · exact (Real.exp_pos _).le
  · exact le_rfl
theorem den_pos (h : Fin 8) (t : Fin 8192) : 0 < a.den M h t :=
  Finset.sum_pos' (fun s _ => a.num_nonneg M h t s) ⟨t, Finset.mem_univ _, by rw [num, if_pos le_rfl]; exact Real.exp_pos _⟩
theorem den_ne (h : Fin 8) (t : Fin 8192) : a.den M h t ≠ 0 := (a.den_pos M h t).ne'
theorem prob_of_lt {h : Fin 8} {t s : Fin 8192} (hs : t < s) : a.prob M h t s = 0 := by rw [prob, num_of_lt a M hs, zero_div]
theorem dscore_of_lt {h : Fin 8} {t s : Fin 8192} (hs : t < s) : a.dscore M h t s = 0 := by rw [dscore, prob_of_lt a M hs, zero_mul]

/-! The arguments packed into 128 lanes. -/

def pq (t : Fin 8192) (h : Fin 8) (l : Fin 128) : ℝ := if hl : l.val < 64 then a.q t h ⟨l.val, hl⟩ * (1 / 8) else if l.val < 67 then -1 else 0
def pk (t : Fin 8192) (h : Fin 8) (l : Fin 128) : ℝ :=
  if hl : l.val < 64 then a.k t h ⟨l.val, hl⟩ else if l.val = 64 then a.c t h else if l.val = 67 then 1 else 0
def pv (t : Fin 8192) (h : Fin 8) (l : Fin 128) : ℝ := if hl : l.val < 64 then a.v t h ⟨l.val, hl⟩ else if l.val = 64 then 1 else 0
def pd (t : Fin 8192) (h : Fin 8) (l : Fin 128) : ℝ := if hl : l.val < 64 then a.dy t h ⟨l.val, hl⟩ else 0

end Inputs

/-! ### The extended reals at real numbers -/

theorem coe_sum {ι : Type} (s : Finset ι) (f : ι → ℝ) : ((∑ i ∈ s, f i : ℝ) : EReal) = ∑ i ∈ s, ((f i : ℝ) : EReal) := by
  induction s using Finset.cons_induction with
  | empty => rfl
  | cons i s hi ih => rw [Finset.sum_cons, Finset.sum_cons, EReal.coe_add, ih]

theorem div_real (x y : ℝ) (h : y ≠ 0) : Ideal.div (x : EReal) (y : EReal) = ((x / y : ℝ) : EReal) := by
  rw [Ideal.div_coe h, ← EReal.coe_mul]
  congr 1
  ring

theorem f32_eighth : Ideal.ofBits .f32 0x3E000000#32 = ((1 / 8 : ℝ) : EReal) := by
  simp [Ideal.ofBits, Ideal.ieee]; norm_num; rw [← EReal.coe_mul]; norm_num
theorem f32_one : Ideal.ofBits .f32 0x3F800000#32 = ((1 : ℝ) : EReal) := by
  simp [Ideal.ofBits, Ideal.ieee]; norm_num; rw [← EReal.coe_mul]; norm_num
theorem f32_bot : Ideal.ofBits .f32 0xFF800000#32 = ⊥ := by
  simp [Ideal.ofBits, Ideal.ieee]
theorem f32_zero : Ideal.ofBits .f32 0x00000000#32 = ((0 : ℝ) : EReal) := Ideal.ofBits_zero_f32

/-- The largest of finitely many values, none of them `⊤` and one of them real, is real. -/
theorem fold_max_real {n : ℕ} (f : Fin n → EReal) (h : ∀ i, f i ≠ ⊤) (i : Fin n) (hi : f i ≠ ⊥) :
    ∃ r : ℝ, (Finset.univ : Finset (Fin n)).fold (FloatOps.maximumf (F := Ideal) (φ := .f32)) ⊥ f = (r : EReal) := by
  have e : (Finset.univ : Finset (Fin n)).fold (FloatOps.maximumf (F := Ideal) (φ := .f32)) ⊥ f = Finset.univ.sup f := rfl
  rw [e]
  obtain ⟨j, _, hj⟩ := Finset.exists_mem_eq_sup Finset.univ ⟨i, Finset.mem_univ i⟩ f
  refine ⟨(Finset.univ.sup f).toReal, (EReal.coe_toReal ?_ ?_).symm⟩
  · rw [hj]; exact h j
  · exact fun hb => hi (le_bot_iff.mp (hb ▸ Finset.le_sup (f := f) (Finset.mem_univ i)))

end Cert.Flash
-- ==== Proof.FlashBwd.Pointw.lean ====
/- What each step of the attention backward writes, element by element. -/
module

public import proofs.«01_k».proof.Proof.FlashBwd.Glue
public import proofs.«01_k».proof.Proof.FlashBwd.Grad
public import Idealize.ShloMosaic.Lib.Pointwise

@[expose] public section

noncomputable section

namespace Cert.Kernel2Ideal.FlashBwd

open Cert.Flash
open Cert.Kernel2Ideal Cert.Kernel2Ideal.Gen Idealize.ShloMosaic Idealize.ShloMosaic.TcCoe

theorem pay3_apply (k : FVec Ideal S256x128 .bf16) (x : Vec Ideal S1x128x256 .f32) (ds : Vec Ideal S1x1x256x256 .bf16) (u : Fin 1) (l : Fin 128) (c : Fin 256) :
    k0_pay3 k x ds (ix3 u l c) = x (ix3 0 l c) + ∑ r : Fin 256, k (ix2 r l) * ds (ix4 0 0 r c) := by
  pointwise [k0_pay3]
theorem pay6_apply (x : Vec Ideal S256x128 .f32) (ds : Vec Ideal S1x1x256x256 .bf16) (q : Vec Ideal S256x128 .bf16) (r : Fin 256) (l : Fin 128) :
    k0_pay6 x ds q (ix2 r l) = x (ix2 r l) + ∑ c : Fin 256, ds (ix4 0 0 r c) * q (ix2 c l) := by
  pointwise [k0_pay6]
theorem pay7_apply (u : Vec Ideal S1x1x256x256 .f32) (l : Vec Ideal S1x1x256 .f32) (r c : Fin 256) :
    k0_pay7 u l (ix2 r c) = Ideal.exp (u (ix4 0 0 r c) - l (ix3 0 0 c)) := by
  pointwise [k0_pay7]
theorem pay8_apply (u : Vec Ideal S1x1x256x256 .f32) (l : Vec Ideal S1x1x256 .f32) (z w : Fin 1) (r c : Fin 256) :
    k0_pay8 u l (ix4 z w r c) = Ideal.exp (u (ix4 0 0 r c) - l (ix3 0 0 c)) := by
  pointwise [k0_pay8, k0_pay7]
theorem pay9_apply (p : FVec Ideal S256x256 .f32) (dp : Vec Ideal S1x1x256x256 .f32) (d : Vec Ideal S1x1x256 .f32) (z w : Fin 1) (r c : Fin 256) :
    k0_pay9 p dp d (ix4 z w r c) = p (ix2 r c) * (dp (ix4 0 0 r c) - d (ix3 0 0 c)) := by
  pointwise [k0_pay9]
theorem pay11_apply (v : FVec Ideal S256x128 .bf16) (d : Vec Ideal S1x128x256 .bf16) (z w : Fin 1) (r c : Fin 256) :
    k0_pay11 v d (ix4 z w r c) = ∑ l : Fin 128, v (ix2 r l) * d (ix3 0 l c) := by
  pointwise [k0_pay11]
/-- Which queries of step `t` a key sees. -/
theorem mask_eq (t : ℕ) (ht : t < 32) (r c : Fin 256) :
    IntOp.cmpi .sle (IntOp.subi (BitVec.ofNat 32 r.val) (BitVec.ofNat 32 c.val)) (BitVec.ofNat 32 (t * 256)) = if r.val ≤ t * 256 + c.val then 1#1 else 0#1 := by
  have hr := r.isLt
  have hc := c.isLt
  show BitVec.ofBool ((BitVec.ofNat 32 r.val - BitVec.ofNat 32 c.val).sle (BitVec.ofNat 32 (t * 256))) = _
  have e : (BitVec.ofNat 32 r.val - BitVec.ofNat 32 c.val).sle (BitVec.ofNat 32 (t * 256)) = decide (r.val ≤ t * 256 + c.val) := by
    rw [BitVec.sle, BitVec.toInt_sub, BitVec.toInt_ofNat', BitVec.toInt_ofNat', BitVec.toInt_ofNat']
    simp only [Int.bmod]
    refine decide_eq_decide.mpr ?_
    omega
  rw [e]
  by_cases h : r.val ≤ t * 256 + c.val
  · rw [if_pos h, decide_eq_true h]; rfl
  · rw [if_neg h, decide_eq_false h]; rfl
theorem masked_eq : Named.named (F := Ideal) (φ := .f32) κ "masked" 0xF1C9F2CA#32 = ⊥ := IdealRules.named_const.ideal_named_scalar _ _ _ _ rfl
theorem pay10_apply (k : FVec Ideal S256x128 .bf16) (t : ℕ) (ht : t < 32) (q : Vec Ideal S1x128x256 .bf16) (z w : Fin 1) (r c : Fin 256) :
    k0_pay10 k0_pay93 k (BitVec.ofNat 32 (t * 256)) q (ix4 z w r c)
      = if r.val ≤ t * 256 + c.val then ∑ l : Fin 128, k (ix2 r l) * q (ix3 0 l c) else ⊥ := by
  pointwise [k0_pay10, k0_pay93]
  rw [mask_eq t ht r c, masked_eq]
  by_cases h : r.val ≤ t * 256 + c.val
  · simp [h, Scalar.select]
  · simp [h, Scalar.select]
theorem pay94_apply (x : Vec Ideal S256x128 .bf16) (r : Fin 256) (l : Fin 128) : k0_pay94 x (ix2 r l) = x (ix2 r l) := by
  pointwise [k0_pay94]
theorem pay96_apply (x : Vec Ideal S256x128 .bf16) (r : Fin 256) (l : Fin 128) : k0_pay96 x (ix2 r l) = x (ix2 r l) := by
  pointwise [k0_pay96]

end Cert.Kernel2Ideal.FlashBwd
-- ==== Proof.FlashBwd.Steps.lean ====
/- The steps of one key block, in closed form: what each buffer of the attention backward holds, over the real numbers. -/
module

public import proofs.«01_k».proof.Proof.FlashBwd.Pointw

@[expose] public section

noncomputable section

namespace Cert.Flash.Inputs

variable (a : Inputs) (M : Fin 8 → Fin 8192 → ℝ)

/-- Row `r` of block `b`, for any `b`. -/
def row (b : ℕ) (r : Fin 256) : Fin 8192 := ⟨(b * 256 + r.val) % 8192, Nat.mod_lt _ (by decide)⟩

/-- The packed keys times the packed queries: the score, but for the query's own gate sum. -/
theorem dot_kq (h : Fin 8) (t s : Fin 8192) : (∑ l : Fin 128, a.pk s h l * a.pq t h l) = a.score h t s - a.c t h := by
  have e : (∑ l : Fin 128, a.pk s h l * a.pq t h l) = _ := Fin.sum_univ_add (a := 64) (b := 64) _
  rw [e, score]
  have e1 : (∑ i : Fin 64, a.pk s h (Fin.castAdd 64 i) * a.pq t h (Fin.castAdd 64 i)) = ∑ d : Fin 64, a.q t h d * (1 / 8) * a.k s h d := by
    refine Finset.sum_congr rfl fun d _ => ?_
    have hd := d.isLt
    simp only [pk, pq, Fin.val_castAdd, hd, dite_true]
    exact mul_comm _ _
  have e2 : (∑ i : Fin 64, a.pk s h (Fin.natAdd 64 i) * a.pq t h (Fin.natAdd 64 i)) = - a.c s h := by
    rw [Finset.sum_eq_single (0 : Fin 64)]
    · simp [pk, pq]
    · intro i _ hi
      have : i.val ≠ 0 := fun h => hi (Fin.ext h)
      simp only [pk, pq, Fin.val_natAdd]
      split_ifs <;> first | omega | simp
    · exact fun h => absurd (Finset.mem_univ _) h
  rw [e1, e2]
  ring

/-- The packed values times the packed cotangents. -/
theorem dot_vd (h : Fin 8) (t s : Fin 8192) : (∑ l : Fin 128, a.pv s h l * a.pd t h l) = a.dprob h t s := by
  have e : (∑ l : Fin 128, a.pv s h l * a.pd t h l) = _ := Fin.sum_univ_add (a := 64) (b := 64) _
  rw [e, dprob]
  have e1 : (∑ i : Fin 64, a.pv s h (Fin.castAdd 64 i) * a.pd t h (Fin.castAdd 64 i)) = ∑ d : Fin 64, a.dy t h d * a.v s h d := by
    refine Finset.sum_congr rfl fun d _ => ?_
    have hd := d.isLt
    simp only [pv, pd, Fin.val_castAdd, hd, dite_true]
    exact mul_comm _ _
  have e2 : (∑ i : Fin 64, a.pv s h (Fin.natAdd 64 i) * a.pd t h (Fin.natAdd 64 i)) = 0 := by
    refine Finset.sum_eq_zero fun i _ => ?_
    simp only [pd, Fin.val_natAdd]
    rw [dif_neg (by omega), mul_zero]
  rw [e1, e2, add_zero]

/-- Blocks before the key's own add nothing, so a sum from the key's block on is the sum over all queries. -/
theorem sum_blocks (f : Fin 8192 → ℝ) : (∑ b ∈ Finset.range 32, ∑ c : Fin 256, f (row b c)) = ∑ t, f t := by
  rw [Finset.sum_range, ← Fintype.sum_prod_type']
  refine Fintype.sum_equiv (finProdFinEquiv (m := 32) (n := 256)) _ _ fun x => ?_
  refine congrArg f (Fin.ext ?_)
  have h1 := x.1.isLt
  have h2 := x.2.isLt
  show (x.1.val * 256 + x.2.val) % 8192 = x.2.val + 256 * x.1.val
  omega

theorem sum_from (f : Fin 8192 → ℝ) (kb : ℕ) (hkb : kb < 32) (h : ∀ t : Fin 8192, t.val < kb * 256 → f t = 0) :
    (∑ i ∈ Finset.range (32 - kb), ∑ c : Fin 256, f (row (kb + i) c)) = ∑ t, f t := by
  rw [← sum_blocks, ← Finset.sum_Ico_eq_sum_range (fun b => ∑ c : Fin 256, f (row b c)) kb 32]
  rw [← Finset.sum_range_add_sum_Ico (fun b => ∑ c : Fin 256, f (row b c)) (le_of_lt hkb)]
  rw [Finset.sum_eq_zero (s := Finset.range kb), zero_add]
  intro b hb
  refine Finset.sum_eq_zero fun c _ => h _ ?_
  have := Finset.mem_range.mp hb
  have := c.isLt
  show (b * 256 + c.val) % 8192 < kb * 256
  omega

/-- A weight from the saved logarithm of the row's sum. -/
theorem exp_lse (h : Fin 8) (t s : Fin 8192) :
    Idealize.ShloMosaic.Ideal.exp ((if s ≤ t then ((a.score h t s - a.c t h : ℝ) : EReal) else ⊥) - ((M h t + Real.log (a.den M h t) - a.c t h : ℝ) : EReal))
      = ((a.prob M h t s : ℝ) : EReal) := by
  rw [prob, num]
  by_cases hs : s ≤ t
  · rw [if_pos hs, if_pos hs, ← EReal.coe_sub, Idealize.ShloMosaic.Ideal.exp_coe]
    have e : a.score h t s - a.c t h - (M h t + Real.log (a.den M h t) - a.c t h) = (a.score h t s - M h t) - Real.log (a.den M h t) := by ring
    rw [e, Real.exp_sub, Real.exp_log (a.den_pos M h t)]
  · rw [if_neg hs, if_neg hs, zero_div, EReal.bot_sub, Idealize.ShloMosaic.Ideal.exp_bot]
    rfl

end Cert.Flash.Inputs

namespace Cert.Kernel2Ideal.FlashBwd

open Cert.Flash Cert.Flash.Inputs
open Cert.Kernel2Ideal Cert.Kernel2Ideal.Gen Idealize.ShloMosaic Idealize.ShloMosaic.TcCoe

/-- The operands of key block `kb` hold the packed arguments of the two heads `hd 0`, `hd 1`. -/
structure Holds (a : Inputs) (M : Fin 8 → Fin 8192 → ℝ) (hd : Fin 2 → Fin 8) (kb : ℕ) (o : Ops Ideal) : Prop where
  q : ∀ n j l, o.q (ix2 n (up j l)) = ((a.pq n (hd j) l : ℝ) : EReal)
  qt : ∀ (b : Fin 32) j l r, o.qt (ix3 b (up j l) r) = ((a.pq (row b.val r) (hd j) l : ℝ) : EReal)
  k : ∀ r j l, o.k (ix2 r (up j l)) = ((a.pk (row kb r) (hd j) l : ℝ) : EReal)
  v : ∀ r j l, o.v (ix2 r (up j l)) = ((a.pv (row kb r) (hd j) l : ℝ) : EReal)
  d : ∀ n j l, o.do' (ix2 n (up j l)) = ((a.pd n (hd j) l : ℝ) : EReal)
  dt : ∀ (b : Fin 32) j l r, o.dot (ix3 b (up j l) r) = ((a.pd (row b.val r) (hd j) l : ℝ) : EReal)
  lse : ∀ (j : Fin 2) u n, u.val = j.val → o.l (ix3 0 u n) = ((M (hd j) n + Real.log (a.den M (hd j) n) - a.c n (hd j) : ℝ) : EReal)
  dlt : ∀ (j : Fin 2) u n, u.val = j.val → o.d (ix3 0 u n) = ((a.delta M (hd j) n : ℝ) : EReal)

theorem at_row (b : ℕ) (hb : b < 32) (r : Fin 256) : at_ b hb r = row b r :=
  Fin.ext (by have := r.isLt; show b * 256 + r.val = (b * 256 + r.val) % 8192; omega)

variable {a : Inputs} {M : Fin 8 → Fin 8192 → ℝ} {hd : Fin 2 → Fin 8} {kb : ℕ} {o : Ops Ideal} (H : Holds a M hd kb o) (hkb : kb < 32)
include H

theorem kj_apply (j : Fin 2) (r : Fin 256) (l : Fin 128) : kj o j (ix2 r l) = ((a.pk (row kb r) (hd j) l : ℝ) : EReal) :=
  (pay94_apply _ r l).trans ((half_apply j o.k r l).trans (H.k r j l))
theorem vj_apply (j : Fin 2) (r : Fin 256) (l : Fin 128) : vj o j (ix2 r l) = ((a.pv (row kb r) (hd j) l : ℝ) : EReal) :=
  (pay96_apply _ r l).trans ((half_apply j o.v r l).trans (H.v r j l))

theorem U_val (j : Fin 2) (t : ℕ) (ht : t < 32 - kb) (z w : Fin 1) (r c : Fin 256) :
    U o kb hkb j (t + 1) (ix4 z w r c)
      = if row kb r ≤ row (kb + t) c then ((a.score (hd j) (row (kb + t) c) (row kb r) - a.c (row (kb + t) c) (hd j) : ℝ) : EReal) else ⊥ := by
  have hb : blkA kb t = kb + t := by rw [blkA]; omega
  have hr := r.isLt
  have hc := c.isLt
  show k0_pay10 k0_pay93 (kj o j) (lim kb t) (slab j (blkA kb t) (blkA_lt hkb t) o.qt) (ix4 z w r c) = _
  rw [lim, if_pos ht, pay10_apply _ t (by omega), ← a.dot_kq, coe_sum]
  refine if_congr ?_ (Finset.sum_congr rfl fun l _ => ?_) rfl
  · rw [Fin.le_def]
    show r.val ≤ t * 256 + c.val ↔ (kb * 256 + r.val) % 8192 ≤ ((kb + t) * 256 + c.val) % 8192
    omega
  · have e : slab j (blkA kb t) (blkA_lt hkb t) o.qt (ix3 0 l c) = ((a.pq (row (blkA kb t) c) (hd j) l : ℝ) : EReal) :=
      (slab_apply j _ _ o.qt 0 l c).trans (H.qt _ _ _ _)
    rw [kj_apply H, e, hb, EReal.coe_mul]

theorem DP_val (j : Fin 2) (t : ℕ) (ht : t < 32 - kb) (z w : Fin 1) (r c : Fin 256) :
    DP o kb hkb j (t + 1) (ix4 z w r c) = ((a.dprob (hd j) (row (kb + t) c) (row kb r) : ℝ) : EReal) := by
  have hb : blkA kb t = kb + t := by rw [blkA]; omega
  show k0_pay11 (vj o j) (slab j (blkA kb t) (blkA_lt hkb t) o.dot) (ix4 z w r c) = _
  rw [pay11_apply, ← a.dot_vd, coe_sum]
  refine Finset.sum_congr rfl fun l _ => ?_
  have e : slab j (blkA kb t) (blkA_lt hkb t) o.dot (ix3 0 l c) = ((a.pd (row (blkA kb t) c) (hd j) l : ℝ) : EReal) :=
    (slab_apply j _ _ o.dot 0 l c).trans (H.dt _ _ _ _)
  rw [vj_apply H, e, hb, EReal.coe_mul]

theorem lse_line (j : Fin 2) (b : ℕ) (hb : b < 32) (c : Fin 256) :
    line j b hb o.l (ix3 0 0 c) = ((M (hd j) (row b c) + Real.log (a.den M (hd j) (row b c)) - a.c (row b c) (hd j) : ℝ) : EReal) := by
  rw [line_apply, H.lse j _ _ rfl, at_row]
theorem dlt_line (j : Fin 2) (b : ℕ) (hb : b < 32) (c : Fin 256) :
    line j b hb o.d (ix3 0 0 c) = ((a.delta M (hd j) (row b c) : ℝ) : EReal) := by
  rw [line_apply, H.dlt j _ _ rfl, at_row]

theorem P_apply (j : Fin 2) (t : ℕ) (ht : t < 32 - kb) (z w : Fin 1) (r c : Fin 256) :
    P o kb hkb j (t + 2) (ix4 z w r c) = ((a.prob M (hd j) (row (kb + t) c) (row kb r) : ℝ) : EReal) := by
  have hb : blkB kb (t + 1) = kb + t := by rw [blkB]; omega
  show k0_pay8 (U o kb hkb j (t + 1)) (line j (blkB kb (t + 1)) (blkB_lt hkb (t + 1)) o.l) (ix4 z w r c) = _
  rw [pay8_apply, U_val H hkb j t ht, lse_line H, hb, a.exp_lse M]

theorem DS_apply (j : Fin 2) (t : ℕ) (ht : t < 32 - kb) (z w : Fin 1) (r c : Fin 256) :
    DS o kb hkb j (t + 2) (ix4 z w r c) = ((a.dscore M (hd j) (row (kb + t) c) (row kb r) : ℝ) : EReal) := by
  have hb : blkB kb (t + 1) = kb + t := by rw [blkB]; omega
  show k0_pay9 (k0_pay7 (U o kb hkb j (t + 1)) (line j (blkB kb (t + 1)) (blkB_lt hkb (t + 1)) o.l)) (DP o kb hkb j (t + 1))
    (line j (blkB kb (t + 1)) (blkB_lt hkb (t + 1)) o.d) (ix4 z w r c) = _
  rw [pay9_apply, pay7_apply, U_val H hkb j t ht, DP_val H hkb j t ht, lse_line H, dlt_line H, hb, a.exp_lse M, ← EReal.coe_sub, ← EReal.coe_mul, dscore]

/-- Nothing is left from before the first two steps. -/
theorem P_one (j : Fin 2) (t : ℕ) (ht : t < 2) (z w : Fin 1) (r c : Fin 256) : P o kb hkb j t (ix4 z w r c) = 0 := by
  match t, ht with
  | 0, _ => exact Ideal.ofBits_zero_bf16
  | 1, _ =>
    show k0_pay8 (U o kb hkb j 0) (line j (blkB kb 0) (blkB_lt hkb 0) o.l) (ix4 z w r c) = _
    rw [pay8_apply, lse_line H]
    show Ideal.exp (Named.named (F := Ideal) (φ := .f32) κ "masked" 0xF1C9F2CA#32 - _) = _
    rw [masked_eq, EReal.bot_sub, Ideal.exp_bot]

theorem DS_one (j : Fin 2) (t : ℕ) (ht : t < 2) (z w : Fin 1) (r c : Fin 256) : DS o kb hkb j t (ix4 z w r c) = 0 := by
  match t, ht with
  | 0, _ => exact Ideal.ofBits_zero_bf16
  | 1, _ =>
    show k0_pay9 (k0_pay7 (U o kb hkb j 0) (line j (blkB kb 0) (blkB_lt hkb 0) o.l)) (DP o kb hkb j 0)
      (line j (blkB kb 0) (blkB_lt hkb 0) o.d) (ix4 z w r c) = _
    rw [pay9_apply, pay7_apply, lse_line H]
    show Ideal.exp (Named.named (F := Ideal) (φ := .f32) κ "masked" 0xF1C9F2CA#32 - _) * _ = _
    rw [masked_eq, EReal.bot_sub, Ideal.exp_bot, zero_mul]

omit H in
/-- A sum the steps add up block by block. -/
theorem acc (D : ℕ → Vec Ideal S256x128 .f32) (S : ℕ → Vec Ideal S1x1x256x256 .bf16) (R : ℕ → Vec Ideal S256x128 .bf16)
    (h0 : ∀ i, D 0 i = Ideal.ofBits .f32 0x00000000#32) (hD : ∀ t, D (t + 1) = k0_pay6 (D t) (S t) (R t))
    (hS : ∀ t < 2, ∀ r c, S t (ix4 0 0 r c) = 0) (r : Fin 256) (l : Fin 128) (n : ℕ) (w x : ℕ → Fin 256 → ℝ)
    (hw : ∀ t < n, ∀ c, S (t + 2) (ix4 0 0 r c) = ((w t c : ℝ) : EReal)) (hx : ∀ t < n, ∀ c, R (t + 2) (ix2 c l) = ((x t c : ℝ) : EReal)) :
    ∀ m ≤ n, D (m + 2) (ix2 r l) = ((∑ i ∈ Finset.range m, ∑ c : Fin 256, w i c * x i c : ℝ) : EReal) := by
  intro m
  induction m with
  | zero =>
    intro _
    have e : D 0 (ix2 r l) = 0 := (h0 _).trans Ideal.ofBits_zero_f32
    rw [hD, pay6_apply, hD, pay6_apply, e, Finset.sum_range_zero, EReal.coe_zero]
    rw [Finset.sum_eq_zero fun c _ => by rw [hS 0 (by omega), zero_mul], Finset.sum_eq_zero fun c _ => by rw [hS 1 (by omega), zero_mul], add_zero,
      add_zero]
  | succ m ih =>
    intro hm
    rw [hD, pay6_apply, ih (by omega), Finset.sum_range_succ, EReal.coe_add, coe_sum Finset.univ]
    refine congrArg₂ _ rfl (Finset.sum_congr rfl fun c _ => ?_)
    rw [hw m (by omega), hx m (by omega), EReal.coe_mul]

theorem DK_apply (j : Fin 2) (r : Fin 256) (l : Fin 128) :
    DK o kb hkb j (34 - kb) (ix2 r l) = ((∑ t, a.dscore M (hd j) t (row kb r) * a.pq t (hd j) l : ℝ) : EReal) := by
  rw [← sum_from _ kb hkb, show 34 - kb = (32 - kb) + 2 by omega]
  · refine acc (DK o kb hkb j) (DS o kb hkb j) (fun t => rows j (blkC kb t) (blkC_lt hkb t) o.q) (fun _ => rfl) (fun t => rfl)
      (fun t ht r c => DS_one H hkb j t ht 0 0 r c) r l (32 - kb) _ _ (fun t ht c => DS_apply H hkb j t ht 0 0 r c) (fun t ht c => ?_) _ le_rfl
    have hb : blkC kb (t + 2) = kb + t := by rw [blkC]; omega
    exact (rows_apply j _ _ o.q c l).trans ((H.q _ j l).trans (by rw [at_row, hb]))
  · intro t ht
    have hr := r.isLt
    rw [a.dscore_of_lt M (by rw [Fin.lt_def]; show t.val < (kb * 256 + r.val) % 8192; omega), zero_mul]

theorem DV_apply (j : Fin 2) (r : Fin 256) (l : Fin 128) :
    DV o kb hkb j (34 - kb) (ix2 r l) = ((∑ t, a.prob M (hd j) t (row kb r) * a.pd t (hd j) l : ℝ) : EReal) := by
  rw [← sum_from _ kb hkb, show 34 - kb = (32 - kb) + 2 by omega]
  · refine acc (DV o kb hkb j) (P o kb hkb j) (fun t => rows j (blkC kb t) (blkC_lt hkb t) o.do') (fun _ => rfl) (fun t => rfl)
      (fun t ht r c => P_one H hkb j t ht 0 0 r c) r l (32 - kb) _ _ (fun t ht c => P_apply H hkb j t ht 0 0 r c) (fun t ht c => ?_) _ le_rfl
    have hb : blkC kb (t + 2) = kb + t := by rw [blkC]; omega
    exact (rows_apply j _ _ o.do' c l).trans ((H.d _ j l).trans (by rw [at_row, hb]))
  · intro t ht
    have hr := r.isLt
    rw [a.prob_of_lt M (by rw [Fin.lt_def]; show t.val < (kb * 256 + r.val) % 8192; omega), zero_mul]

/-- What key block `kb` adds to one entry of the queries' gradient. -/
def part (a : Inputs) (M : Fin 8 → Fin 8192 → ℝ) (kb : ℕ) (h : Fin 8) (t : Fin 8192) (l : Fin 128) : ℝ :=
  ∑ r : Fin 256, a.pk (row kb r) h l * a.dscore M h t (row kb r)

theorem DQ_step (j : Fin 2) (b : ℕ) (x : Vec Ideal S1x128x256 .f32) (l : Fin 128) (c : Fin 256) : ∀ m ≤ 32 - kb,
    DQ o kb hkb j b x (m + 2) (ix3 0 l c) = x (ix3 0 l c) + (((if kb ≤ b ∧ b < kb + m then part a M kb (hd j) (row b c) l else 0) : ℝ) : EReal) := by
  intro m
  induction m with
  | zero =>
    intro _
    have step : ∀ t < 2, DQ o kb hkb j b x (t + 1) (ix3 0 l c) = DQ o kb hkb j b x t (ix3 0 l c) := by
      intro t ht
      rw [DQ]
      split
      · rw [pay3_apply, Finset.sum_eq_zero fun r _ => by rw [DS_one H hkb j t ht, mul_zero], add_zero]
      · rfl
    rw [step 1 (by omega), step 0 (by omega), if_neg (by omega), EReal.coe_zero, add_zero]
    rfl
  | succ m ih =>
    intro hm
    have hb : blkC kb (m + 2) = kb + m := by rw [blkC]; omega
    have hi := ih (by omega)
    rw [DQ, hb]
    by_cases h : b = kb + m
    · rw [if_pos h, pay3_apply, hi, if_neg (by omega), if_pos (by omega), EReal.coe_zero, add_zero, part, coe_sum]
      refine congrArg₂ _ rfl (Finset.sum_congr rfl fun r _ => ?_)
      rw [kj_apply H, DS_apply H hkb j m (by omega), EReal.coe_mul, h]
    · rw [if_neg h, hi]
      refine congrArg₂ _ rfl (congrArg _ (if_congr ?_ rfl rfl))
      omega

theorem DQ_apply (j : Fin 2) (b : ℕ) (hb : b < 32) (x : Vec Ideal S1x128x256 .f32) (l : Fin 128) (c : Fin 256) :
    DQ o kb hkb j b x (34 - kb) (ix3 0 l c) = x (ix3 0 l c) + ((part a M kb (hd j) (row b c) l : ℝ) : EReal) := by
  rw [show 34 - kb = (32 - kb) + 2 by omega, DQ_step H hkb j b x l c _ le_rfl]
  by_cases h : kb ≤ b
  · rw [if_pos ⟨h, by omega⟩]
  · rw [if_neg (by omega), part, Finset.sum_eq_zero]
    intro r _
    have hr := r.isLt
    have hc := c.isLt
    rw [a.dscore_of_lt M (by rw [Fin.lt_def]; show (b * 256 + c.val) % 8192 < (kb * 256 + r.val) % 8192; omega), mul_zero]

end Cert.Kernel2Ideal.FlashBwd

end
-- ==== Proof.FlashBwd.RefVal.lean ====
/- What the reference's gradients are at real arguments: the sums of `Grad`. -/
module

public import proofs.«01_k».proof.Proof.Gen.Reference2Ideal.Read
public import proofs.«01_k».proof.Proof.FlashBwd.Grad

@[expose] public section

noncomputable section

namespace Cert.Flash

open Cert.Reference2Ideal Cert.Reference2Ideal.Gen Cert.Reference2Ideal.Read Idealize.ShloMosaic

theorem at2 {n k : ℕ} (j : (⟨2, ![n, k]⟩ : Shape).Idx) (r : Fin n) (l : Fin k) (h0 : (j 0).val = r.val) (h1 : (j 1).val = l.val) :
    j = ix2 r l := by
  funext a
  fin_cases a
  · exact Fin.ext h0
  · exact Fin.ext h1

theorem at3 {n k p : ℕ} (j : (⟨3, ![n, k, p]⟩ : Shape).Idx) (r : Fin n) (l : Fin k) (x : Fin p)
    (h0 : (j 0).val = r.val) (h1 : (j 1).val = l.val) (h2 : (j 2).val = x.val) : j = ix3 r l x := by
  funext a
  fin_cases a
  · exact Fin.ext h0
  · exact Fin.ext h1
  · exact Fin.ext h2

variable (a : Inputs)

theorem ref_v2 (h : Fin 8) (t : Fin 8192) (d : Fin 64) :
    val_main_v2 (F := Ideal) (up3 a.q) (ix3 h t d) = ((a.q t h d * (1 / 8) : ℝ) : EReal) := by
  rw [val_main_v2_apply, val_main_v0_apply, val_main_v1_apply, val_main_cst_apply, EReal.coe_mul, ← f32_eighth]
  rfl
theorem ref_v3 (h : Fin 8) (t : Fin 8192) (d : Fin 64) : val_main_v3 (F := Ideal) (up3 a.k) (ix3 h t d) = ((a.k t h d : ℝ) : EReal) := by
  rw [val_main_v3_apply]
  rfl
theorem ref_v4 (h : Fin 8) (t : Fin 8192) (d : Fin 64) : val_main_v4 (F := Ideal) (up3 a.v) (ix3 h t d) = ((a.v t h d : ℝ) : EReal) := by
  rw [val_main_v4_apply]
  rfl
theorem ref_v5 (h : Fin 8) (t : Fin 8192) : val_main_v5 (F := Ideal) (up2 a.c) (ix2 h t) = ((a.c t h : ℝ) : EReal) := by
  rw [val_main_v5_apply]
  rfl
theorem ref_v50 (h : Fin 8) (t : Fin 8192) (d : Fin 64) : val_main_v50 (F := Ideal) (up3 a.dy) (ix3 h t d) = ((a.dy t h d : ℝ) : EReal) := by
  rw [val_main_v50_apply]
  rfl

theorem ref_v7 (h : Fin 8) (t s : Fin 8192) :
    val_main_v7 (F := Ideal) (up3 a.q) (up3 a.k) (ix3 h t s) = ((∑ d : Fin 64, a.q t h d * (1 / 8) * a.k s h d : ℝ) : EReal) := by
  rw [val_main_v7_apply, coe_sum]
  refine Finset.sum_congr rfl fun d _ => ?_
  rw [at3 (lidx_main_v7 (ix3 h t s) d) h t d rfl rfl rfl, at3 (ridx_main_v7 (ix3 h t s) d) h s d rfl rfl rfl, ref_v2, ref_v3]
  exact (EReal.coe_mul _ _).symm

theorem ref_v13 (h : Fin 8) (t s : Fin 8192) :
    val_main_v13 (F := Ideal) (up3 a.q) (up3 a.k) (up2 a.c) (ix3 h t s) = ((a.score h t s : ℝ) : EReal) := by
  rw [val_main_v13_apply, val_main_v10_apply, ref_v7, val_main_v9_apply, val_main_v8_apply, val_main_v12_apply, val_main_v11_apply,
    at2 (idx_main_v8 (idx_main_v9 (ix3 h t s))) h t rfl rfl, at2 (idx_main_v11 (idx_main_v12 (ix3 h t s))) h s rfl rfl, ref_v5, ref_v5,
    Ideal.subf_def, Ideal.addf_def, ← EReal.coe_add, ← EReal.coe_sub]
  rfl

/-- Keys up to the query's own position are kept. -/
theorem ref_mask (h : Fin 8) (t s : Fin 8192) :
    val_main_v19_1 (F := Ideal) (ix3 h t s) = if s ≤ t then 1#1 else 0#1 := by
  rw [val_main_v19_1_apply, val_main_v18_apply, val_main_v16_apply, val_main_v17_apply, val_main_v14_apply, val_main_v15_apply, val_main_v6_apply,
    val_main_v6_apply]
  show BitVec.ofBool ((BitVec.ofNat 32 s.val).sle (BitVec.ofNat 32 t.val)) = _
  have hs := s.isLt
  have ht := t.isLt
  have e : (BitVec.ofNat 32 s.val).sle (BitVec.ofNat 32 t.val) = decide (s ≤ t) := by
    rw [BitVec.sle, BitVec.toInt_ofNat', BitVec.toInt_ofNat']
    refine decide_eq_decide.mpr ?_
    rw [Int.bmod_eq_of_le (by omega) (by omega), Int.bmod_eq_of_le (by omega) (by omega), Fin.le_def]
    omega
  rw [e]
  by_cases hc : s ≤ t
  · simp [hc]
  · simp [hc]

theorem ref_v19 (h : Fin 8) (t s : Fin 8192) :
    val_main_v19_0 (F := Ideal) (up3 a.q) (up3 a.k) (up2 a.c) (ix3 h t s) = if s ≤ t then ((a.score h t s : ℝ) : EReal) else ⊥ := by
  rw [val_main_v19_0_apply, ref_mask, ref_v13, val_main_call0_v2_apply, val_main_call0_v0_apply]
  have e : val_main_cst_0 (F := Ideal) (idx_main_call0_v2 (ix3 h t s)) = ⊥ := f32_bot
  rw [e]
  by_cases hc : s ≤ t
  · simp [hc, Scalar.select]
  · simp [hc, Scalar.select]

/-- The largest score of a query is real. -/
theorem ref_v20 (h : Fin 8) (t : Fin 8192) :
    ∃ r : ℝ, val_main_v20 (F := Ideal) (up3 a.q) (up3 a.k) (up2 a.c) (ix2 h t) = (r : EReal) := by
  have hr : S8x8192x8192.Reduces [2] S8x8192 := by decide
  rw [val_main_v20, Host.reduce_eq_fold_single _ _ _ _ hr]
  have e0 : val_main_cst_1 (F := Ideal) (Shape.Idx.first h_S_) = ⊥ := f32_bot
  rw [e0]
  have e (s : Fin 8192) : (val_main_v19_0 (F := Ideal) (up3 a.q) (up3 a.k) (up2 a.c) ∘ hr.lift (ix2 h t)) s
      = if s ≤ t then ((a.score h t s : ℝ) : EReal) else ⊥ := by
    rw [← ref_v19]
    exact congrArg (val_main_v19_0 (F := Ideal) (up3 a.q) (up3 a.k) (up2 a.c)) (at3 (hr.lift (ix2 h t) s) h t s rfl rfl rfl)
  refine fold_max_real _ (fun s => ?_) t ?_
  · refine fun hh => absurd ((e s).symm.trans hh) ?_
    split
    · exact EReal.coe_ne_top _
    · exact bot_ne_top
  · refine fun hh => absurd ((e t).symm.trans hh) ?_
    rw [if_pos le_rfl]
    exact EReal.coe_ne_bot _

/-- That largest score. -/
def mx (h : Fin 8) (t : Fin 8192) : ℝ := (ref_v20 a h t).choose
theorem mx_eq (h : Fin 8) (t : Fin 8192) :
    val_main_v20 (F := Ideal) (up3 a.q) (up3 a.k) (up2 a.c) (ix2 h t) = ((mx a h t : ℝ) : EReal) := (ref_v20 a h t).choose_spec

/-- The exponential of a masked score less a real number. -/
theorem exp_masked (M : Fin 8 → Fin 8192 → ℝ) (h : Fin 8) (t s : Fin 8192) :
    Ideal.exp ((if s ≤ t then ((a.score h t s : ℝ) : EReal) else ⊥) - ((M h t : ℝ) : EReal)) = ((a.num M h t s : ℝ) : EReal) := by
  unfold Inputs.num
  by_cases hc : s ≤ t
  · rw [if_pos hc, if_pos hc, ← EReal.coe_sub, Ideal.exp_coe]
  · rw [if_neg hc, if_neg hc, EReal.bot_sub, Ideal.exp_bot]
    rfl

/-! ### The attention weights -/

theorem ref_v27 (h : Fin 8) (t : Fin 8192) :
    val_main_v27 (F := Ideal) (up3 a.q) (up3 a.k) (up2 a.c) (ix2 h t) = ((mx a h t : ℝ) : EReal) := by
  rw [val_main_v27_apply, mx_eq]
  have e : val_main_v26 (F := Ideal) (ix2 h t) = ⊥ := f32_bot
  rw [e]
  exact bot_sup_eq _

theorem ref_v40 (h : Fin 8) (t s : Fin 8192) :
    val_main_v40 (F := Ideal) (up3 a.q) (up3 a.k) (up2 a.c) (ix3 h t s) = ((a.num (mx a) h t s : ℝ) : EReal) := by
  rw [val_main_v40_apply, val_main_v39_apply, val_main_v38_apply, val_main_v37_apply, ref_v19,
    at2 (idx_main_v37 (idx_main_v38 (ix3 h t s))) h t rfl rfl, ref_v27]
  exact exp_masked a (mx a) h t s

theorem ref_v41 (h : Fin 8) (t : Fin 8192) :
    val_main_v41 (F := Ideal) (up3 a.q) (up3 a.k) (up2 a.c) (ix2 h t) = ((a.den (mx a) h t : ℝ) : EReal) := by
  rw [val_main_v41_apply]
  have e : val_main_cst_9 (F := Ideal) (Shape.Idx.first h_S_) = 0 := Ideal.ofBits_zero_f32
  rw [e, zero_add, Inputs.den, coe_sum]
  refine Finset.sum_congr rfl fun s _ => ?_
  rw [at3 (idx_main_v41 (ix2 h t) s) h t s rfl rfl rfl, ref_v40]

theorem ref_v42 (h : Fin 8) (t : Fin 8192) (u : Fin 1) :
    val_main_v42 (F := Ideal) (up3 a.q) (up3 a.k) (up2 a.c) (ix3 h t u) = ((a.den (mx a) h t : ℝ) : EReal) := by
  rw [val_main_v42_apply, at2 (idx_main_v42 (ix3 h t u)) h t rfl rfl, ref_v41]

theorem ref_v44 (h : Fin 8) (t s : Fin 8192) :
    val_main_v44 (F := Ideal) (up3 a.q) (up3 a.k) (up2 a.c) (ix3 h t s) = ((a.prob (mx a) h t s : ℝ) : EReal) := by
  rw [val_main_v44_apply, val_main_v43_apply, at3 (idx_main_v43 (ix3 h t s)) h t (0 : Fin 1) rfl rfl rfl, ref_v42, ref_v40]
  exact div_real _ _ (a.den_ne (mx a) h t)

theorem ref_v47 (h : Fin 8) (t : Fin 8192) (u : Fin 1) :
    val_main_v47 (F := Ideal) (up3 a.q) (up3 a.k) (up2 a.c) (ix3 h t u) = ((1 / (a.den (mx a) h t * a.den (mx a) h t) : ℝ) : EReal) := by
  rw [val_main_v47_apply, val_main_v45_apply, ref_v42]
  have e : val_main_v46 (F := Ideal) (ix3 h t u) = ((1 : ℝ) : EReal) := f32_one
  rw [e, Ideal.mulf_def, ← EReal.coe_mul]
  exact div_real _ _ (mul_ne_zero (a.den_ne (mx a) h t) (a.den_ne (mx a) h t))

theorem ref_v53 (h : Fin 8) (t s : Fin 8192) :
    val_main_v53 (F := Ideal) (up3 a.v) (up3 a.dy) (ix3 h t s) = ((a.dprob h t s : ℝ) : EReal) := by
  rw [val_main_v53_apply, Inputs.dprob, coe_sum]
  refine Finset.sum_congr rfl fun d _ => ?_
  rw [at3 (lidx_main_v53 (ix3 h t s) d) h t d rfl rfl rfl, at3 (ridx_main_v53 (ix3 h t s) d) h s d rfl rfl rfl, ref_v50, ref_v4]
  exact (EReal.coe_mul _ _).symm

/-! ### The scores' cotangent -/

theorem ref_v56 (h : Fin 8) (t s : Fin 8192) :
    val_main_v56 (F := Ideal) (up3 a.q) (up3 a.k) (up3 a.v) (up2 a.c) (up3 a.dy) (ix3 h t s)
      = ((a.prob (mx a) h t s * a.dprob h t s / a.den (mx a) h t : ℝ) : EReal) := by
  rw [val_main_v56_apply, val_main_v55_apply, val_main_v54_apply, ref_v53, at3 (idx_main_v54 (ix3 h t s)) h t (0 : Fin 1) rfl rfl rfl,
    ref_v47, ref_v40, Ideal.mulf_def, Ideal.mulf_def, ← EReal.coe_mul, ← EReal.coe_mul]
  congr 1
  have := a.den_ne (mx a) h t
  unfold Inputs.prob
  field_simp

theorem ref_v57 (h : Fin 8) (t : Fin 8192) :
    val_main_v57 (F := Ideal) (up3 a.q) (up3 a.k) (up3 a.v) (up2 a.c) (up3 a.dy) (ix2 h t)
      = ((a.delta (mx a) h t / a.den (mx a) h t : ℝ) : EReal) := by
  rw [val_main_v57_apply]
  have e : val_main_cst_11 (F := Ideal) (Shape.Idx.first h_S_) = 0 := Ideal.ofBits_zero_f32
  rw [e, zero_add, Inputs.delta, Finset.sum_div, coe_sum]
  refine Finset.sum_congr rfl fun s _ => ?_
  rw [at3 (idx_main_v57 (ix2 h t) s) h t s rfl rfl rfl, ref_v56]

theorem ref_v62 (h : Fin 8) (t : Fin 8192) :
    val_main_v62 (F := Ideal) (up3 a.q) (up3 a.k) (up3 a.v) (up2 a.c) (up3 a.dy) (ix2 h t)
      = ((-(a.delta (mx a) h t / a.den (mx a) h t) : ℝ) : EReal) := by
  rw [val_main_v62_apply]
  have e : val_main_cst_12 (F := Ideal) (Shape.Idx.first h_S_) = 0 := Ideal.ofBits_zero_f32
  rw [e, zero_add, Fin.sum_univ_one, val_main_v59_apply, val_main_v58_apply, at2 (idx_main_v58 (idx_main_v62 (ix2 h t) 0)) h t
    (by have := h.isLt; have := t.isLt; show ((h.val * 8192 + t.val) * 1 + 0) / 8192 = h.val; omega)
    (by have := h.isLt; have := t.isLt; show ((h.val * 8192 + t.val) * 1 + 0) % 8192 = t.val; omega), ref_v57]
  exact (EReal.coe_neg _).symm

theorem ref_v66 (h : Fin 8) (t s : Fin 8192) :
    val_main_v66 (F := Ideal) (up3 a.q) (up3 a.k) (up3 a.v) (up2 a.c) (up3 a.dy) (ix3 h t s) = ((a.dscore (mx a) h t s : ℝ) : EReal) := by
  have e0 : val_main_call1_v0 (F := Ideal) (ix3 h t s) = ((0 : ℝ) : EReal) := f32_zero
  have e1 : val_main_v65 (F := Ideal) (up3 a.q) (up3 a.k) (up3 a.v) (up2 a.c) (up3 a.dy) (ix3 h t s) = ((a.dscore (mx a) h t s : ℝ) : EReal) := by
    rw [val_main_v65_apply, val_main_v64_apply, val_main_v63_apply, at2 (idx_main_v63 (ix3 h t s)) h t rfl rfl, ref_v62, val_main_v61_apply,
      val_main_v60_apply, at3 (idx_main_v60 (ix3 h t s)) h t (0 : Fin 1) rfl rfl rfl, ref_v42, ref_v53, ref_v40, Ideal.hostDivf_def,
      div_real _ _ (a.den_ne (mx a) h t), Ideal.addf_def, Ideal.mulf_def, ← EReal.coe_add, ← EReal.coe_mul]
    congr 1
    have := a.den_ne (mx a) h t
    unfold Inputs.dscore Inputs.prob
    field_simp
    ring
  rw [val_main_v66_apply, e0, e1, ref_mask]
  by_cases hc : s ≤ t
  · simp [hc, Scalar.select]
  · simp [hc, Scalar.select, a.dscore_of_lt (mx a) (not_le.mp hc)]

/-! ### The gradients -/

theorem ref_dq (t : Fin 8192) (h : Fin 8) (d : Fin 64) :
    val_main_v82 (F := Ideal) (up3 a.q) (up3 a.k) (up3 a.v) (up2 a.c) (up3 a.dy) (ix3 t h d) = ((a.dq (mx a) t h d : ℝ) : EReal) := by
  have e : val_main_v80 (F := Ideal) (ix3 h t d) = ((1 / 8 : ℝ) : EReal) := f32_eighth
  rw [val_main_v82_apply, at3 (idx_main_v82 (ix3 t h d)) h t d rfl rfl rfl, val_main_v81_apply, e, val_main_v76_apply, Inputs.dq, EReal.coe_mul, coe_sum]
  refine congrArg (· * ((1 / 8 : ℝ) : EReal)) (Finset.sum_congr rfl fun s _ => ?_)
  rw [at3 (lidx_main_v76 (ix3 h t d) s) h t s rfl rfl rfl, at3 (ridx_main_v76 (ix3 h t d) s) h s d rfl rfl rfl, ref_v66, ref_v3]
  exact (EReal.coe_mul _ _).symm

theorem ref_dk (s : Fin 8192) (h : Fin 8) (d : Fin 64) :
    val_main_v79 (F := Ideal) (up3 a.q) (up3 a.k) (up3 a.v) (up2 a.c) (up3 a.dy) (ix3 s h d) = ((a.dk (mx a) s h d : ℝ) : EReal) := by
  rw [val_main_v79_apply, at3 (idx_main_v79 (ix3 s h d)) h s d rfl rfl rfl, val_main_v75_apply, Inputs.dk, coe_sum]
  refine Finset.sum_congr rfl fun t _ => ?_
  rw [at3 (lidx_main_v75 (ix3 h s d) t) h t s rfl rfl rfl, at3 (ridx_main_v75 (ix3 h s d) t) h t d rfl rfl rfl, ref_v66, ref_v2]
  exact (EReal.coe_mul _ _).symm

theorem ref_dv (s : Fin 8192) (h : Fin 8) (d : Fin 64) :
    val_main_v78 (F := Ideal) (up3 a.q) (up3 a.k) (up2 a.c) (up3 a.dy) (ix3 s h d) = ((a.dv (mx a) s h d : ℝ) : EReal) := by
  rw [val_main_v78_apply, val_main_v52_apply, at3 (idx_main_v52 (idx_main_v78 (ix3 s h d))) h d s rfl rfl rfl, val_main_v51_apply, Inputs.dv, coe_sum]
  refine Finset.sum_congr rfl fun t _ => ?_
  rw [at3 (lidx_main_v51 (ix3 h d s) t) h t d rfl rfl rfl, at3 (ridx_main_v51 (ix3 h d s) t) h t s rfl rfl rfl, ref_v50, ref_v44, mul_comm]
  exact (EReal.coe_mul _ _).symm

theorem ref_dc (t : Fin 8192) (h : Fin 8) :
    val_main_v77 (F := Ideal) (up3 a.q) (up3 a.k) (up3 a.v) (up2 a.c) (up3 a.dy) (ix2 t h) = ((a.dc (mx a) t h : ℝ) : EReal) := by
  have z13 : val_main_cst_13 (F := Ideal) (Shape.Idx.first h_S_) = 0 := Ideal.ofBits_zero_f32
  have z14 : val_main_cst_14 (F := Ideal) (Shape.Idx.first h_S_) = 0 := Ideal.ofBits_zero_f32
  have z15 : val_main_cst_15 (F := Ideal) (Shape.Idx.first h_S_) = 0 := Ideal.ofBits_zero_f32
  have z16 : val_main_cst_16 (F := Ideal) (Shape.Idx.first h_S_) = 0 := Ideal.ofBits_zero_f32
  have hh := h.isLt
  have ht := t.isLt
  have e1 : val_main_v68 (F := Ideal) (up3 a.q) (up3 a.k) (up3 a.v) (up2 a.c) (up3 a.dy) (ix2 h t) = ((∑ s, -a.dscore (mx a) h s t : ℝ) : EReal) := by
    rw [val_main_v68_apply, z13, zero_add, coe_sum]
    refine Finset.sum_congr rfl fun s _ => ?_
    rw [at3 (idx_main_v68 (ix2 h t) s) h s t rfl rfl rfl, val_main_v67_apply, ref_v66]
    exact (EReal.coe_neg _).symm
  have e2 : val_main_v71 (F := Ideal) (up3 a.q) (up3 a.k) (up3 a.v) (up2 a.c) (up3 a.dy) (ix2 h t) = ((∑ s, a.dscore (mx a) h t s : ℝ) : EReal) := by
    rw [val_main_v71_apply, z15, zero_add, coe_sum]
    refine Finset.sum_congr rfl fun s _ => ?_
    rw [at3 (idx_main_v71 (ix2 h t) s) h t s rfl rfl rfl, ref_v66]
  have e3 : a.dc (mx a) t h = (∑ s, -a.dscore (mx a) h s t) + ∑ s, a.dscore (mx a) h t s := by
    rw [Inputs.dc, Finset.sum_neg_distrib]
    ring
  rw [e3, val_main_v77_apply, at2 (idx_main_v77 (ix2 t h)) h t rfl rfl, val_main_v74_apply, val_main_v70_apply, z14, zero_add, Fin.sum_univ_one,
    val_main_v69_apply, at2 (idx_main_v69 (idx_main_v70 (ix2 h t) 0)) h t
      (by show ((h.val * 1 + 0) * 8192 + t.val) / 8192 = h.val; omega) (by show ((h.val * 1 + 0) * 8192 + t.val) % 8192 = t.val; omega), e1,
    val_main_v73_apply, z16, zero_add, Fin.sum_univ_one, val_main_v72_apply, at2 (idx_main_v72 (idx_main_v73 (ix2 h t) 0)) h t
      (by show ((h.val * 8192 + t.val) * 1 + 0) / 8192 = h.val; omega) (by show ((h.val * 8192 + t.val) * 1 + 0) % 8192 = t.val; omega), e2,
    Ideal.addf_def, ← EReal.coe_add]

end Cert.Flash
-- ==== Proof.FlashBwd.Host.lean ====
/- What the kernel's operands hold: the arguments packed into lanes, and the saved forward values. -/
module

public import proofs.«01_k».proof.Proof.Gen.Kernel2Ideal.Frame
public import proofs.«01_k».proof.Proof.FlashBwd.RefVal
public import Idealize.ShloMosaic.Lib.Claim
public import Idealize.ShloMosaic.Lib.StableHlo.RunRead

@[expose] public section

noncomputable section

namespace Cert.Kernel2Ideal.FlashBwd

open Cert.Kernel2Ideal Cert.Kernel2Ideal.Gen Idealize.ShloMosaic Idealize.ShloMosaic.TcCoe Idealize.ShloMosaic.Tactic
open Cert.Flash

variable {F : FTy → Type} [FloatOps F] [Named F]

/-- A lane of ones. -/
def one : FVec F S8192x8x1 .bf16 := broadcastInDim S8192x8x1 ![] bcast_S_S8192x8x1 (constant S_ .bf16 0x3F80#16)

/-- The queries, scaled; three lanes of minus ones; zeros. -/
def packQ (x0 : FVec F S8192x8x64 .f32) : FVec F S8192x8x128 .bf16 :=
  concatenate S8192x8x128 2 [⟨S8192x8x64, truncf .bf16 (mulf x0 (broadcastInDim S8192x8x64 ![] bcast_S_S8192x8x64 (constant S_ .f32 0x3E000000#32))) bitsLt_bf16_f32⟩,
    ⟨S8192x8x1, Host.negf one⟩, ⟨S8192x8x1, Host.negf one⟩, ⟨S8192x8x1, Host.negf one⟩,
    ⟨S8192x8x61, broadcastInDim S8192x8x61 ![] bcast_S_S8192x8x61 (constant S_ .bf16 0x0000#16)⟩] concatenates_S8192x8x64_S8192x8x1_S8192x8x1_S8192x8x1_S8192x8x61_S8192x8x128_d2

/-- The keys; the gates' sums in three parts, the second and third what the parts before leave over; ones; zeros. -/
def gateA (x3 : FVec F S8192x8 .f32) : FVec F S8192x8x1 .bf16 := truncf .bf16 (broadcastInDim S8192x8x1 ![0, 1] bcast_S8192x8_S8192x8x1_0_1 x3) bitsLt_bf16_f32
def gateB (x3 : FVec F S8192x8 .f32) : FVec F S8192x8x1 .bf16 :=
  truncf .bf16 (subf (broadcastInDim S8192x8x1 ![0, 1] bcast_S8192x8_S8192x8x1_0_1 x3) (extf .f32 (gateA x3) bitsLt_bf16_f32)) bitsLt_bf16_f32
def gateC (x3 : FVec F S8192x8 .f32) : FVec F S8192x8x1 .bf16 :=
  truncf .bf16 (subf (subf (broadcastInDim S8192x8x1 ![0, 1] bcast_S8192x8_S8192x8x1_0_1 x3) (extf .f32 (gateA x3) bitsLt_bf16_f32)) (extf .f32 (gateB x3) bitsLt_bf16_f32)) bitsLt_bf16_f32
def packK (x1 : FVec F S8192x8x64 .f32) (x3 : FVec F S8192x8 .f32) : FVec F S8192x8x128 .bf16 :=
  concatenate S8192x8x128 2 [⟨S8192x8x64, truncf .bf16 x1 bitsLt_bf16_f32⟩, ⟨S8192x8x1, gateA x3⟩, ⟨S8192x8x1, gateB x3⟩, ⟨S8192x8x1, gateC x3⟩, ⟨S8192x8x1, one⟩,
    ⟨S8192x8x60, broadcastInDim S8192x8x60 ![] bcast_S_S8192x8x60 (constant S_ .bf16 0x0000#16)⟩] concatenates_S8192x8x64_S8192x8x1_S8192x8x1_S8192x8x1_S8192x8x1_S8192x8x60_S8192x8x128_d2
def packV (x2 : FVec F S8192x8x64 .f32) : FVec F S8192x8x128 .bf16 :=
  concatenate S8192x8x128 2 [⟨S8192x8x64, truncf .bf16 x2 bitsLt_bf16_f32⟩, ⟨S8192x8x1, one⟩,
    ⟨S8192x8x63, broadcastInDim S8192x8x63 ![] bcast_S_S8192x8x63 (constant S_ .bf16 0x0000#16)⟩] concatenates_S8192x8x64_S8192x8x1_S8192x8x63_S8192x8x128_d2
def packD (x4 : FVec F S8192x8x64 .f32) : FVec F S8192x8x128 .bf16 :=
  concatenate S8192x8x128 2 [⟨S8192x8x64, truncf .bf16 x4 bitsLt_bf16_f32⟩,
    ⟨S8192x8x64, broadcastInDim S8192x8x64 ![] bcast_S_S8192x8x64 (constant S_ .bf16 0x0000#16)⟩] concatenates_S8192x8x64_S8192x8x64_S8192x8x128_d2

/-- Heads beside one another. -/
def flat (x : FVec F S8192x8x128 .bf16) : FVec F S8192x1024 .bf16 := shapeCast S8192x1024 x shapeCasts_S8192x8x128_S8192x1024
/-- The same, each block of 256 rows transposed. -/
def slabs (x : FVec F S8192x1024 .bf16) : FVec F S32x1024x256 .bf16 :=
  transpose S32x1024x256 [0, 2, 1] (shapeCast S32x256x1024 x shapeCasts_S8192x1024_S32x256x1024) transposes_S32x256x1024_S32x1024x256_0_2_1

/-- From the scores and the largest of each query: the logarithm of the summed exponentials, the query's own gate taken off. -/
def lseOf (X : FVec F S8x8192x8192 .f32) (N : FVec F S8x8192 .f32) (x3 : FVec F S8192x8 .f32) : FVec F S8x8192 .f32 :=
  subf (shapeCast S8x8192 (addf (broadcastInDim S8x8192x1 ![0, 1] bcast_S8x8192_S8x8192x1_0_1 N)
    (Host.log (broadcastInDim S8x8192x1 ![0, 1] bcast_S8x8192_S8x8192x1_0_1 (Host.reduceAdd (Host.exp (subf X
      (broadcastInDim S8x8192x8192 ![0, 1, 2] bcast_S8x8192x1_S8x8192x8192_0_1_2 (broadcastInDim S8x8192x1 ![0, 1] bcast_S8x8192_S8x8192x1_0_1 N))))
      (constant S_ .f32 0x00000000#32) reducesTo_S8x8192x8192_S8x8192_d2 h_S_)))) shapeCasts_S8x8192x1_S8x8192)
    (transpose S8x8192 [1, 0] x3 transposes_S8192x8_S8x8192_1_0)
/-- The output's product with its cotangent. -/
def dltOf (x4 y : FVec F S8192x8x64 .f32) : FVec F S8x8192 .f32 :=
  transpose S8x8192 [1, 0] (Host.reduceAdd (mulf x4 y) (constant S_ .f32 0x00000000#32)
    reducesTo_S8192x8x64_S8192x8_d2 h_S_) transposes_S8192x8_S8x8192_1_0
def lse (x0 x1 : FVec F S8192x8x64 .f32) (x3 : FVec F S8192x8 .f32) : FVec F S8x8192 .f32 :=
  lseOf (Cert.Reference2Ideal.Read.val_main_v19_0 x0 x1 x3) (Cert.Reference2Ideal.Read.val_main_v20 x0 x1 x3) x3
def dlt (x0 x1 x2 : FVec F S8192x8x64 .f32) (x3 : FVec F S8192x8 .f32) (x4 : FVec F S8192x8x64 .f32) : FVec F S8x8192 .f32 :=
  dltOf x4 (Cert.Reference2Ideal.Read.val_main_v49 x0 x1 x2 x3)
/-- Two rows a head pair, and six of padding. -/
def lines (x : FVec F S8x8192 .f32) : FVec F S4x8x8192 .f32 :=
  pad S4x8x8192 ![0, 0, 0] ![0, 6, 0] ![0, 0, 0] (shapeCast S4x2x8192 x shapeCasts_S8x8192_S4x2x8192) (sitofp .f32 (constantI S_ 32 0#32)) pads_S4x2x8192_S4x8x8192_000_060_000 h_S_

variable (m : (ℓ : Loc nD τ sig) → Buf (Elt F) ℓ) (c : Dev nD)

abbrev X0 : FVec F S8192x8x64 .f32 := m ((c : Thread nD τ).loc main_arg0)
abbrev X1 : FVec F S8192x8x64 .f32 := m ((c : Thread nD τ).loc main_arg1)
abbrev X2 : FVec F S8192x8x64 .f32 := m ((c : Thread nD τ).loc main_arg2)
abbrev X3 : FVec F S8192x8 .f32 := m ((c : Thread nD τ).loc main_arg3)
abbrev X4 : FVec F S8192x8x64 .f32 := m ((c : Thread nD τ).loc main_arg4)

theorem V_main_v67 : V m c main_v67 = flat (packQ (X0 m c)) := by
  unfold_abbrev_sides
  simp only [List.flatten_cons, List.flatten_nil, List.append_nil, List.cons_append, List.nil_append]
  after_reads_simp
  rfl
theorem V_main_v81 : V m c main_v81 = slabs (flat (packQ (X0 m c))) := by
  unfold_abbrev_sides
  simp only [List.flatten_cons, List.flatten_nil, List.append_nil, List.cons_append, List.nil_append]
  after_reads_simp
  rfl
theorem V_main_v71 : V m c main_v71 = flat (packK (X1 m c) (X3 m c)) := by
  unfold_abbrev_sides
  simp only [List.flatten_cons, List.flatten_nil, List.append_nil, List.cons_append, List.nil_append]
  after_reads_simp
  rfl
theorem V_main_v75 : V m c main_v75 = flat (packV (X2 m c)) := by
  unfold_abbrev_sides
  simp only [List.flatten_cons, List.flatten_nil, List.append_nil, List.cons_append, List.nil_append]
  after_reads_simp
  rfl
theorem V_main_v79 : V m c main_v79 = flat (packD (X4 m c)) := by
  unfold_abbrev_sides
  simp only [List.flatten_cons, List.flatten_nil, List.append_nil, List.cons_append, List.nil_append]
  after_reads_simp
  rfl
theorem V_main_v83 : V m c main_v83 = slabs (flat (packD (X4 m c))) := by
  unfold_abbrev_sides
  simp only [List.flatten_cons, List.flatten_nil, List.append_nil, List.cons_append, List.nil_append]
  after_reads_simp
  rfl
set_option maxHeartbeats 1000000 in
theorem V_main_v85 : V m c main_v85 = lines (lse (X0 m c) (X1 m c) (X3 m c)) := by
  unfold_abbrev_sides
  simp only [List.flatten_cons, List.flatten_nil, List.append_nil, List.cons_append, List.nil_append]
  after_reads_simp
  rfl
set_option maxHeartbeats 1000000 in
theorem V_main_v87 : V m c main_v87 = lines (dlt (X0 m c) (X1 m c) (X2 m c) (X3 m c) (X4 m c)) := by
  unfold_abbrev_sides
  simp only [List.flatten_cons, List.flatten_nil, List.append_nil, List.cons_append, List.nil_append]
  after_reads_simp
  rfl

end Cert.Kernel2Ideal.FlashBwd
-- ==== Proof.FlashBwd.HostVal.lean ====
/- The kernel's operands at real arguments, element by element. -/
module

public import proofs.«01_k».proof.Proof.FlashBwd.Host

@[expose] public section

noncomputable section

namespace Cert.Kernel2Ideal.FlashBwd

open Cert.Kernel2Ideal Cert.Kernel2Ideal.Gen Idealize.ShloMosaic Idealize.ShloMosaic.TcCoe
open Cert.Flash

/-- Lane `l` of head `h`, among all 1024. -/
def col (h : Fin 8) (l : Fin 128) : Fin 1024 := ⟨h.val * 128 + l.val, by have := h.isLt; have := l.isLt; omega⟩
/-- Head `j` of pair `hp`. -/
def head (hp : Fin 4) (j : Fin 2) : Fin 8 := ⟨2 * hp.val + j.val, by have := hp.isLt; have := j.isLt; omega⟩

variable {F : FTy → Type} [FloatOps F] [Named F]

theorem flat_apply (x : FVec F S8192x8x128 .bf16) (t : Fin 8192) (h : Fin 8) (l : Fin 128) : flat x (ix2 t (col h l)) = x (ix3 t h l) := by
  have := h.isLt; have := l.isLt
  unfold flat col
  pointwise []
theorem slabs_apply (x : FVec F S8192x1024 .bf16) (b : Fin 32) (n : Fin 1024) (r : Fin 256) (t : Fin 8192) (ht : t.val = b.val * 256 + r.val) :
    slabs x (ix3 b n r) = x (ix2 t n) := by
  unfold slabs
  pointwise []
  exact congrArg (fun t => x (ix2 t n)) (Fin.ext ht.symm)
theorem lines_apply (x : FVec F S8x8192 .f32) (hp : Fin 4) (j : Fin 2) (u : Fin 8) (hu : u.val = j.val) (t : Fin 8192) :
    lines x (ix3 hp u t) = x (ix2 (head hp j) t) := by
  unfold lines
  pointwise []
  rw [dif_pos (by have := j.isLt; omega)]
  exact congrArg (fun h => x (ix2 h t)) (Fin.ext (by show hp.val * 2 + u.val = 2 * hp.val + j.val; omega))

variable (a : Inputs)

theorem packQ_apply (t : Fin 8192) (h : Fin 8) (l : Fin 128) : packQ (F := Ideal) (up3 a.q) (ix3 t h l) = ((a.pq t h l : ℝ) : EReal) := by
  have hl := l.isLt
  unfold Inputs.pq
  pointwise [packQ, one]
  by_cases h1 : l.val < 64
  · rw [dif_pos h1, dif_pos h1, EReal.coe_mul, f32_eighth]
    rfl
  · rw [dif_neg h1, dif_neg h1]
    split_ifs <;> first | (exfalso; omega) | rfl
theorem packK_apply (t : Fin 8192) (h : Fin 8) (l : Fin 128) : packK (F := Ideal) (up3 a.k) (up2 a.c) (ix3 t h l) = ((a.pk t h l : ℝ) : EReal) := by
  have hs : ((a.c t h : ℝ) : EReal) - ((a.c t h : ℝ) : EReal) = ((0 : ℝ) : EReal) := by rw [← EReal.coe_sub, sub_self]
  have hs' : ((0 : ℝ) : EReal) - ((0 : ℝ) : EReal) = ((0 : ℝ) : EReal) := by rw [← EReal.coe_sub, sub_self]
  unfold Inputs.pk
  pointwise [packK, gateA, gateB, gateC, one]
  simp only [up2_apply, up3_apply, hs, hs']
  split_ifs <;> first | (exfalso; omega) | rfl
theorem packV_apply (t : Fin 8192) (h : Fin 8) (l : Fin 128) : packV (F := Ideal) (up3 a.v) (ix3 t h l) = ((a.pv t h l : ℝ) : EReal) := by
  unfold Inputs.pv
  pointwise [packV, one]
  simp only [up3_apply]
  split_ifs <;> first | (exfalso; omega) | rfl
theorem packD_apply (t : Fin 8192) (h : Fin 8) (l : Fin 128) : packD (F := Ideal) (up3 a.dy) (ix3 t h l) = ((a.pd t h l : ℝ) : EReal) := by
  unfold Inputs.pd
  pointwise [packD]
  simp only [up3_apply]
  split_ifs <;> first | (exfalso; omega) | rfl

theorem lseOf_apply (X : FVec Ideal S8x8192x8192 .f32) (N : FVec Ideal S8x8192 .f32) (x3 : FVec Ideal S8192x8 .f32) (h : Fin 8) (t : Fin 8192) :
    lseOf X N x3 (ix2 h t) = N (ix2 h t) + Ideal.log (∑ s : Fin 8192, Ideal.exp (X (ix3 h t s) - N (ix2 h t))) - x3 (ix2 t h) := by
  pointwise [lseOf]

theorem dltOf_apply (x4 y : FVec Ideal S8192x8x64 .f32) (h : Fin 8) (t : Fin 8192) :
    dltOf x4 y (ix2 h t) = ∑ d : Fin 64, x4 (ix3 t h d) * y (ix3 t h d) := by
  pointwise [dltOf]

theorem lse_apply (h : Fin 8) (t : Fin 8192) :
    lse (F := Ideal) (up3 a.q) (up3 a.k) (up2 a.c) (ix2 h t) = ((mx a h t + Real.log (a.den (mx a) h t) - a.c t h : ℝ) : EReal) := by
  have e : (∑ s : Fin 8192, Ideal.exp (Cert.Reference2Ideal.Read.val_main_v19_0 (F := Ideal) (up3 a.q) (up3 a.k) (up2 a.c) (ix3 h t s)
      - Cert.Reference2Ideal.Read.val_main_v20 (F := Ideal) (up3 a.q) (up3 a.k) (up2 a.c) (ix2 h t))) = ((a.den (mx a) h t : ℝ) : EReal) := by
    rw [Inputs.den, coe_sum]
    refine Finset.sum_congr rfl fun s _ => ?_
    rw [mx_eq, ref_v19]
    exact exp_masked a (mx a) h t s
  rw [lse, lseOf_apply, e, mx_eq, Ideal.log_coe, if_neg (not_le.mpr (a.den_pos (mx a) h t)), up2_apply, ← EReal.coe_add, ← EReal.coe_sub]

/-- The attention's output. -/
theorem ref_v49 (t : Fin 8192) (h : Fin 8) (d : Fin 64) :
    Cert.Reference2Ideal.Read.val_main_v49 (F := Ideal) (up3 a.q) (up3 a.k) (up3 a.v) (up2 a.c) (ix3 t h d)
      = ((∑ s, a.prob (mx a) h t s * a.v s h d : ℝ) : EReal) := by
  rw [Cert.Reference2Ideal.Read.val_main_v49_apply, at3 (Cert.Reference2Ideal.Read.idx_main_v49 (ix3 t h d)) h t d rfl rfl rfl,
    Cert.Reference2Ideal.Read.val_main_v48_apply, coe_sum]
  refine Finset.sum_congr rfl fun s _ => ?_
  rw [at3 (Cert.Reference2Ideal.Read.lidx_main_v48 (ix3 h t d) s) h t s rfl rfl rfl,
    at3 (Cert.Reference2Ideal.Read.ridx_main_v48 (ix3 h t d) s) h s d rfl rfl rfl, ref_v44, ref_v4]
  exact (EReal.coe_mul _ _).symm

theorem dlt_apply (h : Fin 8) (t : Fin 8192) :
    dlt (F := Ideal) (up3 a.q) (up3 a.k) (up3 a.v) (up2 a.c) (up3 a.dy) (ix2 h t) = ((a.delta (mx a) h t : ℝ) : EReal) := by
  have e : a.delta (mx a) h t = ∑ d : Fin 64, a.dy t h d * ∑ s, a.prob (mx a) h t s * a.v s h d := by
    simp only [Inputs.delta, Inputs.dprob, Finset.mul_sum]
    rw [Finset.sum_comm]
    exact Finset.sum_congr rfl fun d _ => Finset.sum_congr rfl fun s _ => by ring
  rw [dlt, dltOf_apply, e, coe_sum]
  refine Finset.sum_congr rfl fun d _ => ?_
  rw [ref_v49, up3_apply]
  exact (EReal.coe_mul _ _).symm

end Cert.Kernel2Ideal.FlashBwd
-- ==== Proof.FlashBwd.Arrays.lean ====
/- From blocks to arrays: what the windows of the attention backward read, and what its three result arrays hold, over the reals. -/
module

public import proofs.«01_k».proof.Proof.FlashBwd.Run
public import proofs.«01_k».proof.Proof.FlashBwd.Steps
public import proofs.«01_k».proof.Proof.FlashBwd.HostVal

@[expose] public section

set_option maxRecDepth 16384

noncomputable section

namespace Cert.Kernel2Ideal.FlashBwd

open Cert.Kernel2Ideal Cert.Kernel2Ideal.Gen Idealize.ShloMosaic Idealize.ShloMosaic.TcCoe Idealize.SL.Sem
open Idealize.ShloMosaic.Pipeline (Dat)
open Cert.Flash Cert.Flash.Inputs

theorem idxQ : ∀ t : Fin cfg0.N, (win0_0.index t 0 = 0 ∧ win0_0.index t 1 = t.val / 32) ∧ (win0_4.index t 0 = 0 ∧ win0_4.index t 1 = t.val / 32)
    ∧ (win0_1.index t 0 = 0 ∧ win0_1.index t 1 = t.val / 32 ∧ win0_1.index t 2 = 0)
    ∧ (win0_5.index t 0 = 0 ∧ win0_5.index t 1 = t.val / 32 ∧ win0_5.index t 2 = 0)
    ∧ (win0_6.index t 0 = t.val / 32 ∧ win0_6.index t 1 = 0 ∧ win0_6.index t 2 = 0)
    ∧ (win0_7.index t 0 = t.val / 32 ∧ win0_7.index t 1 = 0 ∧ win0_7.index t 2 = 0)
    ∧ (win0_8.index t 0 = 0 ∧ win0_8.index t 1 = t.val / 32 ∧ win0_8.index t 2 = 0) := by decide +kernel
theorem idxK : ∀ t : Fin cfg0.N, (win0_2.index t 0 = t.val % 32 ∧ win0_2.index t 1 = t.val / 32)
    ∧ (win0_3.index t 0 = t.val % 32 ∧ win0_3.index t 1 = t.val / 32) ∧ (win0_9.index t 0 = t.val % 32 ∧ win0_9.index t 1 = t.val / 32)
    ∧ (win0_10.index t 0 = t.val % 32 ∧ win0_10.index t 1 = t.val / 32) := by decide +kernel

/-- The head pair of a point. -/
def hpOf (t : Fin cfg0.N) : Fin 4 := ⟨t.val / 32, by have := t.isLt; have : cfg0.N = 128 := N_0; omega⟩

section
variable {F : FTy → Type} [FloatOps F] [Named F]
variable (m : (ℓ : Loc nD τ sig) → Buf (Elt F) ℓ) (c : Dev nD) (t : Fin cfg0.N)

theorem blk_q (n : Fin 8192) (j : Fin 2) (l : Fin 128) :
    (oOf m c t).q (ix2 n (up j l)) = (V m c main_v67 : FVec F S8192x1024 .bf16) (ix2 n (col (head (hpOf t) j) l)) :=
  congrArg (V m c main_v67 : FVec F S8192x1024 .bf16) (ix2_of _ _ _
    (by show win0_0.index t 0 * 8192 + 1 * n.val = n.val; rw [(idxQ t).1.1]; omega)
    (by show win0_0.index t 1 * 256 + 1 * (128 * j.val + l.val) = (2 * (t.val / 32) + j.val) * 128 + l.val; rw [(idxQ t).1.2]; omega))
theorem blk_d (n : Fin 8192) (j : Fin 2) (l : Fin 128) :
    (oOf m c t).do' (ix2 n (up j l)) = (V m c main_v79 : FVec F S8192x1024 .bf16) (ix2 n (col (head (hpOf t) j) l)) :=
  congrArg (V m c main_v79 : FVec F S8192x1024 .bf16) (ix2_of _ _ _
    (by show win0_4.index t 0 * 8192 + 1 * n.val = n.val; rw [(idxQ t).2.1.1]; omega)
    (by show win0_4.index t 1 * 256 + 1 * (128 * j.val + l.val) = (2 * (t.val / 32) + j.val) * 128 + l.val; rw [(idxQ t).2.1.2]; omega))
theorem blk_qt (b : Fin 32) (j : Fin 2) (l : Fin 128) (r : Fin 256) :
    (oOf m c t).qt (ix3 b (up j l) r) = (V m c main_v81 : FVec F S32x1024x256 .bf16) (ix3 b (col (head (hpOf t) j) l) r) :=
  congrArg (V m c main_v81 : FVec F S32x1024x256 .bf16) (ix3_of _ _ _ _
    (by show win0_1.index t 0 * 32 + 1 * b.val = b.val; rw [(idxQ t).2.2.1.1]; omega)
    (by show win0_1.index t 1 * 256 + 1 * (128 * j.val + l.val) = (2 * (t.val / 32) + j.val) * 128 + l.val; rw [(idxQ t).2.2.1.2.1]; omega)
    (by show win0_1.index t 2 * 256 + 1 * r.val = r.val; rw [(idxQ t).2.2.1.2.2]; omega))
theorem blk_dt (b : Fin 32) (j : Fin 2) (l : Fin 128) (r : Fin 256) :
    (oOf m c t).dot (ix3 b (up j l) r) = (V m c main_v83 : FVec F S32x1024x256 .bf16) (ix3 b (col (head (hpOf t) j) l) r) :=
  congrArg (V m c main_v83 : FVec F S32x1024x256 .bf16) (ix3_of _ _ _ _
    (by show win0_5.index t 0 * 32 + 1 * b.val = b.val; rw [(idxQ t).2.2.2.1.1]; omega)
    (by show win0_5.index t 1 * 256 + 1 * (128 * j.val + l.val) = (2 * (t.val / 32) + j.val) * 128 + l.val; rw [(idxQ t).2.2.2.1.2.1]; omega)
    (by show win0_5.index t 2 * 256 + 1 * r.val = r.val; rw [(idxQ t).2.2.2.1.2.2]; omega))
theorem blk_l (u : Fin 8) (n : Fin 8192) :
    (oOf m c t).l (ix3 0 u n) = (V m c main_v85 : FVec F S4x8x8192 .f32) (ix3 (hpOf t) u n) :=
  congrArg (V m c main_v85 : FVec F S4x8x8192 .f32) (ix3_of _ _ _ _
    (by show win0_6.index t 0 * 1 + 1 * 0 = t.val / 32; rw [(idxQ t).2.2.2.2.1.1]; omega)
    (by show win0_6.index t 1 * 8 + 1 * u.val = u.val; rw [(idxQ t).2.2.2.2.1.2.1]; omega)
    (by show win0_6.index t 2 * 8192 + 1 * n.val = n.val; rw [(idxQ t).2.2.2.2.1.2.2]; omega))
theorem blk_dlt (u : Fin 8) (n : Fin 8192) :
    (oOf m c t).d (ix3 0 u n) = (V m c main_v87 : FVec F S4x8x8192 .f32) (ix3 (hpOf t) u n) :=
  congrArg (V m c main_v87 : FVec F S4x8x8192 .f32) (ix3_of _ _ _ _
    (by show win0_7.index t 0 * 1 + 1 * 0 = t.val / 32; rw [(idxQ t).2.2.2.2.2.1.1]; omega)
    (by show win0_7.index t 1 * 8 + 1 * u.val = u.val; rw [(idxQ t).2.2.2.2.2.1.2.1]; omega)
    (by show win0_7.index t 2 * 8192 + 1 * n.val = n.val; rw [(idxQ t).2.2.2.2.2.1.2.2]; omega))
theorem blk_k (r : Fin 256) (j : Fin 2) (l : Fin 128) :
    (oOf m c t).k (ix2 r (up j l)) = (V m c main_v71 : FVec F S8192x1024 .bf16) (ix2 (row (t.val % 32) r) (col (head (hpOf t) j) l)) :=
  congrArg (V m c main_v71 : FVec F S8192x1024 .bf16) (ix2_of _ _ _
    (by show win0_2.index t 0 * 256 + 1 * r.val = (t.val % 32 * 256 + r.val) % 8192; rw [(idxK t).1.1]; have := r.isLt; omega)
    (by show win0_2.index t 1 * 256 + 1 * (128 * j.val + l.val) = (2 * (t.val / 32) + j.val) * 128 + l.val; rw [(idxK t).1.2]; omega))
theorem blk_v (r : Fin 256) (j : Fin 2) (l : Fin 128) :
    (oOf m c t).v (ix2 r (up j l)) = (V m c main_v75 : FVec F S8192x1024 .bf16) (ix2 (row (t.val % 32) r) (col (head (hpOf t) j) l)) :=
  congrArg (V m c main_v75 : FVec F S8192x1024 .bf16) (ix2_of _ _ _
    (by show win0_3.index t 0 * 256 + 1 * r.val = (t.val % 32 * 256 + r.val) % 8192; rw [(idxK t).2.1.1]; have := r.isLt; omega)
    (by show win0_3.index t 1 * 256 + 1 * (128 * j.val + l.val) = (2 * (t.val / 32) + j.val) * 128 + l.val; rw [(idxK t).2.1.2]; omega))
end

variable (m : (ℓ : Loc nD τ sig) → Buf (Elt Ideal) ℓ) (c : Dev nD) (a : Inputs)

/-- The arguments are real numbers: those of `a`. -/
structure Args : Prop where
  q : X0 m c = up3 a.q
  k : X1 m c = up3 a.k
  v : X2 m c = up3 a.v
  gate : X3 m c = up2 a.c
  dy : X4 m c = up3 a.dy

variable {m c a} (A : Args m c a)
include A

theorem holds (t : Fin cfg0.N) : Holds a (mx a) (head (hpOf t)) (t.val % 32) (oOf m c t) where
  q n j l := by rw [blk_q, V_main_v67, flat_apply, A.q, packQ_apply]
  qt b j l r := by
    have hb := b.isLt
    have hr := r.isLt
    rw [blk_qt, V_main_v81, slabs_apply _ _ _ _ (row b.val r) (Nat.mod_eq_of_lt (by omega)), flat_apply, A.q, packQ_apply]
  k r j l := by rw [blk_k, V_main_v71, flat_apply, A.k, A.gate, packK_apply]
  v r j l := by rw [blk_v, V_main_v75, flat_apply, A.v, packV_apply]
  d n j l := by rw [blk_d, V_main_v79, flat_apply, A.dy, packD_apply]
  dt b j l r := by
    have hb := b.isLt
    have hr := r.isLt
    rw [blk_dt, V_main_v83, slabs_apply _ _ _ _ (row b.val r) (Nat.mod_eq_of_lt (by omega)), flat_apply, A.dy, packD_apply]
  lse j u n hu := by rw [blk_l, V_main_v85, lines_apply _ _ j _ hu, A.q, A.k, A.gate, lse_apply]
  dlt j u n hu := by rw [blk_dlt, V_main_v87, lines_apply _ _ j _ hu, A.q, A.k, A.v, A.gate, A.dy, dlt_apply]

end Cert.Kernel2Ideal.FlashBwd

end
-- ==== Proof.FlashBwd.Finite.lean ====
/- The precondition, read: every argument of the attention backward is an array of real numbers. -/
module

public import proofs.«01_k».proof.Defs
public import proofs.«01_k».proof.Proof.FlashBwd.Arrays
public import Idealize.ShloMosaic.Lib.ReduceAll

@[expose] public section

set_option maxRecDepth 16384

noncomputable section

namespace Cert.Pre_finite

open Idealize.ShloMosaic

theorem facts : Facts := ⟨by decide, by decide, by decide, by decide, by decide⟩

theorem f32_top : Ideal.ofBits .f32 0x7F800000#32 = ⊤ := by simp [Ideal.ofBits, Ideal.ieee]

/-- What is below infinity in absolute value is real. -/
theorem real_of_lt (x y : EReal) (hy : y = ⊤) (h : Ideal.cmp .olt (max x (-x)) y = 1#1) : x = ((x.toReal : ℝ) : EReal) := by
  subst hy
  have h' : max x (-x) < ⊤ := by
    by_contra hn
    have e : Ideal.cmp .olt (max x (-x)) ⊤ = 0#1 := by simp [Ideal.cmp, hn]
    rw [e] at h
    exact absurd h (by decide)
  refine (EReal.coe_toReal ?_ ?_).symm
  · rintro rfl; simp at h'
  · rintro rfl; simp at h'

variable [Facts]
open Facts

theorem real3 (x : FVec Ideal S8192x8x64 .f32) (j : S_.Idx)
    (h : Host.reduce IntOp.andi (cmpf .olt (Host.absf x) (broadcastInDim S8192x8x64 ![] bcast_S_S8192x8x64 (constant S_ .f32 0x7F800000#32)))
      (constantI S_ 1 1#1) reducesTo_S8192x8x64_S_d0_1_2 h_S_ j = 1#1) (i : S8192x8x64.Idx) : x i = (((x i).toReal : ℝ) : EReal) :=
  real_of_lt _ _ f32_top (Host.reduce_andi_all _ _ _ _ j h i)

theorem real2 (x : FVec Ideal S8192x8 .f32) (j : S_.Idx)
    (h : Host.reduce IntOp.andi (cmpf .olt (Host.absf x) (broadcastInDim S8192x8 ![] bcast_S_S8192x8 (constant S_ .f32 0x7F800000#32)))
      (constantI S_ 1 1#1) reducesTo_S8192x8_S_d0_1 h_S_ j = 1#1) (i : S8192x8.Idx) : x i = (((x i).toReal : ℝ) : EReal) :=
  real_of_lt _ _ f32_top (Host.reduce_andi_all _ _ _ _ j h i)

theorem and_one {a b : BitVec 1} (h : IntOp.andi a b = 1#1) : a = 1#1 ∧ b = 1#1 := by
  revert a b; decide

theorem all_real (x0 x1 x2 : FVec Ideal S8192x8x64 .f32) (x3 : FVec Ideal S8192x8 .f32) (x4 : FVec Ideal S8192x8x64 .f32) (j : S_.Idx)
    (h : fn (F := Ideal) x0 x1 x2 x3 x4 j = 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ ∀ i, x4 i = (((x4 i).toReal : ℝ) : EReal) := by
  dsimp only [fn, fn_part1] at h
  obtain ⟨h, h4⟩ := and_one h
  obtain ⟨h, h3⟩ := and_one h
  obtain ⟨h, h2⟩ := and_one h
  obtain ⟨h0, h1⟩ := and_one h
  exact ⟨real3 x0 j h0, real3 x1 j h1, real3 x2 j h2, real2 x3 j h3, real3 x4 j h4⟩

end Cert.Pre_finite

namespace Cert.Kernel2Ideal.FlashBwd

open Cert.Kernel2Ideal Cert.Kernel2Ideal.Gen Idealize.ShloMosaic Idealize.ShloMosaic.TcCoe Idealize.SL.Sem
open Cert.Flash

/-- The real numbers the arguments are. -/
def inputs (m : (ℓ : Loc nD τ sig) → Buf (Elt Ideal) ℓ) (c : Dev nD) : Inputs where
  q t h d := EReal.toReal (X0 m c (ix3 t h d))
  k t h d := EReal.toReal (X1 m c (ix3 t h d))
  v t h d := EReal.toReal (X2 m c (ix3 t h d))
  c t h := EReal.toReal (X3 m c (ix2 t h))
  dy t h d := EReal.toReal (X4 m c (ix3 t h d))

theorem args_of_finite (m : (ℓ : Loc nD τ sig) → Buf (Elt Ideal) ℓ) (h : Cert.Pre_Kernel2Ideal_finite (hPre_finite := Cert.Pre_finite.facts) m) (c : Dev nD) :
    Args m c (inputs m c) := by
  letI := Cert.Pre_finite.facts
  obtain ⟨h0, h1, h2, h3, h4⟩ := Cert.Pre_finite.all_real (X0 m c) (X1 m c) (X2 m c) (X3 m c) (X4 m c) (fun a => a.elim0) (congrFun (h c) _)
  exact ⟨funext fun i => by idx_vars i; exact h0 _, funext fun i => by idx_vars i; exact h1 _, funext fun i => by idx_vars i; exact h2 _,
    funext fun i => by idx_vars i; exact h3 _, funext fun i => by idx_vars i; exact h4 _⟩

end Cert.Kernel2Ideal.FlashBwd

end
-- ==== Proof.TailBwd.Finite.lean ====
/- The precondition of the tail's backward call, read: every argument is an array of real numbers. -/
module

public import proofs.«01_k».proof.Defs
public import proofs.«01_k».proof.Proof.TailBwd.Arrays
public import proofs.«01_k».proof.Proof.FlashBwd.Finite

@[expose] public section

set_option maxRecDepth 16384

noncomputable section

namespace Cert.Pre_finite3

open Idealize.ShloMosaic
open Cert.Pre_finite (real_of_lt f32_top)

theorem facts : Facts := ⟨by decide, by decide, by decide, by decide, by decide, by decide, by decide, by decide, by decide, by decide,
  by decide, by decide, by decide, by decide, by decide⟩

/-- An array below infinity in absolute value everywhere is real everywhere. -/
theorem reals {s : Shape} {axes : List (Fin s.rank)} (hb : S_.BroadcastsInDim s ![]) (hr : s.ReducesTo axes S_) (hs : 0 < S_.numel) (x : FVec Ideal s .f32) (j : S_.Idx)
    (h : Host.reduce IntOp.andi (cmpf .olt (Host.absf x) (broadcastInDim s ![] hb (constant S_ .f32 0x7F800000#32)))
      (constantI S_ 1 1#1) hr hs j = 1#1) (i : s.Idx) : x i = (((x i).toReal : ℝ) : EReal) :=
  real_of_lt _ _ f32_top (Host.reduce_andi_all _ _ _ _ j h i)

theorem and_one {p q : BitVec 1} (h : IntOp.andi p q = 1#1) : p = 1#1 ∧ q = 1#1 := by
  revert p q; decide

variable [Facts]
open Facts

theorem all_real (x0 : FVec Ideal S8192x1024 .f32) (x1 : FVec Ideal S8192x512 .f32) (x2 : FVec Ideal S8192x512 .f32) (x3 : FVec Ideal S1x512 .f32) (x4 : FVec Ideal S1024x1024 .f32) (x5 : FVec Ideal S1x1024 .f32) (x6 : FVec Ideal S1x1024 .f32) (x7 : FVec Ideal S1024x4096 .f32) (x8 : FVec Ideal S4096x1024 .f32) (x9 : FVec Ideal S1x1024 .f32) (x10 : FVec Ideal S8192x1024 .f32) (j : S_.Idx)
    (h : fn (F := Ideal) x0 x1 x2 x3 x4 x5 x6 x7 x8 x9 x10 j = 1#1) :
    (∀ i, x0 i = (((x0 i).toReal : ℝ) : EReal))
      ∧ (∀ i, x1 i = (((x1 i).toReal : ℝ) : EReal))
      ∧ (∀ i, x2 i = (((x2 i).toReal : ℝ) : EReal))
      ∧ (∀ i, x3 i = (((x3 i).toReal : ℝ) : EReal))
      ∧ (∀ i, x4 i = (((x4 i).toReal : ℝ) : EReal))
      ∧ (∀ i, x5 i = (((x5 i).toReal : ℝ) : EReal))
      ∧ (∀ i, x6 i = (((x6 i).toReal : ℝ) : EReal))
      ∧ (∀ i, x7 i = (((x7 i).toReal : ℝ) : EReal))
      ∧ (∀ i, x8 i = (((x8 i).toReal : ℝ) : EReal))
      ∧ (∀ i, x9 i = (((x9 i).toReal : ℝ) : EReal))
      ∧ (∀ i, x10 i = (((x10 i).toReal : ℝ) : EReal)) := by
  dsimp only [fn, fn_part1, fn_part2, fn_part3] at h
  obtain ⟨h, h10⟩ := and_one h
  obtain ⟨h, h9⟩ := and_one h
  obtain ⟨h, h8⟩ := and_one h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h, h1⟩ := and_one h
  exact ⟨reals _ _ _ x0 j h, reals _ _ _ x1 j h1, reals _ _ _ x2 j h2, reals _ _ _ x3 j h3, reals _ _ _ x4 j h4, reals _ _ _ x5 j h5, reals _ _ _ x6 j h6, reals _ _ _ x7 j h7, reals _ _ _ x8 j h8, reals _ _ _ x9 j h9, reals _ _ _ x10 j h10⟩

end Cert.Pre_finite3

namespace Cert.Kernel3Ideal.TailBwd

open Cert.Kernel3Ideal Cert.Kernel3Ideal.Gen Idealize.ShloMosaic Idealize.ShloMosaic.TcCoe Idealize.SL.Sem
open Cert.Tail

/-- The real numbers the arguments are. -/
def inputs (m : (ℓ : Loc nD τ sig) → Buf (Elt Ideal) ℓ) (c : Dev nD) : Inputs where
  x t l := EReal.toReal (X0 m c (ix2 t l))
  ya t l := EReal.toReal (X1 m c (ix2 t l))
  ys t l := EReal.toReal (X2 m c (ix2 t l))
  ga t l := EReal.toReal (X3 m c (ix2 t l))
  wo t l := EReal.toReal (X4 m c (ix2 t l))
  gpm t l := EReal.toReal (X5 m c (ix2 t l))
  gpf t l := EReal.toReal (X6 m c (ix2 t l))
  w1 t l := EReal.toReal (X7 m c (ix2 t l))
  w2 t l := EReal.toReal (X8 m c (ix2 t l))
  gff t l := EReal.toReal (X9 m c (ix2 t l))
  dh t l := EReal.toReal (X10 m c (ix2 t l))

theorem args_of_finite (m : (ℓ : Loc nD τ sig) → Buf (Elt Ideal) ℓ) (h : Cert.Pre_Kernel3Ideal_finite3 (hPre_finite3 := Cert.Pre_finite3.facts) m) (c : Dev nD) :
    Args m c (inputs m c) := by
  letI := Cert.Pre_finite3.facts
  obtain ⟨h0, h1, h2, h3, h4, h5, h6, h7, h8, h9, h10⟩ := Cert.Pre_finite3.all_real (X0 m c) (X1 m c) (X2 m c) (X3 m c) (X4 m c) (X5 m c) (X6 m c) (X7 m c) (X8 m c) (X9 m c) (X10 m c)
    (fun a => a.elim0) (congrFun (h c) _)
  exact ⟨ext2 fun _ _ => h0 _, ext2 fun _ _ => h1 _, ext2 fun _ _ => h2 _, ext2 fun _ _ => h3 _, ext2 fun _ _ => h4 _, ext2 fun _ _ => h5 _, ext2 fun _ _ => h6 _, ext2 fun _ _ => h7 _, ext2 fun _ _ => h8 _, ext2 fun _ _ => h9 _, ext2 fun _ _ => h10 _⟩

end Cert.Kernel3Ideal.TailBwd

end
-- ==== Proof.TailFwd.Vals.lean ====
/- What the tail's first forward call computes of one block of 256 rows: the block values as functions of the rows' inputs
   and of the weights that stay in VMEM, spelt by the kernel's own operations. -/
module

public import proofs.«01_k».proof.Proof.Gen.Kernel4Ideal.Frame.Runs
public import Idealize.ShloMosaic.Lib.Pointwise
public import Idealize.ShloMosaic.Lib.WritesUnit

@[expose] public section

set_option maxRecDepth 16384

noncomputable section

namespace Cert.Kernel4Ideal.TailFwd

open Cert.Kernel4Ideal Cert.Kernel4Ideal.Gen Idealize.ShloMosaic Idealize.ShloMosaic.TcCoe Idealize.SL.Sem

variable {F : FTy → Type} [FloatOps F]

/-- The five operands that stay resident: the gain of the attention's norm, the attention's output weight, the gains of the
    norms after it and before the feed-forward, and the first feed-forward weight in four slabs. -/
structure Wts (F : FTy → Type) where
  ga : Vec F S1x512 .f32
  wo : Vec F S1024x1024 .bf16
  gpm : Vec F S1x1024 .f32
  gpf : Vec F S1x1024 .f32
  w1 : Vec F S4x1024x1024 .bf16

/-- One grid point's input blocks: the residual stream, the attention's output and the signals'. -/
structure Blk (F : FTy → Type) where
  x : Vec F S256x1024 .f32
  ya : Vec F S256x512 .f32
  ys : Vec F S256x512 .bf16

/-! ## Blocks stored by columns -/

/-- Two blocks of 512 columns side by side. -/
def cols2 (p : Fin 2 → Vec F S256x512 .bf16) : Vec F S256x1024 .bf16 := fun y =>
  p ⟨(y 1).val / 512, by have : (y 1).val < 1024 := (y 1).isLt; omega⟩ (ix2 (y 0) ⟨(y 1).val % 512, Nat.mod_lt _ (by omega)⟩)
/-- Four blocks of 1024 columns side by side. -/
def cols4 (p : Fin 4 → Vec F S256x1024 .bf16) : Vec F S256x4096 .bf16 := fun y =>
  p ⟨(y 1).val / 1024, by have : (y 1).val < 4096 := (y 1).isLt; omega⟩ (ix2 (y 0) ⟨(y 1).val % 1024, Nat.mod_lt _ (by omega)⟩)

theorem cols2_at (p : Fin 2 → Vec F S256x512 .bf16) (k : Fin 2) (y : S256x1024.Idx) (l : Fin 512) (h : (y 1).val = 512 * k.val + l.val) :
    cols2 p y = p k (ix2 (y 0) l) := by
  have hl := l.isLt
  exact congrArg₂ (fun k l => p k (ix2 (y 0) l)) (Fin.ext (show (y 1).val / 512 = k.val by omega)) (Fin.ext (show (y 1).val % 512 = l.val by omega))
theorem cols4_at (p : Fin 4 → Vec F S256x1024 .bf16) (k : Fin 4) (y : S256x4096.Idx) (l : Fin 1024) (h : (y 1).val = 1024 * k.val + l.val) :
    cols4 p y = p k (ix2 (y 0) l) := by
  have hl := l.isLt
  exact congrArg₂ (fun k l => p k (ix2 (y 0) l)) (Fin.ext (show (y 1).val / 1024 = k.val by omega)) (Fin.ext (show (y 1).val % 1024 = l.val by omega))

/-- Two stores side by side leave the two blocks, whatever was there. -/
theorem read_cols2 {sp : Space} (v : View sig .tc sp S256x1024 .bf16) (f : v.ty.Contents (Elt F)) (p0 p1 : Vec F S256x512 .bf16)
    (i0 : ∀ a, (![0, 0] : Fin 2 → ℕ) a + S256x512.size a ≤ S256x1024.size a) (i1 : ∀ a, (![0, 512] : Fin 2 → ℕ) a + S256x512.size a ≤ S256x1024.size a) :
    v.read (Elt F) (v.writes (Elt F) f [⟨Rect.unit (s := S256x1024) ![0, 512] S256x512.size i1, p1⟩, ⟨Rect.unit (s := S256x1024) ![0, 0] S256x512.size i0, p0⟩])
      = cols2 ![p0, p1] := by
  funext y
  have hy : (y 1).val < 1024 := (y 1).isLt
  by_cases h : 512 ≤ (y 1).val
  · rw [cols2_at _ 1 y ⟨(y 1).val - 512, by omega⟩ (by show _ = 512 * 1 + ((y 1).val - 512); omega)]
    exact View.read_writes_cons_unit_of_mem v f i1 p1 _ y (ix2 (y 0) ⟨(y 1).val - 512, by omega⟩) rfl
      (Fin.forall_fin_two.mpr ⟨(Nat.zero_add _).symm, by show (y 1).val = 512 + ((y 1).val - 512); omega⟩)
  · rw [cols2_at _ 0 y ⟨(y 1).val, by omega⟩ (by show _ = 512 * 0 + (y 1).val; omega)]
    exact (View.read_writes_cons_unit_of_not_mem v f i1 p1 _ y rfl (1 : Fin 2) (Or.inl (by show (y 1).val < 512; omega))).trans
      (View.read_writes_cons_unit_of_mem v f i0 p0 _ y (ix2 (y 0) ⟨(y 1).val, by omega⟩) rfl
        (Fin.forall_fin_two.mpr ⟨(Nat.zero_add _).symm, (Nat.zero_add _).symm⟩))

/-- Four stores side by side leave the four blocks, whatever was there. -/
theorem read_cols4 {sp : Space} (v : View sig .tc sp S256x4096 .bf16) (f : v.ty.Contents (Elt F)) (p0 p1 p2 p3 : Vec F S256x1024 .bf16)
    (i0 : ∀ a, (![0, 0] : Fin 2 → ℕ) a + S256x1024.size a ≤ S256x4096.size a) (i1 : ∀ a, (![0, 1024] : Fin 2 → ℕ) a + S256x1024.size a ≤ S256x4096.size a)
    (i2 : ∀ a, (![0, 2048] : Fin 2 → ℕ) a + S256x1024.size a ≤ S256x4096.size a) (i3 : ∀ a, (![0, 3072] : Fin 2 → ℕ) a + S256x1024.size a ≤ S256x4096.size a) :
    v.read (Elt F) (v.writes (Elt F) f [⟨Rect.unit (s := S256x4096) ![0, 3072] S256x1024.size i3, p3⟩, ⟨Rect.unit (s := S256x4096) ![0, 2048] S256x1024.size i2, p2⟩,
        ⟨Rect.unit (s := S256x4096) ![0, 1024] S256x1024.size i1, p1⟩, ⟨Rect.unit (s := S256x4096) ![0, 0] S256x1024.size i0, p0⟩])
      = cols4 ![p0, p1, p2, p3] := by
  funext y
  have hy : (y 1).val < 4096 := (y 1).isLt
  by_cases h3 : 3072 ≤ (y 1).val
  · rw [cols4_at _ 3 y ⟨(y 1).val - 3072, by omega⟩ (by show _ = 1024 * 3 + ((y 1).val - 3072); omega)]
    exact View.read_writes_cons_unit_of_mem v f i3 p3 _ y (ix2 (y 0) ⟨(y 1).val - 3072, by omega⟩) rfl
      (Fin.forall_fin_two.mpr ⟨(Nat.zero_add _).symm, by show (y 1).val = 3072 + ((y 1).val - 3072); omega⟩)
  refine (View.read_writes_cons_unit_of_not_mem v f i3 p3 _ y rfl (1 : Fin 2) (Or.inl (by show (y 1).val < 3072; omega))).trans ?_
  by_cases h2 : 2048 ≤ (y 1).val
  · rw [cols4_at _ 2 y ⟨(y 1).val - 2048, by omega⟩ (by show _ = 1024 * 2 + ((y 1).val - 2048); omega)]
    exact View.read_writes_cons_unit_of_mem v f i2 p2 _ y (ix2 (y 0) ⟨(y 1).val - 2048, by omega⟩) rfl
      (Fin.forall_fin_two.mpr ⟨(Nat.zero_add _).symm, by show (y 1).val = 2048 + ((y 1).val - 2048); omega⟩)
  refine (View.read_writes_cons_unit_of_not_mem v f i2 p2 _ y rfl (1 : Fin 2) (Or.inl (by show (y 1).val < 2048; omega))).trans ?_
  by_cases h1 : 1024 ≤ (y 1).val
  · rw [cols4_at _ 1 y ⟨(y 1).val - 1024, by omega⟩ (by show _ = 1024 * 1 + ((y 1).val - 1024); omega)]
    exact View.read_writes_cons_unit_of_mem v f i1 p1 _ y (ix2 (y 0) ⟨(y 1).val - 1024, by omega⟩) rfl
      (Fin.forall_fin_two.mpr ⟨(Nat.zero_add _).symm, by show (y 1).val = 1024 + ((y 1).val - 1024); omega⟩)
  refine (View.read_writes_cons_unit_of_not_mem v f i1 p1 _ y rfl (1 : Fin 2) (Or.inl (by show (y 1).val < 1024; omega))).trans ?_
  rw [cols4_at _ 0 y ⟨(y 1).val, by omega⟩ (by show _ = 1024 * 0 + (y 1).val; omega)]
  exact View.read_writes_cons_unit_of_mem v f i0 p0 _ y (ix2 (y 0) ⟨(y 1).val, by omega⟩) rfl
    (Fin.forall_fin_two.mpr ⟨(Nat.zero_add _).symm, (Nat.zero_add _).symm⟩)

/-! ## The values of a block -/

variable (w : Wts F) (x : Blk F)

/-- Slab `k` of the first feed-forward weight. -/
def slab (w1 : Vec F S4x1024x1024 .bf16) (k : Fin 4) : Vec F S1x1024x1024 .bf16 :=
  View.ld w1 (Rect.unit (s := S4x1024x1024) ![k.val, 0, 0] S1x1024x1024.size
    (fun a => by fin_cases a <;> have := k.isLt <;> simp [S1x1024x1024, S4x1024x1024, Shape.size] <;> omega))
/-- The output weight's rows for the attention, and for the signals. -/
def woTop (wo : Vec F S1024x1024 .bf16) : Vec F S512x1024 .bf16 :=
  View.ld wo (Rect.unit (s := S1024x1024) ![0, 0] S512x1024.size inb_S1024x1024_S512x1024_0_0)
def woBot (wo : Vec F S1024x1024 .bf16) : Vec F S512x1024 .bf16 :=
  View.ld wo (Rect.unit (s := S1024x1024) ![512, 0] S512x1024.size inb_S1024x1024_S512x1024_512_0)

/-- The normed attention next to the signals. -/
def yB : Vec F S256x1024 .bf16 := cols2 ![k0_pay4 x.ya w.ga, k0_pay5 x.ys]
/-- The output projection. -/
def ovB : Vec F S256x1024 .f32 := k0_pay6 x.ya w.ga (woTop w.wo) x.ys (woBot w.wo)
/-- The residual stream before the feed-forward, and the same normed. -/
def h1B : Vec F S256x1024 .f32 := k0_pay7 (ovB w x) x.x w.gpm
def cB : Vec F S256x1024 .bf16 := k0_pay8 (ovB w x) x.x w.gpm w.gpf
/-- The kernel's zero. -/
abbrev z0 : F .f32 := Scalar.ofBits .f32 0x00000000#32
/-- The feed-forward's inner product past the relu, and past its square. -/
def rrB : Vec F S256x4096 .bf16 := cols4 ![k0_pay10 (ovB w x) x.x w.gpm w.gpf (slab w.w1 0), k0_pay13 (cB w x) (slab w.w1 1),
  k0_pay16 (cB w x) (slab w.w1 2), k0_pay2 (k0_pay18 (cB w x) (slab w.w1 3)) z0]
def sB : Vec F S256x4096 .bf16 := cols4 ![k0_pay11 (k0_pay9 (ovB w x) x.x w.gpm w.gpf (slab w.w1 0)), k0_pay14 (cB w x) (slab w.w1 1),
  k0_pay17 (cB w x) (slab w.w1 2), k0_pay3 (k0_pay18 (cB w x) (slab w.w1 3)) z0]

end Cert.Kernel4Ideal.TailFwd

end
-- ==== Proof.TailFwd.BodyB.lean ====
/- The body of the tail's first forward call at a grid point after the first, on any staging buffers: what every output
   buffer holds afterwards. -/
module

public import proofs.«01_k».proof.Proof.TailFwd.Vals
public import Idealize.ShloMosaic.Lib.Pipeline.Value

@[expose] public section

set_option maxRecDepth 16384

noncomputable section

namespace Cert.Kernel4Ideal.TailFwd

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

/-- One covering store leaves its payload. -/
theorem read_store {S : Shape} {e : EltTy} {sp : Space} (v : View sig .tc sp S e) (f : v.ty.Contents (Elt F)) {off : Fin S.rank → ℕ}
    (h : off = fun _ => 0) (inb : ∀ a, off a + S.size a ≤ S.size a) (p : Vec F S e) (L : List (View.Piece (Elt F) S e)) :
    v.read (Elt F) (v.writes (Elt F) f (⟨Rect.unit (s := S) off S.size inb, p⟩ :: L)) = p := by
  subst h
  funext y
  have := View.read_writes_cons_emb v f (Rect.unit (s := S) (fun _ => 0) S.size inb) p L y
  have e : (Rect.unit (s := S) (fun _ => 0) S.size inb).emb y = y := by
    funext a; apply Fin.ext; simp [Rect.emb, Rect.unit]
  rwa [e] at this

/-- The cells and operands in HBM that the body only uses at the first point. -/
def held (c : Dev nD) (fh0 : HbBuf0 (F := F) c hbM0_0) (fh1 : HbBuf0 (F := F) c hbM0_1) (fh2 : HbBuf0 (F := F) c hbM0_2) (fh3 : HbBuf0 (F := F) c hbM0_3)
    (fh4 : HbBuf0 (F := F) c hbM0_4) : sProp 𝕄 :=
  iprop(semVal ((c : Thread nD τ), SemLoc.dma 18) 0 ∗ semVal ((c : Thread nD τ), SemLoc.dma 19) 0 ∗ semVal ((c : Thread nD τ), SemLoc.dma 20) 0
    ∗ semVal ((c : Thread nD τ), SemLoc.dma 21) 0 ∗ semVal ((c : Thread nD τ), SemLoc.dma 22) 0
    ∗ hbPt0 c hbM0_0 fh0 ∗ hbPt0 c hbM0_1 fh1 ∗ hbPt0 c hbM0_2 fh2 ∗ hbPt0 c hbM0_3 fh3 ∗ hbPt0 c hbM0_4 fh4)

variable (c : Dev nD) (i : grid0.Coords)
  (a1 : Memref sig .tc .vmem S256x1024 .f32) (h1 : a1.IsWhole) (a2 : Memref sig .tc .vmem S256x512 .f32) (h2 : a2.IsWhole)
  (a3 : Memref sig .tc .vmem S256x512 .bf16) (h3 : a3.IsWhole) (a9 : Memref sig .tc .vmem S256x1024 .bf16) (h9 : a9.IsWhole)
  (a10 : Memref sig .tc .vmem S256x1024 .f32) (h10 : a10.IsWhole) (a11 : Memref sig .tc .vmem S256x1024 .f32) (h11 : a11.IsWhole)
  (a12 : Memref sig .tc .vmem S256x1024 .bf16) (h12 : a12.IsWhole) (a13 : Memref sig .tc .vmem S256x4096 .bf16) (h13 : a13.IsWhole)
  (a14 : Memref sig .tc .vmem S256x4096 .bf16) (h14 : a14.IsWhole) (a15 : Memref sig .tc .vmem S1x512 .f32) (h15 : a15.IsWhole)
  (a16 : Memref sig .tc .vmem S1024x1024 .bf16) (h16 : a16.IsWhole) (a17 : Memref sig .tc .vmem S1x1024 .f32) (h17 : a17.IsWhole)
  (a18 : Memref sig .tc .vmem S1x1024 .f32) (h18 : a18.IsWhole) (a19 : Memref sig .tc .vmem S4x1024x1024 .bf16) (h19 : a19.IsWhole)

/-- The body's program on these buffers. -/
abbrev prog : Prog (TpuEff nD τ sig (Elt F) Λ₀ .tc) PUnit :=
  cc0_tail_fwd1 i a1 h1 a2 h2 a3 h3
    (Memref.whole main_arg3) (Memref.isWhole_whole _) (Memref.whole main_v4) (Memref.isWhole_whole _) (Memref.whole main_arg5) (Memref.isWhole_whole _)
    (Memref.whole main_arg6) (Memref.isWhole_whole _) (Memref.whole main_v2) (Memref.isWhole_whole _)
    a9 h9 a10 h10 a11 h11 a12 h12 a13 h13 a14 h14 a15 h15 a16 h16 a17 h17 a18 h18 a19 h19
    cc0_scoped0 cc0_scoped1 cc0_scoped2 cc0_scoped3 cc0_scoped4

/-- The input blocks' buffers. -/
def ins (x : Blk F) : sProp 𝕄 :=
  iprop(owns (c : Thread nD τ) a1 fullShare x.x ∗ owns (c : Thread nD τ) a2 fullShare x.ya ∗ owns (c : Thread nD τ) a3 fullShare x.ys)

/-- The resident weights' buffers. -/
def wts (w : Wts F) : sProp 𝕄 :=
  iprop(owns (c : Thread nD τ) a15 fullShare w.ga ∗ owns (c : Thread nD τ) a16 fullShare w.wo ∗ owns (c : Thread nD τ) a17 fullShare w.gpm
    ∗ owns (c : Thread nD τ) a18 fullShare w.gpf ∗ owns (c : Thread nD τ) a19 fullShare w.w1)

/-- The outputs' buffers with the block's values in them. -/
def outs (w : Wts F) (x : Blk F) : sProp 𝕄 :=
  iprop(owns (c : Thread nD τ) a9 fullShare (yB w x) ∗ owns (c : Thread nD τ) a10 fullShare (ovB w x) ∗ owns (c : Thread nD τ) a11 fullShare (h1B w x)
    ∗ owns (c : Thread nD τ) a12 fullShare (cB w x) ∗ owns (c : Thread nD τ) a13 fullShare (sB w x) ∗ owns (c : Thread nD τ) a14 fullShare (rrB w x))

set_option maxHeartbeats 6400000 in
/-- A point after the first: the weights are there already. -/
theorem body_B (hc0 : ¬cond0_0 i) (w : Wts F) (x : Blk F) (W : Waits sig Unit) (K : PUnit → sProp 𝕄) :
    iprop(ins c a1 a2 a3 x
      ∗ (∃ d, owns (c : Thread nD τ) a9 fullShare d) ∗ (∃ d, owns (c : Thread nD τ) a10 fullShare d) ∗ (∃ d, owns (c : Thread nD τ) a11 fullShare d)
      ∗ (∃ d, owns (c : Thread nD τ) a12 fullShare d) ∗ (∃ d, owns (c : Thread nD τ) a13 fullShare d) ∗ (∃ d, owns (c : Thread nD τ) a14 fullShare d)
      ∗ wts c a15 a16 a17 a18 a19 w ∗ owes (c : Thread nD τ) 0 W
      ∗ (iprop(ins c a1 a2 a3 x ∗ outs c a9 a10 a11 a12 a13 a14 w x ∗ wts c a15 a16 a17 a18 a19 w ∗ (∃ W', owes (c : Thread nD τ) 0 W')) -∗ K ⟨⟩))
    ⊢ wp frame (wpE (defs₀ (F := F)) Variants.none c none) Set.univ
        (prog i a1 h1 a2 h2 a3 h3 a9 h9 a10 h10 a11 h11 a12 h12 a13 h13 a14 h14 a15 h15 a16 h16 a17 h17 a18 h18 a19 h19) K := by
  unfold prog
  simp only [cc0_tail_fwd1_eq_skeleton]; unfold cc0_tail_fwd1_skel
  simp only [k0_part1_eq_skeleton, k0_part2_eq_skeleton, k0_part3_eq_skeleton]
  unfold ins wts outs owns
  iintro ⟨⟨⟨%f1, %e1, H1⟩, ⟨%f2, %e2, H2⟩, ⟨%f3, %e3, H3⟩⟩, ⟨%d9, %f9, -, H9⟩, ⟨%d10, %f10, -, H10⟩, ⟨%d11, %f11, -, H11⟩, ⟨%d12, %f12, -, H12⟩, ⟨%d13, %f13, -, H13⟩, ⟨%d14, %f14, -, H14⟩,
    ⟨⟨%f15, %e15, H15⟩, ⟨%f16, %e16, H16⟩, ⟨%f17, %e17, H17⟩, ⟨%f18, %e18, H18⟩, ⟨%f19, %e19, H19⟩⟩, HW, Hk⟩
  obtain rfl := h1.eq_unread e1; obtain rfl := h2.eq_unread e2; obtain rfl := h3.eq_unread e3
  obtain rfl := h15.eq_unread e15; obtain rfl := h16.eq_unread e16; obtain rfl := h17.eq_unread e17; obtain rfl := h18.eq_unread e18; obtain rfl := h19.eq_unread e19
  sl_exec (disch := first | sl_exact hc0)
  sl_step
  iapply Hk
  isplitl [H1 H2 H3]
  · isplitl [H1]; iexists _; isplitr; swap; iexact H1; rotate_left
    isplitl [H2]; iexists _; isplitr; swap; iexact H2; rotate_left
    iexists _; isplitr; swap; iexact H3
    all_goals ipureintro; exact Memref.IsWhole.read_unread (by assumption) _
  isplitl [H9 H10 H11 H12 H13 H14]
  · isplitl [H9]; iexists _; isplitr; swap; iexact H9; rotate_left
    isplitl [H10]; iexists _; isplitr; swap; iexact H10; rotate_left
    isplitl [H11]; iexists _; isplitr; swap; iexact H11; rotate_left
    isplitl [H12]; iexists _; isplitr; swap; iexact H12; rotate_left
    isplitl [H13]; iexists _; isplitr; swap; iexact H13; rotate_left
    iexists _; isplitr; swap; iexact H14
    all_goals
      ipureintro
      first | refine (read_store _ _ hz2 _ _ _).trans ?_ | refine (read_cols2 _ _ _ _ _ _).trans ?_ | refine (read_cols4 _ _ _ _ _ _ _ _ _ _).trans ?_
      sl_unfold_words
      simp only [View.readAt_eq_ld, Memref.IsWhole.read_unread, View.ld_unit_zero (S := S256x1024) hz2, View.ld_unit_zero (S := S256x512) hz2,
        View.ld_unit_zero (S := S1x1024) hz2, View.ld_unit_zero (S := S1x512) hz2]
      rfl
  isplitl [H15 H16 H17 H18 H19]
  · isplitl [H15]; iexists _; isplitr; swap; iexact H15; rotate_left
    isplitl [H16]; iexists _; isplitr; swap; iexact H16; rotate_left
    isplitl [H17]; iexists _; isplitr; swap; iexact H17; rotate_left
    isplitl [H18]; iexists _; isplitr; swap; iexact H18; rotate_left
    iexists _; isplitr; swap; iexact H19
    all_goals ipureintro; exact Memref.IsWhole.read_unread (by assumption) _
  iexists _; iexact HW

end Cert.Kernel4Ideal.TailFwd

end
-- ==== Proof.TailFwd.BodyA.lean ====
/- The body of the tail's first forward call at the first grid point, on any staging buffers: what every output buffer
   holds afterwards. -/
module

public import proofs.«01_k».proof.Proof.TailFwd.BodyB

@[expose] public section

set_option maxRecDepth 16384

noncomputable section

namespace Cert.Kernel4Ideal.TailFwd

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A load from a buffer that a copy has filled reads the copied contents. -/
theorem readCov_copy {S : Shape} {e : EltTy} {sp : Space} (v : View sig .tc sp S e) (p : Vec F S e) (r : Rect S) :
    v.readCov (Val := Elt F) [⟨Rect.whole S, p⟩] r.toLoadRect = View.ld p r := by
  unfold View.readCov
  rw [View.readAt_eq_ld, View.read_writes_whole]

variable (c : Dev nD) (i : grid0.Coords)
  (a1 : Memref sig .tc .vmem S256x1024 .f32) (h1 : a1.IsWhole) (a2 : Memref sig .tc .vmem S256x512 .f32) (h2 : a2.IsWhole)
  (a3 : Memref sig .tc .vmem S256x512 .bf16) (h3 : a3.IsWhole) (a9 : Memref sig .tc .vmem S256x1024 .bf16) (h9 : a9.IsWhole)
  (a10 : Memref sig .tc .vmem S256x1024 .f32) (h10 : a10.IsWhole) (a11 : Memref sig .tc .vmem S256x1024 .f32) (h11 : a11.IsWhole)
  (a12 : Memref sig .tc .vmem S256x1024 .bf16) (h12 : a12.IsWhole) (a13 : Memref sig .tc .vmem S256x4096 .bf16) (h13 : a13.IsWhole)
  (a14 : Memref sig .tc .vmem S256x4096 .bf16) (h14 : a14.IsWhole) (a15 : Memref sig .tc .vmem S1x512 .f32) (h15 : a15.IsWhole)
  (a16 : Memref sig .tc .vmem S1024x1024 .bf16) (h16 : a16.IsWhole) (a17 : Memref sig .tc .vmem S1x1024 .f32) (h17 : a17.IsWhole)
  (a18 : Memref sig .tc .vmem S1x1024 .f32) (h18 : a18.IsWhole) (a19 : Memref sig .tc .vmem S4x1024x1024 .bf16) (h19 : a19.IsWhole)

/-- The weights as the operands in HBM hold them. -/
def wtsOf (fh0 : HbBuf0 (F := F) c hbM0_0) (fh1 : HbBuf0 (F := F) c hbM0_1) (fh2 : HbBuf0 (F := F) c hbM0_2) (fh3 : HbBuf0 (F := F) c hbM0_3)
    (fh4 : HbBuf0 (F := F) c hbM0_4) : Wts F where
  ga := fh0
  wo := fh1
  gpm := fh2
  gpf := fh3
  w1 := fh4

set_option maxHeartbeats 6400000 in
/-- The first point: the weights are copied in. -/
theorem body_A (hc0 : cond0_0 i) (fh0 : HbBuf0 (F := F) c hbM0_0) (fh1 : HbBuf0 (F := F) c hbM0_1) (fh2 : HbBuf0 (F := F) c hbM0_2) (fh3 : HbBuf0 (F := F) c hbM0_3)
    (fh4 : HbBuf0 (F := F) c hbM0_4) (x : Blk F) (W : Waits sig Unit) (K : PUnit → sProp 𝕄) :
    iprop(ins c a1 a2 a3 x
      ∗ (∃ d, owns (c : Thread nD τ) a9 fullShare d) ∗ (∃ d, owns (c : Thread nD τ) a10 fullShare d) ∗ (∃ d, owns (c : Thread nD τ) a11 fullShare d)
      ∗ (∃ d, owns (c : Thread nD τ) a12 fullShare d) ∗ (∃ d, owns (c : Thread nD τ) a13 fullShare d) ∗ (∃ d, owns (c : Thread nD τ) a14 fullShare d)
      ∗ (∃ d, owns (c : Thread nD τ) a15 fullShare d) ∗ (∃ d, owns (c : Thread nD τ) a16 fullShare d) ∗ (∃ d, owns (c : Thread nD τ) a17 fullShare d)
      ∗ (∃ d, owns (c : Thread nD τ) a18 fullShare d) ∗ (∃ d, owns (c : Thread nD τ) a19 fullShare d)
      ∗ held c fh0 fh1 fh2 fh3 fh4 ∗ owes (c : Thread nD τ) 0 W
      ∗ (iprop(ins c a1 a2 a3 x ∗ outs c a9 a10 a11 a12 a13 a14 (wtsOf c fh0 fh1 fh2 fh3 fh4) x
          ∗ wts c a15 a16 a17 a18 a19 (wtsOf c fh0 fh1 fh2 fh3 fh4) ∗ held c fh0 fh1 fh2 fh3 fh4 ∗ (∃ W', owes (c : Thread nD τ) 0 W')) -∗ K ⟨⟩))
    ⊢ wp frame (wpE (defs₀ (F := F)) Variants.none c none) Set.univ
        (prog i a1 h1 a2 h2 a3 h3 a9 h9 a10 h10 a11 h11 a12 h12 a13 h13 a14 h14 a15 h15 a16 h16 a17 h17 a18 h18 a19 h19) K := by
  unfold prog
  simp only [cc0_tail_fwd1_eq_skeleton]; unfold cc0_tail_fwd1_skel
  simp only [k0_part1_eq_skeleton, k0_part2_eq_skeleton, k0_part3_eq_skeleton]
  unfold ins wts outs held owns
  iintro ⟨⟨⟨%f1, %e1, H1⟩, ⟨%f2, %e2, H2⟩, ⟨%f3, %e3, H3⟩⟩, ⟨%d9, %f9, -, H9⟩, ⟨%d10, %f10, -, H10⟩, ⟨%d11, %f11, -, H11⟩, ⟨%d12, %f12, -, H12⟩, ⟨%d13, %f13, -, H13⟩, ⟨%d14, %f14, -, H14⟩,
    ⟨%d15, %f15, -, H15⟩, ⟨%d16, %f16, -, H16⟩, ⟨%d17, %f17, -, H17⟩, ⟨%d18, %f18, -, H18⟩, ⟨%d19, %f19, -, H19⟩,
    ⟨Hq0, Hq1, Hq2, Hq3, Hq4, Hh0, Hh1, Hh2, Hh3, Hh4⟩, HW, Hk⟩
  obtain rfl := h1.eq_unread e1; obtain rfl := h2.eq_unread e2; obtain rfl := h3.eq_unread e3
  sl_exec (disch := first | sl_exact hc0)
  sl_step
  iapply Hk
  isplitl [H1 H2 H3]
  · isplitl [H1]; iexists _; isplitr; swap; iexact H1; rotate_left
    isplitl [H2]; iexists _; isplitr; swap; iexact H2; rotate_left
    iexists _; isplitr; swap; iexact H3
    all_goals ipureintro; exact Memref.IsWhole.read_unread (by assumption) _
  isplitl [H9 H10 H11 H12 H13 H14]
  · isplitl [H9]; iexists _; isplitr; swap; iexact H9; rotate_left
    isplitl [H10]; iexists _; isplitr; swap; iexact H10; rotate_left
    isplitl [H11]; iexists _; isplitr; swap; iexact H11; rotate_left
    isplitl [H12]; iexists _; isplitr; swap; iexact H12; rotate_left
    isplitl [H13]; iexists _; isplitr; swap; iexact H13; rotate_left
    iexists _; isplitr; swap; iexact H14
    all_goals
      ipureintro
      first | refine (read_store _ _ hz2 _ _ _).trans ?_ | refine (read_cols2 _ _ _ _ _ _).trans ?_ | refine (read_cols4 _ _ _ _ _ _ _ _ _ _).trans ?_
      sl_unfold_words
      simp only [readCov_copy, View.readAt_eq_ld, Memref.IsWhole.read_unread, View.readCov_unit_zero (S := S1x1024) _ hz2, View.readCov_unit_zero (S := S1x512) _ hz2,
        View.ld_unit_zero (S := S256x1024) hz2, View.ld_unit_zero (S := S256x512) hz2, View.ld_unit_zero (S := S1x1024) hz2, View.ld_unit_zero (S := S1x512) hz2]
      rfl
  isplitl [H15 H16 H17 H18 H19]
  · isplitl [H15]; iexists _; isplitr; swap; iexact H15; rotate_left
    isplitl [H16]; iexists _; isplitr; swap; iexact H16; rotate_left
    isplitl [H17]; iexists _; isplitr; swap; iexact H17; rotate_left
    isplitl [H18]; iexists _; isplitr; swap; iexact H18; rotate_left
    iexists _; isplitr; swap; iexact H19
    all_goals ipureintro; exact (View.read_writes_whole _ _ _).trans rfl
  isplitl [Hq0 Hq1 Hq2 Hq3 Hq4 Hh0 Hh1 Hh2 Hh3 Hh4]
  · isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [Hh2]; · iexact Hh2
    isplitl [Hh3]; · iexact Hh3
    iexact Hh4
  iexists _; iexact HW

end Cert.Kernel4Ideal.TailFwd

end
-- ==== Proof.TailFwd.Run.lean ====
/- The tail's first forward call run over its grid: what every staging buffer holds after each point, the body's obligation
   from its two triples, the launch, and from it the quiescent frame and the arrays the call leaves. -/
module

public import proofs.«01_k».proof.Proof.TailFwd.BodyA
public import Idealize.ShloMosaic.Lib.Claim

@[expose] public section

set_option maxRecDepth 16384

noncomputable section

namespace Cert.Kernel4Ideal.TailFwd

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The resident weights, as the host lines before the call leave them. -/
def wOf (c : Dev nD) : Wts F :=
  wtsOf c (V m c main_arg3) (V m c main_v4) (V m c main_arg5) (V m c main_arg6) (V m c main_v2)

/-- The input blocks of point `t`. -/
def xOf (c : Dev nD) (t : Fin cfg0.N) : Blk F where
  x := iblk m c 0 t
  ya := iblk m c 1 t
  ys := iblk m c 2 t

/-- What the call holds between points, the weights once copied: scratch, register, cells and operands in HBM. -/
def mid (c : Dev nD) : sProp 𝕄 :=
  iprop(wts c scM0_0 scM0_1 scM0_2 scM0_3 scM0_4 (wOf m c) ∗ (∃ r, prngReg c r)
    ∗ held c (V m c main_arg3) (V m c main_v4) (V m c main_arg5) (V m c main_arg6) (V m c main_v2))

/-- The invariant: before the first point what the launch hands over, afterwards `mid`. -/
def Inv (c : Dev nD) : ℕ → sProp 𝕄
  | 0 => Pipeline.ΦD osem0 spec0 H0 (V m) c
  | _ + 1 => mid m c

/-- The proof data: the arrays as the region finds them, the inputs at their blocks, the outputs at the block values. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => yB (wOf m c) (xOf m c t)
    | 4 => ovB (wOf m c) (xOf m c t)
    | 5 => h1B (wOf m c) (xOf m c t)
    | 6 => cB (wOf m c) (xOf m c t)
    | 7 => sB (wOf m c) (xOf m c t)
    | 8 => rrB (wOf m c) (xOf m c t)
  Φ t := Inv m c t.val
  q _ := fullShare
  owed _ := 0

theorem A_eq (c : Dev nD) (w) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d

/-- The buffers before the body runs at point `t`, and after. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare ((dats m 0 c).before 8 t d)))

def post (c : Dev nD) (t : Fin cfg0.N) : sProp 𝕄 :=
  iprop(mid m c ∗ (dats m 0 c).owesAt () t.succ
    ∗ owns (c : Thread nD τ) (ms0_0 t) fullShare (xOf m c t).x ∗ owns (c : Thread nD τ) (ms0_1 t) fullShare (xOf m c t).ya
    ∗ owns (c : Thread nD τ) (ms0_2 t) fullShare (xOf m c t).ys
    ∗ outs c (ms0_3 t) (ms0_4 t) (ms0_5 t) (ms0_6 t) (ms0_7 t) (ms0_8 t) (wOf m c) (xOf m c t))

/-- What both cases hand back, put together. -/
theorem post_of (c : Dev nD) (t : Fin cfg0.N) :
    iprop(ins c (ms0_0 t) (ms0_1 t) (ms0_2 t) (xOf m c t)
      ∗ outs c (ms0_3 t) (ms0_4 t) (ms0_5 t) (ms0_6 t) (ms0_7 t) (ms0_8 t) (wOf m c) (xOf m c t)
      ∗ mid m c ∗ (∃ W', owes (c : Thread nD τ) 0 W')) ⊢ post m c t := by
  unfold post ins Dat.owesAt Pipeline.owesWithin
  rw [show (dats m 0 c).owed t.succ = 0 from rfl]
  iintro ⟨⟨H0, H1, H2⟩, Ho, Hm, ⟨%W', HW⟩⟩
  isplitl [Hm]; · iexact Hm
  isplitl [HW]
  · iexists W'; isplitr; · ipureintro; exact fun _ _ => Or.inl trivial
    iexact HW
  isplitl [H0]; · iexact H0
  isplitl [H1]; · iexact H1
  isplitl [H2]; · iexact H2
  iexact Ho

set_option maxHeartbeats 6400000 in
/-- The body at any point. -/
theorem sound (c : Dev nD) (t : Fin cfg0.N) :
    pre m c t ⊢ wp frame (wpE (defs₀ (F := F)) Variants.none c none) Set.univ (bodyAt0 t) (fun _ => post m c t) := by
  have hN : t.val < 32 := lt_of_lt_of_eq t.isLt N_0
  unfold pre bodyAt0
  simp only [before_0, before_1, before_2]
  unfold Dat.owesAt Pipeline.owesWithin
  rw [show (dats m 0 c).owed t.castSucc = 0 from rfl]
  by_cases h0 : t.val = 0
  · rw [show (dats m 0 c).Φ t.castSucc = Pipeline.ΦD osem0 spec0 H0 (V m) c from by
      show Inv m c t.val = _; rw [h0]; rfl, PhiD0_eq]
    iintro ⟨⟨⟨HS0, HS1, HS2, HS3, HS4⟩, Hg, ⟨Hq0, Hq1, Hq2, Hq3, Hq4⟩, ⟨Hh0, Hh1, Hh2, Hh3, Hh4⟩⟩, ⟨%W, -, HW⟩,
      ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) scM0_1 (Memref.isWhole_whole _) scM0_2 (Memref.isWhole_whole _) scM0_3 (Memref.isWhole_whole _) scM0_4 (Memref.isWhole_whole _)
      ((hcond0_0 t).mpr (by omega)) (V m c main_arg3) (V m c main_v4) (V m c main_arg5) (V m c main_arg6) (V m c main_v2) (xOf m c t) W _)
    unfold ins held
    isplitl [H0 H1 H2]
    · isplitl [H0]; · iexact H0
      isplitl [H1]; · iexact H1
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [Hq0 Hq1 Hq2 Hq3 Hq4 Hh0 Hh1 Hh2 Hh3 Hh4]
    · isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      isplitl [Hh1]; · iexact Hh1
      isplitl [Hh2]; · iexact Hh2
      isplitl [Hh3]; · iexact Hh3
      iexact Hh4
    isplitl [HW]; · iexact HW
    iintro ⟨Hi, Ho, Hw, Hh, HW⟩
    iapply (post_of m c t)
    unfold ins mid held
    isplitl [Hi]; · iexact Hi
    isplitl [Ho]; · iexact Ho
    isplitl [Hw Hg Hh]
    · isplitl [Hw]; · iexact Hw
      isplitl [Hg]; · iexact Hg
      iexact Hh
    iexact HW
  · rw [show (dats m 0 c).Φ t.castSucc = mid m c from by
      show Inv m c t.val = _; obtain ⟨n, hn⟩ := Nat.exists_eq_succ_of_ne_zero h0; rw [hn]; rfl]
    unfold mid
    iintro ⟨⟨Hw, Hg, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) scM0_1 (Memref.isWhole_whole _) scM0_2 (Memref.isWhole_whole _) scM0_3 (Memref.isWhole_whole _) scM0_4 (Memref.isWhole_whole _)
      (fun h => h0 (by have := (hcond0_0 t).mp h; omega)) (wOf m c) (xOf m c t) W _)
    unfold ins
    isplitl [H0 H1 H2]
    · isplitl [H0]; · iexact H0
      isplitl [H1]; · iexact H1
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [Hw]; · iexact Hw
    isplitl [HW]; · iexact HW
    iintro ⟨Hi, Ho, Hw, HW⟩
    iapply (post_of m c t)
    unfold ins mid
    isplitl [Hi]; · iexact Hi
    isplitl [Ho]; · iexact Ho
    isplitl [Hw Hg Hh]
    · isplitl [Hw]; · iexact Hw
      isplitl [Hg]; · iexact Hg
      iexact Hh
    iexact HW

theorem defs₀_row (t : Fin cfg0.N) : defs₀ (F := F) .tc cfg0.body (cfg0.bodyArgs t (cfg0.slots t)) = bodyAt0 t := by
  unfold defs₀; rw [Defs.onTc_tc]

set_option maxHeartbeats 2000000 in
/-- The post, in the shape the obligation wants. -/
theorem post_eq (c : Dev nD) (t : Fin cfg0.N) :
    post m c t ⊢ iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t)
    ∗ owns (c : Thread nD τ) (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare ((dats m 0 c).after 5 t)
    ∗ owns (c : Thread nD τ) (ms0_6 t) fullShare ((dats m 0 c).after 6 t) ∗ owns (c : Thread nD τ) (ms0_7 t) fullShare ((dats m 0 c).after 7 t)
    ∗ owns (c : Thread nD τ) (ms0_8 t) fullShare ((dats m 0 c).after 8 t)) := by
  unfold post outs
  rw [show (dats m 0 c).Φ t.succ = mid m c from rfl]
  dsimp only [dats]
  exact .rfl

theorem obligation (c : Dev nD) : BodyObligation (dats (F := F) m 0 c) (defs₀ (F := F)) Variants.none () Set.univ := fun t => by
  rw [bigSep_W0, bigSep_W0, defs₀_row]
  exact triple_restated (sound m c t) rfl .rfl fun _ => post_eq m c t

theorem hin (c : Dev nD) : Pipeline.ΦD osem0 spec0 H0 (V m) c ⊢ (dats m 0 c).Φ 0 := by
  rw [show (dats m 0 c).Φ 0 = Pipeline.ΦD osem0 spec0 H0 (V m) c from rfl]

set_option maxHeartbeats 1000000 in
theorem hout (c : Dev nD) : (dats m 0 c).Φ (Fin.last cfg0.N) ⊢ Pipeline.ΦD osem0 spec0 H0 (V m) c := by
  rw [show (dats m 0 c).Φ (Fin.last cfg0.N) = mid m c from by
    show Inv m c (Fin.last cfg0.N).val = _
    rw [Fin.val_last, show cfg0.N = 31 + 1 from N_0]; rfl, PhiD0_eq]
  unfold mid wts held
  iintro ⟨⟨HS0, HS1, HS2, HS3, HS4⟩, Hg, ⟨Hq0, Hq1, Hq2, Hq3, Hq4, Hh⟩⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  isplitl [Hg]; · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  iexact Hh

set_option backward.isDefEq.respectTransparency.types false in
/-- The launch: every execution ends with the arrays at what the proof data computes, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The call ends with its arguments unchanged and every counter at zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
    ∧ r.2.sem = fun _ => 0) :=
  θ_run_and (frame_of m ρ (dats m) (A_eq m) (run m ρ)) ((θ_run defs _ _).mono (fun _ h => h.2) (run_quiescent m ρ))

end Cert.Kernel4Ideal.TailFwd

end
-- ==== Proof.TailFwd.Rows.lean ====
/- The first forward call's block values at an index, over the reals: each is a function of one row of the inputs and of the
   weights. -/
module

public import proofs.«01_k».proof.Proof.TailFwd.Vals

@[expose] public section

set_option maxRecDepth 16384

noncomputable section

namespace Cert.Kernel4Ideal.TailFwd

open Cert.Kernel4Ideal Cert.Kernel4Ideal.Gen Idealize.ShloMosaic Idealize.ShloMosaic.TcCoe Idealize.SL.Sem

/-- The weights as functions of their indices, the feed-forward's in four slabs of columns. -/
structure RW where
  ga : Fin 512 → EReal
  wo : Fin 1024 → Fin 1024 → EReal
  gpm : Fin 1024 → EReal
  gpf : Fin 1024 → EReal
  w1 : Fin 4 → Fin 1024 → Fin 1024 → EReal

/-- One row of the inputs. -/
structure Row where
  x : Fin 1024 → EReal
  ya : Fin 512 → EReal
  ys : Fin 512 → EReal

/-- 1/512 -/
abbrev cH : EReal := Ideal.ofBits .f32 0x3B000000#32
/-- 1/1024 -/
abbrev cD : EReal := Ideal.ofBits .f32 0x3A800000#32
/-- The norm's ε. -/
abbrev cE : EReal := Ideal.ofBits .f32 0x358637BD#32

/-- Column `k` of the left half, and of the right. -/
def lf (k : Fin 512) : Fin 1024 := ⟨k.val, by omega⟩
def rt (k : Fin 512) : Fin 1024 := ⟨512 + k.val, by omega⟩

def yaR (w : RW) (x : Row) (l : Fin 512) : EReal := x.ya l * Ideal.rsqrt ((∑ k, x.ya k * x.ya k) * cH + cE) * w.ga l
def ovR (w : RW) (x : Row) (l : Fin 1024) : EReal := (∑ k, yaR w x k * w.wo (lf k) l) + ∑ k, x.ys k * w.wo (rt k) l
def h1R (w : RW) (x : Row) (l : Fin 1024) : EReal := x.x l + ovR w x l * Ideal.rsqrt ((∑ k, ovR w x k * ovR w x k) * cD + cE) * w.gpm l
def cR (w : RW) (x : Row) (l : Fin 1024) : EReal := h1R w x l * Ideal.rsqrt ((∑ k, h1R w x k * h1R w x k) * cD + cE) * w.gpf l
def rrR (w : RW) (x : Row) (s : Fin 4) (l : Fin 1024) : EReal := max (∑ k, cR w x k * w.w1 s k l) 0

/-- The weights read. -/
def rw_ (w : Wts Ideal) : RW where
  ga k := w.ga (ix2 0 k)
  wo k l := w.wo (ix2 k l)
  gpm l := w.gpm (ix2 0 l)
  gpf l := w.gpf (ix2 0 l)
  w1 s k l := w.w1 (ix3 s k l)

/-- Row `r` of a block. -/
def row (x : Blk Ideal) (r : Fin 256) : Row where
  x k := x.x (ix2 r k)
  ya k := x.ya (ix2 r k)
  ys k := x.ys (ix2 r k)

variable (w : Wts Ideal) (x : Blk Ideal) (r : Fin 256) (l : Fin 1024)

theorem slab_at (w1 : Vec Ideal S4x1024x1024 .bf16) (k : Fin 4) (a b : Fin 1024) : slab w1 k (ix3 0 a b) = w1 (ix3 k a b) := by
  unfold slab View.ld
  congr 1
  funext d
  fin_cases d <;> apply Fin.ext <;> simp [Rect.emb, Rect.unit, ix3]
theorem woTop_at (wo : Vec Ideal S1024x1024 .bf16) (k : Fin 512) (l : Fin 1024) : woTop wo (ix2 k l) = wo (ix2 (lf k) l) := by
  unfold woTop View.ld
  congr 1
  funext d
  fin_cases d <;> apply Fin.ext <;> simp [Rect.emb, Rect.unit, ix2, lf]
theorem woBot_at (wo : Vec Ideal S1024x1024 .bf16) (k : Fin 512) (l : Fin 1024) : woBot wo (ix2 k l) = wo (ix2 (rt k) l) := by
  unfold woBot View.ld
  congr 1
  funext d
  fin_cases d <;> apply Fin.ext <;> simp [Rect.emb, Rect.unit, ix2, rt]

theorem ya_row (k : Fin 512) : k0_pay4 x.ya w.ga (ix2 r k) = yaR (rw_ w) (row x r) k := by
  unfold yaR row rw_
  pointwise [k0_pay4]

theorem ys_row (k : Fin 512) : k0_pay5 x.ys (ix2 r k) = (row x r).ys k := by
  unfold row
  pointwise [k0_pay5]

theorem ovB_row : ovB w x (ix2 r l) = ovR (rw_ w) (row x r) l := by
  have h (k) := ya_row w x r k
  unfold ovR
  pointwise [ovB, k0_pay6]
  simp only [h, woTop_at, woBot_at]; rfl

theorem h1B_row : h1B w x (ix2 r l) = h1R (rw_ w) (row x r) l := by
  have h (k) := ovB_row w x r k
  unfold h1R
  pointwise [h1B, k0_pay7]
  simp only [h]; rfl

theorem cB_row : cB w x (ix2 r l) = cR (rw_ w) (row x r) l := by
  have h (k) : k0_pay7 (ovB w x) x.x w.gpm (ix2 r k) = _ := h1B_row w x r k
  unfold cR
  pointwise [cB, k0_pay8]
  simp only [h]; rfl

/-! The four slabs of the hidden layer. -/

theorem rr0 : k0_pay9 (ovB w x) x.x w.gpm w.gpf (slab w.w1 0) (ix2 r l) = rrR (rw_ w) (row x r) 0 l := by
  have h (k) : k0_pay8 (ovB w x) x.x w.gpm w.gpf (ix2 r k) = _ := cB_row w x r k
  unfold rrR
  pointwise [k0_pay9]
  simp only [h, slab_at]; rfl
theorem rr1 : k0_pay12 (cB w x) (slab w.w1 1) (ix2 r l) = rrR (rw_ w) (row x r) 1 l := by
  have h (k) := cB_row w x r k
  unfold rrR
  pointwise [k0_pay12]
  simp only [h, slab_at]; rfl
theorem rr2 : k0_pay15 (cB w x) (slab w.w1 2) (ix2 r l) = rrR (rw_ w) (row x r) 2 l := by
  have h (k) := cB_row w x r k
  unfold rrR
  pointwise [k0_pay15]
  simp only [h, slab_at]; rfl
theorem rr3 : k0_pay1 (k0_pay18 (cB w x) (slab w.w1 3)) z0 (ix2 r l) = rrR (rw_ w) (row x r) 3 l := by
  have h (k) := cB_row w x r k
  unfold rrR
  pointwise [k0_pay1, k0_pay18]
  simp only [h, slab_at]; rfl

/-- A column of the hidden layer: its slab and its place there. -/
def sl (n : Fin 4096) : Fin 4 := ⟨n.val / 1024, by omega⟩
def pl (n : Fin 4096) : Fin 1024 := ⟨n.val % 1024, by omega⟩

theorem rrB_row (n : Fin 4096) : rrB w x (ix2 r n) = rrR (rw_ w) (row x r) (sl n) (pl n) := by
  refine (cols4_at _ (sl n) (ix2 r n) (pl n) (by show n.val = 1024 * (n.val / 1024) + n.val % 1024; omega)).trans ?_
  generalize sl n = s
  generalize pl n = l
  fin_cases s
  · exact rr0 w x r l
  · exact rr1 w x r l
  · exact rr2 w x r l
  · exact rr3 w x r l

theorem sB_row (n : Fin 4096) : sB w x (ix2 r n) = rrR (rw_ w) (row x r) (sl n) (pl n) * rrR (rw_ w) (row x r) (sl n) (pl n) := by
  refine (cols4_at _ (sl n) (ix2 r n) (pl n) (by show n.val = 1024 * (n.val / 1024) + n.val % 1024; omega)).trans ?_
  generalize sl n = s
  generalize pl n = l
  fin_cases s
  · exact congrArg₂ (· * ·) (rr0 w x r l) (rr0 w x r l)
  · exact congrArg₂ (· * ·) (rr1 w x r l) (rr1 w x r l)
  · exact congrArg₂ (· * ·) (rr2 w x r l) (rr2 w x r l)
  · exact congrArg₂ (· * ·) (rr3 w x r l) (rr3 w x r l)

/-- The two halves of the normed attention next to the signals. -/
theorem yB_left (k : Fin 512) : yB w x (ix2 r (lf k)) = yaR (rw_ w) (row x r) k :=
  (cols2_at _ 0 (ix2 r (lf k)) k (by show k.val = 512 * 0 + k.val; omega)).trans (ya_row w x r k)
theorem yB_right (k : Fin 512) : yB w x (ix2 r (rt k)) = (row x r).ys k :=
  (cols2_at _ 1 (ix2 r (rt k)) k (by show 512 + k.val = 512 * 1 + k.val; omega)).trans (ys_row x r k)

end Cert.Kernel4Ideal.TailFwd

end
-- ==== Proof.TailFwd.Arrays.lean ====
/- From blocks to arrays: what the windows read, and what the call's result arrays hold at an index, over the reals. -/
module

public import proofs.«01_k».proof.Proof.TailFwd.Run
public import proofs.«01_k».proof.Proof.TailFwd.Rows

@[expose] public section

set_option maxRecDepth 16384

noncomputable section

namespace Cert.Kernel4Ideal.TailFwd

open Cert.Kernel4Ideal Cert.Kernel4Ideal.Gen Idealize.ShloMosaic Idealize.ShloMosaic.TcCoe Idealize.SL.Sem
open Idealize.ShloMosaic.Pipeline (Dat)

/-- Row `r` of block `t`, in the array. -/
def at_ (t : Fin cfg0.N) (r : Fin 256) : Fin 8192 := ⟨256 * t.val + r.val, by have := t.isLt; have : cfg0.N = 32 := N_0; omega⟩

/-- An index of rank two from its coordinates. -/
theorem ix2_of {n k : ℕ} (j : (⟨2, ![n, k]⟩ : Shape).Idx) (r : Fin n) (l : Fin k) (h0 : (j 0).val = r.val) (h1 : (j 1).val = l.val) :
    j = ix2 r l := by
  funext a
  fin_cases a
  · exact Fin.ext h0
  · exact Fin.ext h1

/-- The block that holds row `n`. -/
def pt (n : ℕ) (h : n < 8192) : Fin cfg0.N := ⟨n / 256, by rw [show cfg0.N = 32 from N_0]; omega⟩

/-- A row window reads block `t` at block `t`. -/
def RowIdx (o : Fin cfg0.N → Fin 2 → ℕ) : Prop := ∀ t, o t 0 = t.val ∧ o t 1 = 0

theorem idx_all : RowIdx (fun t => win0_0.index t) ∧ RowIdx (fun t => win0_1.index t) ∧ RowIdx (fun t => win0_2.index t)
    ∧ RowIdx (fun t => win0_3.index t) ∧ RowIdx (fun t => win0_4.index t) ∧ RowIdx (fun t => win0_5.index t)
    ∧ RowIdx (fun t => win0_6.index t) ∧ RowIdx (fun t => win0_7.index t) ∧ RowIdx (fun t => win0_8.index t) := by
  unfold RowIdx; decide +kernel

theorem at_eq {o : Fin cfg0.N → Fin 2 → ℕ} (ho : RowIdx o) {n : ℕ} (j : (⟨2, ![8192, n]⟩ : Shape).Idx) (t : Fin cfg0.N) (r : Fin 256) (l : Fin n)
    (h0 : (j 0).val = o t 0 * 256 + 1 * r.val) (h1 : (j 1).val = o t 1 * n + 1 * l.val) : j = ix2 (at_ t r) l :=
  ix2_of _ _ _ (by rw [h0, (ho t).1]; show _ = 256 * t.val + r.val; omega) (by rw [h1, (ho t).2]; omega)

/-- A window of row blocks covers its array. -/
theorem cover_rows {o : Fin cfg0.N → Fin 2 → ℕ} (ho : RowIdx o) {n : ℕ} (a0 a1 : ℕ) (h0 : a0 < 8192) (h1 : a1 < n) :
    (o (pt a0 h0) 0 * 256 ≤ a0 ∧ a0 < o (pt a0 h0) 0 * 256 + 256) ∧ (o (pt a0 h0) 1 * n ≤ a1 ∧ a1 < o (pt a0 h0) 1 * n + n) := by
  rw [(ho _).1, (ho _).2]; simp only [pt]; omega

variable {F : FTy → Type} [FloatOps F]
variable (m : (ℓ : Loc nD τ sig) → Buf (Elt F) ℓ) (c : Dev nD)

theorem iblk_0 (t : Fin cfg0.N) (r : Fin 256) (l : Fin 1024) :
    (xOf m c t).x (ix2 r l) = (V m c main_arg0 : FVec F S8192x1024 .f32) (ix2 (at_ t r) l) :=
  congrArg (V m c main_arg0 : FVec F S8192x1024 .f32) (at_eq idx_all.1 _ t r l rfl rfl)
theorem iblk_1 (t : Fin cfg0.N) (r : Fin 256) (l : Fin 512) :
    (xOf m c t).ya (ix2 r l) = (V m c main_arg1 : FVec F S8192x512 .f32) (ix2 (at_ t r) l) :=
  congrArg (V m c main_arg1 : FVec F S8192x512 .f32) (at_eq idx_all.2.1 _ t r l rfl rfl)
theorem iblk_2 (t : Fin cfg0.N) (r : Fin 256) (l : Fin 512) :
    (xOf m c t).ys (ix2 r l) = (V m c main_v3 : FVec F S8192x512 .bf16) (ix2 (at_ t r) l) :=
  congrArg (V m c main_v3 : FVec F S8192x512 .bf16) (at_eq idx_all.2.2.1 _ t r l rfl rfl)

/-! ## The result arrays, from their blocks -/

/-- The normed attention next to the signals. -/
theorem arr_3 (G : FVec F S8192x1024 .bf16)
    (h : ∀ (t : Fin cfg0.N) (r : Fin 256) (l : Fin 1024), yB (wOf m c) (xOf m c t) (ix2 r l) = G (ix2 (at_ t r) l)) : (dats m 0 c).arrAt 3 cfg0.N = G := by
  refine (dats m 0 c).arrAt_eq_of_cover 3 G (fun t _ => ?_) fun j => ⟨pt _ (j 0).isLt, flush0_3 _, ?_⟩
  · funext j
    idx_vars j
    exact (h t j0 j1).trans (congrArg G (at_eq idx_all.2.2.2.1 _ t j0 j1 rfl rfl)).symm
  · show j ∈ ((View.whole main_v5_0).slice (win0_3.rect (pt _ (j 0).isLt))).set
    rw [View.set_slice_whole, Rect.mem_set_unit]
    exact Fin.forall_fin_two.mpr (cover_rows idx_all.2.2.2.1 (n := 1024) _ _ (j 0).isLt (j 1).isLt)

/-- The output projection. -/
theorem arr_4 (G : FVec F S8192x1024 .f32)
    (h : ∀ (t : Fin cfg0.N) (r : Fin 256) (l : Fin 1024), ovB (wOf m c) (xOf m c t) (ix2 r l) = G (ix2 (at_ t r) l)) : (dats m 0 c).arrAt 4 cfg0.N = G := by
  refine (dats m 0 c).arrAt_eq_of_cover 4 G (fun t _ => ?_) fun j => ⟨pt _ (j 0).isLt, flush0_4 _, ?_⟩
  · funext j
    idx_vars j
    exact (h t j0 j1).trans (congrArg G (at_eq idx_all.2.2.2.2.1 _ t j0 j1 rfl rfl)).symm
  · show j ∈ ((View.whole main_v5_1).slice (win0_4.rect (pt _ (j 0).isLt))).set
    rw [View.set_slice_whole, Rect.mem_set_unit]
    exact Fin.forall_fin_two.mpr (cover_rows idx_all.2.2.2.2.1 (n := 1024) _ _ (j 0).isLt (j 1).isLt)

/-- The residual stream before the feed-forward. -/
theorem arr_5 (G : FVec F S8192x1024 .f32)
    (h : ∀ (t : Fin cfg0.N) (r : Fin 256) (l : Fin 1024), h1B (wOf m c) (xOf m c t) (ix2 r l) = G (ix2 (at_ t r) l)) : (dats m 0 c).arrAt 5 cfg0.N = G := by
  refine (dats m 0 c).arrAt_eq_of_cover 5 G (fun t _ => ?_) fun j => ⟨pt _ (j 0).isLt, flush0_5 _, ?_⟩
  · funext j
    idx_vars j
    exact (h t j0 j1).trans (congrArg G (at_eq idx_all.2.2.2.2.2.1 _ t j0 j1 rfl rfl)).symm
  · show j ∈ ((View.whole main_v5_2).slice (win0_5.rect (pt _ (j 0).isLt))).set
    rw [View.set_slice_whole, Rect.mem_set_unit]
    exact Fin.forall_fin_two.mpr (cover_rows idx_all.2.2.2.2.2.1 (n := 1024) _ _ (j 0).isLt (j 1).isLt)

/-- The same normed. -/
theorem arr_6 (G : FVec F S8192x1024 .bf16)
    (h : ∀ (t : Fin cfg0.N) (r : Fin 256) (l : Fin 1024), cB (wOf m c) (xOf m c t) (ix2 r l) = G (ix2 (at_ t r) l)) : (dats m 0 c).arrAt 6 cfg0.N = G := by
  refine (dats m 0 c).arrAt_eq_of_cover 6 G (fun t _ => ?_) fun j => ⟨pt _ (j 0).isLt, flush0_6 _, ?_⟩
  · funext j
    idx_vars j
    exact (h t j0 j1).trans (congrArg G (at_eq idx_all.2.2.2.2.2.2.1 _ t j0 j1 rfl rfl)).symm
  · show j ∈ ((View.whole main_v5_3).slice (win0_6.rect (pt _ (j 0).isLt))).set
    rw [View.set_slice_whole, Rect.mem_set_unit]
    exact Fin.forall_fin_two.mpr (cover_rows idx_all.2.2.2.2.2.2.1 (n := 1024) _ _ (j 0).isLt (j 1).isLt)

/-- The hidden layer past the squared relu. -/
theorem arr_7 (G : FVec F S8192x4096 .bf16)
    (h : ∀ (t : Fin cfg0.N) (r : Fin 256) (n : Fin 4096), sB (wOf m c) (xOf m c t) (ix2 r n) = G (ix2 (at_ t r) n)) : (dats m 0 c).arrAt 7 cfg0.N = G := by
  refine (dats m 0 c).arrAt_eq_of_cover 7 G (fun t _ => ?_) fun j => ⟨pt _ (j 0).isLt, flush0_7 _, ?_⟩
  · funext j
    idx_vars j
    exact (h t j0 j1).trans (congrArg G (at_eq idx_all.2.2.2.2.2.2.2.1 _ t j0 j1 rfl rfl)).symm
  · show j ∈ ((View.whole main_v5_4).slice (win0_7.rect (pt _ (j 0).isLt))).set
    rw [View.set_slice_whole, Rect.mem_set_unit]
    exact Fin.forall_fin_two.mpr (cover_rows idx_all.2.2.2.2.2.2.2.1 (n := 4096) _ _ (j 0).isLt (j 1).isLt)

/-- The hidden layer past the relu. -/
theorem arr_8 (G : FVec F S8192x4096 .bf16)
    (h : ∀ (t : Fin cfg0.N) (r : Fin 256) (n : Fin 4096), rrB (wOf m c) (xOf m c t) (ix2 r n) = G (ix2 (at_ t r) n)) : (dats m 0 c).arrAt 8 cfg0.N = G := by
  refine (dats m 0 c).arrAt_eq_of_cover 8 G (fun t _ => ?_) fun j => ⟨pt _ (j 0).isLt, flush0_8 _, ?_⟩
  · funext j
    idx_vars j
    exact (h t j0 j1).trans (congrArg G (at_eq idx_all.2.2.2.2.2.2.2.2 _ t j0 j1 rfl rfl)).symm
  · show j ∈ ((View.whole main_v5_5).slice (win0_8.rect (pt _ (j 0).isLt))).set
    rw [View.set_slice_whole, Rect.mem_set_unit]
    exact Fin.forall_fin_two.mpr (cover_rows idx_all.2.2.2.2.2.2.2.2 (n := 4096) _ _ (j 0).isLt (j 1).isLt)

/-! ## The host lines before the call -/

theorem V_main_v2 : V m c main_v2 = transpose S4x1024x1024 [1, 0, 2]
    (shapeCast S1024x4x1024 (truncf .bf16 (m ((c : Thread nD τ).loc main_arg7) : FVec F S1024x4096 .f32) bitsLt_bf16_f32) shapeCasts_S1024x4096_S1024x4x1024) transposes_S1024x4x1024_S4x1024x1024_1_0_2 := by
  unfold_abbrev_sides; after_results; rfl
theorem V_main_v3 : V m c main_v3 = truncf .bf16 (m ((c : Thread nD τ).loc main_arg2) : FVec F S8192x512 .f32) bitsLt_bf16_f32 := by
  unfold_abbrev_sides; after_results
theorem V_main_v4 : V m c main_v4 = truncf .bf16 (m ((c : Thread nD τ).loc main_arg4) : FVec F S1024x1024 .f32) bitsLt_bf16_f32 := by
  unfold_abbrev_sides; after_results

end Cert.Kernel4Ideal.TailFwd

end
-- ==== Proof.TailFwd.Ref.lean ====
/- The reference's values at an index, over the reals: the same functions of one row of the inputs and of the weights. -/
module

public import proofs.«01_k».proof.Proof.TailFwd.Rows
public import proofs.«01_k».proof.Proof.Gen.Reference4Ideal.Read

@[expose] public section

set_option maxRecDepth 16384

noncomputable section

namespace Cert.Reference4Ideal.TailFwd

open Cert.Reference4Ideal Cert.Reference4Ideal.Gen Cert.Reference4Ideal.Read Idealize.ShloMosaic Idealize.ShloMosaic.TcCoe Idealize.SL.Sem
open Cert.Kernel4Ideal.TailFwd (RW Row yaR ovR h1R cR rrR cH cD cE lf rt sl pl)

theorem c512 : Ideal.ofBits .f32 0x44000000#32 = ((512 : ℝ) : EReal) := by
  simp [Ideal.ofBits, Ideal.ieee]; norm_num; rw [← EReal.coe_mul]; norm_num
theorem c1024 : Ideal.ofBits .f32 0x44800000#32 = ((1024 : ℝ) : EReal) := by
  simp [Ideal.ofBits, Ideal.ieee]; norm_num; rw [← EReal.coe_mul]; norm_num
theorem cH_eq : cH = ((1 / 512 : ℝ) : EReal) := by
  simp [cH, Ideal.ofBits, Ideal.ieee]; norm_num; rw [← EReal.coe_mul]; norm_num
theorem cD_eq : cD = ((1 / 1024 : ℝ) : EReal) := by
  simp [cD, Ideal.ofBits, Ideal.ieee]; norm_num; rw [← EReal.coe_mul]; norm_num

/-- A mean over 512, or over 1024, is a sum times a constant. -/
theorem div512 (x : EReal) : Ideal.div x (Ideal.ofBits .f32 0x44000000#32) = x * cH := by
  rw [c512, cH_eq, Ideal.div_coe (by norm_num)]
theorem div1024 (x : EReal) : Ideal.div x (Ideal.ofBits .f32 0x44800000#32) = x * cD := by
  rw [c1024, cD_eq, Ideal.div_coe (by norm_num)]

/-- A sum over 1024 columns, by halves. -/
theorem sum_halves (f : Fin 1024 → EReal) : ∑ k, f k = ∑ k : Fin 512, f (lf k) + ∑ k : Fin 512, f (rt k) :=
  @Fin.sum_univ_add _ _ 512 512 f

variable (x0 : FVec Ideal S8192x1024 .f32) (x1 x2 : FVec Ideal S8192x512 .f32) (x3 : FVec Ideal S1x512 .f32)
  (x4 : FVec Ideal S1024x1024 .f32) (x5 x6 : FVec Ideal S1x1024 .f32) (x7 : FVec Ideal S1024x4096 .f32)

/-- The weights read. -/
def rw_ : RW where
  ga k := x3 (ix2 0 k)
  wo k l := x4 (ix2 k l)
  gpm l := x5 (ix2 0 l)
  gpf l := x6 (ix2 0 l)
  w1 s k l := x7 (ix2 k (⟨1024 * s.val + l.val, by omega⟩ : Fin 4096))

/-- Row `r` of the arrays. -/
def row (r : Fin 8192) : Row where
  x k := x0 (ix2 r k)
  ya k := x1 (ix2 r k)
  ys k := x2 (ix2 r k)

variable (r : Fin 8192) (l : Fin 1024)

theorem ya_row (k : Fin 512) : val_main_v11 (F := Ideal) x1 x3 (ix2 r k) = yaR (rw_ x3 x4 x5 x6 x7) (row x0 x1 x2 r) k := by
  unfold yaR row rw_
  pointwise [val_main_v11, val_main_v10, val_main_v9, val_main_v8, val_main_v7, val_main_v6, val_main_v5, val_main_cst_1, val_main_v4, val_main_v3, val_main_cst_0, val_main_v2, val_main_v1, val_main_cst, val_main_v0]
  simp only [div512]

/-- The joined array's two halves. -/
theorem y_left (k : Fin 512) : val_main_v12 (F := Ideal) x1 x2 x3 (ix2 r (lf k)) = yaR (rw_ x3 x4 x5 x6 x7) (row x0 x1 x2 r) k := by
  rw [← ya_row]
  have hk : (lf k).val < 512 := k.isLt
  unfold val_main_v12
  generalize val_main_v11 (F := Ideal) x1 x3 = z
  pointwise []
  exact dif_pos hk
theorem y_right (k : Fin 512) : val_main_v12 (F := Ideal) x1 x2 x3 (ix2 r (rt k)) = (row x0 x1 x2 r).ys k := by
  have hk : ¬ (rt k).val < 512 := by show ¬ 512 + k.val < 512; omega
  unfold val_main_v12 row
  generalize val_main_v11 (F := Ideal) x1 x3 = z
  pointwise []
  refine (dif_neg hk).trans ?_
  exact congrArg x2 (congrArg (ix2 r) (Fin.ext (by show 512 + k.val - 512 = k.val; omega)))

theorem ov_row : val_main_v13 (F := Ideal) x1 x2 x3 x4 (ix2 r l) = ovR (rw_ x3 x4 x5 x6 x7) (row x0 x1 x2 r) l := by
  have hl (k) := y_left x0 x1 x2 x3 x4 x5 x6 x7 r k
  have hr (k) := y_right x0 x1 x2 x3 r k
  unfold ovR
  pointwise [val_main_v13]
  rw [sum_halves]
  simp only [hl, hr]; rfl

theorem h1_row : val_main_v26 (F := Ideal) x0 x1 x2 x3 x4 x5 (ix2 r l) = h1R (rw_ x3 x4 x5 x6 x7) (row x0 x1 x2 r) l := by
  have h (k) := ov_row x0 x1 x2 x3 x4 x5 x6 x7 r k
  unfold h1R
  pointwise [val_main_v26, val_main_v25, val_main_v24, val_main_v23, val_main_v22, val_main_v21, val_main_v20, val_main_v19, val_main_cst_4, val_main_v18, val_main_v17, val_main_cst_3, val_main_v16, val_main_v15, val_main_cst_2, val_main_v14]
  simp only [h, div1024]; rfl

theorem c_row : val_main_v38 (F := Ideal) x0 x1 x2 x3 x4 x5 x6 (ix2 r l) = cR (rw_ x3 x4 x5 x6 x7) (row x0 x1 x2 r) l := by
  have h (k) := h1_row x0 x1 x2 x3 x4 x5 x6 x7 r k
  unfold cR
  pointwise [val_main_v38, val_main_v37, val_main_v36, val_main_v35, val_main_v34, val_main_v33, val_main_v32, val_main_cst_7, val_main_v31, val_main_v30, val_main_cst_6, val_main_v29, val_main_v28, val_main_cst_5, val_main_v27]
  simp only [h, div1024]; rfl

theorem r_row (n : Fin 4096) : val_main_v40 (F := Ideal) x0 x1 x2 x3 x4 x5 x6 x7 (ix2 r n) = rrR (rw_ x3 x4 x5 x6 x7) (row x0 x1 x2 r) (sl n) (pl n) := by
  have h (k) := c_row x0 x1 x2 x3 x4 x5 x6 x7 r k
  have hn : n = (⟨1024 * (sl n).val + (pl n).val, by have := (sl n).isLt; have := (pl n).isLt; omega⟩ : Fin 4096) :=
    Fin.ext (by show n.val = 1024 * (n.val / 1024) + n.val % 1024; omega)
  have hw (k : Fin 1024) : (rw_ x3 x4 x5 x6 x7).w1 (sl n) k (pl n) = x7 (ix2 k n) := congrArg (fun n => x7 (ix2 k n)) hn.symm
  unfold rrR
  simp only [hw, ← h]
  pointwise [val_main_v40, val_main_v39, val_main_call0_v0, val_main_call0_cst]

theorem s_row (n : Fin 4096) : val_main_v43 (F := Ideal) x0 x1 x2 x3 x4 x5 x6 x7 (ix2 r n)
    = rrR (rw_ x3 x4 x5 x6 x7) (row x0 x1 x2 r) (sl n) (pl n) * rrR (rw_ x3 x4 x5 x6 x7) (row x0 x1 x2 r) (sl n) (pl n) :=
  congrArg₂ (· * ·) (r_row x0 x1 x2 x3 x4 x5 x6 x7 r n) (r_row x0 x1 x2 x3 x4 x5 x6 x7 r n)

end Cert.Reference4Ideal.TailFwd

end
-- ==== Proof.TailFwd.Claim.lean ====
/- The first forward call's results are the reference's: block by block the same functions of one row. -/
module

public import proofs.«01_k».proof.Proof.TailFwd.Arrays
public import proofs.«01_k».proof.Proof.TailFwd.Ref

@[expose] public section

set_option maxRecDepth 16384

noncomputable section

namespace Cert.Kernel4Ideal.TailFwd

open Cert.Kernel4Ideal Cert.Kernel4Ideal.Gen Idealize.ShloMosaic Idealize.ShloMosaic.TcCoe Idealize.SL.Sem
open Idealize.ShloMosaic.Pipeline (Dat)
open Cert.Reference4Ideal.Read

variable (m : (ℓ : Loc nD τ sig) → Buf (Elt Ideal) ℓ) (c : Dev nD)

abbrev A0 : FVec Ideal S8192x1024 .f32 := m ((c : Thread nD τ).loc main_arg0)
abbrev A1 : FVec Ideal S8192x512 .f32 := m ((c : Thread nD τ).loc main_arg1)
abbrev A2 : FVec Ideal S8192x512 .f32 := m ((c : Thread nD τ).loc main_arg2)
abbrev A3 : FVec Ideal S1x512 .f32 := m ((c : Thread nD τ).loc main_arg3)
abbrev A4 : FVec Ideal S1024x1024 .f32 := m ((c : Thread nD τ).loc main_arg4)
abbrev A5 : FVec Ideal S1x1024 .f32 := m ((c : Thread nD τ).loc main_arg5)
abbrev A6 : FVec Ideal S1x1024 .f32 := m ((c : Thread nD τ).loc main_arg6)
abbrev A7 : FVec Ideal S1024x4096 .f32 := m ((c : Thread nD τ).loc main_arg7)

/-- Row `r` of block `t` is row `256 t + r` of the arguments. -/
theorem row_eq (t : Fin cfg0.N) (r : Fin 256) :
    row (xOf m c t) r = Cert.Reference4Ideal.TailFwd.row (A0 m c) (A1 m c) (A2 m c) (at_ t r) := by
  unfold row Cert.Reference4Ideal.TailFwd.row
  congr 1
  · funext k; rw [iblk_0, V_main_arg0]
  · funext k; rw [iblk_1, V_main_arg1]
  · funext k; rw [iblk_2, V_main_v3]; rfl

/-- The feed-forward weight in four slabs is the weight itself, read by columns. -/
theorem slabs_eq (s : Fin 4) (k l : Fin 1024) :
    (V m c main_v2 : FVec Ideal S4x1024x1024 .bf16) (ix3 s k l) = A7 m c (ix2 k (⟨1024 * s.val + l.val, by omega⟩ : Fin 4096)) := by
  rw [V_main_v2]
  pointwise []
  exact congrArg (A7 m c) (congrArg (ix2 k) (Fin.ext (by show _ = 1024 * s.val + l.val; simp [Nat.mul_comm])))

/-- The weights the call reads are the arguments'. -/
theorem rw_eq : rw_ (wOf m c) = Cert.Reference4Ideal.TailFwd.rw_ (A3 m c) (A4 m c) (A5 m c) (A6 m c) (A7 m c) := by
  unfold rw_ Cert.Reference4Ideal.TailFwd.rw_ wOf wtsOf
  rw [RW.mk.injEq]
  exact ⟨funext fun l => congrFun (V_main_arg3 m c) (ix2 0 l), funext fun k => funext fun l => congrFun (V_main_v4 m c) (ix2 k l),
    funext fun l => congrFun (V_main_arg5 m c) (ix2 0 l), funext fun l => congrFun (V_main_arg6 m c) (ix2 0 l),
    funext fun s => funext fun k => funext fun l => slabs_eq m c s k l⟩

open Cert.Reference4Ideal.TailFwd in
theorem out_0 : (dats m 0 c).arrAt 3 cfg0.N = val_main_v41 (F := Ideal) (A1 m c) (A2 m c) (A3 m c) :=
  arr_3 m c _ fun t r l => by
    have hl := l.isLt
    by_cases h : l.val < 512
    · rw [show l = lf ⟨l.val, h⟩ from rfl, yB_left, row_eq, rw_eq]
      exact (y_left _ _ _ _ _ _ _ _ _ _).symm
    · rw [show l = rt ⟨l.val - 512, by omega⟩ from Fin.ext (by show l.val = 512 + (l.val - 512); omega), yB_right, row_eq]
      exact (y_right _ _ _ _ _ _).symm

open Cert.Reference4Ideal.TailFwd in
theorem out_1 : (dats m 0 c).arrAt 4 cfg0.N = val_main_v13 (F := Ideal) (A1 m c) (A2 m c) (A3 m c) (A4 m c) :=
  arr_4 m c _ fun t r l => by
    rw [ovB_row, row_eq, rw_eq]; exact (ov_row _ _ _ _ _ _ _ _ _ l).symm

open Cert.Reference4Ideal.TailFwd in
theorem out_2 : (dats m 0 c).arrAt 5 cfg0.N = val_main_v26 (F := Ideal) (A0 m c) (A1 m c) (A2 m c) (A3 m c) (A4 m c) (A5 m c) :=
  arr_5 m c _ fun t r l => by
    rw [h1B_row, row_eq, rw_eq]; exact (h1_row _ _ _ _ _ _ _ _ _ l).symm

open Cert.Reference4Ideal.TailFwd in
theorem out_3 : (dats m 0 c).arrAt 6 cfg0.N = val_main_v42 (F := Ideal) (A0 m c) (A1 m c) (A2 m c) (A3 m c) (A4 m c) (A5 m c) (A6 m c) :=
  arr_6 m c _ fun t r l => by
    rw [cB_row, row_eq, rw_eq]; exact (c_row _ _ _ _ _ _ _ _ _ l).symm

open Cert.Reference4Ideal.TailFwd in
theorem out_4 : (dats m 0 c).arrAt 7 cfg0.N
    = val_main_v44 (F := Ideal) (A0 m c) (A1 m c) (A2 m c) (A3 m c) (A4 m c) (A5 m c) (A6 m c) (A7 m c) :=
  arr_7 m c _ fun t r n => by
    rw [sB_row, row_eq, rw_eq]; exact (s_row _ _ _ _ _ _ _ _ _ n).symm

open Cert.Reference4Ideal.TailFwd in
theorem out_5 : (dats m 0 c).arrAt 8 cfg0.N
    = val_main_v45 (F := Ideal) (A0 m c) (A1 m c) (A2 m c) (A3 m c) (A4 m c) (A5 m c) (A6 m c) (A7 m c) :=
  arr_8 m c _ fun t r n => by
    rw [rrB_row, row_eq, rw_eq]; exact (r_row _ _ _ _ _ _ _ _ _ n).symm

end Cert.Kernel4Ideal.TailFwd

end
-- ==== Proof.PreAttnBwd.Buffers.lean ====
/- Buffers at contents nobody names. -/
module

public import proofs.«01_k».proof.Proof.Gen.Kernel5Ideal.Frame.RunA
public import Idealize.ShloMosaic.Lib.Claim

@[expose] public section

set_option maxRecDepth 16384

noncomputable section

namespace Cert.Kernel5Ideal.PreAttnBwd

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The buffer `M` of core `c`, at contents nobody names. -/
def any (c : Dev nD) {S : Shape} {e : EltTy} (M : Memref sig .tc .vmem S e) : sProp 𝕄 :=
  iprop(∃ d, owns (c : Thread nD τ) M fullShare d)

theorem any_of_owns {c : Dev nD} {S : Shape} {e : EltTy} {M : Memref sig .tc .vmem S e} (d : Vec F S e) :
    owns (c : Thread nD τ) M fullShare d ⊢ (∃ d, owns (c : Thread nD τ) M fullShare d : sProp 𝕄) := by
  iintro H; iexists d; iexact H

theorem any_of_known {c : Dev nD} {S : Shape} {e : EltTy} {M : Memref sig .tc .vmem S e} (d : Vec F S e) :
    owns (c : Thread nD τ) M fullShare d ⊢ (any c M : sProp 𝕄) := any_of_owns d

theorem any_of_pts {c : Dev nD} {S : Shape} {e : EltTy} {M : Memref sig .tc .vmem S e} (f : Buf (Elt F) (M.view.loc (c : Thread nD τ))) :
    (M.view.loc (c : Thread nD τ) ↦[M.view.set]{fullShare} f) ⊢ (any c M : sProp 𝕄) := by
  unfold any owns
  iintro H
  iexists (M.view.read (Elt F) f); iexists f; isplitr; · ipureintro; rfl
  iexact H

theorem any_of_writes {c : Dev nD} {S : Shape} {e : EltTy} {M : Memref sig .tc .vmem S e} (L : List (View.Piece (Elt F) S e)) :
    (∃ f, M.view.loc (c : Thread nD τ) ↦[M.view.set]{fullShare} M.view.writes (Elt F) f L) ⊢ (any c M : sProp 𝕄) := by
  iintro ⟨%f, H⟩
  iapply any_of_pts
  iexact H

end Cert.Kernel5Ideal.PreAttnBwd

end
-- ==== Proof.PreAttnBwd.Later.lean ====
/- The body of the backward call before attention at a point that is not the first, run through to its end: the last
   point, which writes the summed gradients out, and every other. The contents of results and scratch stay unnamed. -/
module

public import proofs.«01_k».proof.Proof.PreAttnBwd.Buffers
public import Idealize.ShloMosaic.Lib.Claim

@[expose] public section

set_option maxRecDepth 16384

noncomputable section

namespace Cert.Kernel5Ideal.PreAttnBwd

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 80000000 in
/-- The body at a point after the first, on any whole buffers. -/
theorem later (c : Dev nD) (i : grid0.Coords)
    (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S256x1024 .f32) (h3 : a3.IsWhole)
    (a4 : Memref sig .tc .vmem S256x1024 .f32) (h4 : a4.IsWhole) (a5 : Memref sig .tc .vmem S256x128 .f32) (h5 : a5.IsWhole) (a6 : Memref sig .tc .vmem S256x1024 .f32) (h6 : a6.IsWhole) (a7 : Memref sig .tc .vmem S256x512 .f32) (h7 : a7.IsWhole)
    (a8 : Memref sig .tc .vmem S256x1024 .f32) (h8 : a8.IsWhole) (a9 : Memref sig .tc .vmem S256x2688 .bf16) (h9 : a9.IsWhole) (a10 : Memref sig .tc .vmem S1x1024 .f32) (h10 : a10.IsWhole) (a11 : Memref sig .tc .vmem S1x128 .f32) (h11 : a11.IsWhole)
    (a12 : Memref sig .tc .vmem S1x512 .f32) (h12 : a12.IsWhole) (a13 : Memref sig .tc .vmem S1x512 .f32) (h13 : a13.IsWhole) (a14 : Memref sig .tc .vmem S1x512 .f32) (h14 : a14.IsWhole) (a15 : Memref sig .tc .vmem S8x128x128 .f32) (h15 : a15.IsWhole)
    (a16 : Memref sig .tc .vmem S128x512 .f32) (h16 : a16.IsWhole) (a17 : Memref sig .tc .vmem S128x128 .f32) (h17 : a17.IsWhole) (a18 : Memref sig .tc .vmem S1x1024 .f32) (h18 : a18.IsWhole) (a19 : Memref sig .tc .vmem S1024x2688 .bf16) (h19 : a19.IsWhole)
    (a20 : Memref sig .tc .vmem S1x512 .f32) (h20 : a20.IsWhole) (a21 : Memref sig .tc .vmem S1x512 .f32) (h21 : a21.IsWhole) (a22 : Memref sig .tc .vmem S8x128x128 .bf16) (h22 : a22.IsWhole) (a23 : Memref sig .tc .vmem S8x128x128 .bf16) (h23 : a23.IsWhole)
    (a24 : Memref sig .tc .vmem S128x512 .f32) (h24 : a24.IsWhole) (a25 : Memref sig .tc .vmem S1x512 .f32) (h25 : a25.IsWhole) (a26 : Memref sig .tc .vmem S512x128 .bf16) (h26 : a26.IsWhole) (a27 : Memref sig .tc .vmem S1024x512 .bf16) (h27 : a27.IsWhole)
    (a28 : Memref sig .tc .vmem S1024x128 .bf16) (h28 : a28.IsWhole) (a29 : Memref sig .tc .vmem S1024x128 .bf16) (h29 : a29.IsWhole) (a30 : Memref sig .tc .vmem S1x128 .f32) (h30 : a30.IsWhole) (a31 : Memref sig .tc .vmem S256x512 .f32) (h31 : a31.IsWhole)
    (a32 : Memref sig .tc .vmem S256x512 .f32) (h32 : a32.IsWhole)
    (hc0 : ¬ cond0_0 i)
    (x0 : Vec F S256x1024 .f32) (x1 : Vec F S256x1024 .f32) (x2 : Vec F S256x1024 .f32) (x3 : Vec F S256x1024 .f32) (x4 : Vec F S256x1024 .f32) (x5 : Vec F S256x128 .f32) (x6 : Vec F S256x1024 .f32) (x7 : Vec F S256x512 .f32) (x8 : Vec F S256x1024 .f32) (x9 : Vec F S256x2688 .bf16) (x10 : Vec F S1x1024 .f32) (x11 : Vec F S1x128 .f32) (x12 : Vec F S1x512 .f32) (x13 : Vec F S1x512 .f32) (x14 : Vec F S1x512 .f32) (x15 : Vec F S8x128x128 .f32) (x16 : Vec F S128x512 .f32) (x17 : Vec F S128x128 .f32) (x18 : Vec F S1x1024 .f32) (x19 : Vec F S1024x2688 .bf16) (x20 : Vec F S1x512 .f32) (x21 : Vec F S1x512 .f32) (x22 : Vec F S8x128x128 .bf16) (x23 : Vec F S8x128x128 .bf16) (x24 : Vec F S128x512 .f32) (x25 : Vec F S1x512 .f32) (x26 : Vec F S512x128 .bf16) (x27 : Vec F S1024x512 .bf16) (x28 : Vec F S1024x128 .bf16) (x29 : Vec F S1024x128 .bf16) (x30 : Vec F S1x128 .f32) (x31 : Vec F S256x512 .f32) (x32 : Vec F S256x512 .f32)
    (g0 : HbBuf0 (F := F) c hbM0_0) (g1 : HbBuf0 (F := F) c hbM0_1) (g2 : HbBuf0 (F := F) c hbM0_2) (g3 : HbBuf0 (F := F) c hbM0_3) (g4 : HbBuf0 (F := F) c hbM0_4) (g5 : HbBuf0 (F := F) c hbM0_5) (g6 : HbBuf0 (F := F) c hbM0_6) (g7 : HbBuf0 (F := F) c hbM0_7) (g8 : HbBuf0 (F := F) c hbM0_8) (g9 : HbBuf0 (F := F) c hbM0_9) (g10 : HbBuf0 (F := F) c hbM0_10) (g11 : HbBuf0 (F := F) c hbM0_11)
    (W : Waits sig Unit) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4
      ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
      ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14
      ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19
      ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24
      ∗ owns (c : Thread nD τ) a25 fullShare x25 ∗ owns (c : Thread nD τ) a26 fullShare x26 ∗ owns (c : Thread nD τ) a27 fullShare x27 ∗ owns (c : Thread nD τ) a28 fullShare x28 ∗ owns (c : Thread nD τ) a29 fullShare x29
      ∗ owns (c : Thread nD τ) a30 fullShare x30 ∗ owns (c : Thread nD τ) a31 fullShare x31 ∗ owns (c : Thread nD τ) a32 fullShare x32 ∗ semVal ((c : Thread nD τ), SemLoc.dma 28) 0 ∗ semVal ((c : Thread nD τ), SemLoc.dma 29) 0
      ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0
      ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0
      ∗ hbPt0 c hbM0_0 g0 ∗ hbPt0 c hbM0_1 g1 ∗ hbPt0 c hbM0_2 g2 ∗ hbPt0 c hbM0_3 g3 ∗ hbPt0 c hbM0_4 g4
      ∗ hbPt0 c hbM0_5 g5 ∗ hbPt0 c hbM0_6 g6 ∗ hbPt0 c hbM0_7 g7 ∗ hbPt0 c hbM0_8 g8 ∗ hbPt0 c hbM0_9 g9
      ∗ hbPt0 c hbM0_10 g10 ∗ hbPt0 c hbM0_11 g11 ∗ owes (c : Thread nD τ) 0 W
      ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7 ∗ any c a8 ∗ any c a9
        ∗ any c a10 ∗ any c a11 ∗ any c a12 ∗ any c a13 ∗ any c a14
        ∗ any c a15 ∗ any c a16 ∗ any c a17 ∗ any c a18 ∗ any c a19
        ∗ any c a20 ∗ any c a21 ∗ any c a22 ∗ any c a23 ∗ any c a24
        ∗ any c a25 ∗ any c a26 ∗ any c a27 ∗ any c a28 ∗ any c a29
        ∗ any c a30 ∗ any c a31 ∗ any c a32 ∗ semVal ((c : Thread nD τ), SemLoc.dma 28) 0 ∗ semVal ((c : Thread nD τ), SemLoc.dma 29) 0
        ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0
        ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0
        ∗ hbPt0 c hbM0_0 g0 ∗ hbPt0 c hbM0_1 g1 ∗ hbPt0 c hbM0_2 g2 ∗ hbPt0 c hbM0_3 g3 ∗ hbPt0 c hbM0_4 g4
        ∗ hbPt0 c hbM0_5 g5 ∗ hbPt0 c hbM0_6 g6 ∗ hbPt0 c hbM0_7 g7 ∗ hbPt0 c hbM0_8 g8 ∗ hbPt0 c hbM0_9 g9
        ∗ hbPt0 c hbM0_10 g10 ∗ hbPt0 c hbM0_11 g11 ∗ (∃ W', owes (c : Thread nD τ) 0 W')) -∗ K ⟨⟩))
      ⊢ wp frame (wpE (defs₀ (F := F)) Variants.none c none) Set.univ (cc0_pre_attn_bwd i a0 h0 a1 h1 a2 h2 a3 h3 a4 h4 a5 h5 a6 h6 a7 h7
        (Memref.whole main_arg7) (Memref.isWhole_whole _) (Memref.whole main_v95) (Memref.isWhole_whole _) (Memref.whole main_arg10) (Memref.isWhole_whole _) (Memref.whole main_arg11) (Memref.isWhole_whole _) (Memref.whole main_v96) (Memref.isWhole_whole _) (Memref.whole main_v98) (Memref.isWhole_whole _) (Memref.whole main_v30) (Memref.isWhole_whole _) (Memref.whole main_arg14) (Memref.isWhole_whole _) (Memref.whole main_v90) (Memref.isWhole_whole _) (Memref.whole main_v51) (Memref.isWhole_whole _) (Memref.whole main_v66) (Memref.isWhole_whole _) (Memref.whole main_v83) (Memref.isWhole_whole _)
        a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32
        cc0_scoped0 cc0_scoped1 cc0_scoped2 cc0_scoped3 cc0_scoped4 cc0_scoped5 cc0_scoped6 cc0_scoped7 cc0_scoped8 cc0_scoped9 cc0_scoped10 cc0_scoped11) K := by
  simp only [cc0_pre_attn_bwd_eq_skeleton]; unfold cc0_pre_attn_bwd_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩,
    Hq0, Hq1, Hq2, Hq3, Hq4, Hq5, Hq6, Hq7, Hq8, Hq9, Hq10, Hq11, Hh0, Hh1, Hh2, Hh3, Hh4, Hh5, Hh6, Hh7, Hh8, Hh9, Hh10, Hh11, HW, Hk⟩
  obtain rfl := h0.eq_unread hf0; obtain rfl := h1.eq_unread hf1; obtain rfl := h2.eq_unread hf2; obtain rfl := h3.eq_unread hf3
  obtain rfl := h4.eq_unread hf4; obtain rfl := h5.eq_unread hf5; obtain rfl := h6.eq_unread hf6; obtain rfl := h7.eq_unread hf7
  obtain rfl := h8.eq_unread hf8; obtain rfl := h9.eq_unread hf9; obtain rfl := h10.eq_unread hf10; obtain rfl := h11.eq_unread hf11
  obtain rfl := h12.eq_unread hf12; obtain rfl := h13.eq_unread hf13; obtain rfl := h14.eq_unread hf14; obtain rfl := h15.eq_unread hf15
  obtain rfl := h16.eq_unread hf16; obtain rfl := h17.eq_unread hf17; obtain rfl := h18.eq_unread hf18; obtain rfl := h19.eq_unread hf19
  obtain rfl := h20.eq_unread hf20; obtain rfl := h21.eq_unread hf21; obtain rfl := h22.eq_unread hf22; obtain rfl := h23.eq_unread hf23
  obtain rfl := h24.eq_unread hf24; obtain rfl := h25.eq_unread hf25; obtain rfl := h26.eq_unread hf26; obtain rfl := h27.eq_unread hf27
  obtain rfl := h28.eq_unread hf28; obtain rfl := h29.eq_unread hf29; obtain rfl := h30.eq_unread hf30; obtain rfl := h31.eq_unread hf31
  obtain rfl := h32.eq_unread hf32
  by_cases hc1 : cond0_1 i
  all_goals
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iapply any_of_pts; iexact H8
    isplitl [H9]; · iapply any_of_pts; iexact H9
    isplitl [H10]; · iapply any_of_pts; iexact H10
    isplitl [H11]; · iapply any_of_pts; iexact H11
    isplitl [H12]; · iapply any_of_pts; iexact H12
    isplitl [H13]; · iapply any_of_pts; iexact H13
    isplitl [H14]; · iapply any_of_pts; iexact H14
    isplitl [H15]; · iapply any_of_pts; iexact H15
    isplitl [H16]; · iapply any_of_pts; iexact H16
    isplitl [H17]; · iapply any_of_pts; iexact H17
    isplitl [H18]; · iapply any_of_pts; iexact H18
    isplitl [H19]; · iapply any_of_pts; iexact H19
    isplitl [H20]; · iapply any_of_pts; iexact H20
    isplitl [H21]; · iapply any_of_pts; iexact H21
    isplitl [H22]; · iapply any_of_pts; iexact H22
    isplitl [H23]; · iapply any_of_pts; iexact H23
    isplitl [H24]; · iapply any_of_pts; iexact H24
    isplitl [H25]; · iapply any_of_pts; iexact H25
    isplitl [H26]; · iapply any_of_pts; iexact H26
    isplitl [H27]; · iapply any_of_pts; iexact H27
    isplitl [H28]; · iapply any_of_pts; iexact H28
    isplitl [H29]; · iapply any_of_pts; iexact H29
    isplitl [H30]; · iapply any_of_pts; iexact H30
    isplitl [H31]; · iapply any_of_pts; iexact H31
    isplitl [H32]; · iapply any_of_pts; iexact H32
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    iexists _; iexact HW

end Cert.Kernel5Ideal.PreAttnBwd

end
-- ==== Proof.PreAttnBwd.Frame.lean ====
/- The frame of the backward call before attention. What a point leaves in its results and in its scratch depends on every
   earlier point; the frame says nothing of either, so both are handed to the body at any contents and taken back at any
   contents. What remains is that the body, at the first point, which copies the weights in, and at every later one,
   runs to its end, gives its inputs back and leaves its transfer counters at zero. -/
module

public import proofs.«01_k».proof.Proof.Gen.Kernel5Ideal.Frame.RunA
public import proofs.«01_k».proof.Proof.PreAttnBwd.Later
public import Idealize.ShloMosaic.Lib.Claim

@[expose] public section

set_option maxRecDepth 16384

noncomputable section

namespace Cert.Kernel5Ideal.PreAttnBwd

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem both {P Q P' Q' : sProp 𝕄} (h : P ⊢ P') (k : Q ⊢ Q') : iprop(P ∗ Q) ⊢ iprop(P' ∗ Q') := BIClass.sep_mono h k

theorem given {P P' Q : sProp 𝕄} (h : P' ⊢ P) : iprop(P -∗ Q) ⊢ iprop(P' -∗ Q) := wand_mono h .rfl

variable (m : (ℓ : Loc nD τ sig) → Buf (Elt F) ℓ) (ρ : Dev nD → PrngReg)

/-! ## One point -/

/-- What a point gives back: its inputs as they were, results and scratch at any contents, the transfer counters at zero, the
    operands in HBM as they were. -/
def back (c : Dev nD) (t : Fin cfg0.N) (x0 : Vec F S256x1024 .f32) (x1 : Vec F S256x1024 .f32) (x2 : Vec F S256x1024 .f32) (x3 : Vec F S256x1024 .f32) (x4 : Vec F S256x1024 .f32) (x5 : Vec F S256x128 .f32) (x6 : Vec F S256x1024 .f32) (x7 : Vec F S256x512 .f32) : sProp 𝕄 :=
  iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3
      ∗ owns (c : Thread nD τ) (ms0_4 t) fullShare x4 ∗ owns (c : Thread nD τ) (ms0_5 t) fullShare x5 ∗ owns (c : Thread nD τ) (ms0_6 t) fullShare x6 ∗ owns (c : Thread nD τ) (ms0_7 t) fullShare x7
      ∗ any c (ms0_8 t) ∗ any c (ms0_9 t) ∗ any c (ms0_10 t) ∗ any c (ms0_11 t)
      ∗ any c (ms0_12 t) ∗ any c (ms0_13 t) ∗ any c (ms0_14 t) ∗ any c (ms0_15 t)
      ∗ any c (ms0_16 t) ∗ any c (ms0_17 t) ∗ any c scM0_0 ∗ any c scM0_1
      ∗ any c scM0_2 ∗ any c scM0_3 ∗ any c scM0_4 ∗ any c scM0_5
      ∗ any c scM0_6 ∗ any c scM0_7 ∗ any c scM0_8 ∗ any c scM0_9
      ∗ any c scM0_10 ∗ any c scM0_11 ∗ any c scM0_12 ∗ any c scM0_13
      ∗ any c scM0_14 ∗ semVal ((c : Thread nD τ), SemLoc.dma 28) 0 ∗ semVal ((c : Thread nD τ), SemLoc.dma 29) 0 ∗ semVal ((c : Thread nD τ), SemLoc.dma 30) 0
      ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0
      ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0
      ∗ semVal ((c : Thread nD τ), SemLoc.dma 39) 0 ∗ hbPt0 c hbM0_0 (V m c main_arg7) ∗ hbPt0 c hbM0_1 (V m c main_v95) ∗ hbPt0 c hbM0_2 (V m c main_arg10)
      ∗ hbPt0 c hbM0_3 (V m c main_arg11) ∗ hbPt0 c hbM0_4 (V m c main_v96) ∗ hbPt0 c hbM0_5 (V m c main_v98) ∗ hbPt0 c hbM0_6 (V m c main_v30)
      ∗ hbPt0 c hbM0_7 (V m c main_arg14) ∗ hbPt0 c hbM0_8 (V m c main_v90) ∗ hbPt0 c hbM0_9 (V m c main_v51) ∗ hbPt0 c hbM0_10 (V m c main_v66)
      ∗ hbPt0 c hbM0_11 (V m c main_v83) ∗ (∃ W', owes (c : Thread nD τ) 0 W'))

set_option maxHeartbeats 8000000 in
/-- The body at point `t`, from results and scratch at given contents. -/
theorem body (c : Dev nD) (t : Fin cfg0.N) (x0 : Vec F S256x1024 .f32) (x1 : Vec F S256x1024 .f32) (x2 : Vec F S256x1024 .f32) (x3 : Vec F S256x1024 .f32) (x4 : Vec F S256x1024 .f32) (x5 : Vec F S256x128 .f32) (x6 : Vec F S256x1024 .f32) (x7 : Vec F S256x512 .f32)
    (d8 : Vec F S256x1024 .f32) (d9 : Vec F S256x2688 .bf16) (d10 : Vec F S1x1024 .f32) (d11 : Vec F S1x128 .f32) (d12 : Vec F S1x512 .f32) (d13 : Vec F S1x512 .f32) (d14 : Vec F S1x512 .f32) (d15 : Vec F S8x128x128 .f32) (d16 : Vec F S128x512 .f32) (d17 : Vec F S128x128 .f32)
    (s0 : Vec F S1x1024 .f32) (s1 : Vec F S1024x2688 .bf16) (s2 : Vec F S1x512 .f32) (s3 : Vec F S1x512 .f32) (s4 : Vec F S8x128x128 .bf16) (s5 : Vec F S8x128x128 .bf16) (s6 : Vec F S128x512 .f32) (s7 : Vec F S1x512 .f32) (s8 : Vec F S512x128 .bf16) (s9 : Vec F S1024x512 .bf16) (s10 : Vec F S1024x128 .bf16) (s11 : Vec F S1024x128 .bf16) (s12 : Vec F S1x128 .f32) (s13 : Vec F S256x512 .f32) (s14 : Vec F S256x512 .f32)
    (W : Waits sig Unit) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3
      ∗ owns (c : Thread nD τ) (ms0_4 t) fullShare x4 ∗ owns (c : Thread nD τ) (ms0_5 t) fullShare x5 ∗ owns (c : Thread nD τ) (ms0_6 t) fullShare x6 ∗ owns (c : Thread nD τ) (ms0_7 t) fullShare x7
      ∗ owns (c : Thread nD τ) (ms0_8 t) fullShare d8 ∗ owns (c : Thread nD τ) (ms0_9 t) fullShare d9 ∗ owns (c : Thread nD τ) (ms0_10 t) fullShare d10 ∗ owns (c : Thread nD τ) (ms0_11 t) fullShare d11
      ∗ owns (c : Thread nD τ) (ms0_12 t) fullShare d12 ∗ owns (c : Thread nD τ) (ms0_13 t) fullShare d13 ∗ owns (c : Thread nD τ) (ms0_14 t) fullShare d14 ∗ owns (c : Thread nD τ) (ms0_15 t) fullShare d15
      ∗ owns (c : Thread nD τ) (ms0_16 t) fullShare d16 ∗ owns (c : Thread nD τ) (ms0_17 t) fullShare d17 ∗ owns (c : Thread nD τ) scM0_0 fullShare s0 ∗ owns (c : Thread nD τ) scM0_1 fullShare s1
      ∗ owns (c : Thread nD τ) scM0_2 fullShare s2 ∗ owns (c : Thread nD τ) scM0_3 fullShare s3 ∗ owns (c : Thread nD τ) scM0_4 fullShare s4 ∗ owns (c : Thread nD τ) scM0_5 fullShare s5
      ∗ owns (c : Thread nD τ) scM0_6 fullShare s6 ∗ owns (c : Thread nD τ) scM0_7 fullShare s7 ∗ owns (c : Thread nD τ) scM0_8 fullShare s8 ∗ owns (c : Thread nD τ) scM0_9 fullShare s9
      ∗ owns (c : Thread nD τ) scM0_10 fullShare s10 ∗ owns (c : Thread nD τ) scM0_11 fullShare s11 ∗ owns (c : Thread nD τ) scM0_12 fullShare s12 ∗ owns (c : Thread nD τ) scM0_13 fullShare s13
      ∗ owns (c : Thread nD τ) scM0_14 fullShare s14 ∗ semVal ((c : Thread nD τ), SemLoc.dma 28) 0 ∗ semVal ((c : Thread nD τ), SemLoc.dma 29) 0 ∗ semVal ((c : Thread nD τ), SemLoc.dma 30) 0
      ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0
      ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0
      ∗ semVal ((c : Thread nD τ), SemLoc.dma 39) 0 ∗ hbPt0 c hbM0_0 (V m c main_arg7) ∗ hbPt0 c hbM0_1 (V m c main_v95) ∗ hbPt0 c hbM0_2 (V m c main_arg10)
      ∗ hbPt0 c hbM0_3 (V m c main_arg11) ∗ hbPt0 c hbM0_4 (V m c main_v96) ∗ hbPt0 c hbM0_5 (V m c main_v98) ∗ hbPt0 c hbM0_6 (V m c main_v30)
      ∗ hbPt0 c hbM0_7 (V m c main_arg14) ∗ hbPt0 c hbM0_8 (V m c main_v90) ∗ hbPt0 c hbM0_9 (V m c main_v51) ∗ hbPt0 c hbM0_10 (V m c main_v66)
      ∗ hbPt0 c hbM0_11 (V m c main_v83) ∗ owes (c : Thread nD τ) 0 W ∗ (back m c t x0 x1 x2 x3 x4 x5 x6 x7 -∗ K ⟨⟩))
      ⊢ wp frame (wpE (defs₀ (F := F)) Variants.none c none) Set.univ (bodyAt0 t) K := by
  unfold back bodyAt0
  by_cases h0 : cond0_0 (grid0.coords t)
  · have h1 : ¬ cond0_1 (grid0.coords t) := fun h => by
      have := (hcond0_0 t).mp h0; have := (hcond0_1 t).mp h; omega
    obtain ⟨_, _, _, _, _, _, _, _, _, _, _, _, _, _, _, _, _, _, _, _, _, _, _, _, ⟨_, run⟩⟩ :=
      kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) h0 h1
      x0 x1 x2 x3 x4 x5 x6 x7
      (V m c main_arg7) (V m c main_v95) (V m c main_arg10) (V m c main_arg11) (V m c main_v96) (V m c main_v98) (V m c main_v30) (V m c main_arg14) (V m c main_v90) (V m c main_v51) (V m c main_v66) (V m c main_v83)
    refine .trans ?_ (run W K)
    with_reducible repeat' refine both ?_ ?_
    all_goals with_reducible first | exact .rfl | exact any_of_owns _ | refine given ?_
    with_reducible repeat' refine both ?_ ?_
    all_goals with_reducible first | exact .rfl | exact any_of_known _ | exact any_of_writes _
  · exact later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) h0
      x0 x1 x2 x3 x4 x5 x6 x7 d8 d9 d10 d11 d12 d13 d14 d15 d16 d17 s0 s1 s2 s3 s4 s5 s6 s7 s8 s9 s10 s11 s12 s13 s14
      (V m c main_arg7) (V m c main_v95) (V m c main_arg10) (V m c main_arg11) (V m c main_v96) (V m c main_v98) (V m c main_v30) (V m c main_arg14) (V m c main_v90) (V m c main_v51) (V m c main_v66) (V m c main_v83) W K

/-! ## The call over its grid -/

/-- The results are the windows whose contents are left open. -/
def forgets : Fin 18 → Bool := fun w => decide (8 ≤ w.val)

/-- The proof data: the arrays as the region finds them, the inputs at their blocks, the results unnamed, between points what
    the launch hands over. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | w => Pipeline.Dat.unnamed (cfg := cfg0) w t
  Φ _ := Pipeline.ΦD osem0 spec0 H0 (V m) c
  q _ := fullShare
  owed _ := 0

theorem A_eq (c : Dev nD) (w) : (dats m 0 c).A w = V m c (Pipeline.arrRef spec0 w) := by dsimp only [dats]

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the loop holds before point `t`, and what it takes back. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare d) ∗ (∃ d, owns (c : Thread nD τ) (ms0_9 t) fullShare d)
    ∗ (∃ d, owns (c : Thread nD τ) (ms0_10 t) fullShare d) ∗ (∃ d, owns (c : Thread nD τ) (ms0_11 t) fullShare d)
    ∗ (∃ d, owns (c : Thread nD τ) (ms0_12 t) fullShare d) ∗ (∃ d, owns (c : Thread nD τ) (ms0_13 t) fullShare d)
    ∗ (∃ d, owns (c : Thread nD τ) (ms0_14 t) fullShare d) ∗ (∃ d, owns (c : Thread nD τ) (ms0_15 t) fullShare d)
    ∗ (∃ d, owns (c : Thread nD τ) (ms0_16 t) fullShare d) ∗ (∃ d, owns (c : Thread nD τ) (ms0_17 t) fullShare d))

def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t)
    ∗ owns (c : Thread nD τ) (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare ((dats m 0 c).after 5 t)
    ∗ owns (c : Thread nD τ) (ms0_6 t) fullShare ((dats m 0 c).after 6 t) ∗ owns (c : Thread nD τ) (ms0_7 t) fullShare ((dats m 0 c).after 7 t)
    ∗ (∃ d, owns (c : Thread nD τ) (ms0_8 t) fullShare d) ∗ (∃ d, owns (c : Thread nD τ) (ms0_9 t) fullShare d)
    ∗ (∃ d, owns (c : Thread nD τ) (ms0_10 t) fullShare d) ∗ (∃ d, owns (c : Thread nD τ) (ms0_11 t) fullShare d)
    ∗ (∃ d, owns (c : Thread nD τ) (ms0_12 t) fullShare d) ∗ (∃ d, owns (c : Thread nD τ) (ms0_13 t) fullShare d)
    ∗ (∃ d, owns (c : Thread nD τ) (ms0_14 t) fullShare d) ∗ (∃ d, owns (c : Thread nD τ) (ms0_15 t) fullShare d)
    ∗ (∃ d, owns (c : Thread nD τ) (ms0_16 t) fullShare d) ∗ (∃ d, owns (c : Thread nD τ) (ms0_17 t) fullShare d))

set_option maxHeartbeats 8000000 in
/-- What a point gives back, sorted as the loop takes it. -/
theorem post_of (c : Dev nD) (t : Fin cfg0.N) :
    iprop(back m c t (iblk m c 0 t) (iblk m c 1 t) (iblk m c 2 t) (iblk m c 3 t) (iblk m c 4 t) (iblk m c 5 t) (iblk m c 6 t) (iblk m c 7 t) ∗ (∃ r, prngReg c r)) ⊢ post m c t := by
  unfold back any post Dat.owesAt Pipeline.owesWithin
  rw [show (dats m 0 c).Φ t.succ = Pipeline.ΦD osem0 spec0 H0 (V m) c from rfl, show (dats m 0 c).owed t.succ = 0 from rfl, PhiD0_eq]
  simp only [after_0, after_1, after_2, after_3, after_4, after_5, after_6, after_7]
  iintro ⟨⟨H0, H1, H2, H3, H4, H5, H6, H7, H8, H9, H10, H11, H12, H13, H14, H15, H16, H17, HS0, HS1, HS2, HS3, HS4, HS5, HS6, HS7, HS8, HS9, HS10, HS11, HS12, HS13, HS14, Hq0, Hq1, Hq2, Hq3, Hq4, Hq5, Hq6, Hq7, Hq8, Hq9, Hq10, Hq11, Hh0, Hh1, Hh2, Hh3, Hh4, Hh5, Hh6, Hh7, Hh8, Hh9, Hh10, Hh11, ⟨%W, HW⟩⟩, Hg⟩
  isplitl [HS0 HS1 HS2 HS3 HS4 HS5 HS6 HS7 HS8 HS9 HS10 HS11 HS12 HS13 HS14 Hg Hq0 Hq1 Hq2 Hq3 Hq4 Hq5 Hq6 Hq7 Hq8 Hq9 Hq10 Hq11 Hh0 Hh1 Hh2 Hh3 Hh4 Hh5 Hh6 Hh7 Hh8 Hh9 Hh10 Hh11]
  · isplitl [HS0 HS1 HS2 HS3 HS4 HS5 HS6 HS7 HS8 HS9 HS10 HS11 HS12 HS13 HS14]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      iexact HS14
    isplitl [Hg]; · iexact Hg
    isplitl [Hq0 Hq1 Hq2 Hq3 Hq4 Hq5 Hq6 Hq7 Hq8 Hq9 Hq10 Hq11]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    iexact Hh11
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

set_option maxHeartbeats 8000000 in
/-- The body at any point. -/
theorem sound (c : Dev nD) (t : Fin cfg0.N) :
    pre m c t ⊢ wp frame (wpE (defs₀ (F := F)) Variants.none c none) Set.univ (bodyAt0 t) (fun _ => post m c t) := by
  unfold pre
  simp only [before_0, before_1, before_2, before_3, before_4, before_5, before_6, before_7]
  unfold Dat.owesAt Pipeline.owesWithin
  rw [show (dats m 0 c).Φ t.castSucc = Pipeline.ΦD osem0 spec0 H0 (V m) c from rfl, show (dats m 0 c).owed t.castSucc = 0 from rfl, PhiD0_eq]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩⟩, Hg,
    ⟨Hq0, Hq1, Hq2, Hq3, Hq4, Hq5, Hq6, Hq7, Hq8, Hq9, Hq10, Hq11⟩, ⟨Hh0, Hh1, Hh2, Hh3, Hh4, Hh5, Hh6, Hh7, Hh8, Hh9, Hh10, Hh11⟩⟩, ⟨%W, -, HW⟩,
    ⟨%e0, H0⟩, ⟨%e1, H1⟩, ⟨%e2, H2⟩, ⟨%e3, H3⟩, ⟨%e4, H4⟩, ⟨%e5, H5⟩, ⟨%e6, H6⟩, ⟨%e7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body m c t (iblk m c 0 t) (iblk m c 1 t) (iblk m c 2 t) (iblk m c 3 t) (iblk m c 4 t) (iblk m c 5 t) (iblk m c 6 t) (iblk m c 7 t) d8 d9 d10 d11 d12 d13 d14 d15 d16 d17 s0 s1 s2 s3 s4 s5 s6 s7 s8 s9 s10 s11 s12 s13 s14 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [HW]; · iexact HW
  iintro Hb
  iapply (post_of m c t)
  isplitl [Hb]; · iexact Hb
  iexact Hg

theorem defs₀_row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ forgets := fun t => by
  rw [bigSep_W0, bigSep_W0, defs₀_row]
  exact triple_restated (sound m c t) rfl .rfl fun _ => .rfl

set_option backward.isDefEq.respectTransparency.types false in
/-- The launch: every execution ends with the inputs' arrays as they were, and every counter at zero. -/
theorem run : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_dma_forget (Q' := _) cfgs (dats m) (0 : Fin 1) launch0 osem0 defs₀ Variants.none forgets ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := fun _ => .rfl) (hout := fun _ => .rfl)

variable {m} in
/-- An argument that no window stages. -/
theorem apart {r : PUnit × MemSt nD τ sig (Elt F)} (h : Pipeline.RDat.FramePost (cfgs 0) (fun c => (dats m 0 c).toRForget forgets) (V m) r)
    (c : Dev nD) (b : Ref sig .tc) (hb : b ∈ Pipeline.restRefs sig spec0) (hV : V m c b = m ((c : Thread nD τ).loc b)) :
    r.2.mem ((c : Thread nD τ).loc b) = m ((c : Thread nD τ).loc b) := ((h c).2 b hb).trans hV

set_option maxHeartbeats 2000000 in
/-- The call ends with its arguments unchanged and every counter at zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14))
    ∧ r.2.sem = fun _ => 0) :=
  (θ_run defs _ _).mono (fun r h => ⟨fun c =>
    ⟨(h.1.arr_in c 0 rfl).trans ((A_eq m c 0).trans (V_main_arg0 m c)),
     (h.1.arr_in c 1 rfl).trans ((A_eq m c 1).trans (V_main_arg1 m c)),
     apart h.1 c main_arg2 (Pipeline.mem_restRefs_of main_arg2 (by decide) (by decide)) (V_main_arg2 m c),
     apart h.1 c main_arg3 (Pipeline.mem_restRefs_of main_arg3 (by decide) (by decide)) (V_main_arg3 m c),
     apart h.1 c main_arg4 (Pipeline.mem_restRefs_of main_arg4 (by decide) (by decide)) (V_main_arg4 m c),
     apart h.1 c main_arg5 (Pipeline.mem_restRefs_of main_arg5 (by decide) (by decide)) (V_main_arg5 m c),
     (h.1.arr_in c 7 rfl).trans ((A_eq m c 7).trans (V_main_arg6 m c)),
     apart h.1 c main_arg7 (Pipeline.mem_restRefs_of main_arg7 (by decide) (by decide)) (V_main_arg7 m c),
     apart h.1 c main_arg8 (Pipeline.mem_restRefs_of main_arg8 (by decide) (by decide)) (V_main_arg8 m c),
     apart h.1 c main_arg9 (Pipeline.mem_restRefs_of main_arg9 (by decide) (by decide)) (V_main_arg9 m c),
     apart h.1 c main_arg10 (Pipeline.mem_restRefs_of main_arg10 (by decide) (by decide)) (V_main_arg10 m c),
     apart h.1 c main_arg11 (Pipeline.mem_restRefs_of main_arg11 (by decide) (by decide)) (V_main_arg11 m c),
     apart h.1 c main_arg12 (Pipeline.mem_restRefs_of main_arg12 (by decide) (by decide)) (V_main_arg12 m c),
     apart h.1 c main_arg13 (Pipeline.mem_restRefs_of main_arg13 (by decide) (by decide)) (V_main_arg13 m c),
     apart h.1 c main_arg14 (Pipeline.mem_restRefs_of main_arg14 (by decide) (by decide)) (V_main_arg14 m c)⟩,
    h.2⟩) (run m ρ)

end Cert.Kernel5Ideal.PreAttnBwd

end
-- ==== Proof.FlashBwd.Tail.lean ====
/- The host lines after the attention backward: the four gradients taken out of the packed arrays. -/
module

public import proofs.«01_k».proof.Proof.FlashBwd.Run
public import Idealize.ShloMosaic.Lib.StableHlo.RunRead

@[expose] public section

set_option maxRecDepth 16384

noncomputable section

namespace Cert.Kernel2Ideal.FlashBwd

open Cert.Kernel2Ideal Cert.Kernel2Ideal.Gen Idealize.ShloMosaic Idealize.ShloMosaic.TcCoe Idealize.SL.Sem

variable {F : FTy → Type} [FloatOps F] [Named F]

/-- The packed gradient of the queries, by token, head and lane; and those of the keys and values. -/
def byHeadQ (x : FVec F S32x1024x256 .f32) : FVec F S8192x8x128 .f32 :=
  shapeCast S8192x8x128 (transpose S32x256x1024 [0, 2, 1] x transposes_S32x1024x256_S32x256x1024_0_2_1) shapeCasts_S32x256x1024_S8192x8x128
def byHeadK (x : FVec F S8192x1024 .f32) : FVec F S8192x8x128 .f32 := shapeCast S8192x8x128 x shapeCasts_S8192x1024_S8192x8x128
def outQ (x : FVec F S32x1024x256 .f32) : FVec F S8192x8x64 .f32 :=
  mulf (extractStridedSlice S8192x8x64 ![0, 0, 0] (byHeadQ x) slices_S8192x8x128_S8192x8x64_0_0_0)
    (broadcastInDim S8192x8x64 ![] bcast_S_S8192x8x64 (constant S_ .f32 0x3E000000#32))
def outK (x : FVec F S8192x1024 .f32) : FVec F S8192x8x64 .f32 :=
  extractStridedSlice S8192x8x64 ![0, 0, 0] (byHeadK x) slices_S8192x8x128_S8192x8x64_0_0_0
def outC (x : FVec F S32x1024x256 .f32) (y : FVec F S8192x1024 .f32) : FVec F S8192x8 .f32 :=
  addf (shapeCast S8192x8 (extractStridedSlice S8192x8x1 ![0, 0, 67] (byHeadQ x) slices_S8192x8x128_S8192x8x1_0_0_67) shapeCasts_S8192x8x1_S8192x8)
    (shapeCast S8192x8 (extractStridedSlice S8192x8x1 ![0, 0, 64] (byHeadK y) slices_S8192x8x128_S8192x8x1_0_0_64) shapeCasts_S8192x8x1_S8192x8)

variable (V : Valuation τ sig (Elt F))

theorem tail_v95 : StableHlo.after [hostOps1].flatten V (Proc.devRef .tc main_v95) = outQ (V (Proc.devRef .tc main_v88_0)) := by
  simp only [List.flatten_cons, List.flatten_nil, List.append_nil]
  after_reads_simp
  rfl
theorem tail_v96 : StableHlo.after [hostOps1].flatten V (Proc.devRef .tc main_v96) = outK (V (Proc.devRef .tc main_v88_1)) := by
  simp only [List.flatten_cons, List.flatten_nil, List.append_nil]
  after_reads_simp
  rfl
theorem tail_v97 : StableHlo.after [hostOps1].flatten V (Proc.devRef .tc main_v97) = outK (V (Proc.devRef .tc main_v88_2)) := by
  simp only [List.flatten_cons, List.flatten_nil, List.append_nil]
  after_reads_simp
  rfl
theorem tail_v102 : StableHlo.after [hostOps1].flatten V (Proc.devRef .tc main_v102)
    = outC (V (Proc.devRef .tc main_v88_0)) (V (Proc.devRef .tc main_v88_1)) := by
  simp only [List.flatten_cons, List.flatten_nil, List.append_nil]
  after_reads_simp
  rfl

variable (m : (ℓ : Loc nD τ sig) → Buf (Elt F) ℓ) (c : Dev nD)

theorem W_main_v95 : Pipeline.afterTail₀ cfgs (dats m) 0 (V0 m) [hostOps1] c main_v95 = outQ ((dats m 0 c).arrAt 8 cfg0.N) := by
  unfold Pipeline.afterTail₀
  rw [tail_v95]
  exact congrArg outQ (Pipeline.withArrays_arr spec0 launch0.win.arr_inj c (V0 m c) _ 8)
theorem W_main_v96 : Pipeline.afterTail₀ cfgs (dats m) 0 (V0 m) [hostOps1] c main_v96 = outK ((dats m 0 c).arrAt 9 cfg0.N) := by
  unfold Pipeline.afterTail₀
  rw [tail_v96]
  exact congrArg outK (Pipeline.withArrays_arr spec0 launch0.win.arr_inj c (V0 m c) _ 9)
theorem W_main_v97 : Pipeline.afterTail₀ cfgs (dats m) 0 (V0 m) [hostOps1] c main_v97 = outK ((dats m 0 c).arrAt 10 cfg0.N) := by
  unfold Pipeline.afterTail₀
  rw [tail_v97]
  exact congrArg outK (Pipeline.withArrays_arr spec0 launch0.win.arr_inj c (V0 m c) _ 10)
theorem W_main_v102 : Pipeline.afterTail₀ cfgs (dats m) 0 (V0 m) [hostOps1] c main_v102
    = outC ((dats m 0 c).arrAt 8 cfg0.N) ((dats m 0 c).arrAt 9 cfg0.N) := by
  unfold Pipeline.afterTail₀
  rw [tail_v102]
  exact congrArg₂ outC (Pipeline.withArrays_arr spec0 launch0.win.arr_inj c (V0 m c) _ 8) (Pipeline.withArrays_arr spec0 launch0.win.arr_inj c (V0 m c) _ 9)

end Cert.Kernel2Ideal.FlashBwd

end
-- ==== Proof.FlashBwd.Results.lean ====
/- The three result arrays of the attention backward, over the reals. -/
module

public import proofs.«01_k».proof.Proof.FlashBwd.Arrays

@[expose] public section

set_option maxRecDepth 16384

noncomputable section

namespace Cert.Kernel2Ideal.FlashBwd

open Cert.Kernel2Ideal Cert.Kernel2Ideal.Gen Idealize.ShloMosaic Idealize.ShloMosaic.TcCoe Idealize.SL.Sem
open Idealize.ShloMosaic.Pipeline (Dat)
open Cert.Flash Cert.Flash.Inputs

/-- The head and the lane of a column. -/
def hc (n : Fin 1024) : Fin 8 := ⟨n.val / 128, by have := n.isLt; omega⟩
def lc (n : Fin 1024) : Fin 128 := ⟨n.val % 128, by omega⟩
theorem hc_col (h : Fin 8) (l : Fin 128) : hc (col h l) = h := Fin.ext (by have := l.isLt; show (h.val * 128 + l.val) / 128 = h.val; omega)
theorem lc_col (h : Fin 8) (l : Fin 128) : lc (col h l) = l := Fin.ext (by have := l.isLt; show (h.val * 128 + l.val) % 128 = l.val; omega)

/-- The gradients of the packed queries (block by block, transposed), keys and values. -/
def dqArr (a : Inputs) : FVec Ideal S32x1024x256 .f32 := fun i =>
  ((∑ s, a.pk s (hc (i 1)) (lc (i 1)) * a.dscore (mx a) (hc (i 1)) (row (i 0).val (i 2)) s : ℝ) : EReal)
def dkArr (a : Inputs) : FVec Ideal S8192x1024 .f32 := fun i =>
  ((∑ t, a.dscore (mx a) (hc (i 1)) t (i 0) * a.pq t (hc (i 1)) (lc (i 1)) : ℝ) : EReal)
def dvArr (a : Inputs) : FVec Ideal S8192x1024 .f32 := fun i =>
  ((∑ t, a.prob (mx a) (hc (i 1)) t (i 0) * a.pd t (hc (i 1)) (lc (i 1)) : ℝ) : EReal)

theorem dqArr_apply (a : Inputs) (b : Fin 32) (h : Fin 8) (l : Fin 128) (r : Fin 256) :
    dqArr a (ix3 b (col h l) r) = ((∑ s, a.pk s h l * a.dscore (mx a) h (row b.val r) s : ℝ) : EReal) := by
  show ((∑ s, a.pk s (hc (col h l)) (lc (col h l)) * a.dscore (mx a) (hc (col h l)) (row b.val r) s : ℝ) : EReal) = _
  rw [hc_col, lc_col]
theorem dkArr_apply (a : Inputs) (s : Fin 8192) (h : Fin 8) (l : Fin 128) :
    dkArr a (ix2 s (col h l)) = ((∑ t, a.dscore (mx a) h t s * a.pq t h l : ℝ) : EReal) := by
  show ((∑ t, a.dscore (mx a) (hc (col h l)) t s * a.pq t (hc (col h l)) (lc (col h l)) : ℝ) : EReal) = _
  rw [hc_col, lc_col]
theorem dvArr_apply (a : Inputs) (s : Fin 8192) (h : Fin 8) (l : Fin 128) :
    dvArr a (ix2 s (col h l)) = ((∑ t, a.prob (mx a) h t s * a.pd t h l : ℝ) : EReal) := by
  show ((∑ t, a.prob (mx a) (hc (col h l)) t s * a.pd t (hc (col h l)) (lc (col h l)) : ℝ) : EReal) = _
  rw [hc_col, lc_col]

variable {m : (ℓ : Loc nD τ sig) → Buf (Elt Ideal) ℓ} {c : Dev nD} {a : Inputs} (A : Args m c a)
include A

theorem holds' (t : Fin cfg0.N) : Holds a (mx a) (head (hpOf t)) (grid0.coords t 1).val (oOf m c t) := by
  rw [coord1]
  exact holds A t

theorem dqAcc_step (t : Fin cfg0.N) (b : Fin 32) (j : Fin 2) (l : Fin 128) (r : Fin 256) :
    dqAcc m c (t.val + 1) (ix3 b (up j l) r) = (if t.val % 32 = 0 then 0 else dqAcc m c t.val (ix3 b (up j l) r))
      + ((part a (mx a) (t.val % 32) (head (hpOf t) j) (row b.val r) l : ℝ) : EReal) := by
  rw [dqAcc_succ, ← coord1]
  refine (glueQ_apply _ b.val b.isLt j l r).trans ((DQ_apply (holds' A t) _ j b.val b.isLt _ l r).trans (congrArg₂ _ ?_ rfl))
  refine (slab_apply j b.val b.isLt _ 0 l r).trans ?_
  unfold start
  split
  · exact Ideal.ofBits_zero_f32
  · rfl

theorem dqAcc_sum (hp : Fin 4) (b : Fin 32) (j : Fin 2) (l : Fin 128) (r : Fin 256) : ∀ k < 32,
    dqAcc m c (hp.val * 32 + k + 1) (ix3 b (up j l) r)
      = ((∑ i ∈ Finset.range (k + 1), part a (mx a) i (head hp j) (row b.val r) l : ℝ) : EReal) := by
  intro k
  have hN : cfg0.N = 128 := N_0
  have hhp := hp.isLt
  induction k with
  | zero =>
    intro _
    have h := dqAcc_step A ⟨hp.val * 32, by omega⟩ b j l r
    have e : hpOf ⟨hp.val * 32, by omega⟩ = hp := Fin.ext (by show hp.val * 32 / 32 = hp.val; omega)
    rw [e] at h
    refine h.trans ?_
    have e0 : hp.val * 32 % 32 = 0 := by omega
    simp only [e0]
    rw [if_pos trivial, Finset.sum_range_one, zero_add]
  | succ k ih =>
    intro hk
    have h := dqAcc_step A ⟨hp.val * 32 + (k + 1), by omega⟩ b j l r
    have e : hpOf ⟨hp.val * 32 + (k + 1), by omega⟩ = hp := Fin.ext (by show (hp.val * 32 + (k + 1)) / 32 = hp.val; omega)
    have e0 : (hp.val * 32 + (k + 1)) % 32 = k + 1 := by omega
    rw [e] at h
    refine h.trans ?_
    simp only [e0]
    rw [if_neg (by omega), Finset.sum_range_succ, EReal.coe_add, ← ih (by omega)]
    rfl

/-- The queries' gradient, flushed after a head pair's last key block. -/
theorem arr_8 : (dats m 0 c).arrAt 8 cfg0.N = dqArr a := by
  have hN : cfg0.N = 128 := N_0
  have ho := fun t => (idxQ t).2.2.2.2.2.2
  refine (dats m 0 c).arrAt_eq_of_cover 8 (dqArr a) (fun t ht => ?_) fun j => ?_
  · have h31 : t.val % 32 = 31 := (flush0_8 t).mp ht
    have htl := t.isLt
    funext i
    idx_vars i
    refine (show (dats m 0 c).flushed 8 t (ix3 i0 i1 i2) = dqAcc m c (t.val + 1) (ix3 i0 i1 i2) from rfl).trans ?_
    refine Eq.trans ?_ (congrArg (dqArr a) (ix3_of _ i0 (col (head (hpOf t) (hd i1)) (lo i1)) i2
        (by show win0_8.index t 0 * 32 + 1 * i0.val = i0.val; rw [(ho t).1]; omega)
        (by show win0_8.index t 1 * 256 + 1 * i1.val = (2 * (t.val / 32) + i1.val / 128) * 128 + i1.val % 128; rw [(ho t).2.1]; omega)
        (by show win0_8.index t 2 * 256 + 1 * i2.val = i2.val; rw [(ho t).2.2]; omega))).symm
    rw [dqArr_apply, ← sum_blocks]
    have h := dqAcc_sum A (hpOf t) i0 (hd i1) (lo i1) i2 31 (by omega)
    have e2 : (hpOf t).val * 32 + 31 + 1 = t.val + 1 := by show t.val / 32 * 32 + 31 + 1 = t.val + 1; omega
    rw [e2, up_hd_lo] at h
    exact h
  · have hj := (j 1).isLt
    have hj' : (j 1).val < 1024 := hj
    obtain ⟨t, ht⟩ : ∃ t : Fin cfg0.N, t.val = (j 1).val / 256 * 32 + 31 := ⟨⟨(j 1).val / 256 * 32 + 31, by omega⟩, rfl⟩
    refine ⟨t, (flush0_8 _).mpr (by omega), ?_⟩
    show j ∈ ((View.whole main_v88_0).slice (win0_8.rect t)).set
    rw [View.set_slice_whole, Rect.mem_set_unit]
    intro x
    fin_cases x
    · show win0_8.index t 0 * 32 ≤ (j 0).val ∧ (j 0).val < win0_8.index t 0 * 32 + 32
      have : (j 0).val < 32 := (j 0).isLt
      rw [(ho _).1]; omega
    · show win0_8.index t 1 * 256 ≤ (j 1).val ∧ (j 1).val < win0_8.index t 1 * 256 + 256
      rw [(ho _).2.1, ht]; omega
    · show win0_8.index t 2 * 256 ≤ (j 2).val ∧ (j 2).val < win0_8.index t 2 * 256 + 256
      have : (j 2).val < 256 := (j 2).isLt
      rw [(ho _).2.2]; omega

theorem cover_K (o : Fin cfg0.N → Fin 2 → ℕ) (ho : ∀ t, o t 0 = t.val % 32 ∧ o t 1 = t.val / 32) (a0 a1 : ℕ) (h0 : a0 < 8192) (h1 : a1 < 1024) (t : Fin cfg0.N)
    (ht : t.val = a1 / 256 * 32 + a0 / 256) : (o t 0 * 256 ≤ a0 ∧ a0 < o t 0 * 256 + 256) ∧ (o t 1 * 256 ≤ a1 ∧ a1 < o t 1 * 256 + 256) := by
  rw [(ho _).1, (ho _).2, ht]; omega

theorem arr_9 : (dats m 0 c).arrAt 9 cfg0.N = dkArr a := by
  have hN : cfg0.N = 128 := N_0
  have ho := fun t => (idxK t).2.2.1
  refine (dats m 0 c).arrAt_eq_of_cover 9 (dkArr a) (fun t _ => ?_) fun j => ?_
  · funext i
    idx_vars i
    refine (show (dats m 0 c).flushed 9 t (ix2 i0 i1) = dkAt (oOf m c t) (grid0.coords t) (ix2 i0 i1) from rfl).trans ?_
    refine Eq.trans ?_ (congrArg (dkArr a) (ix2_of _ (row (grid0.coords t 1).val i0) (col (head (hpOf t) (hd i1)) (lo i1))
        (by show win0_9.index t 0 * 256 + 1 * i0.val = ((grid0.coords t 1).val * 256 + i0.val) % 8192; rw [(ho t).1, coord1]; have := i0.isLt; omega)
        (by show win0_9.index t 1 * 256 + 1 * i1.val = (2 * (t.val / 32) + i1.val / 128) * 128 + i1.val % 128; rw [(ho t).2]; omega))).symm
    rw [dkArr_apply]
    have h := (glueK_apply (fun j => DK (oOf m c t) (grid0.coords t 1).val (kb_lt _) j (34 - (grid0.coords t 1).val)) i0 (hd i1) (lo i1)).trans
      (DK_apply (holds' A t) (kb_lt _) (hd i1) i0 (lo i1))
    rw [up_hd_lo] at h
    exact h
  · have hj0 : (j 0).val < 8192 := (j 0).isLt
    have hj1 : (j 1).val < 1024 := (j 1).isLt
    obtain ⟨t, ht⟩ : ∃ t : Fin cfg0.N, t.val = (j 1).val / 256 * 32 + (j 0).val / 256 := ⟨⟨(j 1).val / 256 * 32 + (j 0).val / 256, by omega⟩, rfl⟩
    refine ⟨t, flush0_9 _, ?_⟩
    show j ∈ ((View.whole main_v88_1).slice (win0_9.rect t)).set
    rw [View.set_slice_whole, Rect.mem_set_unit]
    have := cover_K A (fun t => win0_9.index t) ho _ _ hj0 hj1 t ht
    intro x
    fin_cases x
    · exact this.1
    · exact this.2

theorem arr_10 : (dats m 0 c).arrAt 10 cfg0.N = dvArr a := by
  have hN : cfg0.N = 128 := N_0
  have ho := fun t => (idxK t).2.2.2
  refine (dats m 0 c).arrAt_eq_of_cover 10 (dvArr a) (fun t _ => ?_) fun j => ?_
  · funext i
    idx_vars i
    refine (show (dats m 0 c).flushed 10 t (ix2 i0 i1) = dvAt (oOf m c t) (grid0.coords t) (ix2 i0 i1) from rfl).trans ?_
    refine Eq.trans ?_ (congrArg (dvArr a) (ix2_of _ (row (grid0.coords t 1).val i0) (col (head (hpOf t) (hd i1)) (lo i1))
        (by show win0_10.index t 0 * 256 + 1 * i0.val = ((grid0.coords t 1).val * 256 + i0.val) % 8192; rw [(ho t).1, coord1]; have := i0.isLt; omega)
        (by show win0_10.index t 1 * 256 + 1 * i1.val = (2 * (t.val / 32) + i1.val / 128) * 128 + i1.val % 128; rw [(ho t).2]; omega))).symm
    rw [dvArr_apply]
    have h := (glueK_apply (fun j => DV (oOf m c t) (grid0.coords t 1).val (kb_lt _) j (34 - (grid0.coords t 1).val)) i0 (hd i1) (lo i1)).trans
      (DV_apply (holds' A t) (kb_lt _) (hd i1) i0 (lo i1))
    rw [up_hd_lo] at h
    exact h
  · have hj0 : (j 0).val < 8192 := (j 0).isLt
    have hj1 : (j 1).val < 1024 := (j 1).isLt
    obtain ⟨t, ht⟩ : ∃ t : Fin cfg0.N, t.val = (j 1).val / 256 * 32 + (j 0).val / 256 := ⟨⟨(j 1).val / 256 * 32 + (j 0).val / 256, by omega⟩, rfl⟩
    refine ⟨t, flush0_10 _, ?_⟩
    show j ∈ ((View.whole main_v88_2).slice (win0_10.rect t)).set
    rw [View.set_slice_whole, Rect.mem_set_unit]
    have := cover_K A (fun t => win0_10.index t) ho _ _ hj0 hj1 t ht
    intro x
    fin_cases x
    · exact this.1
    · exact this.2

end Cert.Kernel2Ideal.FlashBwd

end
-- ==== Proof.FlashBwd.Unpack.lean ====
/- The host lines after the attention backward, read element by element: the gradients of the packed arrays are those of the arguments. -/
module

public import proofs.«01_k».proof.Proof.FlashBwd.Tail
public import proofs.«01_k».proof.Proof.FlashBwd.Results

@[expose] public section

set_option maxRecDepth 16384

noncomputable section

namespace Cert.Kernel2Ideal.FlashBwd

open Cert.Kernel2Ideal Cert.Kernel2Ideal.Gen Idealize.ShloMosaic Idealize.ShloMosaic.TcCoe Idealize.SL.Sem
open Cert.Flash Cert.Flash.Inputs

/-- The block of a token and its place there. -/
def blkOf (t : Fin 8192) : Fin 32 := ⟨t.val / 256, by have := t.isLt; omega⟩
def posOf (t : Fin 8192) : Fin 256 := ⟨t.val % 256, by omega⟩
theorem row_pos (t : Fin 8192) : row (blkOf t).val (posOf t) = t :=
  Fin.ext (by have := t.isLt; show (t.val / 256 * 256 + t.val % 256) % 8192 = t.val; omega)
def lane (d : Fin 64) : Fin 128 := ⟨d.val, by have := d.isLt; omega⟩

theorem byHeadQ_apply (x : FVec Ideal S32x1024x256 .f32) (t : Fin 8192) (h : Fin 8) (l : Fin 128) :
    byHeadQ x (ix3 t h l) = x (ix3 (blkOf t) (col h l) (posOf t)) := by
  pointwise [byHeadQ]
  rfl
theorem byHeadK_apply (x : FVec Ideal S8192x1024 .f32) (t : Fin 8192) (h : Fin 8) (l : Fin 128) :
    byHeadK x (ix3 t h l) = x (ix2 t (col h l)) := by
  pointwise [byHeadK]
  rfl
theorem outQ_apply (x : FVec Ideal S32x1024x256 .f32) (t : Fin 8192) (h : Fin 8) (d : Fin 64) :
    outQ x (ix3 t h d) = byHeadQ x (ix3 t h (lane d)) * Ideal.ofBits .f32 0x3E000000#32 := by
  unfold outQ
  generalize byHeadQ x = y
  pointwise []
  rfl
theorem outK_apply (x : FVec Ideal S8192x1024 .f32) (t : Fin 8192) (h : Fin 8) (d : Fin 64) :
    outK x (ix3 t h d) = byHeadK x (ix3 t h (lane d)) := by
  unfold outK
  generalize byHeadK x = y
  pointwise []
  rfl
theorem outC_apply (x : FVec Ideal S32x1024x256 .f32) (z : FVec Ideal S8192x1024 .f32) (t : Fin 8192) (h : Fin 8) :
    outC x z (ix2 t h) = byHeadQ x (ix3 t h ⟨67, by decide⟩) + byHeadK z (ix3 t h ⟨64, by decide⟩) := by
  unfold outC
  generalize byHeadQ x = y
  generalize byHeadK z = w
  pointwise []

theorem pk_lane (a : Inputs) (s : Fin 8192) (h : Fin 8) (d : Fin 64) : a.pk s h (lane d) = a.k s h d := dif_pos d.isLt
theorem pq_lane (a : Inputs) (s : Fin 8192) (h : Fin 8) (d : Fin 64) : a.pq s h (lane d) = a.q s h d * (1 / 8) := dif_pos d.isLt
theorem pd_lane (a : Inputs) (s : Fin 8192) (h : Fin 8) (d : Fin 64) : a.pd s h (lane d) = a.dy s h d := dif_pos d.isLt

variable (a : Inputs)

theorem out_dq (t : Fin 8192) (h : Fin 8) (d : Fin 64) : outQ (dqArr a) (ix3 t h d) = ((a.dq (mx a) t h d : ℝ) : EReal) := by
  rw [outQ_apply, byHeadQ_apply, dqArr_apply, row_pos, f32_eighth, ← EReal.coe_mul, Inputs.dq]
  have e : (∑ s, a.pk s h (lane d) * a.dscore (mx a) h t s) = ∑ s, a.dscore (mx a) h t s * a.k s h d :=
    Finset.sum_congr rfl fun s _ => by rw [pk_lane, mul_comm]
  rw [e]
theorem out_dk (t : Fin 8192) (h : Fin 8) (d : Fin 64) : outK (dkArr a) (ix3 t h d) = ((a.dk (mx a) t h d : ℝ) : EReal) := by
  rw [outK_apply, byHeadK_apply, dkArr_apply, Inputs.dk]
  simp only [pq_lane]
theorem out_dv (t : Fin 8192) (h : Fin 8) (d : Fin 64) : outK (dvArr a) (ix3 t h d) = ((a.dv (mx a) t h d : ℝ) : EReal) := by
  rw [outK_apply, byHeadK_apply, dvArr_apply, Inputs.dv]
  simp only [pd_lane]
theorem out_dc (t : Fin 8192) (h : Fin 8) : outC (dqArr a) (dkArr a) (ix2 t h) = ((a.dc (mx a) t h : ℝ) : EReal) := by
  rw [outC_apply, byHeadQ_apply, byHeadK_apply, dqArr_apply, dkArr_apply, row_pos, ← EReal.coe_add, Inputs.dc]
  have e1 : (∑ s, a.pk s h ⟨67, by decide⟩ * a.dscore (mx a) h t s) = ∑ s, a.dscore (mx a) h t s :=
    Finset.sum_congr rfl fun s _ => by simp [pk]
  have e2 : (∑ s, a.dscore (mx a) h s t * a.pq s h ⟨64, by decide⟩) = - ∑ s, a.dscore (mx a) h s t := by
    rw [← Finset.sum_neg_distrib]
    exact Finset.sum_congr rfl fun s _ => by simp [pq]
  rw [e1, e2, ← sub_eq_add_neg]

end Cert.Kernel2Ideal.FlashBwd

end
-- ==== Proof.FlashBwd.Claim.lean ====
/- The attention backward's results are the reference's, at real arguments. -/
module

public import proofs.«01_k».proof.Proof.FlashBwd.Unpack

@[expose] public section

set_option maxRecDepth 16384

noncomputable section

namespace Cert.Kernel2Ideal.FlashBwd

open Cert.Kernel2Ideal Cert.Kernel2Ideal.Gen Idealize.ShloMosaic Idealize.ShloMosaic.TcCoe Idealize.SL.Sem
open Cert.Flash
open Cert.Reference2Ideal.Read

/-- What the host lines after the call leave in a buffer. -/
abbrev last (m : (ℓ : Loc nD τ sig) → Buf (Elt Ideal) ℓ) (c : Dev nD) (b : Ref sig .tc) := Pipeline.afterTail₀ cfgs (dats m) 0 (V0 m) [hostOps1] c b

variable {m : (ℓ : Loc nD τ sig) → Buf (Elt Ideal) ℓ} {c : Dev nD} {a : Inputs} (A : Args m c a)
include A

theorem res_dq : last m c main_v95 = val_main_v82 (F := Ideal) (X0 m c) (X1 m c) (X2 m c) (X3 m c) (X4 m c) := by
  rw [A.q, A.k, A.v, A.gate, A.dy]
  refine (W_main_v95 m c).trans ?_
  rw [arr_8 A]
  funext i
  idx_vars i
  exact (out_dq a _ _ _).trans (ref_dq a _ _ _).symm
theorem res_dk : last m c main_v96 = val_main_v79 (F := Ideal) (X0 m c) (X1 m c) (X2 m c) (X3 m c) (X4 m c) := by
  rw [A.q, A.k, A.v, A.gate, A.dy]
  refine (W_main_v96 m c).trans ?_
  rw [arr_9 A]
  funext i
  idx_vars i
  exact (out_dk a _ _ _).trans (ref_dk a _ _ _).symm
theorem res_dv : last m c main_v97 = val_main_v78 (F := Ideal) (X0 m c) (X1 m c) (X3 m c) (X4 m c) := by
  rw [A.q, A.k, A.gate, A.dy]
  refine (W_main_v97 m c).trans ?_
  rw [arr_10 A]
  funext i
  idx_vars i
  exact (out_dv a _ _ _).trans (ref_dv a _ _ _).symm
theorem res_dc : last m c main_v102 = val_main_v77 (F := Ideal) (X0 m c) (X1 m c) (X2 m c) (X3 m c) (X4 m c) := by
  rw [A.q, A.k, A.v, A.gate, A.dy]
  refine (W_main_v102 m c).trans ?_
  rw [arr_8 A, arr_9 A]
  funext i
  idx_vars i
  exact (out_dc a _ _).trans (ref_dc a _ _).symm

end Cert.Kernel2Ideal.FlashBwd

end
-- ==== Proof.FlashBwd.AtBits.lean ====
/- `_flash_bwd` at the bit patterns: the un-named program's frame from the named one's run. -/
module

public import proofs.«01_k».proof.Defs
public import proofs.«01_k».proof.Proof.Gen.Kernel2
public import proofs.«01_k».proof.Proof.Gen.Kernel2Ideal
public import proofs.«01_k».proof.Proof.FlashBwd.Tail
import Idealize.ShloMosaic.Lib.Tactic

@[expose] public section

namespace Cert.Kernel2Ideal.FlashBwd

open Idealize.ShloMosaic Idealize.SL.Sem

/-- At the bit patterns the constant called "masked" is read as the very pattern that the kernel writes. -/
@[instance_reducible] def maskedBits : Named Bits := ⟨fun _ _ _ b => FloatOps.ofBits _ b⟩

/-- The kernel as written ends with its arguments unchanged: with "masked" read as its pattern, it is the other program. -/
theorem frame_bits : Cert.quiescent_Kernel2 := fun m ρ _ =>
  Eq.mp (by sl_kernel_rfl) (@Cert.Kernel2Ideal.FlashBwd.frame Bits _ maskedBits m ρ)

end Cert.Kernel2Ideal.FlashBwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.TailLoss.Claim
public import proofs.«01_k».proof.Proof.Gen.Kernel2
public import proofs.«01_k».proof.Proof.Gen.Kernel2.Skeleton
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.TailBwd.Claim
public import proofs.«01_k».proof.Proof.TailBwd.Finite
public import proofs.«01_k».proof.Proof.Gen.Kernel4
public import proofs.«01_k».proof.Proof.Gen.Kernel4.Skeleton
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read
public import proofs.«01_k».proof.Proof.TailFwd.Claim
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame.RunA
public import proofs.«01_k».proof.Proof.PreAttnBwd.Frame
public import proofs.«01_k».proof.Proof.Gen.Kernel5
public import proofs.«01_k».proof.Proof.Gen.Kernel5.Skeleton
public import proofs.«01_k».proof.Proof.FlashBwd.Claim
public import proofs.«01_k».proof.Proof.FlashBwd.Finite
public import proofs.«01_k».proof.Proof.FlashBwd.AtBits
public import Idealize.ShloMosaic.Adequacy
public import Idealize.ShloMosaic.Init

@[expose] public section

noncomputable section

namespace Cert.Proof

open Idealize.ShloMosaic Idealize.SL.Sem

theorem frame_KernelIdeal : Cert.quiescent_KernelIdeal := fun m ρ _ => Cert.KernelIdeal.TailLoss.frame m ρ

theorem frame_Kernel : Cert.quiescent_Kernel := fun m ρ _ =>
  Eq.mp (by sl_kernel_rfl) (Cert.KernelIdeal.TailLoss.frame (F := Bits) m ρ)

/-- The reference ends with its arguments unchanged; it declares no semaphore. -/
theorem frame_ReferenceIdeal : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run m ρ)

set_option maxHeartbeats 1600000 in
open Cert.KernelIdeal.TailLoss Cert.ReferenceIdeal.Read in
/-- Over the extended reals the loss call returns what the reference returns: all seven results. -/
theorem algebraic : Cert.algebraic_KernelIdeal_ReferenceIdeal := by
  intro m ρ m' ρ' _ hag
  refine ⟨fun c => (dats m 0 c).arrAt 4 Cert.KernelIdeal.cfg0.N, fun c => (dats m 0 c).arrAt 5 Cert.KernelIdeal.cfg0.N,
    fun c => (dats m 0 c).arrAt 6 Cert.KernelIdeal.cfg0.N, fun c => (dats m 0 c).arrAt 7 Cert.KernelIdeal.cfg0.N,
    fun c => (dats m 0 c).arrAt 8 Cert.KernelIdeal.cfg0.N, fun c => (dats m 0 c).arrAt 9 Cert.KernelIdeal.cfg0.N,
    fun c => (dats m 0 c).arrAt 10 Cert.KernelIdeal.cfg0.N,
    (θ_run _ _ _).mono (fun r h c => ⟨(h.1.1 c).1 4, (h.1.1 c).1 5, (h.1.1 c).1 6, (h.1.1 c).1 7, (h.1.1 c).1 8, (h.1.1 c).1 9, (h.1.1 c).1 10, h.2.1 c⟩)
      (θ_run_and (run_quiescent m ρ) (Cert.KernelIdeal.TailLoss.frame m ρ)),
    (θ_run _ _ _).mono (fun r h c => ?_) (Cert.ReferenceIdeal.Value.run m' ρ')⟩
  obtain ⟨h0, h1, h2, h3, h4, h5, h6, hk⟩ := h c
  obtain ⟨e0, e1, e2, e3, e4, e5, e6, e7, e8⟩ := hag c
  refine ⟨h0.trans ?_, h1.trans ?_, h2.trans ?_, h3.trans ?_, h4.trans ?_, h5.trans ?_, h6.trans ?_, hk⟩
  · rw [val_main_v0_eq, e0, e4]; exact (out_0 m c).symm
  · rw [val_main_v56_eq, e0, e1, e4, e5]; exact (out_1 m c).symm
  · rw [val_main_v57_eq, e0, e1, e2, e3, e4, e5, e6, e7, e8]; exact (out_2 m c).symm
  · rw [val_main_v58_eq, e0, e1, e2, e3, e4, e5, e6, e7, e8]; exact (out_3 m c).symm
  · rw [val_main_v55_eq, e0, e1, e2, e3, e4, e5, e6, e7, e8]; exact (out_4 m c).symm
  · rw [val_main_v42_eq, e0, e1, e2, e3, e4, e5, e6, e7, e8]; exact (out_5 m c).symm
  · rw [val_main_v53_eq, e0, e1, e2, e3, e4, e5, e6, e7, e8]; exact (out_6 m c).symm

theorem frame_Kernel2Ideal : Cert.quiescent_Kernel2Ideal := fun m ρ _ => Cert.Kernel2Ideal.FlashBwd.frame m ρ

theorem frame_Kernel2 : Cert.quiescent_Kernel2 := Cert.Kernel2Ideal.FlashBwd.frame_bits

theorem frame_Reference2Ideal : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run m ρ)

/-- The same runs, from arguments the precondition admits. -/
theorem frame_Kernel2Ideal_finite : Cert.quiescent_Kernel2Ideal_pre_finite (hPre_finite := Cert.Pre_finite.facts) := fun m ρ _ =>
  Cert.Kernel2Ideal.FlashBwd.frame m ρ
theorem frame_Reference2Ideal_finite : Cert.quiescent_Reference2Ideal_pre_finite (hPre_finite := Cert.Pre_finite.facts) := fun m ρ _ =>
  frame_Reference2Ideal m ρ trivial

/-- The mask value is named, and read as minus infinity. -/
theorem preserves2 : Cert.preserves_Kernel2_Kernel2Ideal := IdealRules.named_const.statement _ _ _ _ _ rfl

set_option maxHeartbeats 1600000 in
open Cert.Kernel2Ideal.FlashBwd Cert.Reference2Ideal.Read in
/-- Over the extended reals, at finite arguments, the attention backward returns the reference's four gradients. -/
theorem algebraic2 : Cert.algebraic_Kernel2Ideal_Reference2Ideal_pre_finite (hPre_finite := Cert.Pre_finite.facts) := by
  intro m ρ m' ρ' hpre hag
  have A := fun c => args_of_finite m hpre c
  refine ⟨fun c => last m c Cert.Kernel2Ideal.main_v95, fun c => last m c Cert.Kernel2Ideal.main_v96,
    fun c => last m c Cert.Kernel2Ideal.main_v97, fun c => last m c Cert.Kernel2Ideal.main_v102,
    (θ_run _ _ _).mono (fun r h c => ⟨(h.1.1 c).2 Cert.Kernel2Ideal.main_v95 (Pipeline.mem_restRefs_of Cert.Kernel2Ideal.main_v95 (by decide) (by decide)),
      (h.1.1 c).2 Cert.Kernel2Ideal.main_v96 (Pipeline.mem_restRefs_of Cert.Kernel2Ideal.main_v96 (by decide) (by decide)),
      (h.1.1 c).2 Cert.Kernel2Ideal.main_v97 (Pipeline.mem_restRefs_of Cert.Kernel2Ideal.main_v97 (by decide) (by decide)),
      (h.1.1 c).2 Cert.Kernel2Ideal.main_v102 (Pipeline.mem_restRefs_of Cert.Kernel2Ideal.main_v102 (by decide) (by decide)), h.2.1 c⟩)
      (θ_run_and (run_quiescent m ρ) (Cert.Kernel2Ideal.FlashBwd.frame m ρ)),
    (θ_run _ _ _).mono (fun r h c => ?_) (Cert.Reference2Ideal.Value.run m' ρ')⟩
  obtain ⟨h0, h1, h2, h3, hk⟩ := h c
  obtain ⟨e0, e1, e2, e3, e4⟩ := hag c
  refine ⟨h0.trans ?_, h1.trans ?_, h2.trans ?_, h3.trans ?_, hk⟩
  · rw [val_main_v82_eq, e0, e1, e2, e3, e4]; exact (res_dq (A c)).symm
  · rw [val_main_v79_eq, e0, e1, e2, e3, e4]; exact (res_dk (A c)).symm
  · rw [val_main_v78_eq, e0, e1, e3, e4]; exact (res_dv (A c)).symm
  · rw [val_main_v77_eq, e0, e1, e2, e3, e4]; exact (res_dc (A c)).symm

theorem frame_Kernel3Ideal : Cert.quiescent_Kernel3Ideal := fun m ρ _ => Cert.Kernel3Ideal.TailBwd.frame m ρ

theorem frame_Kernel3 : Cert.quiescent_Kernel3 := fun m ρ _ =>
  Eq.mp (by sl_kernel_rfl) (Cert.Kernel3Ideal.TailBwd.frame (F := Bits) m ρ)

theorem frame_Reference3Ideal : Cert.quiescent_Reference3Ideal := fun m ρ _ =>
  (θ_run Cert.Reference3Ideal.defs _ _).mono (fun r h => ⟨fun c => (h c).2.2.2.2.2.2.2.2.2.2.2, sem_eq_zero_of_no_sems (by decide) r.2⟩)
    (Cert.Reference3Ideal.Value.run m ρ)

/-- The same runs, from arguments the precondition admits. -/
theorem frame_Kernel3Ideal_finite : Cert.quiescent_Kernel3Ideal_pre_finite3 (hPre_finite3 := Cert.Pre_finite3.facts) := fun m ρ _ =>
  Cert.Kernel3Ideal.TailBwd.frame m ρ
theorem frame_Reference3Ideal_finite : Cert.quiescent_Reference3Ideal_pre_finite3 (hPre_finite3 := Cert.Pre_finite3.facts) := fun m ρ _ =>
  frame_Reference3Ideal m ρ trivial

set_option maxHeartbeats 3200000 in
open Cert.Kernel3Ideal.TailBwd Cert.Reference3Ideal.Read in
/-- Over the extended reals, at finite arguments, the tail's backward call returns the reference's eleven gradients. -/
theorem algebraic3 : Cert.algebraic_Kernel3Ideal_Reference3Ideal_pre_finite3 (hPre_finite3 := Cert.Pre_finite3.facts) := by
  intro m ρ m' ρ' hpre hag
  have A := fun c => args_of_finite m hpre c
  refine ⟨fun c => (dats m 0 c).arrAt 6 Cert.Kernel3Ideal.cfg0.N,
    fun c => (dats m 0 c).arrAt 7 Cert.Kernel3Ideal.cfg0.N,
    fun c => (dats m 0 c).arrAt 8 Cert.Kernel3Ideal.cfg0.N,
    fun c => last m c Cert.Kernel3Ideal.main_v65,
    fun c => last m c Cert.Kernel3Ideal.main_v66,
    fun c => (dats m 0 c).arrAt 11 Cert.Kernel3Ideal.cfg0.N,
    fun c => (dats m 0 c).arrAt 12 Cert.Kernel3Ideal.cfg0.N,
    fun c => (dats m 0 c).arrAt 13 Cert.Kernel3Ideal.cfg0.N,
    fun c => (dats m 0 c).arrAt 14 Cert.Kernel3Ideal.cfg0.N,
    fun c => (dats m 0 c).arrAt 15 Cert.Kernel3Ideal.cfg0.N,
    fun c => (dats m 0 c).arrAt 16 Cert.Kernel3Ideal.cfg0.N,
    (θ_run _ _ _).mono (fun r h c => ⟨(h.1.1 c).1 6,
      (h.1.1 c).1 7,
      (h.1.1 c).1 8,
      (h.1.1 c).2 Cert.Kernel3Ideal.main_v65 (Pipeline.mem_restRefs_of Cert.Kernel3Ideal.main_v65 (by decide) (by decide)),
      (h.1.1 c).2 Cert.Kernel3Ideal.main_v66 (Pipeline.mem_restRefs_of Cert.Kernel3Ideal.main_v66 (by decide) (by decide)),
      (h.1.1 c).1 11,
      (h.1.1 c).1 12,
      (h.1.1 c).1 13,
      (h.1.1 c).1 14,
      (h.1.1 c).1 15,
      (h.1.1 c).1 16, h.2.1 c⟩)
      (θ_run_and (run_quiescent m ρ) (Cert.Kernel3Ideal.TailBwd.frame m ρ)),
    (θ_run _ _ _).mono (fun r h c => ?_) (Cert.Reference3Ideal.Value.run m' ρ')⟩
  obtain ⟨h0, h1, h2, h3, h4, h5, h6, h7, h8, h9, h10, hk⟩ := h c
  refine ⟨h0.trans ?_, h1.trans ?_, h2.trans ?_, h3.trans ?_, h4.trans ?_, h5.trans ?_, h6.trans ?_, h7.trans ?_, h8.trans ?_, h9.trans ?_, h10.trans ?_, hk⟩
  · exact (val_main_v168_eq _).trans (res_dff (A c) (hag c))
  · exact (val_main_v169_eq _).trans (res_dr (A c) (hag c))
  · exact (val_main_v170_eq _).trans (res_dov (A c) (hag c))
  · exact (val_main_v172_eq _).trans (res_dya (A c) (hag c))
  · exact (val_main_v167_eq _).trans (res_dlt (A c) (hag c))
  · exact (val_main_v145_eq _).trans (res_dys (A c) (hag c))
  · exact (val_main_v123_eq _).trans (res_dh1 (A c) (hag c))
  · exact (val_main_v82_eq _).trans (res_dgff (A c) (hag c))
  · exact (val_main_v106_eq _).trans (res_dgpf (A c) (hag c))
  · exact (val_main_v126_eq _).trans (res_dgpm (A c) (hag c))
  · exact (val_main_v148_eq _).trans (res_dga (A c) (hag c))

theorem frame_Kernel4Ideal : Cert.quiescent_Kernel4Ideal := fun m ρ _ => Cert.Kernel4Ideal.TailFwd.frame m ρ

theorem frame_Kernel4 : Cert.quiescent_Kernel4 := fun m ρ _ =>
  Eq.mp (by sl_kernel_rfl) (Cert.Kernel4Ideal.TailFwd.frame (F := Bits) m ρ)

theorem frame_Reference4Ideal : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run m ρ)

set_option maxHeartbeats 1600000 in
open Cert.Kernel4Ideal.TailFwd Cert.Reference4Ideal.Read in
/-- Over the extended reals the tail's forward call returns what the reference returns: all six results. -/
theorem algebraic4 : Cert.algebraic_Kernel4Ideal_Reference4Ideal := by
  intro m ρ m' ρ' _ hag
  refine ⟨fun c => (dats m 0 c).arrAt 3 Cert.Kernel4Ideal.cfg0.N, fun c => (dats m 0 c).arrAt 4 Cert.Kernel4Ideal.cfg0.N,
    fun c => (dats m 0 c).arrAt 5 Cert.Kernel4Ideal.cfg0.N, fun c => (dats m 0 c).arrAt 6 Cert.Kernel4Ideal.cfg0.N,
    fun c => (dats m 0 c).arrAt 7 Cert.Kernel4Ideal.cfg0.N, fun c => (dats m 0 c).arrAt 8 Cert.Kernel4Ideal.cfg0.N,
    (θ_run _ _ _).mono (fun r h c => ⟨(h.1.1 c).1 3, (h.1.1 c).1 4, (h.1.1 c).1 5, (h.1.1 c).1 6, (h.1.1 c).1 7, (h.1.1 c).1 8, h.2.1 c⟩)
      (θ_run_and (run_quiescent m ρ) (Cert.Kernel4Ideal.TailFwd.frame m ρ)),
    (θ_run _ _ _).mono (fun r h c => ?_) (Cert.Reference4Ideal.Value.run m' ρ')⟩
  obtain ⟨h0, h1, h2, h3, h4, h5, hk⟩ := h c
  obtain ⟨e0, e1, e2, e3, e4, e5, e6, e7⟩ := hag c
  refine ⟨h0.trans ?_, h1.trans ?_, h2.trans ?_, h3.trans ?_, h4.trans ?_, h5.trans ?_, hk⟩
  · rw [val_main_v41_eq, e1, e2, e3]; exact (out_0 m c).symm
  · rw [val_main_v13_eq, e1, e2, e3, e4]; exact (out_1 m c).symm
  · rw [val_main_v26_eq, e0, e1, e2, e3, e4, e5]; exact (out_2 m c).symm
  · rw [val_main_v42_eq, e0, e1, e2, e3, e4, e5, e6]; exact (out_3 m c).symm
  · rw [val_main_v44_eq, e0, e1, e2, e3, e4, e5, e6, e7]; exact (out_4 m c).symm
  · rw [val_main_v45_eq, e0, e1, e2, e3, e4, e5, e6, e7]; exact (out_5 m c).symm

theorem frame_Kernel5Ideal : Cert.quiescent_Kernel5Ideal := fun m ρ _ => Cert.Kernel5Ideal.PreAttnBwd.frame m ρ

theorem frame_Kernel5 : Cert.quiescent_Kernel5 := fun m ρ _ =>
  Eq.mp (by sl_kernel_rfl) (Cert.Kernel5Ideal.PreAttnBwd.frame (F := Bits) m ρ)

/-- All claims about the five calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Pre_finite.facts, Cert.Pre_finite3.facts,
  frame_Kernel, frame_KernelIdeal, frame_ReferenceIdeal, frame_Kernel2, frame_Kernel2Ideal, frame_Kernel2Ideal_finite,
  frame_Reference2Ideal, frame_Reference2Ideal_finite, frame_Kernel3, frame_Kernel3Ideal, frame_Kernel3Ideal_finite,
  frame_Reference3Ideal, frame_Reference3Ideal_finite, frame_Kernel4, frame_Kernel4Ideal, frame_Reference4Ideal, frame_Kernel5, frame_Kernel5Ideal,
  trivial, algebraic, preserves2, algebraic2, trivial, algebraic3, trivial, algebraic4, trivial⟩

end Cert.Proof

end
